-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2 = (fun _ => 1#1)

def Pre_KernelB (m : (ℓ : Loc Cert.KernelB.nD Cert.KernelB.τ Cert.KernelB.sig) → Buf (Elt Bits) ℓ) : Prop :=
  True

def Pre_KernelBIdeal (m : (ℓ : Loc Cert.KernelBIdeal.nD Cert.KernelBIdeal.τ Cert.KernelBIdeal.sig) → Buf (Elt Ideal) ℓ) : Prop :=
  True

def Pre_KernelBIdeal_finite_b [hPre_finite_b : Cert.Pre_finite_b.Facts] (m : (ℓ : Loc Cert.KernelBIdeal.nD Cert.KernelBIdeal.τ Cert.KernelBIdeal.sig) → Buf (Elt Ideal) ℓ) : Prop :=
  ∀ c : Dev Cert.KernelBIdeal.nD,
    (Cert.Pre_finite_b.fn (F := Ideal) (m ((c.tc : Thread Cert.KernelBIdeal.nD Cert.KernelBIdeal.τ).loc Cert.KernelBIdeal.main_arg0)) (m ((c.tc : Thread Cert.KernelBIdeal.nD Cert.KernelBIdeal.τ).loc Cert.KernelBIdeal.main_arg1)) (m ((c.tc : Thread Cert.KernelBIdeal.nD Cert.KernelBIdeal.τ).loc Cert.KernelBIdeal.main_arg2)) (m ((c.tc : Thread Cert.KernelBIdeal.nD Cert.KernelBIdeal.τ).loc Cert.KernelBIdeal.main_arg3)) (m ((c.tc : Thread Cert.KernelBIdeal.nD Cert.KernelBIdeal.τ).loc Cert.KernelBIdeal.main_arg4)) (m ((c.tc : Thread Cert.KernelBIdeal.nD Cert.KernelBIdeal.τ).loc Cert.KernelBIdeal.main_arg5)) (m ((c.tc : Thread Cert.KernelBIdeal.nD Cert.KernelBIdeal.τ).loc Cert.KernelBIdeal.main_arg6))).1 = (fun _ => 1#1)
    ∧ (Cert.Pre_finite_b.fn (F := Ideal) (m ((c.tc : Thread Cert.KernelBIdeal.nD Cert.KernelBIdeal.τ).loc Cert.KernelBIdeal.main_arg0)) (m ((c.tc : Thread Cert.KernelBIdeal.nD Cert.KernelBIdeal.τ).loc Cert.KernelBIdeal.main_arg1)) (m ((c.tc : Thread Cert.KernelBIdeal.nD Cert.KernelBIdeal.τ).loc Cert.KernelBIdeal.main_arg2)) (m ((c.tc : Thread Cert.KernelBIdeal.nD Cert.KernelBIdeal.τ).loc Cert.KernelBIdeal.main_arg3)) (m ((c.tc : Thread Cert.KernelBIdeal.nD Cert.KernelBIdeal.τ).loc Cert.KernelBIdeal.main_arg4)) (m ((c.tc : Thread Cert.KernelBIdeal.nD Cert.KernelBIdeal.τ).loc Cert.KernelBIdeal.main_arg5)) (m ((c.tc : Thread Cert.KernelBIdeal.nD Cert.KernelBIdeal.τ).loc Cert.KernelBIdeal.main_arg6))).2.1 = (fun _ => 1#1)
    ∧ (Cert.Pre_finite_b.fn (F := Ideal) (m ((c.tc : Thread Cert.KernelBIdeal.nD Cert.KernelBIdeal.τ).loc Cert.KernelBIdeal.main_arg0)) (m ((c.tc : Thread Cert.KernelBIdeal.nD Cert.KernelBIdeal.τ).loc Cert.KernelBIdeal.main_arg1)) (m ((c.tc : Thread Cert.KernelBIdeal.nD Cert.KernelBIdeal.τ).loc Cert.KernelBIdeal.main_arg2)) (m ((c.tc : Thread Cert.KernelBIdeal.nD Cert.KernelBIdeal.τ).loc Cert.KernelBIdeal.main_arg3)) (m ((c.tc : Thread Cert.KernelBIdeal.nD Cert.KernelBIdeal.τ).loc Cert.KernelBIdeal.main_arg4)) (m ((c.tc : Thread Cert.KernelBIdeal.nD Cert.KernelBIdeal.τ).loc Cert.KernelBIdeal.main_arg5)) (m ((c.tc : Thread Cert.KernelBIdeal.nD Cert.KernelBIdeal.τ).loc Cert.KernelBIdeal.main_arg6))).2.2.1 = (fun _ => 1#1)
    ∧ (Cert.Pre_finite_b.fn (F := Ideal) (m ((c.tc : Thread Cert.KernelBIdeal.nD Cert.KernelBIdeal.τ).loc Cert.KernelBIdeal.main_arg0)) (m ((c.tc : Thread Cert.KernelBIdeal.nD Cert.KernelBIdeal.τ).loc Cert.KernelBIdeal.main_arg1)) (m ((c.tc : Thread Cert.KernelBIdeal.nD Cert.KernelBIdeal.τ).loc Cert.KernelBIdeal.main_arg2)) (m ((c.tc : Thread Cert.KernelBIdeal.nD Cert.KernelBIdeal.τ).loc Cert.KernelBIdeal.main_arg3)) (m ((c.tc : Thread Cert.KernelBIdeal.nD Cert.KernelBIdeal.τ).loc Cert.KernelBIdeal.main_arg4)) (m ((c.tc : Thread Cert.KernelBIdeal.nD Cert.KernelBIdeal.τ).loc Cert.KernelBIdeal.main_arg5)) (m ((c.tc : Thread Cert.KernelBIdeal.nD Cert.KernelBIdeal.τ).loc Cert.KernelBIdeal.main_arg6))).2.2.2.1 = (fun _ => 1#1)
    ∧ (Cert.Pre_finite_b.fn (F := Ideal) (m ((c.tc : Thread Cert.KernelBIdeal.nD Cert.KernelBIdeal.τ).loc Cert.KernelBIdeal.main_arg0)) (m ((c.tc : Thread Cert.KernelBIdeal.nD Cert.KernelBIdeal.τ).loc Cert.KernelBIdeal.main_arg1)) (m ((c.tc : Thread Cert.KernelBIdeal.nD Cert.KernelBIdeal.τ).loc Cert.KernelBIdeal.main_arg2)) (m ((c.tc : Thread Cert.KernelBIdeal.nD Cert.KernelBIdeal.τ).loc Cert.KernelBIdeal.main_arg3)) (m ((c.tc : Thread Cert.KernelBIdeal.nD Cert.KernelBIdeal.τ).loc Cert.KernelBIdeal.main_arg4)) (m ((c.tc : Thread Cert.KernelBIdeal.nD Cert.KernelBIdeal.τ).loc Cert.KernelBIdeal.main_arg5)) (m ((c.tc : Thread Cert.KernelBIdeal.nD Cert.KernelBIdeal.τ).loc Cert.KernelBIdeal.main_arg6))).2.2.2.2 = (fun _ => 1#1)

def Pre_ReferenceBIdeal (m : (ℓ : Loc Cert.ReferenceBIdeal.nD Cert.ReferenceBIdeal.τ Cert.ReferenceBIdeal.sig) → Buf (Elt Ideal) ℓ) : Prop :=
  True

def Pre_ReferenceBIdeal_finite_b [hPre_finite_b : Cert.Pre_finite_b.Facts] (m : (ℓ : Loc Cert.ReferenceBIdeal.nD Cert.ReferenceBIdeal.τ Cert.ReferenceBIdeal.sig) → Buf (Elt Ideal) ℓ) : Prop :=
  ∀ c : Dev Cert.ReferenceBIdeal.nD,
    (Cert.Pre_finite_b.fn (F := Ideal) (m ((c.tc : Thread Cert.ReferenceBIdeal.nD Cert.ReferenceBIdeal.τ).loc Cert.ReferenceBIdeal.main_arg0)) (m ((c.tc : Thread Cert.ReferenceBIdeal.nD Cert.ReferenceBIdeal.τ).loc Cert.ReferenceBIdeal.main_arg1)) (m ((c.tc : Thread Cert.ReferenceBIdeal.nD Cert.ReferenceBIdeal.τ).loc Cert.ReferenceBIdeal.main_arg2)) (m ((c.tc : Thread Cert.ReferenceBIdeal.nD Cert.ReferenceBIdeal.τ).loc Cert.ReferenceBIdeal.main_arg3)) (m ((c.tc : Thread Cert.ReferenceBIdeal.nD Cert.ReferenceBIdeal.τ).loc Cert.ReferenceBIdeal.main_arg4)) (m ((c.tc : Thread Cert.ReferenceBIdeal.nD Cert.ReferenceBIdeal.τ).loc Cert.ReferenceBIdeal.main_arg5)) (m ((c.tc : Thread Cert.ReferenceBIdeal.nD Cert.ReferenceBIdeal.τ).loc Cert.ReferenceBIdeal.main_arg6))).1 = (fun _ => 1#1)
    ∧ (Cert.Pre_finite_b.fn (F := Ideal) (m ((c.tc : Thread Cert.ReferenceBIdeal.nD Cert.ReferenceBIdeal.τ).loc Cert.ReferenceBIdeal.main_arg0)) (m ((c.tc : Thread Cert.ReferenceBIdeal.nD Cert.ReferenceBIdeal.τ).loc Cert.ReferenceBIdeal.main_arg1)) (m ((c.tc : Thread Cert.ReferenceBIdeal.nD Cert.ReferenceBIdeal.τ).loc Cert.ReferenceBIdeal.main_arg2)) (m ((c.tc : Thread Cert.ReferenceBIdeal.nD Cert.ReferenceBIdeal.τ).loc Cert.ReferenceBIdeal.main_arg3)) (m ((c.tc : Thread Cert.ReferenceBIdeal.nD Cert.ReferenceBIdeal.τ).loc Cert.ReferenceBIdeal.main_arg4)) (m ((c.tc : Thread Cert.ReferenceBIdeal.nD Cert.ReferenceBIdeal.τ).loc Cert.ReferenceBIdeal.main_arg5)) (m ((c.tc : Thread Cert.ReferenceBIdeal.nD Cert.ReferenceBIdeal.τ).loc Cert.ReferenceBIdeal.main_arg6))).2.1 = (fun _ => 1#1)
    ∧ (Cert.Pre_finite_b.fn (F := Ideal) (m ((c.tc : Thread Cert.ReferenceBIdeal.nD Cert.ReferenceBIdeal.τ).loc Cert.ReferenceBIdeal.main_arg0)) (m ((c.tc : Thread Cert.ReferenceBIdeal.nD Cert.ReferenceBIdeal.τ).loc Cert.ReferenceBIdeal.main_arg1)) (m ((c.tc : Thread Cert.ReferenceBIdeal.nD Cert.ReferenceBIdeal.τ).loc Cert.ReferenceBIdeal.main_arg2)) (m ((c.tc : Thread Cert.ReferenceBIdeal.nD Cert.ReferenceBIdeal.τ).loc Cert.ReferenceBIdeal.main_arg3)) (m ((c.tc : Thread Cert.ReferenceBIdeal.nD Cert.ReferenceBIdeal.τ).loc Cert.ReferenceBIdeal.main_arg4)) (m ((c.tc : Thread Cert.ReferenceBIdeal.nD Cert.ReferenceBIdeal.τ).loc Cert.ReferenceBIdeal.main_arg5)) (m ((c.tc : Thread Cert.ReferenceBIdeal.nD Cert.ReferenceBIdeal.τ).loc Cert.ReferenceBIdeal.main_arg6))).2.2.1 = (fun _ => 1#1)
    ∧ (Cert.Pre_finite_b.fn (F := Ideal) (m ((c.tc : Thread Cert.ReferenceBIdeal.nD Cert.ReferenceBIdeal.τ).loc Cert.ReferenceBIdeal.main_arg0)) (m ((c.tc : Thread Cert.ReferenceBIdeal.nD Cert.ReferenceBIdeal.τ).loc Cert.ReferenceBIdeal.main_arg1)) (m ((c.tc : Thread Cert.ReferenceBIdeal.nD Cert.ReferenceBIdeal.τ).loc Cert.ReferenceBIdeal.main_arg2)) (m ((c.tc : Thread Cert.ReferenceBIdeal.nD Cert.ReferenceBIdeal.τ).loc Cert.ReferenceBIdeal.main_arg3)) (m ((c.tc : Thread Cert.ReferenceBIdeal.nD Cert.ReferenceBIdeal.τ).loc Cert.ReferenceBIdeal.main_arg4)) (m ((c.tc : Thread Cert.ReferenceBIdeal.nD Cert.ReferenceBIdeal.τ).loc Cert.ReferenceBIdeal.main_arg5)) (m ((c.tc : Thread Cert.ReferenceBIdeal.nD Cert.ReferenceBIdeal.τ).loc Cert.ReferenceBIdeal.main_arg6))).2.2.2.1 = (fun _ => 1#1)
    ∧ (Cert.Pre_finite_b.fn (F := Ideal) (m ((c.tc : Thread Cert.ReferenceBIdeal.nD Cert.ReferenceBIdeal.τ).loc Cert.ReferenceBIdeal.main_arg0)) (m ((c.tc : Thread Cert.ReferenceBIdeal.nD Cert.ReferenceBIdeal.τ).loc Cert.ReferenceBIdeal.main_arg1)) (m ((c.tc : Thread Cert.ReferenceBIdeal.nD Cert.ReferenceBIdeal.τ).loc Cert.ReferenceBIdeal.main_arg2)) (m ((c.tc : Thread Cert.ReferenceBIdeal.nD Cert.ReferenceBIdeal.τ).loc Cert.ReferenceBIdeal.main_arg3)) (m ((c.tc : Thread Cert.ReferenceBIdeal.nD Cert.ReferenceBIdeal.τ).loc Cert.ReferenceBIdeal.main_arg4)) (m ((c.tc : Thread Cert.ReferenceBIdeal.nD Cert.ReferenceBIdeal.τ).loc Cert.ReferenceBIdeal.main_arg5)) (m ((c.tc : Thread Cert.ReferenceBIdeal.nD Cert.ReferenceBIdeal.τ).loc Cert.ReferenceBIdeal.main_arg6))).2.2.2.2 = (fun _ => 1#1)

def Pre_KernelInA (m : (ℓ : Loc Cert.KernelInA.nD Cert.KernelInA.τ Cert.KernelInA.sig) → Buf (Elt Bits) ℓ) : Prop :=
  True

def Pre_KernelInAIdeal (m : (ℓ : Loc Cert.KernelInAIdeal.nD Cert.KernelInAIdeal.τ Cert.KernelInAIdeal.sig) → Buf (Elt Ideal) ℓ) : Prop :=
  True

def Pre_KernelInAIdeal_finite_in_a [hPre_finite_in_a : Cert.Pre_finite_in_a.Facts] (m : (ℓ : Loc Cert.KernelInAIdeal.nD Cert.KernelInAIdeal.τ Cert.KernelInAIdeal.sig) → Buf (Elt Ideal) ℓ) : Prop :=
  ∀ c : Dev Cert.KernelInAIdeal.nD,
    (Cert.Pre_finite_in_a.fn (F := Ideal) (m ((c.tc : Thread Cert.KernelInAIdeal.nD Cert.KernelInAIdeal.τ).loc Cert.KernelInAIdeal.main_arg0)) (m ((c.tc : Thread Cert.KernelInAIdeal.nD Cert.KernelInAIdeal.τ).loc Cert.KernelInAIdeal.main_arg1)) (m ((c.tc : Thread Cert.KernelInAIdeal.nD Cert.KernelInAIdeal.τ).loc Cert.KernelInAIdeal.main_arg2)) (m ((c.tc : Thread Cert.KernelInAIdeal.nD Cert.KernelInAIdeal.τ).loc Cert.KernelInAIdeal.main_arg3)) (m ((c.tc : Thread Cert.KernelInAIdeal.nD Cert.KernelInAIdeal.τ).loc Cert.KernelInAIdeal.main_arg4))).1 = (fun _ => 1#1)
    ∧ (Cert.Pre_finite_in_a.fn (F := Ideal) (m ((c.tc : Thread Cert.KernelInAIdeal.nD Cert.KernelInAIdeal.τ).loc Cert.KernelInAIdeal.main_arg0)) (m ((c.tc : Thread Cert.KernelInAIdeal.nD Cert.KernelInAIdeal.τ).loc Cert.KernelInAIdeal.main_arg1)) (m ((c.tc : Thread Cert.KernelInAIdeal.nD Cert.KernelInAIdeal.τ).loc Cert.KernelInAIdeal.main_arg2)) (m ((c.tc : Thread Cert.KernelInAIdeal.nD Cert.KernelInAIdeal.τ).loc Cert.KernelInAIdeal.main_arg3)) (m ((c.tc : Thread Cert.KernelInAIdeal.nD Cert.KernelInAIdeal.τ).loc Cert.KernelInAIdeal.main_arg4))).2.1 = (fun _ => 1#1)
    ∧ (Cert.Pre_finite_in_a.fn (F := Ideal) (m ((c.tc : Thread Cert.KernelInAIdeal.nD Cert.KernelInAIdeal.τ).loc Cert.KernelInAIdeal.main_arg0)) (m ((c.tc : Thread Cert.KernelInAIdeal.nD Cert.KernelInAIdeal.τ).loc Cert.KernelInAIdeal.main_arg1)) (m ((c.tc : Thread Cert.KernelInAIdeal.nD Cert.KernelInAIdeal.τ).loc Cert.KernelInAIdeal.main_arg2)) (m ((c.tc : Thread Cert.KernelInAIdeal.nD Cert.KernelInAIdeal.τ).loc Cert.KernelInAIdeal.main_arg3)) (m ((c.tc : Thread Cert.KernelInAIdeal.nD Cert.KernelInAIdeal.τ).loc Cert.KernelInAIdeal.main_arg4))).2.2.1 = (fun _ => 1#1)
    ∧ (Cert.Pre_finite_in_a.fn (F := Ideal) (m ((c.tc : Thread Cert.KernelInAIdeal.nD Cert.KernelInAIdeal.τ).loc Cert.KernelInAIdeal.main_arg0)) (m ((c.tc : Thread Cert.KernelInAIdeal.nD Cert.KernelInAIdeal.τ).loc Cert.KernelInAIdeal.main_arg1)) (m ((c.tc : Thread Cert.KernelInAIdeal.nD Cert.KernelInAIdeal.τ).loc Cert.KernelInAIdeal.main_arg2)) (m ((c.tc : Thread Cert.KernelInAIdeal.nD Cert.KernelInAIdeal.τ).loc Cert.KernelInAIdeal.main_arg3)) (m ((c.tc : Thread Cert.KernelInAIdeal.nD Cert.KernelInAIdeal.τ).loc Cert.KernelInAIdeal.main_arg4))).2.2.2 = (fun _ => 1#1)

def Pre_ReferenceInAIdeal (m : (ℓ : Loc Cert.ReferenceInAIdeal.nD Cert.ReferenceInAIdeal.τ Cert.ReferenceInAIdeal.sig) → Buf (Elt Ideal) ℓ) : Prop :=
  True

def Pre_ReferenceInAIdeal_finite_in_a [hPre_finite_in_a : Cert.Pre_finite_in_a.Facts] (m : (ℓ : Loc Cert.ReferenceInAIdeal.nD Cert.ReferenceInAIdeal.τ Cert.ReferenceInAIdeal.sig) → Buf (Elt Ideal) ℓ) : Prop :=
  ∀ c : Dev Cert.ReferenceInAIdeal.nD,
    (Cert.Pre_finite_in_a.fn (F := Ideal) (m ((c.tc : Thread Cert.ReferenceInAIdeal.nD Cert.ReferenceInAIdeal.τ).loc Cert.ReferenceInAIdeal.main_arg0)) (m ((c.tc : Thread Cert.ReferenceInAIdeal.nD Cert.ReferenceInAIdeal.τ).loc Cert.ReferenceInAIdeal.main_arg1)) (m ((c.tc : Thread Cert.ReferenceInAIdeal.nD Cert.ReferenceInAIdeal.τ).loc Cert.ReferenceInAIdeal.main_arg2)) (m ((c.tc : Thread Cert.ReferenceInAIdeal.nD Cert.ReferenceInAIdeal.τ).loc Cert.ReferenceInAIdeal.main_arg3)) (m ((c.tc : Thread Cert.ReferenceInAIdeal.nD Cert.ReferenceInAIdeal.τ).loc Cert.ReferenceInAIdeal.main_arg4))).1 = (fun _ => 1#1)
    ∧ (Cert.Pre_finite_in_a.fn (F := Ideal) (m ((c.tc : Thread Cert.ReferenceInAIdeal.nD Cert.ReferenceInAIdeal.τ).loc Cert.ReferenceInAIdeal.main_arg0)) (m ((c.tc : Thread Cert.ReferenceInAIdeal.nD Cert.ReferenceInAIdeal.τ).loc Cert.ReferenceInAIdeal.main_arg1)) (m ((c.tc : Thread Cert.ReferenceInAIdeal.nD Cert.ReferenceInAIdeal.τ).loc Cert.ReferenceInAIdeal.main_arg2)) (m ((c.tc : Thread Cert.ReferenceInAIdeal.nD Cert.ReferenceInAIdeal.τ).loc Cert.ReferenceInAIdeal.main_arg3)) (m ((c.tc : Thread Cert.ReferenceInAIdeal.nD Cert.ReferenceInAIdeal.τ).loc Cert.ReferenceInAIdeal.main_arg4))).2.1 = (fun _ => 1#1)
    ∧ (Cert.Pre_finite_in_a.fn (F := Ideal) (m ((c.tc : Thread Cert.ReferenceInAIdeal.nD Cert.ReferenceInAIdeal.τ).loc Cert.ReferenceInAIdeal.main_arg0)) (m ((c.tc : Thread Cert.ReferenceInAIdeal.nD Cert.ReferenceInAIdeal.τ).loc Cert.ReferenceInAIdeal.main_arg1)) (m ((c.tc : Thread Cert.ReferenceInAIdeal.nD Cert.ReferenceInAIdeal.τ).loc Cert.ReferenceInAIdeal.main_arg2)) (m ((c.tc : Thread Cert.ReferenceInAIdeal.nD Cert.ReferenceInAIdeal.τ).loc Cert.ReferenceInAIdeal.main_arg3)) (m ((c.tc : Thread Cert.ReferenceInAIdeal.nD Cert.ReferenceInAIdeal.τ).loc Cert.ReferenceInAIdeal.main_arg4))).2.2.1 = (fun _ => 1#1)
    ∧ (Cert.Pre_finite_in_a.fn (F := Ideal) (m ((c.tc : Thread Cert.ReferenceInAIdeal.nD Cert.ReferenceInAIdeal.τ).loc Cert.ReferenceInAIdeal.main_arg0)) (m ((c.tc : Thread Cert.ReferenceInAIdeal.nD Cert.ReferenceInAIdeal.τ).loc Cert.ReferenceInAIdeal.main_arg1)) (m ((c.tc : Thread Cert.ReferenceInAIdeal.nD Cert.ReferenceInAIdeal.τ).loc Cert.ReferenceInAIdeal.main_arg2)) (m ((c.tc : Thread Cert.ReferenceInAIdeal.nD Cert.ReferenceInAIdeal.τ).loc Cert.ReferenceInAIdeal.main_arg3)) (m ((c.tc : Thread Cert.ReferenceInAIdeal.nD Cert.ReferenceInAIdeal.τ).loc Cert.ReferenceInAIdeal.main_arg4))).2.2.2 = (fun _ => 1#1)

def Pre_KernelInB (m : (ℓ : Loc Cert.KernelInB.nD Cert.KernelInB.τ Cert.KernelInB.sig) → Buf (Elt Bits) ℓ) : Prop :=
  True

def Pre_KernelInBIdeal (m : (ℓ : Loc Cert.KernelInBIdeal.nD Cert.KernelInBIdeal.τ Cert.KernelInBIdeal.sig) → Buf (Elt Ideal) ℓ) : Prop :=
  True

def Pre_KernelInBIdeal_finite_in_b [hPre_finite_in_b : Cert.Pre_finite_in_b.Facts] (m : (ℓ : Loc Cert.KernelInBIdeal.nD Cert.KernelInBIdeal.τ Cert.KernelInBIdeal.sig) → Buf (Elt Ideal) ℓ) : Prop :=
  ∀ c : Dev Cert.KernelInBIdeal.nD,
    (Cert.Pre_finite_in_b.fn (F := Ideal) (m ((c.tc : Thread Cert.KernelInBIdeal.nD Cert.KernelInBIdeal.τ).loc Cert.KernelInBIdeal.main_arg0)) (m ((c.tc : Thread Cert.KernelInBIdeal.nD Cert.KernelInBIdeal.τ).loc Cert.KernelInBIdeal.main_arg1)) (m ((c.tc : Thread Cert.KernelInBIdeal.nD Cert.KernelInBIdeal.τ).loc Cert.KernelInBIdeal.main_arg2)) (m ((c.tc : Thread Cert.KernelInBIdeal.nD Cert.KernelInBIdeal.τ).loc Cert.KernelInBIdeal.main_arg3)) (m ((c.tc : Thread Cert.KernelInBIdeal.nD Cert.KernelInBIdeal.τ).loc Cert.KernelInBIdeal.main_arg4)) (m ((c.tc : Thread Cert.KernelInBIdeal.nD Cert.KernelInBIdeal.τ).loc Cert.KernelInBIdeal.main_arg5)) (m ((c.tc : Thread Cert.KernelInBIdeal.nD Cert.KernelInBIdeal.τ).loc Cert.KernelInBIdeal.main_arg6)) (m ((c.tc : Thread Cert.KernelInBIdeal.nD Cert.KernelInBIdeal.τ).loc Cert.KernelInBIdeal.main_arg7)) (m ((c.tc : Thread Cert.KernelInBIdeal.nD Cert.KernelInBIdeal.τ).loc Cert.KernelInBIdeal.main_arg8)) (m ((c.tc : Thread Cert.KernelInBIdeal.nD Cert.KernelInBIdeal.τ).loc Cert.KernelInBIdeal.main_arg9))).1 = (fun _ => 1#1)
    ∧ (Cert.Pre_finite_in_b.fn (F := Ideal) (m ((c.tc : Thread Cert.KernelInBIdeal.nD Cert.KernelInBIdeal.τ).loc Cert.KernelInBIdeal.main_arg0)) (m ((c.tc : Thread Cert.KernelInBIdeal.nD Cert.KernelInBIdeal.τ).loc Cert.KernelInBIdeal.main_arg1)) (m ((c.tc : Thread Cert.KernelInBIdeal.nD Cert.KernelInBIdeal.τ).loc Cert.KernelInBIdeal.main_arg2)) (m ((c.tc : Thread Cert.KernelInBIdeal.nD Cert.KernelInBIdeal.τ).loc Cert.KernelInBIdeal.main_arg3)) (m ((c.tc : Thread Cert.KernelInBIdeal.nD Cert.KernelInBIdeal.τ).loc Cert.KernelInBIdeal.main_arg4)) (m ((c.tc : Thread Cert.KernelInBIdeal.nD Cert.KernelInBIdeal.τ).loc Cert.KernelInBIdeal.main_arg5)) (m ((c.tc : Thread Cert.KernelInBIdeal.nD Cert.KernelInBIdeal.τ).loc Cert.KernelInBIdeal.main_arg6)) (m ((c.tc : Thread Cert.KernelInBIdeal.nD Cert.KernelInBIdeal.τ).loc Cert.KernelInBIdeal.main_arg7)) (m ((c.tc : Thread Cert.KernelInBIdeal.nD Cert.KernelInBIdeal.τ).loc Cert.KernelInBIdeal.main_arg8)) (m ((c.tc : Thread Cert.KernelInBIdeal.nD Cert.KernelInBIdeal.τ).loc Cert.KernelInBIdeal.main_arg9))).2.1 = (fun _ => 1#1)
    ∧ (Cert.Pre_finite_in_b.fn (F := Ideal) (m ((c.tc : Thread Cert.KernelInBIdeal.nD Cert.KernelInBIdeal.τ).loc Cert.KernelInBIdeal.main_arg0)) (m ((c.tc : Thread Cert.KernelInBIdeal.nD Cert.KernelInBIdeal.τ).loc Cert.KernelInBIdeal.main_arg1)) (m ((c.tc : Thread Cert.KernelInBIdeal.nD Cert.KernelInBIdeal.τ).loc Cert.KernelInBIdeal.main_arg2)) (m ((c.tc : Thread Cert.KernelInBIdeal.nD Cert.KernelInBIdeal.τ).loc Cert.KernelInBIdeal.main_arg3)) (m ((c.tc : Thread Cert.KernelInBIdeal.nD Cert.KernelInBIdeal.τ).loc Cert.KernelInBIdeal.main_arg4)) (m ((c.tc : Thread Cert.KernelInBIdeal.nD Cert.KernelInBIdeal.τ).loc Cert.KernelInBIdeal.main_arg5)) (m ((c.tc : Thread Cert.KernelInBIdeal.nD Cert.KernelInBIdeal.τ).loc Cert.KernelInBIdeal.main_arg6)) (m ((c.tc : Thread Cert.KernelInBIdeal.nD Cert.KernelInBIdeal.τ).loc Cert.KernelInBIdeal.main_arg7)) (m ((c.tc : Thread Cert.KernelInBIdeal.nD Cert.KernelInBIdeal.τ).loc Cert.KernelInBIdeal.main_arg8)) (m ((c.tc : Thread Cert.KernelInBIdeal.nD Cert.KernelInBIdeal.τ).loc Cert.KernelInBIdeal.main_arg9))).2.2.1 = (fun _ => 1#1)
    ∧ (Cert.Pre_finite_in_b.fn (F := Ideal) (m ((c.tc : Thread Cert.KernelInBIdeal.nD Cert.KernelInBIdeal.τ).loc Cert.KernelInBIdeal.main_arg0)) (m ((c.tc : Thread Cert.KernelInBIdeal.nD Cert.KernelInBIdeal.τ).loc Cert.KernelInBIdeal.main_arg1)) (m ((c.tc : Thread Cert.KernelInBIdeal.nD Cert.KernelInBIdeal.τ).loc Cert.KernelInBIdeal.main_arg2)) (m ((c.tc : Thread Cert.KernelInBIdeal.nD Cert.KernelInBIdeal.τ).loc Cert.KernelInBIdeal.main_arg3)) (m ((c.tc : Thread Cert.KernelInBIdeal.nD Cert.KernelInBIdeal.τ).loc Cert.KernelInBIdeal.main_arg4)) (m ((c.tc : Thread Cert.KernelInBIdeal.nD Cert.KernelInBIdeal.τ).loc Cert.KernelInBIdeal.main_arg5)) (m ((c.tc : Thread Cert.KernelInBIdeal.nD Cert.KernelInBIdeal.τ).loc Cert.KernelInBIdeal.main_arg6)) (m ((c.tc : Thread Cert.KernelInBIdeal.nD Cert.KernelInBIdeal.τ).loc Cert.KernelInBIdeal.main_arg7)) (m ((c.tc : Thread Cert.KernelInBIdeal.nD Cert.KernelInBIdeal.τ).loc Cert.KernelInBIdeal.main_arg8)) (m ((c.tc : Thread Cert.KernelInBIdeal.nD Cert.KernelInBIdeal.τ).loc Cert.KernelInBIdeal.main_arg9))).2.2.2.1 = (fun _ => 1#1)
    ∧ (Cert.Pre_finite_in_b.fn (F := Ideal) (m ((c.tc : Thread Cert.KernelInBIdeal.nD Cert.KernelInBIdeal.τ).loc Cert.KernelInBIdeal.main_arg0)) (m ((c.tc : Thread Cert.KernelInBIdeal.nD Cert.KernelInBIdeal.τ).loc Cert.KernelInBIdeal.main_arg1)) (m ((c.tc : Thread Cert.KernelInBIdeal.nD Cert.KernelInBIdeal.τ).loc Cert.KernelInBIdeal.main_arg2)) (m ((c.tc : Thread Cert.KernelInBIdeal.nD Cert.KernelInBIdeal.τ).loc Cert.KernelInBIdeal.main_arg3)) (m ((c.tc : Thread Cert.KernelInBIdeal.nD Cert.KernelInBIdeal.τ).loc Cert.KernelInBIdeal.main_arg4)) (m ((c.tc : Thread Cert.KernelInBIdeal.nD Cert.KernelInBIdeal.τ).loc Cert.KernelInBIdeal.main_arg5)) (m ((c.tc : Thread Cert.KernelInBIdeal.nD Cert.KernelInBIdeal.τ).loc Cert.KernelInBIdeal.main_arg6)) (m ((c.tc : Thread Cert.KernelInBIdeal.nD Cert.KernelInBIdeal.τ).loc Cert.KernelInBIdeal.main_arg7)) (m ((c.tc : Thread Cert.KernelInBIdeal.nD Cert.KernelInBIdeal.τ).loc Cert.KernelInBIdeal.main_arg8)) (m ((c.tc : Thread Cert.KernelInBIdeal.nD Cert.KernelInBIdeal.τ).loc Cert.KernelInBIdeal.main_arg9))).2.2.2.2.1 = (fun _ => 1#1)
    ∧ (Cert.Pre_finite_in_b.fn (F := Ideal) (m ((c.tc : Thread Cert.KernelInBIdeal.nD Cert.KernelInBIdeal.τ).loc Cert.KernelInBIdeal.main_arg0)) (m ((c.tc : Thread Cert.KernelInBIdeal.nD Cert.KernelInBIdeal.τ).loc Cert.KernelInBIdeal.main_arg1)) (m ((c.tc : Thread Cert.KernelInBIdeal.nD Cert.KernelInBIdeal.τ).loc Cert.KernelInBIdeal.main_arg2)) (m ((c.tc : Thread Cert.KernelInBIdeal.nD Cert.KernelInBIdeal.τ).loc Cert.KernelInBIdeal.main_arg3)) (m ((c.tc : Thread Cert.KernelInBIdeal.nD Cert.KernelInBIdeal.τ).loc Cert.KernelInBIdeal.main_arg4)) (m ((c.tc : Thread Cert.KernelInBIdeal.nD Cert.KernelInBIdeal.τ).loc Cert.KernelInBIdeal.main_arg5)) (m ((c.tc : Thread Cert.KernelInBIdeal.nD Cert.KernelInBIdeal.τ).loc Cert.KernelInBIdeal.main_arg6)) (m ((c.tc : Thread Cert.KernelInBIdeal.nD Cert.KernelInBIdeal.τ).loc Cert.KernelInBIdeal.main_arg7)) (m ((c.tc : Thread Cert.KernelInBIdeal.nD Cert.KernelInBIdeal.τ).loc Cert.KernelInBIdeal.main_arg8)) (m ((c.tc : Thread Cert.KernelInBIdeal.nD Cert.KernelInBIdeal.τ).loc Cert.KernelInBIdeal.main_arg9))).2.2.2.2.2.1 = (fun _ => 1#1)
    ∧ (Cert.Pre_finite_in_b.fn (F := Ideal) (m ((c.tc : Thread Cert.KernelInBIdeal.nD Cert.KernelInBIdeal.τ).loc Cert.KernelInBIdeal.main_arg0)) (m ((c.tc : Thread Cert.KernelInBIdeal.nD Cert.KernelInBIdeal.τ).loc Cert.KernelInBIdeal.main_arg1)) (m ((c.tc : Thread Cert.KernelInBIdeal.nD Cert.KernelInBIdeal.τ).loc Cert.KernelInBIdeal.main_arg2)) (m ((c.tc : Thread Cert.KernelInBIdeal.nD Cert.KernelInBIdeal.τ).loc Cert.KernelInBIdeal.main_arg3)) (m ((c.tc : Thread Cert.KernelInBIdeal.nD Cert.KernelInBIdeal.τ).loc Cert.KernelInBIdeal.main_arg4)) (m ((c.tc : Thread Cert.KernelInBIdeal.nD Cert.KernelInBIdeal.τ).loc Cert.KernelInBIdeal.main_arg5)) (m ((c.tc : Thread Cert.KernelInBIdeal.nD Cert.KernelInBIdeal.τ).loc Cert.KernelInBIdeal.main_arg6)) (m ((c.tc : Thread Cert.KernelInBIdeal.nD Cert.KernelInBIdeal.τ).loc Cert.KernelInBIdeal.main_arg7)) (m ((c.tc : Thread Cert.KernelInBIdeal.nD Cert.KernelInBIdeal.τ).loc Cert.KernelInBIdeal.main_arg8)) (m ((c.tc : Thread Cert.KernelInBIdeal.nD Cert.KernelInBIdeal.τ).loc Cert.KernelInBIdeal.main_arg9))).2.2.2.2.2.2.1 = (fun _ => 1#1)
    ∧ (Cert.Pre_finite_in_b.fn (F := Ideal) (m ((c.tc : Thread Cert.KernelInBIdeal.nD Cert.KernelInBIdeal.τ).loc Cert.KernelInBIdeal.main_arg0)) (m ((c.tc : Thread Cert.KernelInBIdeal.nD Cert.KernelInBIdeal.τ).loc Cert.KernelInBIdeal.main_arg1)) (m ((c.tc : Thread Cert.KernelInBIdeal.nD Cert.KernelInBIdeal.τ).loc Cert.KernelInBIdeal.main_arg2)) (m ((c.tc : Thread Cert.KernelInBIdeal.nD Cert.KernelInBIdeal.τ).loc Cert.KernelInBIdeal.main_arg3)) (m ((c.tc : Thread Cert.KernelInBIdeal.nD Cert.KernelInBIdeal.τ).loc Cert.KernelInBIdeal.main_arg4)) (m ((c.tc : Thread Cert.KernelInBIdeal.nD Cert.KernelInBIdeal.τ).loc Cert.KernelInBIdeal.main_arg5)) (m ((c.tc : Thread Cert.KernelInBIdeal.nD Cert.KernelInBIdeal.τ).loc Cert.KernelInBIdeal.main_arg6)) (m ((c.tc : Thread Cert.KernelInBIdeal.nD Cert.KernelInBIdeal.τ).loc Cert.KernelInBIdeal.main_arg7)) (m ((c.tc : Thread Cert.KernelInBIdeal.nD Cert.KernelInBIdeal.τ).loc Cert.KernelInBIdeal.main_arg8)) (m ((c.tc : Thread Cert.KernelInBIdeal.nD Cert.KernelInBIdeal.τ).loc Cert.KernelInBIdeal.main_arg9))).2.2.2.2.2.2.2.1 = (fun _ => 1#1)
    ∧ (Cert.Pre_finite_in_b.fn (F := Ideal) (m ((c.tc : Thread Cert.KernelInBIdeal.nD Cert.KernelInBIdeal.τ).loc Cert.KernelInBIdeal.main_arg0)) (m ((c.tc : Thread Cert.KernelInBIdeal.nD Cert.KernelInBIdeal.τ).loc Cert.KernelInBIdeal.main_arg1)) (m ((c.tc : Thread Cert.KernelInBIdeal.nD Cert.KernelInBIdeal.τ).loc Cert.KernelInBIdeal.main_arg2)) (m ((c.tc : Thread Cert.KernelInBIdeal.nD Cert.KernelInBIdeal.τ).loc Cert.KernelInBIdeal.main_arg3)) (m ((c.tc : Thread Cert.KernelInBIdeal.nD Cert.KernelInBIdeal.τ).loc Cert.KernelInBIdeal.main_arg4)) (m ((c.tc : Thread Cert.KernelInBIdeal.nD Cert.KernelInBIdeal.τ).loc Cert.KernelInBIdeal.main_arg5)) (m ((c.tc : Thread Cert.KernelInBIdeal.nD Cert.KernelInBIdeal.τ).loc Cert.KernelInBIdeal.main_arg6)) (m ((c.tc : Thread Cert.KernelInBIdeal.nD Cert.KernelInBIdeal.τ).loc Cert.KernelInBIdeal.main_arg7)) (m ((c.tc : Thread Cert.KernelInBIdeal.nD Cert.KernelInBIdeal.τ).loc Cert.KernelInBIdeal.main_arg8)) (m ((c.tc : Thread Cert.KernelInBIdeal.nD Cert.KernelInBIdeal.τ).loc Cert.KernelInBIdeal.main_arg9))).2.2.2.2.2.2.2.2 = (fun _ => 1#1)

def Pre_ReferenceInBIdeal (m : (ℓ : Loc Cert.ReferenceInBIdeal.nD Cert.ReferenceInBIdeal.τ Cert.ReferenceInBIdeal.sig) → Buf (Elt Ideal) ℓ) : Prop :=
  True

def Pre_ReferenceInBIdeal_finite_in_b [hPre_finite_in_b : Cert.Pre_finite_in_b.Facts] (m : (ℓ : Loc Cert.ReferenceInBIdeal.nD Cert.ReferenceInBIdeal.τ Cert.ReferenceInBIdeal.sig) → Buf (Elt Ideal) ℓ) : Prop :=
  ∀ c : Dev Cert.ReferenceInBIdeal.nD,
    (Cert.Pre_finite_in_b.fn (F := Ideal) (m ((c.tc : Thread Cert.ReferenceInBIdeal.nD Cert.ReferenceInBIdeal.τ).loc Cert.ReferenceInBIdeal.main_arg0)) (m ((c.tc : Thread Cert.ReferenceInBIdeal.nD Cert.ReferenceInBIdeal.τ).loc Cert.ReferenceInBIdeal.main_arg1)) (m ((c.tc : Thread Cert.ReferenceInBIdeal.nD Cert.ReferenceInBIdeal.τ).loc Cert.ReferenceInBIdeal.main_arg2)) (m ((c.tc : Thread Cert.ReferenceInBIdeal.nD Cert.ReferenceInBIdeal.τ).loc Cert.ReferenceInBIdeal.main_arg3)) (m ((c.tc : Thread Cert.ReferenceInBIdeal.nD Cert.ReferenceInBIdeal.τ).loc Cert.ReferenceInBIdeal.main_arg4)) (m ((c.tc : Thread Cert.ReferenceInBIdeal.nD Cert.ReferenceInBIdeal.τ).loc Cert.ReferenceInBIdeal.main_arg5)) (m ((c.tc : Thread Cert.ReferenceInBIdeal.nD Cert.ReferenceInBIdeal.τ).loc Cert.ReferenceInBIdeal.main_arg6)) (m ((c.tc : Thread Cert.ReferenceInBIdeal.nD Cert.ReferenceInBIdeal.τ).loc Cert.ReferenceInBIdeal.main_arg7)) (m ((c.tc : Thread Cert.ReferenceInBIdeal.nD Cert.ReferenceInBIdeal.τ).loc Cert.ReferenceInBIdeal.main_arg8)) (m ((c.tc : Thread Cert.ReferenceInBIdeal.nD Cert.ReferenceInBIdeal.τ).loc Cert.ReferenceInBIdeal.main_arg9))).1 = (fun _ => 1#1)
    ∧ (Cert.Pre_finite_in_b.fn (F := Ideal) (m ((c.tc : Thread Cert.ReferenceInBIdeal.nD Cert.ReferenceInBIdeal.τ).loc Cert.ReferenceInBIdeal.main_arg0)) (m ((c.tc : Thread Cert.ReferenceInBIdeal.nD Cert.ReferenceInBIdeal.τ).loc Cert.ReferenceInBIdeal.main_arg1)) (m ((c.tc : Thread Cert.ReferenceInBIdeal.nD Cert.ReferenceInBIdeal.τ).loc Cert.ReferenceInBIdeal.main_arg2)) (m ((c.tc : Thread Cert.ReferenceInBIdeal.nD Cert.ReferenceInBIdeal.τ).loc Cert.ReferenceInBIdeal.main_arg3)) (m ((c.tc : Thread Cert.ReferenceInBIdeal.nD Cert.ReferenceInBIdeal.τ).loc Cert.ReferenceInBIdeal.main_arg4)) (m ((c.tc : Thread Cert.ReferenceInBIdeal.nD Cert.ReferenceInBIdeal.τ).loc Cert.ReferenceInBIdeal.main_arg5)) (m ((c.tc : Thread Cert.ReferenceInBIdeal.nD Cert.ReferenceInBIdeal.τ).loc Cert.ReferenceInBIdeal.main_arg6)) (m ((c.tc : Thread Cert.ReferenceInBIdeal.nD Cert.ReferenceInBIdeal.τ).loc Cert.ReferenceInBIdeal.main_arg7)) (m ((c.tc : Thread Cert.ReferenceInBIdeal.nD Cert.ReferenceInBIdeal.τ).loc Cert.ReferenceInBIdeal.main_arg8)) (m ((c.tc : Thread Cert.ReferenceInBIdeal.nD Cert.ReferenceInBIdeal.τ).loc Cert.ReferenceInBIdeal.main_arg9))).2.1 = (fun _ => 1#1)
    ∧ (Cert.Pre_finite_in_b.fn (F := Ideal) (m ((c.tc : Thread Cert.ReferenceInBIdeal.nD Cert.ReferenceInBIdeal.τ).loc Cert.ReferenceInBIdeal.main_arg0)) (m ((c.tc : Thread Cert.ReferenceInBIdeal.nD Cert.ReferenceInBIdeal.τ).loc Cert.ReferenceInBIdeal.main_arg1)) (m ((c.tc : Thread Cert.ReferenceInBIdeal.nD Cert.ReferenceInBIdeal.τ).loc Cert.ReferenceInBIdeal.main_arg2)) (m ((c.tc : Thread Cert.ReferenceInBIdeal.nD Cert.ReferenceInBIdeal.τ).loc Cert.ReferenceInBIdeal.main_arg3)) (m ((c.tc : Thread Cert.ReferenceInBIdeal.nD Cert.ReferenceInBIdeal.τ).loc Cert.ReferenceInBIdeal.main_arg4)) (m ((c.tc : Thread Cert.ReferenceInBIdeal.nD Cert.ReferenceInBIdeal.τ).loc Cert.ReferenceInBIdeal.main_arg5)) (m ((c.tc : Thread Cert.ReferenceInBIdeal.nD Cert.ReferenceInBIdeal.τ).loc Cert.ReferenceInBIdeal.main_arg6)) (m ((c.tc : Thread Cert.ReferenceInBIdeal.nD Cert.ReferenceInBIdeal.τ).loc Cert.ReferenceInBIdeal.main_arg7)) (m ((c.tc : Thread Cert.ReferenceInBIdeal.nD Cert.ReferenceInBIdeal.τ).loc Cert.ReferenceInBIdeal.main_arg8)) (m ((c.tc : Thread Cert.ReferenceInBIdeal.nD Cert.ReferenceInBIdeal.τ).loc Cert.ReferenceInBIdeal.main_arg9))).2.2.1 = (fun _ => 1#1)
    ∧ (Cert.Pre_finite_in_b.fn (F := Ideal) (m ((c.tc : Thread Cert.ReferenceInBIdeal.nD Cert.ReferenceInBIdeal.τ).loc Cert.ReferenceInBIdeal.main_arg0)) (m ((c.tc : Thread Cert.ReferenceInBIdeal.nD Cert.ReferenceInBIdeal.τ).loc Cert.ReferenceInBIdeal.main_arg1)) (m ((c.tc : Thread Cert.ReferenceInBIdeal.nD Cert.ReferenceInBIdeal.τ).loc Cert.ReferenceInBIdeal.main_arg2)) (m ((c.tc : Thread Cert.ReferenceInBIdeal.nD Cert.ReferenceInBIdeal.τ).loc Cert.ReferenceInBIdeal.main_arg3)) (m ((c.tc : Thread Cert.ReferenceInBIdeal.nD Cert.ReferenceInBIdeal.τ).loc Cert.ReferenceInBIdeal.main_arg4)) (m ((c.tc : Thread Cert.ReferenceInBIdeal.nD Cert.ReferenceInBIdeal.τ).loc Cert.ReferenceInBIdeal.main_arg5)) (m ((c.tc : Thread Cert.ReferenceInBIdeal.nD Cert.ReferenceInBIdeal.τ).loc Cert.ReferenceInBIdeal.main_arg6)) (m ((c.tc : Thread Cert.ReferenceInBIdeal.nD Cert.ReferenceInBIdeal.τ).loc Cert.ReferenceInBIdeal.main_arg7)) (m ((c.tc : Thread Cert.ReferenceInBIdeal.nD Cert.ReferenceInBIdeal.τ).loc Cert.ReferenceInBIdeal.main_arg8)) (m ((c.tc : Thread Cert.ReferenceInBIdeal.nD Cert.ReferenceInBIdeal.τ).loc Cert.ReferenceInBIdeal.main_arg9))).2.2.2.1 = (fun _ => 1#1)
    ∧ (Cert.Pre_finite_in_b.fn (F := Ideal) (m ((c.tc : Thread Cert.ReferenceInBIdeal.nD Cert.ReferenceInBIdeal.τ).loc Cert.ReferenceInBIdeal.main_arg0)) (m ((c.tc : Thread Cert.ReferenceInBIdeal.nD Cert.ReferenceInBIdeal.τ).loc Cert.ReferenceInBIdeal.main_arg1)) (m ((c.tc : Thread Cert.ReferenceInBIdeal.nD Cert.ReferenceInBIdeal.τ).loc Cert.ReferenceInBIdeal.main_arg2)) (m ((c.tc : Thread Cert.ReferenceInBIdeal.nD Cert.ReferenceInBIdeal.τ).loc Cert.ReferenceInBIdeal.main_arg3)) (m ((c.tc : Thread Cert.ReferenceInBIdeal.nD Cert.ReferenceInBIdeal.τ).loc Cert.ReferenceInBIdeal.main_arg4)) (m ((c.tc : Thread Cert.ReferenceInBIdeal.nD Cert.ReferenceInBIdeal.τ).loc Cert.ReferenceInBIdeal.main_arg5)) (m ((c.tc : Thread Cert.ReferenceInBIdeal.nD Cert.ReferenceInBIdeal.τ).loc Cert.ReferenceInBIdeal.main_arg6)) (m ((c.tc : Thread Cert.ReferenceInBIdeal.nD Cert.ReferenceInBIdeal.τ).loc Cert.ReferenceInBIdeal.main_arg7)) (m ((c.tc : Thread Cert.ReferenceInBIdeal.nD Cert.ReferenceInBIdeal.τ).loc Cert.ReferenceInBIdeal.main_arg8)) (m ((c.tc : Thread Cert.ReferenceInBIdeal.nD Cert.ReferenceInBIdeal.τ).loc Cert.ReferenceInBIdeal.main_arg9))).2.2.2.2.1 = (fun _ => 1#1)
    ∧ (Cert.Pre_finite_in_b.fn (F := Ideal) (m ((c.tc : Thread Cert.ReferenceInBIdeal.nD Cert.ReferenceInBIdeal.τ).loc Cert.ReferenceInBIdeal.main_arg0)) (m ((c.tc : Thread Cert.ReferenceInBIdeal.nD Cert.ReferenceInBIdeal.τ).loc Cert.ReferenceInBIdeal.main_arg1)) (m ((c.tc : Thread Cert.ReferenceInBIdeal.nD Cert.ReferenceInBIdeal.τ).loc Cert.ReferenceInBIdeal.main_arg2)) (m ((c.tc : Thread Cert.ReferenceInBIdeal.nD Cert.ReferenceInBIdeal.τ).loc Cert.ReferenceInBIdeal.main_arg3)) (m ((c.tc : Thread Cert.ReferenceInBIdeal.nD Cert.ReferenceInBIdeal.τ).loc Cert.ReferenceInBIdeal.main_arg4)) (m ((c.tc : Thread Cert.ReferenceInBIdeal.nD Cert.ReferenceInBIdeal.τ).loc Cert.ReferenceInBIdeal.main_arg5)) (m ((c.tc : Thread Cert.ReferenceInBIdeal.nD Cert.ReferenceInBIdeal.τ).loc Cert.ReferenceInBIdeal.main_arg6)) (m ((c.tc : Thread Cert.ReferenceInBIdeal.nD Cert.ReferenceInBIdeal.τ).loc Cert.ReferenceInBIdeal.main_arg7)) (m ((c.tc : Thread Cert.ReferenceInBIdeal.nD Cert.ReferenceInBIdeal.τ).loc Cert.ReferenceInBIdeal.main_arg8)) (m ((c.tc : Thread Cert.ReferenceInBIdeal.nD Cert.ReferenceInBIdeal.τ).loc Cert.ReferenceInBIdeal.main_arg9))).2.2.2.2.2.1 = (fun _ => 1#1)
    ∧ (Cert.Pre_finite_in_b.fn (F := Ideal) (m ((c.tc : Thread Cert.ReferenceInBIdeal.nD Cert.ReferenceInBIdeal.τ).loc Cert.ReferenceInBIdeal.main_arg0)) (m ((c.tc : Thread Cert.ReferenceInBIdeal.nD Cert.ReferenceInBIdeal.τ).loc Cert.ReferenceInBIdeal.main_arg1)) (m ((c.tc : Thread Cert.ReferenceInBIdeal.nD Cert.ReferenceInBIdeal.τ).loc Cert.ReferenceInBIdeal.main_arg2)) (m ((c.tc : Thread Cert.ReferenceInBIdeal.nD Cert.ReferenceInBIdeal.τ).loc Cert.ReferenceInBIdeal.main_arg3)) (m ((c.tc : Thread Cert.ReferenceInBIdeal.nD Cert.ReferenceInBIdeal.τ).loc Cert.ReferenceInBIdeal.main_arg4)) (m ((c.tc : Thread Cert.ReferenceInBIdeal.nD Cert.ReferenceInBIdeal.τ).loc Cert.ReferenceInBIdeal.main_arg5)) (m ((c.tc : Thread Cert.ReferenceInBIdeal.nD Cert.ReferenceInBIdeal.τ).loc Cert.ReferenceInBIdeal.main_arg6)) (m ((c.tc : Thread Cert.ReferenceInBIdeal.nD Cert.ReferenceInBIdeal.τ).loc Cert.ReferenceInBIdeal.main_arg7)) (m ((c.tc : Thread Cert.ReferenceInBIdeal.nD Cert.ReferenceInBIdeal.τ).loc Cert.ReferenceInBIdeal.main_arg8)) (m ((c.tc : Thread Cert.ReferenceInBIdeal.nD Cert.ReferenceInBIdeal.τ).loc Cert.ReferenceInBIdeal.main_arg9))).2.2.2.2.2.2.1 = (fun _ => 1#1)
    ∧ (Cert.Pre_finite_in_b.fn (F := Ideal) (m ((c.tc : Thread Cert.ReferenceInBIdeal.nD Cert.ReferenceInBIdeal.τ).loc Cert.ReferenceInBIdeal.main_arg0)) (m ((c.tc : Thread Cert.ReferenceInBIdeal.nD Cert.ReferenceInBIdeal.τ).loc Cert.ReferenceInBIdeal.main_arg1)) (m ((c.tc : Thread Cert.ReferenceInBIdeal.nD Cert.ReferenceInBIdeal.τ).loc Cert.ReferenceInBIdeal.main_arg2)) (m ((c.tc : Thread Cert.ReferenceInBIdeal.nD Cert.ReferenceInBIdeal.τ).loc Cert.ReferenceInBIdeal.main_arg3)) (m ((c.tc : Thread Cert.ReferenceInBIdeal.nD Cert.ReferenceInBIdeal.τ).loc Cert.ReferenceInBIdeal.main_arg4)) (m ((c.tc : Thread Cert.ReferenceInBIdeal.nD Cert.ReferenceInBIdeal.τ).loc Cert.ReferenceInBIdeal.main_arg5)) (m ((c.tc : Thread Cert.ReferenceInBIdeal.nD Cert.ReferenceInBIdeal.τ).loc Cert.ReferenceInBIdeal.main_arg6)) (m ((c.tc : Thread Cert.ReferenceInBIdeal.nD Cert.ReferenceInBIdeal.τ).loc Cert.ReferenceInBIdeal.main_arg7)) (m ((c.tc : Thread Cert.ReferenceInBIdeal.nD Cert.ReferenceInBIdeal.τ).loc Cert.ReferenceInBIdeal.main_arg8)) (m ((c.tc : Thread Cert.ReferenceInBIdeal.nD Cert.ReferenceInBIdeal.τ).loc Cert.ReferenceInBIdeal.main_arg9))).2.2.2.2.2.2.2.1 = (fun _ => 1#1)
    ∧ (Cert.Pre_finite_in_b.fn (F := Ideal) (m ((c.tc : Thread Cert.ReferenceInBIdeal.nD Cert.ReferenceInBIdeal.τ).loc Cert.ReferenceInBIdeal.main_arg0)) (m ((c.tc : Thread Cert.ReferenceInBIdeal.nD Cert.ReferenceInBIdeal.τ).loc Cert.ReferenceInBIdeal.main_arg1)) (m ((c.tc : Thread Cert.ReferenceInBIdeal.nD Cert.ReferenceInBIdeal.τ).loc Cert.ReferenceInBIdeal.main_arg2)) (m ((c.tc : Thread Cert.ReferenceInBIdeal.nD Cert.ReferenceInBIdeal.τ).loc Cert.ReferenceInBIdeal.main_arg3)) (m ((c.tc : Thread Cert.ReferenceInBIdeal.nD Cert.ReferenceInBIdeal.τ).loc Cert.ReferenceInBIdeal.main_arg4)) (m ((c.tc : Thread Cert.ReferenceInBIdeal.nD Cert.ReferenceInBIdeal.τ).loc Cert.ReferenceInBIdeal.main_arg5)) (m ((c.tc : Thread Cert.ReferenceInBIdeal.nD Cert.ReferenceInBIdeal.τ).loc Cert.ReferenceInBIdeal.main_arg6)) (m ((c.tc : Thread Cert.ReferenceInBIdeal.nD Cert.ReferenceInBIdeal.τ).loc Cert.ReferenceInBIdeal.main_arg7)) (m ((c.tc : Thread Cert.ReferenceInBIdeal.nD Cert.ReferenceInBIdeal.τ).loc Cert.ReferenceInBIdeal.main_arg8)) (m ((c.tc : Thread Cert.ReferenceInBIdeal.nD Cert.ReferenceInBIdeal.τ).loc Cert.ReferenceInBIdeal.main_arg9))).2.2.2.2.2.2.2.2 = (fun _ => 1#1)

def Pre_KernelWOut (m : (ℓ : Loc Cert.KernelWOut.nD Cert.KernelWOut.τ Cert.KernelWOut.sig) → Buf (Elt Bits) ℓ) : Prop :=
  True

def Pre_KernelWOutIdeal (m : (ℓ : Loc Cert.KernelWOutIdeal.nD Cert.KernelWOutIdeal.τ Cert.KernelWOutIdeal.sig) → Buf (Elt Ideal) ℓ) : Prop :=
  True

def Pre_ReferenceWOutIdeal (m : (ℓ : Loc Cert.ReferenceWOutIdeal.nD Cert.ReferenceWOutIdeal.τ Cert.ReferenceWOutIdeal.sig) → Buf (Elt Ideal) ℓ) : Prop :=
  True

def Pre_KernelWGate (m : (ℓ : Loc Cert.KernelWGate.nD Cert.KernelWGate.τ Cert.KernelWGate.sig) → Buf (Elt Bits) ℓ) : Prop :=
  True

def Pre_KernelWGateIdeal (m : (ℓ : Loc Cert.KernelWGateIdeal.nD Cert.KernelWGateIdeal.τ Cert.KernelWGateIdeal.sig) → Buf (Elt Ideal) ℓ) : Prop :=
  True

def Pre_ReferenceWGateIdeal (m : (ℓ : Loc Cert.ReferenceWGateIdeal.nD Cert.ReferenceWGateIdeal.τ Cert.ReferenceWGateIdeal.sig) → Buf (Elt Ideal) ℓ) : Prop :=
  True

def Pre_KernelWIn (m : (ℓ : Loc Cert.KernelWIn.nD Cert.KernelWIn.τ Cert.KernelWIn.sig) → Buf (Elt Bits) ℓ) : Prop :=
  True

def Pre_KernelWInIdeal (m : (ℓ : Loc Cert.KernelWInIdeal.nD Cert.KernelWInIdeal.τ Cert.KernelWInIdeal.sig) → Buf (Elt Ideal) ℓ) : Prop :=
  True

def Pre_ReferenceWInIdeal (m : (ℓ : Loc Cert.ReferenceWInIdeal.nD Cert.ReferenceWInIdeal.τ Cert.ReferenceWInIdeal.sig) → Buf (Elt Ideal) ℓ) : Prop :=
  True

def Pre_KernelWPle (m : (ℓ : Loc Cert.KernelWPle.nD Cert.KernelWPle.τ Cert.KernelWPle.sig) → Buf (Elt Bits) ℓ) : Prop :=
  True

def Pre_KernelWPleIdeal (m : (ℓ : Loc Cert.KernelWPleIdeal.nD Cert.KernelWPleIdeal.τ Cert.KernelWPleIdeal.sig) → Buf (Elt Ideal) ℓ) : Prop :=
  True

def Pre_ReferenceWPleIdeal (m : (ℓ : Loc Cert.ReferenceWPleIdeal.nD Cert.ReferenceWPleIdeal.τ Cert.ReferenceWPleIdeal.sig) → Buf (Elt Ideal) ℓ) : Prop :=
  True

def Pre_KernelBIn (m : (ℓ : Loc Cert.KernelBIn.nD Cert.KernelBIn.τ Cert.KernelBIn.sig) → Buf (Elt Bits) ℓ) : Prop :=
  True

def Pre_KernelBInIdeal (m : (ℓ : Loc Cert.KernelBInIdeal.nD Cert.KernelBInIdeal.τ Cert.KernelBInIdeal.sig) → Buf (Elt Ideal) ℓ) : Prop :=
  True

def Pre_ReferenceBInIdeal (m : (ℓ : Loc Cert.ReferenceBInIdeal.nD Cert.ReferenceBInIdeal.τ Cert.ReferenceBInIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_KernelB [hKernelB : Cert.KernelB.Facts] : Prop :=
  ∀ (m : (ℓ : Loc Cert.KernelB.nD Cert.KernelB.τ Cert.KernelB.sig) → Buf (Elt Bits) ℓ) (g : Dev Cert.KernelB.nD → PrngReg), Pre_KernelB m →
    θ_run (Cert.KernelB.defs (F := Bits)) (onTc (τ := Cert.KernelB.τ) (Cert.KernelB.main (F := Bits))) ⟨m, fun _ => 0, g⟩ (fun r => (∀ c : Dev Cert.KernelB.nD,
      r.2.mem ((c.tc : Thread Cert.KernelB.nD Cert.KernelB.τ).loc Cert.KernelB.main_arg0) = m ((c.tc : Thread Cert.KernelB.nD Cert.KernelB.τ).loc Cert.KernelB.main_arg0)
      ∧ r.2.mem ((c.tc : Thread Cert.KernelB.nD Cert.KernelB.τ).loc Cert.KernelB.main_arg1) = m ((c.tc : Thread Cert.KernelB.nD Cert.KernelB.τ).loc Cert.KernelB.main_arg1)
      ∧ r.2.mem ((c.tc : Thread Cert.KernelB.nD Cert.KernelB.τ).loc Cert.KernelB.main_arg2) = m ((c.tc : Thread Cert.KernelB.nD Cert.KernelB.τ).loc Cert.KernelB.main_arg2)
      ∧ r.2.mem ((c.tc : Thread Cert.KernelB.nD Cert.KernelB.τ).loc Cert.KernelB.main_arg3) = m ((c.tc : Thread Cert.KernelB.nD Cert.KernelB.τ).loc Cert.KernelB.main_arg3)
      ∧ r.2.mem ((c.tc : Thread Cert.KernelB.nD Cert.KernelB.τ).loc Cert.KernelB.main_arg4) = m ((c.tc : Thread Cert.KernelB.nD Cert.KernelB.τ).loc Cert.KernelB.main_arg4)
      ∧ r.2.mem ((c.tc : Thread Cert.KernelB.nD Cert.KernelB.τ).loc Cert.KernelB.main_arg5) = m ((c.tc : Thread Cert.KernelB.nD Cert.KernelB.τ).loc Cert.KernelB.main_arg5)
      ∧ r.2.mem ((c.tc : Thread Cert.KernelB.nD Cert.KernelB.τ).loc Cert.KernelB.main_arg6) = m ((c.tc : Thread Cert.KernelB.nD Cert.KernelB.τ).loc Cert.KernelB.main_arg6))
      ∧ r.2.sem = fun _ => 0)

def quiescent_KernelBIdeal [hKernelBIdeal : Cert.KernelBIdeal.Facts] : Prop :=
  ∀ (m : (ℓ : Loc Cert.KernelBIdeal.nD Cert.KernelBIdeal.τ Cert.KernelBIdeal.sig) → Buf (Elt Ideal) ℓ) (g : Dev Cert.KernelBIdeal.nD → PrngReg), Pre_KernelBIdeal m →
    θ_run (Cert.KernelBIdeal.defs (F := Ideal)) (onTc (τ := Cert.KernelBIdeal.τ) (Cert.KernelBIdeal.main (F := Ideal))) ⟨m, fun _ => 0, g⟩ (fun r => (∀ c : Dev Cert.KernelBIdeal.nD,
      r.2.mem ((c.tc : Thread Cert.KernelBIdeal.nD Cert.KernelBIdeal.τ).loc Cert.KernelBIdeal.main_arg0) = m ((c.tc : Thread Cert.KernelBIdeal.nD Cert.KernelBIdeal.τ).loc Cert.KernelBIdeal.main_arg0)
      ∧ r.2.mem ((c.tc : Thread Cert.KernelBIdeal.nD Cert.KernelBIdeal.τ).loc Cert.KernelBIdeal.main_arg1) = m ((c.tc : Thread Cert.KernelBIdeal.nD Cert.KernelBIdeal.τ).loc Cert.KernelBIdeal.main_arg1)
      ∧ r.2.mem ((c.tc : Thread Cert.KernelBIdeal.nD Cert.KernelBIdeal.τ).loc Cert.KernelBIdeal.main_arg2) = m ((c.tc : Thread Cert.KernelBIdeal.nD Cert.KernelBIdeal.τ).loc Cert.KernelBIdeal.main_arg2)
      ∧ r.2.mem ((c.tc : Thread Cert.KernelBIdeal.nD Cert.KernelBIdeal.τ).loc Cert.KernelBIdeal.main_arg3) = m ((c.tc : Thread Cert.KernelBIdeal.nD Cert.KernelBIdeal.τ).loc Cert.KernelBIdeal.main_arg3)
      ∧ r.2.mem ((c.tc : Thread Cert.KernelBIdeal.nD Cert.KernelBIdeal.τ).loc Cert.KernelBIdeal.main_arg4) = m ((c.tc : Thread Cert.KernelBIdeal.nD Cert.KernelBIdeal.τ).loc Cert.KernelBIdeal.main_arg4)
      ∧ r.2.mem ((c.tc : Thread Cert.KernelBIdeal.nD Cert.KernelBIdeal.τ).loc Cert.KernelBIdeal.main_arg5) = m ((c.tc : Thread Cert.KernelBIdeal.nD Cert.KernelBIdeal.τ).loc Cert.KernelBIdeal.main_arg5)
      ∧ r.2.mem ((c.tc : Thread Cert.KernelBIdeal.nD Cert.KernelBIdeal.τ).loc Cert.KernelBIdeal.main_arg6) = m ((c.tc : Thread Cert.KernelBIdeal.nD Cert.KernelBIdeal.τ).loc Cert.KernelBIdeal.main_arg6))
      ∧ r.2.sem = fun _ => 0)

def quiescent_KernelBIdeal_pre_finite_b [hKernelBIdeal : Cert.KernelBIdeal.Facts] [hPre_finite_b : Cert.Pre_finite_b.Facts] : Prop :=
  ∀ (m : (ℓ : Loc Cert.KernelBIdeal.nD Cert.KernelBIdeal.τ Cert.KernelBIdeal.sig) → Buf (Elt Ideal) ℓ) (g : Dev Cert.KernelBIdeal.nD → PrngReg), Pre_KernelBIdeal_finite_b m →
    θ_run (Cert.KernelBIdeal.defs (F := Ideal)) (onTc (τ := Cert.KernelBIdeal.τ) (Cert.KernelBIdeal.main (F := Ideal))) ⟨m, fun _ => 0, g⟩ (fun r => (∀ c : Dev Cert.KernelBIdeal.nD,
      r.2.mem ((c.tc : Thread Cert.KernelBIdeal.nD Cert.KernelBIdeal.τ).loc Cert.KernelBIdeal.main_arg0) = m ((c.tc : Thread Cert.KernelBIdeal.nD Cert.KernelBIdeal.τ).loc Cert.KernelBIdeal.main_arg0)
      ∧ r.2.mem ((c.tc : Thread Cert.KernelBIdeal.nD Cert.KernelBIdeal.τ).loc Cert.KernelBIdeal.main_arg1) = m ((c.tc : Thread Cert.KernelBIdeal.nD Cert.KernelBIdeal.τ).loc Cert.KernelBIdeal.main_arg1)
      ∧ r.2.mem ((c.tc : Thread Cert.KernelBIdeal.nD Cert.KernelBIdeal.τ).loc Cert.KernelBIdeal.main_arg2) = m ((c.tc : Thread Cert.KernelBIdeal.nD Cert.KernelBIdeal.τ).loc Cert.KernelBIdeal.main_arg2)
      ∧ r.2.mem ((c.tc : Thread Cert.KernelBIdeal.nD Cert.KernelBIdeal.τ).loc Cert.KernelBIdeal.main_arg3) = m ((c.tc : Thread Cert.KernelBIdeal.nD Cert.KernelBIdeal.τ).loc Cert.KernelBIdeal.main_arg3)
      ∧ r.2.mem ((c.tc : Thread Cert.KernelBIdeal.nD Cert.KernelBIdeal.τ).loc Cert.KernelBIdeal.main_arg4) = m ((c.tc : Thread Cert.KernelBIdeal.nD Cert.KernelBIdeal.τ).loc Cert.KernelBIdeal.main_arg4)
      ∧ r.2.mem ((c.tc : Thread Cert.KernelBIdeal.nD Cert.KernelBIdeal.τ).loc Cert.KernelBIdeal.main_arg5) = m ((c.tc : Thread Cert.KernelBIdeal.nD Cert.KernelBIdeal.τ).loc Cert.KernelBIdeal.main_arg5)
      ∧ r.2.mem ((c.tc : Thread Cert.KernelBIdeal.nD Cert.KernelBIdeal.τ).loc Cert.KernelBIdeal.main_arg6) = m ((c.tc : Thread Cert.KernelBIdeal.nD Cert.KernelBIdeal.τ).loc Cert.KernelBIdeal.main_arg6))
      ∧ r.2.sem = fun _ => 0)

def quiescent_ReferenceBIdeal [hReferenceBIdeal : Cert.ReferenceBIdeal.Facts] : Prop :=
  ∀ (m : (ℓ : Loc Cert.ReferenceBIdeal.nD Cert.ReferenceBIdeal.τ Cert.ReferenceBIdeal.sig) → Buf (Elt Ideal) ℓ) (g : Dev Cert.ReferenceBIdeal.nD → PrngReg), Pre_ReferenceBIdeal m →
    θ_run (Cert.ReferenceBIdeal.defs (F := Ideal)) (onTc (τ := Cert.ReferenceBIdeal.τ) (Cert.ReferenceBIdeal.main (F := Ideal))) ⟨m, fun _ => 0, g⟩ (fun r => (∀ c : Dev Cert.ReferenceBIdeal.nD,
      r.2.mem ((c.tc : Thread Cert.ReferenceBIdeal.nD Cert.ReferenceBIdeal.τ).loc Cert.ReferenceBIdeal.main_arg0) = m ((c.tc : Thread Cert.ReferenceBIdeal.nD Cert.ReferenceBIdeal.τ).loc Cert.ReferenceBIdeal.main_arg0)
      ∧ r.2.mem ((c.tc : Thread Cert.ReferenceBIdeal.nD Cert.ReferenceBIdeal.τ).loc Cert.ReferenceBIdeal.main_arg1) = m ((c.tc : Thread Cert.ReferenceBIdeal.nD Cert.ReferenceBIdeal.τ).loc Cert.ReferenceBIdeal.main_arg1)
      ∧ r.2.mem ((c.tc : Thread Cert.ReferenceBIdeal.nD Cert.ReferenceBIdeal.τ).loc Cert.ReferenceBIdeal.main_arg2) = m ((c.tc : Thread Cert.ReferenceBIdeal.nD Cert.ReferenceBIdeal.τ).loc Cert.ReferenceBIdeal.main_arg2)
      ∧ r.2.mem ((c.tc : Thread Cert.ReferenceBIdeal.nD Cert.ReferenceBIdeal.τ).loc Cert.ReferenceBIdeal.main_arg3) = m ((c.tc : Thread Cert.ReferenceBIdeal.nD Cert.ReferenceBIdeal.τ).loc Cert.ReferenceBIdeal.main_arg3)
      ∧ r.2.mem ((c.tc : Thread Cert.ReferenceBIdeal.nD Cert.ReferenceBIdeal.τ).loc Cert.ReferenceBIdeal.main_arg4) = m ((c.tc : Thread Cert.ReferenceBIdeal.nD Cert.ReferenceBIdeal.τ).loc Cert.ReferenceBIdeal.main_arg4)
      ∧ r.2.mem ((c.tc : Thread Cert.ReferenceBIdeal.nD Cert.ReferenceBIdeal.τ).loc Cert.ReferenceBIdeal.main_arg5) = m ((c.tc : Thread Cert.ReferenceBIdeal.nD Cert.ReferenceBIdeal.τ).loc Cert.ReferenceBIdeal.main_arg5)
      ∧ r.2.mem ((c.tc : Thread Cert.ReferenceBIdeal.nD Cert.ReferenceBIdeal.τ).loc Cert.ReferenceBIdeal.main_arg6) = m ((c.tc : Thread Cert.ReferenceBIdeal.nD Cert.ReferenceBIdeal.τ).loc Cert.ReferenceBIdeal.main_arg6))
      ∧ r.2.sem = fun _ => 0)

def quiescent_ReferenceBIdeal_pre_finite_b [hReferenceBIdeal : Cert.ReferenceBIdeal.Facts] [hPre_finite_b : Cert.Pre_finite_b.Facts] : Prop :=
  ∀ (m : (ℓ : Loc Cert.ReferenceBIdeal.nD Cert.ReferenceBIdeal.τ Cert.ReferenceBIdeal.sig) → Buf (Elt Ideal) ℓ) (g : Dev Cert.ReferenceBIdeal.nD → PrngReg), Pre_ReferenceBIdeal_finite_b m →
    θ_run (Cert.ReferenceBIdeal.defs (F := Ideal)) (onTc (τ := Cert.ReferenceBIdeal.τ) (Cert.ReferenceBIdeal.main (F := Ideal))) ⟨m, fun _ => 0, g⟩ (fun r => (∀ c : Dev Cert.ReferenceBIdeal.nD,
      r.2.mem ((c.tc : Thread Cert.ReferenceBIdeal.nD Cert.ReferenceBIdeal.τ).loc Cert.ReferenceBIdeal.main_arg0) = m ((c.tc : Thread Cert.ReferenceBIdeal.nD Cert.ReferenceBIdeal.τ).loc Cert.ReferenceBIdeal.main_arg0)
      ∧ r.2.mem ((c.tc : Thread Cert.ReferenceBIdeal.nD Cert.ReferenceBIdeal.τ).loc Cert.ReferenceBIdeal.main_arg1) = m ((c.tc : Thread Cert.ReferenceBIdeal.nD Cert.ReferenceBIdeal.τ).loc Cert.ReferenceBIdeal.main_arg1)
      ∧ r.2.mem ((c.tc : Thread Cert.ReferenceBIdeal.nD Cert.ReferenceBIdeal.τ).loc Cert.ReferenceBIdeal.main_arg2) = m ((c.tc : Thread Cert.ReferenceBIdeal.nD Cert.ReferenceBIdeal.τ).loc Cert.ReferenceBIdeal.main_arg2)
      ∧ r.2.mem ((c.tc : Thread Cert.ReferenceBIdeal.nD Cert.ReferenceBIdeal.τ).loc Cert.ReferenceBIdeal.main_arg3) = m ((c.tc : Thread Cert.ReferenceBIdeal.nD Cert.ReferenceBIdeal.τ).loc Cert.ReferenceBIdeal.main_arg3)
      ∧ r.2.mem ((c.tc : Thread Cert.ReferenceBIdeal.nD Cert.ReferenceBIdeal.τ).loc Cert.ReferenceBIdeal.main_arg4) = m ((c.tc : Thread Cert.ReferenceBIdeal.nD Cert.ReferenceBIdeal.τ).loc Cert.ReferenceBIdeal.main_arg4)
      ∧ r.2.mem ((c.tc : Thread Cert.ReferenceBIdeal.nD Cert.ReferenceBIdeal.τ).loc Cert.ReferenceBIdeal.main_arg5) = m ((c.tc : Thread Cert.ReferenceBIdeal.nD Cert.ReferenceBIdeal.τ).loc Cert.ReferenceBIdeal.main_arg5)
      ∧ r.2.mem ((c.tc : Thread Cert.ReferenceBIdeal.nD Cert.ReferenceBIdeal.τ).loc Cert.ReferenceBIdeal.main_arg6) = m ((c.tc : Thread Cert.ReferenceBIdeal.nD Cert.ReferenceBIdeal.τ).loc Cert.ReferenceBIdeal.main_arg6))
      ∧ r.2.sem = fun _ => 0)

def quiescent_KernelInA [hKernelInA : Cert.KernelInA.Facts] : Prop :=
  ∀ (m : (ℓ : Loc Cert.KernelInA.nD Cert.KernelInA.τ Cert.KernelInA.sig) → Buf (Elt Bits) ℓ) (g : Dev Cert.KernelInA.nD → PrngReg), Pre_KernelInA m →
    θ_run (Cert.KernelInA.defs (F := Bits)) (onTc (τ := Cert.KernelInA.τ) (Cert.KernelInA.main (F := Bits))) ⟨m, fun _ => 0, g⟩ (fun r => (∀ c : Dev Cert.KernelInA.nD,
      r.2.mem ((c.tc : Thread Cert.KernelInA.nD Cert.KernelInA.τ).loc Cert.KernelInA.main_arg0) = m ((c.tc : Thread Cert.KernelInA.nD Cert.KernelInA.τ).loc Cert.KernelInA.main_arg0)
      ∧ r.2.mem ((c.tc : Thread Cert.KernelInA.nD Cert.KernelInA.τ).loc Cert.KernelInA.main_arg1) = m ((c.tc : Thread Cert.KernelInA.nD Cert.KernelInA.τ).loc Cert.KernelInA.main_arg1)
      ∧ r.2.mem ((c.tc : Thread Cert.KernelInA.nD Cert.KernelInA.τ).loc Cert.KernelInA.main_arg2) = m ((c.tc : Thread Cert.KernelInA.nD Cert.KernelInA.τ).loc Cert.KernelInA.main_arg2)
      ∧ r.2.mem ((c.tc : Thread Cert.KernelInA.nD Cert.KernelInA.τ).loc Cert.KernelInA.main_arg3) = m ((c.tc : Thread Cert.KernelInA.nD Cert.KernelInA.τ).loc Cert.KernelInA.main_arg3)
      ∧ r.2.mem ((c.tc : Thread Cert.KernelInA.nD Cert.KernelInA.τ).loc Cert.KernelInA.main_arg4) = m ((c.tc : Thread Cert.KernelInA.nD Cert.KernelInA.τ).loc Cert.KernelInA.main_arg4))
      ∧ r.2.sem = fun _ => 0)

def quiescent_KernelInAIdeal [hKernelInAIdeal : Cert.KernelInAIdeal.Facts] : Prop :=
  ∀ (m : (ℓ : Loc Cert.KernelInAIdeal.nD Cert.KernelInAIdeal.τ Cert.KernelInAIdeal.sig) → Buf (Elt Ideal) ℓ) (g : Dev Cert.KernelInAIdeal.nD → PrngReg), Pre_KernelInAIdeal m →
    θ_run (Cert.KernelInAIdeal.defs (F := Ideal)) (onTc (τ := Cert.KernelInAIdeal.τ) (Cert.KernelInAIdeal.main (F := Ideal))) ⟨m, fun _ => 0, g⟩ (fun r => (∀ c : Dev Cert.KernelInAIdeal.nD,
      r.2.mem ((c.tc : Thread Cert.KernelInAIdeal.nD Cert.KernelInAIdeal.τ).loc Cert.KernelInAIdeal.main_arg0) = m ((c.tc : Thread Cert.KernelInAIdeal.nD Cert.KernelInAIdeal.τ).loc Cert.KernelInAIdeal.main_arg0)
      ∧ r.2.mem ((c.tc : Thread Cert.KernelInAIdeal.nD Cert.KernelInAIdeal.τ).loc Cert.KernelInAIdeal.main_arg1) = m ((c.tc : Thread Cert.KernelInAIdeal.nD Cert.KernelInAIdeal.τ).loc Cert.KernelInAIdeal.main_arg1)
      ∧ r.2.mem ((c.tc : Thread Cert.KernelInAIdeal.nD Cert.KernelInAIdeal.τ).loc Cert.KernelInAIdeal.main_arg2) = m ((c.tc : Thread Cert.KernelInAIdeal.nD Cert.KernelInAIdeal.τ).loc Cert.KernelInAIdeal.main_arg2)
      ∧ r.2.mem ((c.tc : Thread Cert.KernelInAIdeal.nD Cert.KernelInAIdeal.τ).loc Cert.KernelInAIdeal.main_arg3) = m ((c.tc : Thread Cert.KernelInAIdeal.nD Cert.KernelInAIdeal.τ).loc Cert.KernelInAIdeal.main_arg3)
      ∧ r.2.mem ((c.tc : Thread Cert.KernelInAIdeal.nD Cert.KernelInAIdeal.τ).loc Cert.KernelInAIdeal.main_arg4) = m ((c.tc : Thread Cert.KernelInAIdeal.nD Cert.KernelInAIdeal.τ).loc Cert.KernelInAIdeal.main_arg4))
      ∧ r.2.sem = fun _ => 0)

def quiescent_KernelInAIdeal_pre_finite_in_a [hKernelInAIdeal : Cert.KernelInAIdeal.Facts] [hPre_finite_in_a : Cert.Pre_finite_in_a.Facts] : Prop :=
  ∀ (m : (ℓ : Loc Cert.KernelInAIdeal.nD Cert.KernelInAIdeal.τ Cert.KernelInAIdeal.sig) → Buf (Elt Ideal) ℓ) (g : Dev Cert.KernelInAIdeal.nD → PrngReg), Pre_KernelInAIdeal_finite_in_a m →
    θ_run (Cert.KernelInAIdeal.defs (F := Ideal)) (onTc (τ := Cert.KernelInAIdeal.τ) (Cert.KernelInAIdeal.main (F := Ideal))) ⟨m, fun _ => 0, g⟩ (fun r => (∀ c : Dev Cert.KernelInAIdeal.nD,
      r.2.mem ((c.tc : Thread Cert.KernelInAIdeal.nD Cert.KernelInAIdeal.τ).loc Cert.KernelInAIdeal.main_arg0) = m ((c.tc : Thread Cert.KernelInAIdeal.nD Cert.KernelInAIdeal.τ).loc Cert.KernelInAIdeal.main_arg0)
      ∧ r.2.mem ((c.tc : Thread Cert.KernelInAIdeal.nD Cert.KernelInAIdeal.τ).loc Cert.KernelInAIdeal.main_arg1) = m ((c.tc : Thread Cert.KernelInAIdeal.nD Cert.KernelInAIdeal.τ).loc Cert.KernelInAIdeal.main_arg1)
      ∧ r.2.mem ((c.tc : Thread Cert.KernelInAIdeal.nD Cert.KernelInAIdeal.τ).loc Cert.KernelInAIdeal.main_arg2) = m ((c.tc : Thread Cert.KernelInAIdeal.nD Cert.KernelInAIdeal.τ).loc Cert.KernelInAIdeal.main_arg2)
      ∧ r.2.mem ((c.tc : Thread Cert.KernelInAIdeal.nD Cert.KernelInAIdeal.τ).loc Cert.KernelInAIdeal.main_arg3) = m ((c.tc : Thread Cert.KernelInAIdeal.nD Cert.KernelInAIdeal.τ).loc Cert.KernelInAIdeal.main_arg3)
      ∧ r.2.mem ((c.tc : Thread Cert.KernelInAIdeal.nD Cert.KernelInAIdeal.τ).loc Cert.KernelInAIdeal.main_arg4) = m ((c.tc : Thread Cert.KernelInAIdeal.nD Cert.KernelInAIdeal.τ).loc Cert.KernelInAIdeal.main_arg4))
      ∧ r.2.sem = fun _ => 0)

def quiescent_ReferenceInAIdeal [hReferenceInAIdeal : Cert.ReferenceInAIdeal.Facts] : Prop :=
  ∀ (m : (ℓ : Loc Cert.ReferenceInAIdeal.nD Cert.ReferenceInAIdeal.τ Cert.ReferenceInAIdeal.sig) → Buf (Elt Ideal) ℓ) (g : Dev Cert.ReferenceInAIdeal.nD → PrngReg), Pre_ReferenceInAIdeal m →
    θ_run (Cert.ReferenceInAIdeal.defs (F := Ideal)) (onTc (τ := Cert.ReferenceInAIdeal.τ) (Cert.ReferenceInAIdeal.main (F := Ideal))) ⟨m, fun _ => 0, g⟩ (fun r => (∀ c : Dev Cert.ReferenceInAIdeal.nD,
      r.2.mem ((c.tc : Thread Cert.ReferenceInAIdeal.nD Cert.ReferenceInAIdeal.τ).loc Cert.ReferenceInAIdeal.main_arg0) = m ((c.tc : Thread Cert.ReferenceInAIdeal.nD Cert.ReferenceInAIdeal.τ).loc Cert.ReferenceInAIdeal.main_arg0)
      ∧ r.2.mem ((c.tc : Thread Cert.ReferenceInAIdeal.nD Cert.ReferenceInAIdeal.τ).loc Cert.ReferenceInAIdeal.main_arg1) = m ((c.tc : Thread Cert.ReferenceInAIdeal.nD Cert.ReferenceInAIdeal.τ).loc Cert.ReferenceInAIdeal.main_arg1)
      ∧ r.2.mem ((c.tc : Thread Cert.ReferenceInAIdeal.nD Cert.ReferenceInAIdeal.τ).loc Cert.ReferenceInAIdeal.main_arg2) = m ((c.tc : Thread Cert.ReferenceInAIdeal.nD Cert.ReferenceInAIdeal.τ).loc Cert.ReferenceInAIdeal.main_arg2)
      ∧ r.2.mem ((c.tc : Thread Cert.ReferenceInAIdeal.nD Cert.ReferenceInAIdeal.τ).loc Cert.ReferenceInAIdeal.main_arg3) = m ((c.tc : Thread Cert.ReferenceInAIdeal.nD Cert.ReferenceInAIdeal.τ).loc Cert.ReferenceInAIdeal.main_arg3)
      ∧ r.2.mem ((c.tc : Thread Cert.ReferenceInAIdeal.nD Cert.ReferenceInAIdeal.τ).loc Cert.ReferenceInAIdeal.main_arg4) = m ((c.tc : Thread Cert.ReferenceInAIdeal.nD Cert.ReferenceInAIdeal.τ).loc Cert.ReferenceInAIdeal.main_arg4))
      ∧ r.2.sem = fun _ => 0)

def quiescent_ReferenceInAIdeal_pre_finite_in_a [hReferenceInAIdeal : Cert.ReferenceInAIdeal.Facts] [hPre_finite_in_a : Cert.Pre_finite_in_a.Facts] : Prop :=
  ∀ (m : (ℓ : Loc Cert.ReferenceInAIdeal.nD Cert.ReferenceInAIdeal.τ Cert.ReferenceInAIdeal.sig) → Buf (Elt Ideal) ℓ) (g : Dev Cert.ReferenceInAIdeal.nD → PrngReg), Pre_ReferenceInAIdeal_finite_in_a m →
    θ_run (Cert.ReferenceInAIdeal.defs (F := Ideal)) (onTc (τ := Cert.ReferenceInAIdeal.τ) (Cert.ReferenceInAIdeal.main (F := Ideal))) ⟨m, fun _ => 0, g⟩ (fun r => (∀ c : Dev Cert.ReferenceInAIdeal.nD,
      r.2.mem ((c.tc : Thread Cert.ReferenceInAIdeal.nD Cert.ReferenceInAIdeal.τ).loc Cert.ReferenceInAIdeal.main_arg0) = m ((c.tc : Thread Cert.ReferenceInAIdeal.nD Cert.ReferenceInAIdeal.τ).loc Cert.ReferenceInAIdeal.main_arg0)
      ∧ r.2.mem ((c.tc : Thread Cert.ReferenceInAIdeal.nD Cert.ReferenceInAIdeal.τ).loc Cert.ReferenceInAIdeal.main_arg1) = m ((c.tc : Thread Cert.ReferenceInAIdeal.nD Cert.ReferenceInAIdeal.τ).loc Cert.ReferenceInAIdeal.main_arg1)
      ∧ r.2.mem ((c.tc : Thread Cert.ReferenceInAIdeal.nD Cert.ReferenceInAIdeal.τ).loc Cert.ReferenceInAIdeal.main_arg2) = m ((c.tc : Thread Cert.ReferenceInAIdeal.nD Cert.ReferenceInAIdeal.τ).loc Cert.ReferenceInAIdeal.main_arg2)
      ∧ r.2.mem ((c.tc : Thread Cert.ReferenceInAIdeal.nD Cert.ReferenceInAIdeal.τ).loc Cert.ReferenceInAIdeal.main_arg3) = m ((c.tc : Thread Cert.ReferenceInAIdeal.nD Cert.ReferenceInAIdeal.τ).loc Cert.ReferenceInAIdeal.main_arg3)
      ∧ r.2.mem ((c.tc : Thread Cert.ReferenceInAIdeal.nD Cert.ReferenceInAIdeal.τ).loc Cert.ReferenceInAIdeal.main_arg4) = m ((c.tc : Thread Cert.ReferenceInAIdeal.nD Cert.ReferenceInAIdeal.τ).loc Cert.ReferenceInAIdeal.main_arg4))
      ∧ r.2.sem = fun _ => 0)

def quiescent_KernelInB [hKernelInB : Cert.KernelInB.Facts] : Prop :=
  ∀ (m : (ℓ : Loc Cert.KernelInB.nD Cert.KernelInB.τ Cert.KernelInB.sig) → Buf (Elt Bits) ℓ) (g : Dev Cert.KernelInB.nD → PrngReg), Pre_KernelInB m →
    θ_run (Cert.KernelInB.defs (F := Bits)) (onTc (τ := Cert.KernelInB.τ) (Cert.KernelInB.main (F := Bits))) ⟨m, fun _ => 0, g⟩ (fun r => (∀ c : Dev Cert.KernelInB.nD,
      r.2.mem ((c.tc : Thread Cert.KernelInB.nD Cert.KernelInB.τ).loc Cert.KernelInB.main_arg0) = m ((c.tc : Thread Cert.KernelInB.nD Cert.KernelInB.τ).loc Cert.KernelInB.main_arg0)
      ∧ r.2.mem ((c.tc : Thread Cert.KernelInB.nD Cert.KernelInB.τ).loc Cert.KernelInB.main_arg1) = m ((c.tc : Thread Cert.KernelInB.nD Cert.KernelInB.τ).loc Cert.KernelInB.main_arg1)
      ∧ r.2.mem ((c.tc : Thread Cert.KernelInB.nD Cert.KernelInB.τ).loc Cert.KernelInB.main_arg2) = m ((c.tc : Thread Cert.KernelInB.nD Cert.KernelInB.τ).loc Cert.KernelInB.main_arg2)
      ∧ r.2.mem ((c.tc : Thread Cert.KernelInB.nD Cert.KernelInB.τ).loc Cert.KernelInB.main_arg3) = m ((c.tc : Thread Cert.KernelInB.nD Cert.KernelInB.τ).loc Cert.KernelInB.main_arg3)
      ∧ r.2.mem ((c.tc : Thread Cert.KernelInB.nD Cert.KernelInB.τ).loc Cert.KernelInB.main_arg4) = m ((c.tc : Thread Cert.KernelInB.nD Cert.KernelInB.τ).loc Cert.KernelInB.main_arg4)
      ∧ r.2.mem ((c.tc : Thread Cert.KernelInB.nD Cert.KernelInB.τ).loc Cert.KernelInB.main_arg5) = m ((c.tc : Thread Cert.KernelInB.nD Cert.KernelInB.τ).loc Cert.KernelInB.main_arg5)
      ∧ r.2.mem ((c.tc : Thread Cert.KernelInB.nD Cert.KernelInB.τ).loc Cert.KernelInB.main_arg6) = m ((c.tc : Thread Cert.KernelInB.nD Cert.KernelInB.τ).loc Cert.KernelInB.main_arg6)
      ∧ r.2.mem ((c.tc : Thread Cert.KernelInB.nD Cert.KernelInB.τ).loc Cert.KernelInB.main_arg7) = m ((c.tc : Thread Cert.KernelInB.nD Cert.KernelInB.τ).loc Cert.KernelInB.main_arg7)
      ∧ r.2.mem ((c.tc : Thread Cert.KernelInB.nD Cert.KernelInB.τ).loc Cert.KernelInB.main_arg8) = m ((c.tc : Thread Cert.KernelInB.nD Cert.KernelInB.τ).loc Cert.KernelInB.main_arg8)
      ∧ r.2.mem ((c.tc : Thread Cert.KernelInB.nD Cert.KernelInB.τ).loc Cert.KernelInB.main_arg9) = m ((c.tc : Thread Cert.KernelInB.nD Cert.KernelInB.τ).loc Cert.KernelInB.main_arg9))
      ∧ r.2.sem = fun _ => 0)

def quiescent_KernelInBIdeal [hKernelInBIdeal : Cert.KernelInBIdeal.Facts] : Prop :=
  ∀ (m : (ℓ : Loc Cert.KernelInBIdeal.nD Cert.KernelInBIdeal.τ Cert.KernelInBIdeal.sig) → Buf (Elt Ideal) ℓ) (g : Dev Cert.KernelInBIdeal.nD → PrngReg), Pre_KernelInBIdeal m →
    θ_run (Cert.KernelInBIdeal.defs (F := Ideal)) (onTc (τ := Cert.KernelInBIdeal.τ) (Cert.KernelInBIdeal.main (F := Ideal))) ⟨m, fun _ => 0, g⟩ (fun r => (∀ c : Dev Cert.KernelInBIdeal.nD,
      r.2.mem ((c.tc : Thread Cert.KernelInBIdeal.nD Cert.KernelInBIdeal.τ).loc Cert.KernelInBIdeal.main_arg0) = m ((c.tc : Thread Cert.KernelInBIdeal.nD Cert.KernelInBIdeal.τ).loc Cert.KernelInBIdeal.main_arg0)
      ∧ r.2.mem ((c.tc : Thread Cert.KernelInBIdeal.nD Cert.KernelInBIdeal.τ).loc Cert.KernelInBIdeal.main_arg1) = m ((c.tc : Thread Cert.KernelInBIdeal.nD Cert.KernelInBIdeal.τ).loc Cert.KernelInBIdeal.main_arg1)
      ∧ r.2.mem ((c.tc : Thread Cert.KernelInBIdeal.nD Cert.KernelInBIdeal.τ).loc Cert.KernelInBIdeal.main_arg2) = m ((c.tc : Thread Cert.KernelInBIdeal.nD Cert.KernelInBIdeal.τ).loc Cert.KernelInBIdeal.main_arg2)
      ∧ r.2.mem ((c.tc : Thread Cert.KernelInBIdeal.nD Cert.KernelInBIdeal.τ).loc Cert.KernelInBIdeal.main_arg3) = m ((c.tc : Thread Cert.KernelInBIdeal.nD Cert.KernelInBIdeal.τ).loc Cert.KernelInBIdeal.main_arg3)
      ∧ r.2.mem ((c.tc : Thread Cert.KernelInBIdeal.nD Cert.KernelInBIdeal.τ).loc Cert.KernelInBIdeal.main_arg4) = m ((c.tc : Thread Cert.KernelInBIdeal.nD Cert.KernelInBIdeal.τ).loc Cert.KernelInBIdeal.main_arg4)
      ∧ r.2.mem ((c.tc : Thread Cert.KernelInBIdeal.nD Cert.KernelInBIdeal.τ).loc Cert.KernelInBIdeal.main_arg5) = m ((c.tc : Thread Cert.KernelInBIdeal.nD Cert.KernelInBIdeal.τ).loc Cert.KernelInBIdeal.main_arg5)
      ∧ r.2.mem ((c.tc : Thread Cert.KernelInBIdeal.nD Cert.KernelInBIdeal.τ).loc Cert.KernelInBIdeal.main_arg6) = m ((c.tc : Thread Cert.KernelInBIdeal.nD Cert.KernelInBIdeal.τ).loc Cert.KernelInBIdeal.main_arg6)
      ∧ r.2.mem ((c.tc : Thread Cert.KernelInBIdeal.nD Cert.KernelInBIdeal.τ).loc Cert.KernelInBIdeal.main_arg7) = m ((c.tc : Thread Cert.KernelInBIdeal.nD Cert.KernelInBIdeal.τ).loc Cert.KernelInBIdeal.main_arg7)
      ∧ r.2.mem ((c.tc : Thread Cert.KernelInBIdeal.nD Cert.KernelInBIdeal.τ).loc Cert.KernelInBIdeal.main_arg8) = m ((c.tc : Thread Cert.KernelInBIdeal.nD Cert.KernelInBIdeal.τ).loc Cert.KernelInBIdeal.main_arg8)
      ∧ r.2.mem ((c.tc : Thread Cert.KernelInBIdeal.nD Cert.KernelInBIdeal.τ).loc Cert.KernelInBIdeal.main_arg9) = m ((c.tc : Thread Cert.KernelInBIdeal.nD Cert.KernelInBIdeal.τ).loc Cert.KernelInBIdeal.main_arg9))
      ∧ r.2.sem = fun _ => 0)

def quiescent_KernelInBIdeal_pre_finite_in_b [hKernelInBIdeal : Cert.KernelInBIdeal.Facts] [hPre_finite_in_b : Cert.Pre_finite_in_b.Facts] : Prop :=
  ∀ (m : (ℓ : Loc Cert.KernelInBIdeal.nD Cert.KernelInBIdeal.τ Cert.KernelInBIdeal.sig) → Buf (Elt Ideal) ℓ) (g : Dev Cert.KernelInBIdeal.nD → PrngReg), Pre_KernelInBIdeal_finite_in_b m →
    θ_run (Cert.KernelInBIdeal.defs (F := Ideal)) (onTc (τ := Cert.KernelInBIdeal.τ) (Cert.KernelInBIdeal.main (F := Ideal))) ⟨m, fun _ => 0, g⟩ (fun r => (∀ c : Dev Cert.KernelInBIdeal.nD,
      r.2.mem ((c.tc : Thread Cert.KernelInBIdeal.nD Cert.KernelInBIdeal.τ).loc Cert.KernelInBIdeal.main_arg0) = m ((c.tc : Thread Cert.KernelInBIdeal.nD Cert.KernelInBIdeal.τ).loc Cert.KernelInBIdeal.main_arg0)
      ∧ r.2.mem ((c.tc : Thread Cert.KernelInBIdeal.nD Cert.KernelInBIdeal.τ).loc Cert.KernelInBIdeal.main_arg1) = m ((c.tc : Thread Cert.KernelInBIdeal.nD Cert.KernelInBIdeal.τ).loc Cert.KernelInBIdeal.main_arg1)
      ∧ r.2.mem ((c.tc : Thread Cert.KernelInBIdeal.nD Cert.KernelInBIdeal.τ).loc Cert.KernelInBIdeal.main_arg2) = m ((c.tc : Thread Cert.KernelInBIdeal.nD Cert.KernelInBIdeal.τ).loc Cert.KernelInBIdeal.main_arg2)
      ∧ r.2.mem ((c.tc : Thread Cert.KernelInBIdeal.nD Cert.KernelInBIdeal.τ).loc Cert.KernelInBIdeal.main_arg3) = m ((c.tc : Thread Cert.KernelInBIdeal.nD Cert.KernelInBIdeal.τ).loc Cert.KernelInBIdeal.main_arg3)
      ∧ r.2.mem ((c.tc : Thread Cert.KernelInBIdeal.nD Cert.KernelInBIdeal.τ).loc Cert.KernelInBIdeal.main_arg4) = m ((c.tc : Thread Cert.KernelInBIdeal.nD Cert.KernelInBIdeal.τ).loc Cert.KernelInBIdeal.main_arg4)
      ∧ r.2.mem ((c.tc : Thread Cert.KernelInBIdeal.nD Cert.KernelInBIdeal.τ).loc Cert.KernelInBIdeal.main_arg5) = m ((c.tc : Thread Cert.KernelInBIdeal.nD Cert.KernelInBIdeal.τ).loc Cert.KernelInBIdeal.main_arg5)
      ∧ r.2.mem ((c.tc : Thread Cert.KernelInBIdeal.nD Cert.KernelInBIdeal.τ).loc Cert.KernelInBIdeal.main_arg6) = m ((c.tc : Thread Cert.KernelInBIdeal.nD Cert.KernelInBIdeal.τ).loc Cert.KernelInBIdeal.main_arg6)
      ∧ r.2.mem ((c.tc : Thread Cert.KernelInBIdeal.nD Cert.KernelInBIdeal.τ).loc Cert.KernelInBIdeal.main_arg7) = m ((c.tc : Thread Cert.KernelInBIdeal.nD Cert.KernelInBIdeal.τ).loc Cert.KernelInBIdeal.main_arg7)
      ∧ r.2.mem ((c.tc : Thread Cert.KernelInBIdeal.nD Cert.KernelInBIdeal.τ).loc Cert.KernelInBIdeal.main_arg8) = m ((c.tc : Thread Cert.KernelInBIdeal.nD Cert.KernelInBIdeal.τ).loc Cert.KernelInBIdeal.main_arg8)
      ∧ r.2.mem ((c.tc : Thread Cert.KernelInBIdeal.nD Cert.KernelInBIdeal.τ).loc Cert.KernelInBIdeal.main_arg9) = m ((c.tc : Thread Cert.KernelInBIdeal.nD Cert.KernelInBIdeal.τ).loc Cert.KernelInBIdeal.main_arg9))
      ∧ r.2.sem = fun _ => 0)

def quiescent_ReferenceInBIdeal [hReferenceInBIdeal : Cert.ReferenceInBIdeal.Facts] : Prop :=
  ∀ (m : (ℓ : Loc Cert.ReferenceInBIdeal.nD Cert.ReferenceInBIdeal.τ Cert.ReferenceInBIdeal.sig) → Buf (Elt Ideal) ℓ) (g : Dev Cert.ReferenceInBIdeal.nD → PrngReg), Pre_ReferenceInBIdeal m →
    θ_run (Cert.ReferenceInBIdeal.defs (F := Ideal)) (onTc (τ := Cert.ReferenceInBIdeal.τ) (Cert.ReferenceInBIdeal.main (F := Ideal))) ⟨m, fun _ => 0, g⟩ (fun r => (∀ c : Dev Cert.ReferenceInBIdeal.nD,
      r.2.mem ((c.tc : Thread Cert.ReferenceInBIdeal.nD Cert.ReferenceInBIdeal.τ).loc Cert.ReferenceInBIdeal.main_arg0) = m ((c.tc : Thread Cert.ReferenceInBIdeal.nD Cert.ReferenceInBIdeal.τ).loc Cert.ReferenceInBIdeal.main_arg0)
      ∧ r.2.mem ((c.tc : Thread Cert.ReferenceInBIdeal.nD Cert.ReferenceInBIdeal.τ).loc Cert.ReferenceInBIdeal.main_arg1) = m ((c.tc : Thread Cert.ReferenceInBIdeal.nD Cert.ReferenceInBIdeal.τ).loc Cert.ReferenceInBIdeal.main_arg1)
      ∧ r.2.mem ((c.tc : Thread Cert.ReferenceInBIdeal.nD Cert.ReferenceInBIdeal.τ).loc Cert.ReferenceInBIdeal.main_arg2) = m ((c.tc : Thread Cert.ReferenceInBIdeal.nD Cert.ReferenceInBIdeal.τ).loc Cert.ReferenceInBIdeal.main_arg2)
      ∧ r.2.mem ((c.tc : Thread Cert.ReferenceInBIdeal.nD Cert.ReferenceInBIdeal.τ).loc Cert.ReferenceInBIdeal.main_arg3) = m ((c.tc : Thread Cert.ReferenceInBIdeal.nD Cert.ReferenceInBIdeal.τ).loc Cert.ReferenceInBIdeal.main_arg3)
      ∧ r.2.mem ((c.tc : Thread Cert.ReferenceInBIdeal.nD Cert.ReferenceInBIdeal.τ).loc Cert.ReferenceInBIdeal.main_arg4) = m ((c.tc : Thread Cert.ReferenceInBIdeal.nD Cert.ReferenceInBIdeal.τ).loc Cert.ReferenceInBIdeal.main_arg4)
      ∧ r.2.mem ((c.tc : Thread Cert.ReferenceInBIdeal.nD Cert.ReferenceInBIdeal.τ).loc Cert.ReferenceInBIdeal.main_arg5) = m ((c.tc : Thread Cert.ReferenceInBIdeal.nD Cert.ReferenceInBIdeal.τ).loc Cert.ReferenceInBIdeal.main_arg5)
      ∧ r.2.mem ((c.tc : Thread Cert.ReferenceInBIdeal.nD Cert.ReferenceInBIdeal.τ).loc Cert.ReferenceInBIdeal.main_arg6) = m ((c.tc : Thread Cert.ReferenceInBIdeal.nD Cert.ReferenceInBIdeal.τ).loc Cert.ReferenceInBIdeal.main_arg6)
      ∧ r.2.mem ((c.tc : Thread Cert.ReferenceInBIdeal.nD Cert.ReferenceInBIdeal.τ).loc Cert.ReferenceInBIdeal.main_arg7) = m ((c.tc : Thread Cert.ReferenceInBIdeal.nD Cert.ReferenceInBIdeal.τ).loc Cert.ReferenceInBIdeal.main_arg7)
      ∧ r.2.mem ((c.tc : Thread Cert.ReferenceInBIdeal.nD Cert.ReferenceInBIdeal.τ).loc Cert.ReferenceInBIdeal.main_arg8) = m ((c.tc : Thread Cert.ReferenceInBIdeal.nD Cert.ReferenceInBIdeal.τ).loc Cert.ReferenceInBIdeal.main_arg8)
      ∧ r.2.mem ((c.tc : Thread Cert.ReferenceInBIdeal.nD Cert.ReferenceInBIdeal.τ).loc Cert.ReferenceInBIdeal.main_arg9) = m ((c.tc : Thread Cert.ReferenceInBIdeal.nD Cert.ReferenceInBIdeal.τ).loc Cert.ReferenceInBIdeal.main_arg9))
      ∧ r.2.sem = fun _ => 0)

def quiescent_ReferenceInBIdeal_pre_finite_in_b [hReferenceInBIdeal : Cert.ReferenceInBIdeal.Facts] [hPre_finite_in_b : Cert.Pre_finite_in_b.Facts] : Prop :=
  ∀ (m : (ℓ : Loc Cert.ReferenceInBIdeal.nD Cert.ReferenceInBIdeal.τ Cert.ReferenceInBIdeal.sig) → Buf (Elt Ideal) ℓ) (g : Dev Cert.ReferenceInBIdeal.nD → PrngReg), Pre_ReferenceInBIdeal_finite_in_b m →
    θ_run (Cert.ReferenceInBIdeal.defs (F := Ideal)) (onTc (τ := Cert.ReferenceInBIdeal.τ) (Cert.ReferenceInBIdeal.main (F := Ideal))) ⟨m, fun _ => 0, g⟩ (fun r => (∀ c : Dev Cert.ReferenceInBIdeal.nD,
      r.2.mem ((c.tc : Thread Cert.ReferenceInBIdeal.nD Cert.ReferenceInBIdeal.τ).loc Cert.ReferenceInBIdeal.main_arg0) = m ((c.tc : Thread Cert.ReferenceInBIdeal.nD Cert.ReferenceInBIdeal.τ).loc Cert.ReferenceInBIdeal.main_arg0)
      ∧ r.2.mem ((c.tc : Thread Cert.ReferenceInBIdeal.nD Cert.ReferenceInBIdeal.τ).loc Cert.ReferenceInBIdeal.main_arg1) = m ((c.tc : Thread Cert.ReferenceInBIdeal.nD Cert.ReferenceInBIdeal.τ).loc Cert.ReferenceInBIdeal.main_arg1)
      ∧ r.2.mem ((c.tc : Thread Cert.ReferenceInBIdeal.nD Cert.ReferenceInBIdeal.τ).loc Cert.ReferenceInBIdeal.main_arg2) = m ((c.tc : Thread Cert.ReferenceInBIdeal.nD Cert.ReferenceInBIdeal.τ).loc Cert.ReferenceInBIdeal.main_arg2)
      ∧ r.2.mem ((c.tc : Thread Cert.ReferenceInBIdeal.nD Cert.ReferenceInBIdeal.τ).loc Cert.ReferenceInBIdeal.main_arg3) = m ((c.tc : Thread Cert.ReferenceInBIdeal.nD Cert.ReferenceInBIdeal.τ).loc Cert.ReferenceInBIdeal.main_arg3)
      ∧ r.2.mem ((c.tc : Thread Cert.ReferenceInBIdeal.nD Cert.ReferenceInBIdeal.τ).loc Cert.ReferenceInBIdeal.main_arg4) = m ((c.tc : Thread Cert.ReferenceInBIdeal.nD Cert.ReferenceInBIdeal.τ).loc Cert.ReferenceInBIdeal.main_arg4)
      ∧ r.2.mem ((c.tc : Thread Cert.ReferenceInBIdeal.nD Cert.ReferenceInBIdeal.τ).loc Cert.ReferenceInBIdeal.main_arg5) = m ((c.tc : Thread Cert.ReferenceInBIdeal.nD Cert.ReferenceInBIdeal.τ).loc Cert.ReferenceInBIdeal.main_arg5)
      ∧ r.2.mem ((c.tc : Thread Cert.ReferenceInBIdeal.nD Cert.ReferenceInBIdeal.τ).loc Cert.ReferenceInBIdeal.main_arg6) = m ((c.tc : Thread Cert.ReferenceInBIdeal.nD Cert.ReferenceInBIdeal.τ).loc Cert.ReferenceInBIdeal.main_arg6)
      ∧ r.2.mem ((c.tc : Thread Cert.ReferenceInBIdeal.nD Cert.ReferenceInBIdeal.τ).loc Cert.ReferenceInBIdeal.main_arg7) = m ((c.tc : Thread Cert.ReferenceInBIdeal.nD Cert.ReferenceInBIdeal.τ).loc Cert.ReferenceInBIdeal.main_arg7)
      ∧ r.2.mem ((c.tc : Thread Cert.ReferenceInBIdeal.nD Cert.ReferenceInBIdeal.τ).loc Cert.ReferenceInBIdeal.main_arg8) = m ((c.tc : Thread Cert.ReferenceInBIdeal.nD Cert.ReferenceInBIdeal.τ).loc Cert.ReferenceInBIdeal.main_arg8)
      ∧ r.2.mem ((c.tc : Thread Cert.ReferenceInBIdeal.nD Cert.ReferenceInBIdeal.τ).loc Cert.ReferenceInBIdeal.main_arg9) = m ((c.tc : Thread Cert.ReferenceInBIdeal.nD Cert.ReferenceInBIdeal.τ).loc Cert.ReferenceInBIdeal.main_arg9))
      ∧ r.2.sem = fun _ => 0)

def quiescent_KernelWOut [hKernelWOut : Cert.KernelWOut.Facts] : Prop :=
  ∀ (m : (ℓ : Loc Cert.KernelWOut.nD Cert.KernelWOut.τ Cert.KernelWOut.sig) → Buf (Elt Bits) ℓ) (g : Dev Cert.KernelWOut.nD → PrngReg), Pre_KernelWOut m →
    θ_run (Cert.KernelWOut.defs (F := Bits)) (onTc (τ := Cert.KernelWOut.τ) (Cert.KernelWOut.main (F := Bits))) ⟨m, fun _ => 0, g⟩ (fun r => (∀ c : Dev Cert.KernelWOut.nD,
      r.2.mem ((c.tc : Thread Cert.KernelWOut.nD Cert.KernelWOut.τ).loc Cert.KernelWOut.main_arg0) = m ((c.tc : Thread Cert.KernelWOut.nD Cert.KernelWOut.τ).loc Cert.KernelWOut.main_arg0)
      ∧ r.2.mem ((c.tc : Thread Cert.KernelWOut.nD Cert.KernelWOut.τ).loc Cert.KernelWOut.main_arg1) = m ((c.tc : Thread Cert.KernelWOut.nD Cert.KernelWOut.τ).loc Cert.KernelWOut.main_arg1))
      ∧ r.2.sem = fun _ => 0)

def quiescent_KernelWOutIdeal [hKernelWOutIdeal : Cert.KernelWOutIdeal.Facts] : Prop :=
  ∀ (m : (ℓ : Loc Cert.KernelWOutIdeal.nD Cert.KernelWOutIdeal.τ Cert.KernelWOutIdeal.sig) → Buf (Elt Ideal) ℓ) (g : Dev Cert.KernelWOutIdeal.nD → PrngReg), Pre_KernelWOutIdeal m →
    θ_run (Cert.KernelWOutIdeal.defs (F := Ideal)) (onTc (τ := Cert.KernelWOutIdeal.τ) (Cert.KernelWOutIdeal.main (F := Ideal))) ⟨m, fun _ => 0, g⟩ (fun r => (∀ c : Dev Cert.KernelWOutIdeal.nD,
      r.2.mem ((c.tc : Thread Cert.KernelWOutIdeal.nD Cert.KernelWOutIdeal.τ).loc Cert.KernelWOutIdeal.main_arg0) = m ((c.tc : Thread Cert.KernelWOutIdeal.nD Cert.KernelWOutIdeal.τ).loc Cert.KernelWOutIdeal.main_arg0)
      ∧ r.2.mem ((c.tc : Thread Cert.KernelWOutIdeal.nD Cert.KernelWOutIdeal.τ).loc Cert.KernelWOutIdeal.main_arg1) = m ((c.tc : Thread Cert.KernelWOutIdeal.nD Cert.KernelWOutIdeal.τ).loc Cert.KernelWOutIdeal.main_arg1))
      ∧ r.2.sem = fun _ => 0)

def quiescent_ReferenceWOutIdeal [hReferenceWOutIdeal : Cert.ReferenceWOutIdeal.Facts] : Prop :=
  ∀ (m : (ℓ : Loc Cert.ReferenceWOutIdeal.nD Cert.ReferenceWOutIdeal.τ Cert.ReferenceWOutIdeal.sig) → Buf (Elt Ideal) ℓ) (g : Dev Cert.ReferenceWOutIdeal.nD → PrngReg), Pre_ReferenceWOutIdeal m →
    θ_run (Cert.ReferenceWOutIdeal.defs (F := Ideal)) (onTc (τ := Cert.ReferenceWOutIdeal.τ) (Cert.ReferenceWOutIdeal.main (F := Ideal))) ⟨m, fun _ => 0, g⟩ (fun r => (∀ c : Dev Cert.ReferenceWOutIdeal.nD,
      r.2.mem ((c.tc : Thread Cert.ReferenceWOutIdeal.nD Cert.ReferenceWOutIdeal.τ).loc Cert.ReferenceWOutIdeal.main_arg0) = m ((c.tc : Thread Cert.ReferenceWOutIdeal.nD Cert.ReferenceWOutIdeal.τ).loc Cert.ReferenceWOutIdeal.main_arg0)
      ∧ r.2.mem ((c.tc : Thread Cert.ReferenceWOutIdeal.nD Cert.ReferenceWOutIdeal.τ).loc Cert.ReferenceWOutIdeal.main_arg1) = m ((c.tc : Thread Cert.ReferenceWOutIdeal.nD Cert.ReferenceWOutIdeal.τ).loc Cert.ReferenceWOutIdeal.main_arg1))
      ∧ r.2.sem = fun _ => 0)

def quiescent_KernelWGate [hKernelWGate : Cert.KernelWGate.Facts] : Prop :=
  ∀ (m : (ℓ : Loc Cert.KernelWGate.nD Cert.KernelWGate.τ Cert.KernelWGate.sig) → Buf (Elt Bits) ℓ) (g : Dev Cert.KernelWGate.nD → PrngReg), Pre_KernelWGate m →
    θ_run (Cert.KernelWGate.defs (F := Bits)) (onTc (τ := Cert.KernelWGate.τ) (Cert.KernelWGate.main (F := Bits))) ⟨m, fun _ => 0, g⟩ (fun r => (∀ c : Dev Cert.KernelWGate.nD,
      r.2.mem ((c.tc : Thread Cert.KernelWGate.nD Cert.KernelWGate.τ).loc Cert.KernelWGate.main_arg0) = m ((c.tc : Thread Cert.KernelWGate.nD Cert.KernelWGate.τ).loc Cert.KernelWGate.main_arg0)
      ∧ r.2.mem ((c.tc : Thread Cert.KernelWGate.nD Cert.KernelWGate.τ).loc Cert.KernelWGate.main_arg1) = m ((c.tc : Thread Cert.KernelWGate.nD Cert.KernelWGate.τ).loc Cert.KernelWGate.main_arg1))
      ∧ r.2.sem = fun _ => 0)

def quiescent_KernelWGateIdeal [hKernelWGateIdeal : Cert.KernelWGateIdeal.Facts] : Prop :=
  ∀ (m : (ℓ : Loc Cert.KernelWGateIdeal.nD Cert.KernelWGateIdeal.τ Cert.KernelWGateIdeal.sig) → Buf (Elt Ideal) ℓ) (g : Dev Cert.KernelWGateIdeal.nD → PrngReg), Pre_KernelWGateIdeal m →
    θ_run (Cert.KernelWGateIdeal.defs (F := Ideal)) (onTc (τ := Cert.KernelWGateIdeal.τ) (Cert.KernelWGateIdeal.main (F := Ideal))) ⟨m, fun _ => 0, g⟩ (fun r => (∀ c : Dev Cert.KernelWGateIdeal.nD,
      r.2.mem ((c.tc : Thread Cert.KernelWGateIdeal.nD Cert.KernelWGateIdeal.τ).loc Cert.KernelWGateIdeal.main_arg0) = m ((c.tc : Thread Cert.KernelWGateIdeal.nD Cert.KernelWGateIdeal.τ).loc Cert.KernelWGateIdeal.main_arg0)
      ∧ r.2.mem ((c.tc : Thread Cert.KernelWGateIdeal.nD Cert.KernelWGateIdeal.τ).loc Cert.KernelWGateIdeal.main_arg1) = m ((c.tc : Thread Cert.KernelWGateIdeal.nD Cert.KernelWGateIdeal.τ).loc Cert.KernelWGateIdeal.main_arg1))
      ∧ r.2.sem = fun _ => 0)

def quiescent_ReferenceWGateIdeal [hReferenceWGateIdeal : Cert.ReferenceWGateIdeal.Facts] : Prop :=
  ∀ (m : (ℓ : Loc Cert.ReferenceWGateIdeal.nD Cert.ReferenceWGateIdeal.τ Cert.ReferenceWGateIdeal.sig) → Buf (Elt Ideal) ℓ) (g : Dev Cert.ReferenceWGateIdeal.nD → PrngReg), Pre_ReferenceWGateIdeal m →
    θ_run (Cert.ReferenceWGateIdeal.defs (F := Ideal)) (onTc (τ := Cert.ReferenceWGateIdeal.τ) (Cert.ReferenceWGateIdeal.main (F := Ideal))) ⟨m, fun _ => 0, g⟩ (fun r => (∀ c : Dev Cert.ReferenceWGateIdeal.nD,
      r.2.mem ((c.tc : Thread Cert.ReferenceWGateIdeal.nD Cert.ReferenceWGateIdeal.τ).loc Cert.ReferenceWGateIdeal.main_arg0) = m ((c.tc : Thread Cert.ReferenceWGateIdeal.nD Cert.ReferenceWGateIdeal.τ).loc Cert.ReferenceWGateIdeal.main_arg0)
      ∧ r.2.mem ((c.tc : Thread Cert.ReferenceWGateIdeal.nD Cert.ReferenceWGateIdeal.τ).loc Cert.ReferenceWGateIdeal.main_arg1) = m ((c.tc : Thread Cert.ReferenceWGateIdeal.nD Cert.ReferenceWGateIdeal.τ).loc Cert.ReferenceWGateIdeal.main_arg1))
      ∧ r.2.sem = fun _ => 0)

def quiescent_KernelWIn [hKernelWIn : Cert.KernelWIn.Facts] : Prop :=
  ∀ (m : (ℓ : Loc Cert.KernelWIn.nD Cert.KernelWIn.τ Cert.KernelWIn.sig) → Buf (Elt Bits) ℓ) (g : Dev Cert.KernelWIn.nD → PrngReg), Pre_KernelWIn m →
    θ_run (Cert.KernelWIn.defs (F := Bits)) (onTc (τ := Cert.KernelWIn.τ) (Cert.KernelWIn.main (F := Bits))) ⟨m, fun _ => 0, g⟩ (fun r => (∀ c : Dev Cert.KernelWIn.nD,
      r.2.mem ((c.tc : Thread Cert.KernelWIn.nD Cert.KernelWIn.τ).loc Cert.KernelWIn.main_arg0) = m ((c.tc : Thread Cert.KernelWIn.nD Cert.KernelWIn.τ).loc Cert.KernelWIn.main_arg0)
      ∧ r.2.mem ((c.tc : Thread Cert.KernelWIn.nD Cert.KernelWIn.τ).loc Cert.KernelWIn.main_arg1) = m ((c.tc : Thread Cert.KernelWIn.nD Cert.KernelWIn.τ).loc Cert.KernelWIn.main_arg1)
      ∧ r.2.mem ((c.tc : Thread Cert.KernelWIn.nD Cert.KernelWIn.τ).loc Cert.KernelWIn.main_arg2) = m ((c.tc : Thread Cert.KernelWIn.nD Cert.KernelWIn.τ).loc Cert.KernelWIn.main_arg2))
      ∧ r.2.sem = fun _ => 0)

def quiescent_KernelWInIdeal [hKernelWInIdeal : Cert.KernelWInIdeal.Facts] : Prop :=
  ∀ (m : (ℓ : Loc Cert.KernelWInIdeal.nD Cert.KernelWInIdeal.τ Cert.KernelWInIdeal.sig) → Buf (Elt Ideal) ℓ) (g : Dev Cert.KernelWInIdeal.nD → PrngReg), Pre_KernelWInIdeal m →
    θ_run (Cert.KernelWInIdeal.defs (F := Ideal)) (onTc (τ := Cert.KernelWInIdeal.τ) (Cert.KernelWInIdeal.main (F := Ideal))) ⟨m, fun _ => 0, g⟩ (fun r => (∀ c : Dev Cert.KernelWInIdeal.nD,
      r.2.mem ((c.tc : Thread Cert.KernelWInIdeal.nD Cert.KernelWInIdeal.τ).loc Cert.KernelWInIdeal.main_arg0) = m ((c.tc : Thread Cert.KernelWInIdeal.nD Cert.KernelWInIdeal.τ).loc Cert.KernelWInIdeal.main_arg0)
      ∧ r.2.mem ((c.tc : Thread Cert.KernelWInIdeal.nD Cert.KernelWInIdeal.τ).loc Cert.KernelWInIdeal.main_arg1) = m ((c.tc : Thread Cert.KernelWInIdeal.nD Cert.KernelWInIdeal.τ).loc Cert.KernelWInIdeal.main_arg1)
      ∧ r.2.mem ((c.tc : Thread Cert.KernelWInIdeal.nD Cert.KernelWInIdeal.τ).loc Cert.KernelWInIdeal.main_arg2) = m ((c.tc : Thread Cert.KernelWInIdeal.nD Cert.KernelWInIdeal.τ).loc Cert.KernelWInIdeal.main_arg2))
      ∧ r.2.sem = fun _ => 0)

def quiescent_ReferenceWInIdeal [hReferenceWInIdeal : Cert.ReferenceWInIdeal.Facts] : Prop :=
  ∀ (m : (ℓ : Loc Cert.ReferenceWInIdeal.nD Cert.ReferenceWInIdeal.τ Cert.ReferenceWInIdeal.sig) → Buf (Elt Ideal) ℓ) (g : Dev Cert.ReferenceWInIdeal.nD → PrngReg), Pre_ReferenceWInIdeal m →
    θ_run (Cert.ReferenceWInIdeal.defs (F := Ideal)) (onTc (τ := Cert.ReferenceWInIdeal.τ) (Cert.ReferenceWInIdeal.main (F := Ideal))) ⟨m, fun _ => 0, g⟩ (fun r => (∀ c : Dev Cert.ReferenceWInIdeal.nD,
      r.2.mem ((c.tc : Thread Cert.ReferenceWInIdeal.nD Cert.ReferenceWInIdeal.τ).loc Cert.ReferenceWInIdeal.main_arg0) = m ((c.tc : Thread Cert.ReferenceWInIdeal.nD Cert.ReferenceWInIdeal.τ).loc Cert.ReferenceWInIdeal.main_arg0)
      ∧ r.2.mem ((c.tc : Thread Cert.ReferenceWInIdeal.nD Cert.ReferenceWInIdeal.τ).loc Cert.ReferenceWInIdeal.main_arg1) = m ((c.tc : Thread Cert.ReferenceWInIdeal.nD Cert.ReferenceWInIdeal.τ).loc Cert.ReferenceWInIdeal.main_arg1)
      ∧ r.2.mem ((c.tc : Thread Cert.ReferenceWInIdeal.nD Cert.ReferenceWInIdeal.τ).loc Cert.ReferenceWInIdeal.main_arg2) = m ((c.tc : Thread Cert.ReferenceWInIdeal.nD Cert.ReferenceWInIdeal.τ).loc Cert.ReferenceWInIdeal.main_arg2))
      ∧ r.2.sem = fun _ => 0)

def quiescent_KernelWPle [hKernelWPle : Cert.KernelWPle.Facts] : Prop :=
  ∀ (m : (ℓ : Loc Cert.KernelWPle.nD Cert.KernelWPle.τ Cert.KernelWPle.sig) → Buf (Elt Bits) ℓ) (g : Dev Cert.KernelWPle.nD → PrngReg), Pre_KernelWPle m →
    θ_run (Cert.KernelWPle.defs (F := Bits)) (onTc (τ := Cert.KernelWPle.τ) (Cert.KernelWPle.main (F := Bits))) ⟨m, fun _ => 0, g⟩ (fun r => (∀ c : Dev Cert.KernelWPle.nD,
      r.2.mem ((c.tc : Thread Cert.KernelWPle.nD Cert.KernelWPle.τ).loc Cert.KernelWPle.main_arg0) = m ((c.tc : Thread Cert.KernelWPle.nD Cert.KernelWPle.τ).loc Cert.KernelWPle.main_arg0)
      ∧ r.2.mem ((c.tc : Thread Cert.KernelWPle.nD Cert.KernelWPle.τ).loc Cert.KernelWPle.main_arg1) = m ((c.tc : Thread Cert.KernelWPle.nD Cert.KernelWPle.τ).loc Cert.KernelWPle.main_arg1))
      ∧ r.2.sem = fun _ => 0)

def quiescent_KernelWPleIdeal [hKernelWPleIdeal : Cert.KernelWPleIdeal.Facts] : Prop :=
  ∀ (m : (ℓ : Loc Cert.KernelWPleIdeal.nD Cert.KernelWPleIdeal.τ Cert.KernelWPleIdeal.sig) → Buf (Elt Ideal) ℓ) (g : Dev Cert.KernelWPleIdeal.nD → PrngReg), Pre_KernelWPleIdeal m →
    θ_run (Cert.KernelWPleIdeal.defs (F := Ideal)) (onTc (τ := Cert.KernelWPleIdeal.τ) (Cert.KernelWPleIdeal.main (F := Ideal))) ⟨m, fun _ => 0, g⟩ (fun r => (∀ c : Dev Cert.KernelWPleIdeal.nD,
      r.2.mem ((c.tc : Thread Cert.KernelWPleIdeal.nD Cert.KernelWPleIdeal.τ).loc Cert.KernelWPleIdeal.main_arg0) = m ((c.tc : Thread Cert.KernelWPleIdeal.nD Cert.KernelWPleIdeal.τ).loc Cert.KernelWPleIdeal.main_arg0)
      ∧ r.2.mem ((c.tc : Thread Cert.KernelWPleIdeal.nD Cert.KernelWPleIdeal.τ).loc Cert.KernelWPleIdeal.main_arg1) = m ((c.tc : Thread Cert.KernelWPleIdeal.nD Cert.KernelWPleIdeal.τ).loc Cert.KernelWPleIdeal.main_arg1))
      ∧ r.2.sem = fun _ => 0)

def quiescent_ReferenceWPleIdeal [hReferenceWPleIdeal : Cert.ReferenceWPleIdeal.Facts] : Prop :=
  ∀ (m : (ℓ : Loc Cert.ReferenceWPleIdeal.nD Cert.ReferenceWPleIdeal.τ Cert.ReferenceWPleIdeal.sig) → Buf (Elt Ideal) ℓ) (g : Dev Cert.ReferenceWPleIdeal.nD → PrngReg), Pre_ReferenceWPleIdeal m →
    θ_run (Cert.ReferenceWPleIdeal.defs (F := Ideal)) (onTc (τ := Cert.ReferenceWPleIdeal.τ) (Cert.ReferenceWPleIdeal.main (F := Ideal))) ⟨m, fun _ => 0, g⟩ (fun r => (∀ c : Dev Cert.ReferenceWPleIdeal.nD,
      r.2.mem ((c.tc : Thread Cert.ReferenceWPleIdeal.nD Cert.ReferenceWPleIdeal.τ).loc Cert.ReferenceWPleIdeal.main_arg0) = m ((c.tc : Thread Cert.ReferenceWPleIdeal.nD Cert.ReferenceWPleIdeal.τ).loc Cert.ReferenceWPleIdeal.main_arg0)
      ∧ r.2.mem ((c.tc : Thread Cert.ReferenceWPleIdeal.nD Cert.ReferenceWPleIdeal.τ).loc Cert.ReferenceWPleIdeal.main_arg1) = m ((c.tc : Thread Cert.ReferenceWPleIdeal.nD Cert.ReferenceWPleIdeal.τ).loc Cert.ReferenceWPleIdeal.main_arg1))
      ∧ r.2.sem = fun _ => 0)

def quiescent_KernelBIn [hKernelBIn : Cert.KernelBIn.Facts] : Prop :=
  ∀ (m : (ℓ : Loc Cert.KernelBIn.nD Cert.KernelBIn.τ Cert.KernelBIn.sig) → Buf (Elt Bits) ℓ) (g : Dev Cert.KernelBIn.nD → PrngReg), Pre_KernelBIn m →
    θ_run (Cert.KernelBIn.defs (F := Bits)) (onTc (τ := Cert.KernelBIn.τ) (Cert.KernelBIn.main (F := Bits))) ⟨m, fun _ => 0, g⟩ (fun r => (∀ c : Dev Cert.KernelBIn.nD,
      r.2.mem ((c.tc : Thread Cert.KernelBIn.nD Cert.KernelBIn.τ).loc Cert.KernelBIn.main_arg0) = m ((c.tc : Thread Cert.KernelBIn.nD Cert.KernelBIn.τ).loc Cert.KernelBIn.main_arg0)
      ∧ r.2.mem ((c.tc : Thread Cert.KernelBIn.nD Cert.KernelBIn.τ).loc Cert.KernelBIn.main_arg1) = m ((c.tc : Thread Cert.KernelBIn.nD Cert.KernelBIn.τ).loc Cert.KernelBIn.main_arg1)
      ∧ r.2.mem ((c.tc : Thread Cert.KernelBIn.nD Cert.KernelBIn.τ).loc Cert.KernelBIn.main_arg2) = m ((c.tc : Thread Cert.KernelBIn.nD Cert.KernelBIn.τ).loc Cert.KernelBIn.main_arg2)
      ∧ r.2.mem ((c.tc : Thread Cert.KernelBIn.nD Cert.KernelBIn.τ).loc Cert.KernelBIn.main_arg3) = m ((c.tc : Thread Cert.KernelBIn.nD Cert.KernelBIn.τ).loc Cert.KernelBIn.main_arg3)
      ∧ r.2.mem ((c.tc : Thread Cert.KernelBIn.nD Cert.KernelBIn.τ).loc Cert.KernelBIn.main_arg4) = m ((c.tc : Thread Cert.KernelBIn.nD Cert.KernelBIn.τ).loc Cert.KernelBIn.main_arg4))
      ∧ r.2.sem = fun _ => 0)

def quiescent_KernelBInIdeal [hKernelBInIdeal : Cert.KernelBInIdeal.Facts] : Prop :=
  ∀ (m : (ℓ : Loc Cert.KernelBInIdeal.nD Cert.KernelBInIdeal.τ Cert.KernelBInIdeal.sig) → Buf (Elt Ideal) ℓ) (g : Dev Cert.KernelBInIdeal.nD → PrngReg), Pre_KernelBInIdeal m →
    θ_run (Cert.KernelBInIdeal.defs (F := Ideal)) (onTc (τ := Cert.KernelBInIdeal.τ) (Cert.KernelBInIdeal.main (F := Ideal))) ⟨m, fun _ => 0, g⟩ (fun r => (∀ c : Dev Cert.KernelBInIdeal.nD,
      r.2.mem ((c.tc : Thread Cert.KernelBInIdeal.nD Cert.KernelBInIdeal.τ).loc Cert.KernelBInIdeal.main_arg0) = m ((c.tc : Thread Cert.KernelBInIdeal.nD Cert.KernelBInIdeal.τ).loc Cert.KernelBInIdeal.main_arg0)
      ∧ r.2.mem ((c.tc : Thread Cert.KernelBInIdeal.nD Cert.KernelBInIdeal.τ).loc Cert.KernelBInIdeal.main_arg1) = m ((c.tc : Thread Cert.KernelBInIdeal.nD Cert.KernelBInIdeal.τ).loc Cert.KernelBInIdeal.main_arg1)
      ∧ r.2.mem ((c.tc : Thread Cert.KernelBInIdeal.nD Cert.KernelBInIdeal.τ).loc Cert.KernelBInIdeal.main_arg2) = m ((c.tc : Thread Cert.KernelBInIdeal.nD Cert.KernelBInIdeal.τ).loc Cert.KernelBInIdeal.main_arg2)
      ∧ r.2.mem ((c.tc : Thread Cert.KernelBInIdeal.nD Cert.KernelBInIdeal.τ).loc Cert.KernelBInIdeal.main_arg3) = m ((c.tc : Thread Cert.KernelBInIdeal.nD Cert.KernelBInIdeal.τ).loc Cert.KernelBInIdeal.main_arg3)
      ∧ r.2.mem ((c.tc : Thread Cert.KernelBInIdeal.nD Cert.KernelBInIdeal.τ).loc Cert.KernelBInIdeal.main_arg4) = m ((c.tc : Thread Cert.KernelBInIdeal.nD Cert.KernelBInIdeal.τ).loc Cert.KernelBInIdeal.main_arg4))
      ∧ r.2.sem = fun _ => 0)

def quiescent_ReferenceBInIdeal [hReferenceBInIdeal : Cert.ReferenceBInIdeal.Facts] : Prop :=
  ∀ (m : (ℓ : Loc Cert.ReferenceBInIdeal.nD Cert.ReferenceBInIdeal.τ Cert.ReferenceBInIdeal.sig) → Buf (Elt Ideal) ℓ) (g : Dev Cert.ReferenceBInIdeal.nD → PrngReg), Pre_ReferenceBInIdeal m →
    θ_run (Cert.ReferenceBInIdeal.defs (F := Ideal)) (onTc (τ := Cert.ReferenceBInIdeal.τ) (Cert.ReferenceBInIdeal.main (F := Ideal))) ⟨m, fun _ => 0, g⟩ (fun r => (∀ c : Dev Cert.ReferenceBInIdeal.nD,
      r.2.mem ((c.tc : Thread Cert.ReferenceBInIdeal.nD Cert.ReferenceBInIdeal.τ).loc Cert.ReferenceBInIdeal.main_arg0) = m ((c.tc : Thread Cert.ReferenceBInIdeal.nD Cert.ReferenceBInIdeal.τ).loc Cert.ReferenceBInIdeal.main_arg0)
      ∧ r.2.mem ((c.tc : Thread Cert.ReferenceBInIdeal.nD Cert.ReferenceBInIdeal.τ).loc Cert.ReferenceBInIdeal.main_arg1) = m ((c.tc : Thread Cert.ReferenceBInIdeal.nD Cert.ReferenceBInIdeal.τ).loc Cert.ReferenceBInIdeal.main_arg1)
      ∧ r.2.mem ((c.tc : Thread Cert.ReferenceBInIdeal.nD Cert.ReferenceBInIdeal.τ).loc Cert.ReferenceBInIdeal.main_arg2) = m ((c.tc : Thread Cert.ReferenceBInIdeal.nD Cert.ReferenceBInIdeal.τ).loc Cert.ReferenceBInIdeal.main_arg2)
      ∧ r.2.mem ((c.tc : Thread Cert.ReferenceBInIdeal.nD Cert.ReferenceBInIdeal.τ).loc Cert.ReferenceBInIdeal.main_arg3) = m ((c.tc : Thread Cert.ReferenceBInIdeal.nD Cert.ReferenceBInIdeal.τ).loc Cert.ReferenceBInIdeal.main_arg3)
      ∧ r.2.mem ((c.tc : Thread Cert.ReferenceBInIdeal.nD Cert.ReferenceBInIdeal.τ).loc Cert.ReferenceBInIdeal.main_arg4) = m ((c.tc : Thread Cert.ReferenceBInIdeal.nD Cert.ReferenceBInIdeal.τ).loc Cert.ReferenceBInIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v78_0)) (v1 : (c : Dev Cert.KernelIdeal.nD) → Buf (Elt Ideal) ((c.tc : Thread Cert.KernelIdeal.nD Cert.KernelIdeal.τ).loc Cert.KernelIdeal.main_v78_1)) (v2 : (c : Dev Cert.KernelIdeal.nD) → Buf (Elt Ideal) ((c.tc : Thread Cert.KernelIdeal.nD Cert.KernelIdeal.τ).loc Cert.KernelIdeal.main_v78_2)) (v3 : (c : Dev Cert.KernelIdeal.nD) → Buf (Elt Ideal) ((c.tc : Thread Cert.KernelIdeal.nD Cert.KernelIdeal.τ).loc Cert.KernelIdeal.main_v78_3)) (v4 : (c : Dev Cert.KernelIdeal.nD) → Buf (Elt Ideal) ((c.tc : Thread Cert.KernelIdeal.nD Cert.KernelIdeal.τ).loc Cert.KernelIdeal.main_v78_4)) (v5 : (c : Dev Cert.KernelIdeal.nD) → Buf (Elt Ideal) ((c.tc : Thread Cert.KernelIdeal.nD Cert.KernelIdeal.τ).loc Cert.KernelIdeal.main_v78_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78_0) = v0 c
          ∧ r.2.mem ((c.tc : Thread Cert.KernelIdeal.nD Cert.KernelIdeal.τ).loc Cert.KernelIdeal.main_v78_1) = v1 c
          ∧ r.2.mem ((c.tc : Thread Cert.KernelIdeal.nD Cert.KernelIdeal.τ).loc Cert.KernelIdeal.main_v78_2) = v2 c
          ∧ r.2.mem ((c.tc : Thread Cert.KernelIdeal.nD Cert.KernelIdeal.τ).loc Cert.KernelIdeal.main_v78_3) = v3 c
          ∧ r.2.mem ((c.tc : Thread Cert.KernelIdeal.nD Cert.KernelIdeal.τ).loc Cert.KernelIdeal.main_v78_4) = v4 c
          ∧ r.2.mem ((c.tc : Thread Cert.KernelIdeal.nD Cert.KernelIdeal.τ).loc Cert.KernelIdeal.main_v78_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v151) = v0 c
          ∧ r.2.mem ((c.tc : Thread Cert.ReferenceIdeal.nD Cert.ReferenceIdeal.τ).loc Cert.ReferenceIdeal.main_v152) = v1 c
          ∧ r.2.mem ((c.tc : Thread Cert.ReferenceIdeal.nD Cert.ReferenceIdeal.τ).loc Cert.ReferenceIdeal.main_v87) = v2 c
          ∧ r.2.mem ((c.tc : Thread Cert.ReferenceIdeal.nD Cert.ReferenceIdeal.τ).loc Cert.ReferenceIdeal.main_v153) = v3 c
          ∧ r.2.mem ((c.tc : Thread Cert.ReferenceIdeal.nD Cert.ReferenceIdeal.τ).loc Cert.ReferenceIdeal.main_v154) = v4 c
          ∧ r.2.mem ((c.tc : Thread Cert.ReferenceIdeal.nD Cert.ReferenceIdeal.τ).loc Cert.ReferenceIdeal.main_v94) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_KernelB_KernelBIdeal : Prop :=
  True

def algebraic_KernelBIdeal_ReferenceBIdeal_pre_finite_b [hKernelBIdeal : Cert.KernelBIdeal.Facts] [hReferenceBIdeal : Cert.ReferenceBIdeal.Facts] [hPre_finite_b : Cert.Pre_finite_b.Facts] : Prop :=
  ∀ (m : (ℓ : Loc Cert.KernelBIdeal.nD Cert.KernelBIdeal.τ Cert.KernelBIdeal.sig) → Buf (Elt Ideal) ℓ) (g : Dev Cert.KernelBIdeal.nD → PrngReg)
    (m' : (ℓ : Loc Cert.ReferenceBIdeal.nD Cert.ReferenceBIdeal.τ Cert.ReferenceBIdeal.sig) → Buf (Elt Ideal) ℓ) (g' : Dev Cert.ReferenceBIdeal.nD → PrngReg), Pre_KernelBIdeal_finite_b m →
    (∀ c : Dev Cert.KernelBIdeal.nD,
      m' ((c.tc : Thread Cert.ReferenceBIdeal.nD Cert.ReferenceBIdeal.τ).loc Cert.ReferenceBIdeal.main_arg0) = m ((c.tc : Thread Cert.KernelBIdeal.nD Cert.KernelBIdeal.τ).loc Cert.KernelBIdeal.main_arg0)
      ∧ m' ((c.tc : Thread Cert.ReferenceBIdeal.nD Cert.ReferenceBIdeal.τ).loc Cert.ReferenceBIdeal.main_arg1) = m ((c.tc : Thread Cert.KernelBIdeal.nD Cert.KernelBIdeal.τ).loc Cert.KernelBIdeal.main_arg1)
      ∧ m' ((c.tc : Thread Cert.ReferenceBIdeal.nD Cert.ReferenceBIdeal.τ).loc Cert.ReferenceBIdeal.main_arg2) = m ((c.tc : Thread Cert.KernelBIdeal.nD Cert.KernelBIdeal.τ).loc Cert.KernelBIdeal.main_arg2)
      ∧ m' ((c.tc : Thread Cert.ReferenceBIdeal.nD Cert.ReferenceBIdeal.τ).loc Cert.ReferenceBIdeal.main_arg3) = m ((c.tc : Thread Cert.KernelBIdeal.nD Cert.KernelBIdeal.τ).loc Cert.KernelBIdeal.main_arg3)
      ∧ m' ((c.tc : Thread Cert.ReferenceBIdeal.nD Cert.ReferenceBIdeal.τ).loc Cert.ReferenceBIdeal.main_arg4) = m ((c.tc : Thread Cert.KernelBIdeal.nD Cert.KernelBIdeal.τ).loc Cert.KernelBIdeal.main_arg4)
      ∧ m' ((c.tc : Thread Cert.ReferenceBIdeal.nD Cert.ReferenceBIdeal.τ).loc Cert.ReferenceBIdeal.main_arg5) = m ((c.tc : Thread Cert.KernelBIdeal.nD Cert.KernelBIdeal.τ).loc Cert.KernelBIdeal.main_arg5)
      ∧ m' ((c.tc : Thread Cert.ReferenceBIdeal.nD Cert.ReferenceBIdeal.τ).loc Cert.ReferenceBIdeal.main_arg6) = m ((c.tc : Thread Cert.KernelBIdeal.nD Cert.KernelBIdeal.τ).loc Cert.KernelBIdeal.main_arg6)) →
    ∃ (v0 : (c : Dev Cert.KernelBIdeal.nD) → Buf (Elt Ideal) ((c.tc : Thread Cert.KernelBIdeal.nD Cert.KernelBIdeal.τ).loc Cert.KernelBIdeal.main_v13_0)) (v1 : (c : Dev Cert.KernelBIdeal.nD) → Buf (Elt Ideal) ((c.tc : Thread Cert.KernelBIdeal.nD Cert.KernelBIdeal.τ).loc Cert.KernelBIdeal.main_v13_1)) (v2 : (c : Dev Cert.KernelBIdeal.nD) → Buf (Elt Ideal) ((c.tc : Thread Cert.KernelBIdeal.nD Cert.KernelBIdeal.τ).loc Cert.KernelBIdeal.main_v13_2)) (v3 : (c : Dev Cert.KernelBIdeal.nD) → Buf (Elt Ideal) ((c.tc : Thread Cert.KernelBIdeal.nD Cert.KernelBIdeal.τ).loc Cert.KernelBIdeal.main_v13_3)) (v4 : (c : Dev Cert.KernelBIdeal.nD) → Buf (Elt Ideal) ((c.tc : Thread Cert.KernelBIdeal.nD Cert.KernelBIdeal.τ).loc Cert.KernelBIdeal.main_v13_4)),
      θ_run (Cert.KernelBIdeal.defs (F := Ideal)) (onTc (τ := Cert.KernelBIdeal.τ) (Cert.KernelBIdeal.main (F := Ideal))) ⟨m, fun _ => 0, g⟩ (fun r => ∀ c : Dev Cert.KernelBIdeal.nD,
          r.2.mem ((c.tc : Thread Cert.KernelBIdeal.nD Cert.KernelBIdeal.τ).loc Cert.KernelBIdeal.main_v13_0) = v0 c
          ∧ r.2.mem ((c.tc : Thread Cert.KernelBIdeal.nD Cert.KernelBIdeal.τ).loc Cert.KernelBIdeal.main_v13_1) = v1 c
          ∧ r.2.mem ((c.tc : Thread Cert.KernelBIdeal.nD Cert.KernelBIdeal.τ).loc Cert.KernelBIdeal.main_v13_2) = v2 c
          ∧ r.2.mem ((c.tc : Thread Cert.KernelBIdeal.nD Cert.KernelBIdeal.τ).loc Cert.KernelBIdeal.main_v13_3) = v3 c
          ∧ r.2.mem ((c.tc : Thread Cert.KernelBIdeal.nD Cert.KernelBIdeal.τ).loc Cert.KernelBIdeal.main_v13_4) = v4 c
          ∧ r.2.mem ((c.tc : Thread Cert.KernelBIdeal.nD Cert.KernelBIdeal.τ).loc Cert.KernelBIdeal.main_arg0) = m ((c.tc : Thread Cert.KernelBIdeal.nD Cert.KernelBIdeal.τ).loc Cert.KernelBIdeal.main_arg0)
          ∧ r.2.mem ((c.tc : Thread Cert.KernelBIdeal.nD Cert.KernelBIdeal.τ).loc Cert.KernelBIdeal.main_arg1) = m ((c.tc : Thread Cert.KernelBIdeal.nD Cert.KernelBIdeal.τ).loc Cert.KernelBIdeal.main_arg1)
          ∧ r.2.mem ((c.tc : Thread Cert.KernelBIdeal.nD Cert.KernelBIdeal.τ).loc Cert.KernelBIdeal.main_arg2) = m ((c.tc : Thread Cert.KernelBIdeal.nD Cert.KernelBIdeal.τ).loc Cert.KernelBIdeal.main_arg2)
          ∧ r.2.mem ((c.tc : Thread Cert.KernelBIdeal.nD Cert.KernelBIdeal.τ).loc Cert.KernelBIdeal.main_arg3) = m ((c.tc : Thread Cert.KernelBIdeal.nD Cert.KernelBIdeal.τ).loc Cert.KernelBIdeal.main_arg3)
          ∧ r.2.mem ((c.tc : Thread Cert.KernelBIdeal.nD Cert.KernelBIdeal.τ).loc Cert.KernelBIdeal.main_arg4) = m ((c.tc : Thread Cert.KernelBIdeal.nD Cert.KernelBIdeal.τ).loc Cert.KernelBIdeal.main_arg4)
          ∧ r.2.mem ((c.tc : Thread Cert.KernelBIdeal.nD Cert.KernelBIdeal.τ).loc Cert.KernelBIdeal.main_arg5) = m ((c.tc : Thread Cert.KernelBIdeal.nD Cert.KernelBIdeal.τ).loc Cert.KernelBIdeal.main_arg5)
          ∧ r.2.mem ((c.tc : Thread Cert.KernelBIdeal.nD Cert.KernelBIdeal.τ).loc Cert.KernelBIdeal.main_arg6) = m ((c.tc : Thread Cert.KernelBIdeal.nD Cert.KernelBIdeal.τ).loc Cert.KernelBIdeal.main_arg6))
      ∧ θ_run (Cert.ReferenceBIdeal.defs (F := Ideal)) (onTc (τ := Cert.ReferenceBIdeal.τ) (Cert.ReferenceBIdeal.main (F := Ideal))) ⟨m', fun _ => 0, g'⟩ (fun r => ∀ c : Dev Cert.ReferenceBIdeal.nD,
          r.2.mem ((c.tc : Thread Cert.ReferenceBIdeal.nD Cert.ReferenceBIdeal.τ).loc Cert.ReferenceBIdeal.main_v27) = v0 c
          ∧ r.2.mem ((c.tc : Thread Cert.ReferenceBIdeal.nD Cert.ReferenceBIdeal.τ).loc Cert.ReferenceBIdeal.main_v28) = v1 c
          ∧ r.2.mem ((c.tc : Thread Cert.ReferenceBIdeal.nD Cert.ReferenceBIdeal.τ).loc Cert.ReferenceBIdeal.main_v22) = v2 c
          ∧ r.2.mem ((c.tc : Thread Cert.ReferenceBIdeal.nD Cert.ReferenceBIdeal.τ).loc Cert.ReferenceBIdeal.main_v29) = v3 c
          ∧ r.2.mem ((c.tc : Thread Cert.ReferenceBIdeal.nD Cert.ReferenceBIdeal.τ).loc Cert.ReferenceBIdeal.main_v30) = v4 c
          ∧ r.2.mem ((c.tc : Thread Cert.ReferenceBIdeal.nD Cert.ReferenceBIdeal.τ).loc Cert.ReferenceBIdeal.main_arg0) = m' ((c.tc : Thread Cert.ReferenceBIdeal.nD Cert.ReferenceBIdeal.τ).loc Cert.ReferenceBIdeal.main_arg0)
          ∧ r.2.mem ((c.tc : Thread Cert.ReferenceBIdeal.nD Cert.ReferenceBIdeal.τ).loc Cert.ReferenceBIdeal.main_arg1) = m' ((c.tc : Thread Cert.ReferenceBIdeal.nD Cert.ReferenceBIdeal.τ).loc Cert.ReferenceBIdeal.main_arg1)
          ∧ r.2.mem ((c.tc : Thread Cert.ReferenceBIdeal.nD Cert.ReferenceBIdeal.τ).loc Cert.ReferenceBIdeal.main_arg2) = m' ((c.tc : Thread Cert.ReferenceBIdeal.nD Cert.ReferenceBIdeal.τ).loc Cert.ReferenceBIdeal.main_arg2)
          ∧ r.2.mem ((c.tc : Thread Cert.ReferenceBIdeal.nD Cert.ReferenceBIdeal.τ).loc Cert.ReferenceBIdeal.main_arg3) = m' ((c.tc : Thread Cert.ReferenceBIdeal.nD Cert.ReferenceBIdeal.τ).loc Cert.ReferenceBIdeal.main_arg3)
          ∧ r.2.mem ((c.tc : Thread Cert.ReferenceBIdeal.nD Cert.ReferenceBIdeal.τ).loc Cert.ReferenceBIdeal.main_arg4) = m' ((c.tc : Thread Cert.ReferenceBIdeal.nD Cert.ReferenceBIdeal.τ).loc Cert.ReferenceBIdeal.main_arg4)
          ∧ r.2.mem ((c.tc : Thread Cert.ReferenceBIdeal.nD Cert.ReferenceBIdeal.τ).loc Cert.ReferenceBIdeal.main_arg5) = m' ((c.tc : Thread Cert.ReferenceBIdeal.nD Cert.ReferenceBIdeal.τ).loc Cert.ReferenceBIdeal.main_arg5)
          ∧ r.2.mem ((c.tc : Thread Cert.ReferenceBIdeal.nD Cert.ReferenceBIdeal.τ).loc Cert.ReferenceBIdeal.main_arg6) = m' ((c.tc : Thread Cert.ReferenceBIdeal.nD Cert.ReferenceBIdeal.τ).loc Cert.ReferenceBIdeal.main_arg6))

def preserves_KernelInA_KernelInAIdeal : Prop :=
  True

def algebraic_KernelInAIdeal_ReferenceInAIdeal_pre_finite_in_a [hKernelInAIdeal : Cert.KernelInAIdeal.Facts] [hReferenceInAIdeal : Cert.ReferenceInAIdeal.Facts] [hPre_finite_in_a : Cert.Pre_finite_in_a.Facts] : Prop :=
  ∀ (m : (ℓ : Loc Cert.KernelInAIdeal.nD Cert.KernelInAIdeal.τ Cert.KernelInAIdeal.sig) → Buf (Elt Ideal) ℓ) (g : Dev Cert.KernelInAIdeal.nD → PrngReg)
    (m' : (ℓ : Loc Cert.ReferenceInAIdeal.nD Cert.ReferenceInAIdeal.τ Cert.ReferenceInAIdeal.sig) → Buf (Elt Ideal) ℓ) (g' : Dev Cert.ReferenceInAIdeal.nD → PrngReg), Pre_KernelInAIdeal_finite_in_a m →
    (∀ c : Dev Cert.KernelInAIdeal.nD,
      m' ((c.tc : Thread Cert.ReferenceInAIdeal.nD Cert.ReferenceInAIdeal.τ).loc Cert.ReferenceInAIdeal.main_arg0) = m ((c.tc : Thread Cert.KernelInAIdeal.nD Cert.KernelInAIdeal.τ).loc Cert.KernelInAIdeal.main_arg0)
      ∧ m' ((c.tc : Thread Cert.ReferenceInAIdeal.nD Cert.ReferenceInAIdeal.τ).loc Cert.ReferenceInAIdeal.main_arg1) = m ((c.tc : Thread Cert.KernelInAIdeal.nD Cert.KernelInAIdeal.τ).loc Cert.KernelInAIdeal.main_arg1)
      ∧ m' ((c.tc : Thread Cert.ReferenceInAIdeal.nD Cert.ReferenceInAIdeal.τ).loc Cert.ReferenceInAIdeal.main_arg2) = m ((c.tc : Thread Cert.KernelInAIdeal.nD Cert.KernelInAIdeal.τ).loc Cert.KernelInAIdeal.main_arg2)
      ∧ m' ((c.tc : Thread Cert.ReferenceInAIdeal.nD Cert.ReferenceInAIdeal.τ).loc Cert.ReferenceInAIdeal.main_arg3) = m ((c.tc : Thread Cert.KernelInAIdeal.nD Cert.KernelInAIdeal.τ).loc Cert.KernelInAIdeal.main_arg3)
      ∧ m' ((c.tc : Thread Cert.ReferenceInAIdeal.nD Cert.ReferenceInAIdeal.τ).loc Cert.ReferenceInAIdeal.main_arg4) = m ((c.tc : Thread Cert.KernelInAIdeal.nD Cert.KernelInAIdeal.τ).loc Cert.KernelInAIdeal.main_arg4)) →
    ∃ (v0 : (c : Dev Cert.KernelInAIdeal.nD) → Buf (Elt Ideal) ((c.tc : Thread Cert.KernelInAIdeal.nD Cert.KernelInAIdeal.τ).loc Cert.KernelInAIdeal.main_v3_0)) (v1 : (c : Dev Cert.KernelInAIdeal.nD) → Buf (Elt Ideal) ((c.tc : Thread Cert.KernelInAIdeal.nD Cert.KernelInAIdeal.τ).loc Cert.KernelInAIdeal.main_v3_1)),
      θ_run (Cert.KernelInAIdeal.defs (F := Ideal)) (onTc (τ := Cert.KernelInAIdeal.τ) (Cert.KernelInAIdeal.main (F := Ideal))) ⟨m, fun _ => 0, g⟩ (fun r => ∀ c : Dev Cert.KernelInAIdeal.nD,
          r.2.mem ((c.tc : Thread Cert.KernelInAIdeal.nD Cert.KernelInAIdeal.τ).loc Cert.KernelInAIdeal.main_v3_0) = v0 c
          ∧ r.2.mem ((c.tc : Thread Cert.KernelInAIdeal.nD Cert.KernelInAIdeal.τ).loc Cert.KernelInAIdeal.main_v3_1) = v1 c
          ∧ r.2.mem ((c.tc : Thread Cert.KernelInAIdeal.nD Cert.KernelInAIdeal.τ).loc Cert.KernelInAIdeal.main_arg0) = m ((c.tc : Thread Cert.KernelInAIdeal.nD Cert.KernelInAIdeal.τ).loc Cert.KernelInAIdeal.main_arg0)
          ∧ r.2.mem ((c.tc : Thread Cert.KernelInAIdeal.nD Cert.KernelInAIdeal.τ).loc Cert.KernelInAIdeal.main_arg1) = m ((c.tc : Thread Cert.KernelInAIdeal.nD Cert.KernelInAIdeal.τ).loc Cert.KernelInAIdeal.main_arg1)
          ∧ r.2.mem ((c.tc : Thread Cert.KernelInAIdeal.nD Cert.KernelInAIdeal.τ).loc Cert.KernelInAIdeal.main_arg2) = m ((c.tc : Thread Cert.KernelInAIdeal.nD Cert.KernelInAIdeal.τ).loc Cert.KernelInAIdeal.main_arg2)
          ∧ r.2.mem ((c.tc : Thread Cert.KernelInAIdeal.nD Cert.KernelInAIdeal.τ).loc Cert.KernelInAIdeal.main_arg3) = m ((c.tc : Thread Cert.KernelInAIdeal.nD Cert.KernelInAIdeal.τ).loc Cert.KernelInAIdeal.main_arg3)
          ∧ r.2.mem ((c.tc : Thread Cert.KernelInAIdeal.nD Cert.KernelInAIdeal.τ).loc Cert.KernelInAIdeal.main_arg4) = m ((c.tc : Thread Cert.KernelInAIdeal.nD Cert.KernelInAIdeal.τ).loc Cert.KernelInAIdeal.main_arg4))
      ∧ θ_run (Cert.ReferenceInAIdeal.defs (F := Ideal)) (onTc (τ := Cert.ReferenceInAIdeal.τ) (Cert.ReferenceInAIdeal.main (F := Ideal))) ⟨m', fun _ => 0, g'⟩ (fun r => ∀ c : Dev Cert.ReferenceInAIdeal.nD,
          r.2.mem ((c.tc : Thread Cert.ReferenceInAIdeal.nD Cert.ReferenceInAIdeal.τ).loc Cert.ReferenceInAIdeal.main_v37) = v0 c
          ∧ r.2.mem ((c.tc : Thread Cert.ReferenceInAIdeal.nD Cert.ReferenceInAIdeal.τ).loc Cert.ReferenceInAIdeal.main_v20) = v1 c
          ∧ r.2.mem ((c.tc : Thread Cert.ReferenceInAIdeal.nD Cert.ReferenceInAIdeal.τ).loc Cert.ReferenceInAIdeal.main_arg0) = m' ((c.tc : Thread Cert.ReferenceInAIdeal.nD Cert.ReferenceInAIdeal.τ).loc Cert.ReferenceInAIdeal.main_arg0)
          ∧ r.2.mem ((c.tc : Thread Cert.ReferenceInAIdeal.nD Cert.ReferenceInAIdeal.τ).loc Cert.ReferenceInAIdeal.main_arg1) = m' ((c.tc : Thread Cert.ReferenceInAIdeal.nD Cert.ReferenceInAIdeal.τ).loc Cert.ReferenceInAIdeal.main_arg1)
          ∧ r.2.mem ((c.tc : Thread Cert.ReferenceInAIdeal.nD Cert.ReferenceInAIdeal.τ).loc Cert.ReferenceInAIdeal.main_arg2) = m' ((c.tc : Thread Cert.ReferenceInAIdeal.nD Cert.ReferenceInAIdeal.τ).loc Cert.ReferenceInAIdeal.main_arg2)
          ∧ r.2.mem ((c.tc : Thread Cert.ReferenceInAIdeal.nD Cert.ReferenceInAIdeal.τ).loc Cert.ReferenceInAIdeal.main_arg3) = m' ((c.tc : Thread Cert.ReferenceInAIdeal.nD Cert.ReferenceInAIdeal.τ).loc Cert.ReferenceInAIdeal.main_arg3)
          ∧ r.2.mem ((c.tc : Thread Cert.ReferenceInAIdeal.nD Cert.ReferenceInAIdeal.τ).loc Cert.ReferenceInAIdeal.main_arg4) = m' ((c.tc : Thread Cert.ReferenceInAIdeal.nD Cert.ReferenceInAIdeal.τ).loc Cert.ReferenceInAIdeal.main_arg4))

def preserves_KernelInB_KernelInBIdeal : Prop :=
  True

def algebraic_KernelInBIdeal_ReferenceInBIdeal_pre_finite_in_b [hKernelInBIdeal : Cert.KernelInBIdeal.Facts] [hReferenceInBIdeal : Cert.ReferenceInBIdeal.Facts] [hPre_finite_in_b : Cert.Pre_finite_in_b.Facts] : Prop :=
  ∀ (m : (ℓ : Loc Cert.KernelInBIdeal.nD Cert.KernelInBIdeal.τ Cert.KernelInBIdeal.sig) → Buf (Elt Ideal) ℓ) (g : Dev Cert.KernelInBIdeal.nD → PrngReg)
    (m' : (ℓ : Loc Cert.ReferenceInBIdeal.nD Cert.ReferenceInBIdeal.τ Cert.ReferenceInBIdeal.sig) → Buf (Elt Ideal) ℓ) (g' : Dev Cert.ReferenceInBIdeal.nD → PrngReg), Pre_KernelInBIdeal_finite_in_b m →
    (∀ c : Dev Cert.KernelInBIdeal.nD,
      m' ((c.tc : Thread Cert.ReferenceInBIdeal.nD Cert.ReferenceInBIdeal.τ).loc Cert.ReferenceInBIdeal.main_arg0) = m ((c.tc : Thread Cert.KernelInBIdeal.nD Cert.KernelInBIdeal.τ).loc Cert.KernelInBIdeal.main_arg0)
      ∧ m' ((c.tc : Thread Cert.ReferenceInBIdeal.nD Cert.ReferenceInBIdeal.τ).loc Cert.ReferenceInBIdeal.main_arg1) = m ((c.tc : Thread Cert.KernelInBIdeal.nD Cert.KernelInBIdeal.τ).loc Cert.KernelInBIdeal.main_arg1)
      ∧ m' ((c.tc : Thread Cert.ReferenceInBIdeal.nD Cert.ReferenceInBIdeal.τ).loc Cert.ReferenceInBIdeal.main_arg2) = m ((c.tc : Thread Cert.KernelInBIdeal.nD Cert.KernelInBIdeal.τ).loc Cert.KernelInBIdeal.main_arg2)
      ∧ m' ((c.tc : Thread Cert.ReferenceInBIdeal.nD Cert.ReferenceInBIdeal.τ).loc Cert.ReferenceInBIdeal.main_arg3) = m ((c.tc : Thread Cert.KernelInBIdeal.nD Cert.KernelInBIdeal.τ).loc Cert.KernelInBIdeal.main_arg3)
      ∧ m' ((c.tc : Thread Cert.ReferenceInBIdeal.nD Cert.ReferenceInBIdeal.τ).loc Cert.ReferenceInBIdeal.main_arg4) = m ((c.tc : Thread Cert.KernelInBIdeal.nD Cert.KernelInBIdeal.τ).loc Cert.KernelInBIdeal.main_arg4)
      ∧ m' ((c.tc : Thread Cert.ReferenceInBIdeal.nD Cert.ReferenceInBIdeal.τ).loc Cert.ReferenceInBIdeal.main_arg5) = m ((c.tc : Thread Cert.KernelInBIdeal.nD Cert.KernelInBIdeal.τ).loc Cert.KernelInBIdeal.main_arg5)
      ∧ m' ((c.tc : Thread Cert.ReferenceInBIdeal.nD Cert.ReferenceInBIdeal.τ).loc Cert.ReferenceInBIdeal.main_arg6) = m ((c.tc : Thread Cert.KernelInBIdeal.nD Cert.KernelInBIdeal.τ).loc Cert.KernelInBIdeal.main_arg6)
      ∧ m' ((c.tc : Thread Cert.ReferenceInBIdeal.nD Cert.ReferenceInBIdeal.τ).loc Cert.ReferenceInBIdeal.main_arg7) = m ((c.tc : Thread Cert.KernelInBIdeal.nD Cert.KernelInBIdeal.τ).loc Cert.KernelInBIdeal.main_arg7)
      ∧ m' ((c.tc : Thread Cert.ReferenceInBIdeal.nD Cert.ReferenceInBIdeal.τ).loc Cert.ReferenceInBIdeal.main_arg8) = m ((c.tc : Thread Cert.KernelInBIdeal.nD Cert.KernelInBIdeal.τ).loc Cert.KernelInBIdeal.main_arg8)
      ∧ m' ((c.tc : Thread Cert.ReferenceInBIdeal.nD Cert.ReferenceInBIdeal.τ).loc Cert.ReferenceInBIdeal.main_arg9) = m ((c.tc : Thread Cert.KernelInBIdeal.nD Cert.KernelInBIdeal.τ).loc Cert.KernelInBIdeal.main_arg9)) →
    ∃ (v0 : (c : Dev Cert.KernelInBIdeal.nD) → Buf (Elt Ideal) ((c.tc : Thread Cert.KernelInBIdeal.nD Cert.KernelInBIdeal.τ).loc Cert.KernelInBIdeal.main_v6_0)) (v1 : (c : Dev Cert.KernelInBIdeal.nD) → Buf (Elt Ideal) ((c.tc : Thread Cert.KernelInBIdeal.nD Cert.KernelInBIdeal.τ).loc Cert.KernelInBIdeal.main_v6_1)) (v2 : (c : Dev Cert.KernelInBIdeal.nD) → Buf (Elt Ideal) ((c.tc : Thread Cert.KernelInBIdeal.nD Cert.KernelInBIdeal.τ).loc Cert.KernelInBIdeal.main_v6_2)),
      θ_run (Cert.KernelInBIdeal.defs (F := Ideal)) (onTc (τ := Cert.KernelInBIdeal.τ) (Cert.KernelInBIdeal.main (F := Ideal))) ⟨m, fun _ => 0, g⟩ (fun r => ∀ c : Dev Cert.KernelInBIdeal.nD,
          r.2.mem ((c.tc : Thread Cert.KernelInBIdeal.nD Cert.KernelInBIdeal.τ).loc Cert.KernelInBIdeal.main_v6_0) = v0 c
          ∧ r.2.mem ((c.tc : Thread Cert.KernelInBIdeal.nD Cert.KernelInBIdeal.τ).loc Cert.KernelInBIdeal.main_v6_1) = v1 c
          ∧ r.2.mem ((c.tc : Thread Cert.KernelInBIdeal.nD Cert.KernelInBIdeal.τ).loc Cert.KernelInBIdeal.main_v6_2) = v2 c
          ∧ r.2.mem ((c.tc : Thread Cert.KernelInBIdeal.nD Cert.KernelInBIdeal.τ).loc Cert.KernelInBIdeal.main_arg0) = m ((c.tc : Thread Cert.KernelInBIdeal.nD Cert.KernelInBIdeal.τ).loc Cert.KernelInBIdeal.main_arg0)
          ∧ r.2.mem ((c.tc : Thread Cert.KernelInBIdeal.nD Cert.KernelInBIdeal.τ).loc Cert.KernelInBIdeal.main_arg1) = m ((c.tc : Thread Cert.KernelInBIdeal.nD Cert.KernelInBIdeal.τ).loc Cert.KernelInBIdeal.main_arg1)
          ∧ r.2.mem ((c.tc : Thread Cert.KernelInBIdeal.nD Cert.KernelInBIdeal.τ).loc Cert.KernelInBIdeal.main_arg2) = m ((c.tc : Thread Cert.KernelInBIdeal.nD Cert.KernelInBIdeal.τ).loc Cert.KernelInBIdeal.main_arg2)
          ∧ r.2.mem ((c.tc : Thread Cert.KernelInBIdeal.nD Cert.KernelInBIdeal.τ).loc Cert.KernelInBIdeal.main_arg3) = m ((c.tc : Thread Cert.KernelInBIdeal.nD Cert.KernelInBIdeal.τ).loc Cert.KernelInBIdeal.main_arg3)
          ∧ r.2.mem ((c.tc : Thread Cert.KernelInBIdeal.nD Cert.KernelInBIdeal.τ).loc Cert.KernelInBIdeal.main_arg4) = m ((c.tc : Thread Cert.KernelInBIdeal.nD Cert.KernelInBIdeal.τ).loc Cert.KernelInBIdeal.main_arg4)
          ∧ r.2.mem ((c.tc : Thread Cert.KernelInBIdeal.nD Cert.KernelInBIdeal.τ).loc Cert.KernelInBIdeal.main_arg5) = m ((c.tc : Thread Cert.KernelInBIdeal.nD Cert.KernelInBIdeal.τ).loc Cert.KernelInBIdeal.main_arg5)
          ∧ r.2.mem ((c.tc : Thread Cert.KernelInBIdeal.nD Cert.KernelInBIdeal.τ).loc Cert.KernelInBIdeal.main_arg6) = m ((c.tc : Thread Cert.KernelInBIdeal.nD Cert.KernelInBIdeal.τ).loc Cert.KernelInBIdeal.main_arg6)
          ∧ r.2.mem ((c.tc : Thread Cert.KernelInBIdeal.nD Cert.KernelInBIdeal.τ).loc Cert.KernelInBIdeal.main_arg7) = m ((c.tc : Thread Cert.KernelInBIdeal.nD Cert.KernelInBIdeal.τ).loc Cert.KernelInBIdeal.main_arg7)
          ∧ r.2.mem ((c.tc : Thread Cert.KernelInBIdeal.nD Cert.KernelInBIdeal.τ).loc Cert.KernelInBIdeal.main_arg8) = m ((c.tc : Thread Cert.KernelInBIdeal.nD Cert.KernelInBIdeal.τ).loc Cert.KernelInBIdeal.main_arg8)
          ∧ r.2.mem ((c.tc : Thread Cert.KernelInBIdeal.nD Cert.KernelInBIdeal.τ).loc Cert.KernelInBIdeal.main_arg9) = m ((c.tc : Thread Cert.KernelInBIdeal.nD Cert.KernelInBIdeal.τ).loc Cert.KernelInBIdeal.main_arg9))
      ∧ θ_run (Cert.ReferenceInBIdeal.defs (F := Ideal)) (onTc (τ := Cert.ReferenceInBIdeal.τ) (Cert.ReferenceInBIdeal.main (F := Ideal))) ⟨m', fun _ => 0, g'⟩ (fun r => ∀ c : Dev Cert.ReferenceInBIdeal.nD,
          r.2.mem ((c.tc : Thread Cert.ReferenceInBIdeal.nD Cert.ReferenceInBIdeal.τ).loc Cert.ReferenceInBIdeal.main_v77) = v0 c
          ∧ r.2.mem ((c.tc : Thread Cert.ReferenceInBIdeal.nD Cert.ReferenceInBIdeal.τ).loc Cert.ReferenceInBIdeal.main_v21) = v1 c
          ∧ r.2.mem ((c.tc : Thread Cert.ReferenceInBIdeal.nD Cert.ReferenceInBIdeal.τ).loc Cert.ReferenceInBIdeal.main_v59) = v2 c
          ∧ r.2.mem ((c.tc : Thread Cert.ReferenceInBIdeal.nD Cert.ReferenceInBIdeal.τ).loc Cert.ReferenceInBIdeal.main_arg0) = m' ((c.tc : Thread Cert.ReferenceInBIdeal.nD Cert.ReferenceInBIdeal.τ).loc Cert.ReferenceInBIdeal.main_arg0)
          ∧ r.2.mem ((c.tc : Thread Cert.ReferenceInBIdeal.nD Cert.ReferenceInBIdeal.τ).loc Cert.ReferenceInBIdeal.main_arg1) = m' ((c.tc : Thread Cert.ReferenceInBIdeal.nD Cert.ReferenceInBIdeal.τ).loc Cert.ReferenceInBIdeal.main_arg1)
          ∧ r.2.mem ((c.tc : Thread Cert.ReferenceInBIdeal.nD Cert.ReferenceInBIdeal.τ).loc Cert.ReferenceInBIdeal.main_arg2) = m' ((c.tc : Thread Cert.ReferenceInBIdeal.nD Cert.ReferenceInBIdeal.τ).loc Cert.ReferenceInBIdeal.main_arg2)
          ∧ r.2.mem ((c.tc : Thread Cert.ReferenceInBIdeal.nD Cert.ReferenceInBIdeal.τ).loc Cert.ReferenceInBIdeal.main_arg3) = m' ((c.tc : Thread Cert.ReferenceInBIdeal.nD Cert.ReferenceInBIdeal.τ).loc Cert.ReferenceInBIdeal.main_arg3)
          ∧ r.2.mem ((c.tc : Thread Cert.ReferenceInBIdeal.nD Cert.ReferenceInBIdeal.τ).loc Cert.ReferenceInBIdeal.main_arg4) = m' ((c.tc : Thread Cert.ReferenceInBIdeal.nD Cert.ReferenceInBIdeal.τ).loc Cert.ReferenceInBIdeal.main_arg4)
          ∧ r.2.mem ((c.tc : Thread Cert.ReferenceInBIdeal.nD Cert.ReferenceInBIdeal.τ).loc Cert.ReferenceInBIdeal.main_arg5) = m' ((c.tc : Thread Cert.ReferenceInBIdeal.nD Cert.ReferenceInBIdeal.τ).loc Cert.ReferenceInBIdeal.main_arg5)
          ∧ r.2.mem ((c.tc : Thread Cert.ReferenceInBIdeal.nD Cert.ReferenceInBIdeal.τ).loc Cert.ReferenceInBIdeal.main_arg6) = m' ((c.tc : Thread Cert.ReferenceInBIdeal.nD Cert.ReferenceInBIdeal.τ).loc Cert.ReferenceInBIdeal.main_arg6)
          ∧ r.2.mem ((c.tc : Thread Cert.ReferenceInBIdeal.nD Cert.ReferenceInBIdeal.τ).loc Cert.ReferenceInBIdeal.main_arg7) = m' ((c.tc : Thread Cert.ReferenceInBIdeal.nD Cert.ReferenceInBIdeal.τ).loc Cert.ReferenceInBIdeal.main_arg7)
          ∧ r.2.mem ((c.tc : Thread Cert.ReferenceInBIdeal.nD Cert.ReferenceInBIdeal.τ).loc Cert.ReferenceInBIdeal.main_arg8) = m' ((c.tc : Thread Cert.ReferenceInBIdeal.nD Cert.ReferenceInBIdeal.τ).loc Cert.ReferenceInBIdeal.main_arg8)
          ∧ r.2.mem ((c.tc : Thread Cert.ReferenceInBIdeal.nD Cert.ReferenceInBIdeal.τ).loc Cert.ReferenceInBIdeal.main_arg9) = m' ((c.tc : Thread Cert.ReferenceInBIdeal.nD Cert.ReferenceInBIdeal.τ).loc Cert.ReferenceInBIdeal.main_arg9))

def preserves_KernelWOut_KernelWOutIdeal : Prop :=
  True

def algebraic_KernelWOutIdeal_ReferenceWOutIdeal [hKernelWOutIdeal : Cert.KernelWOutIdeal.Facts] [hReferenceWOutIdeal : Cert.ReferenceWOutIdeal.Facts] : Prop :=
  ∀ (m : (ℓ : Loc Cert.KernelWOutIdeal.nD Cert.KernelWOutIdeal.τ Cert.KernelWOutIdeal.sig) → Buf (Elt Ideal) ℓ) (g : Dev Cert.KernelWOutIdeal.nD → PrngReg)
    (m' : (ℓ : Loc Cert.ReferenceWOutIdeal.nD Cert.ReferenceWOutIdeal.τ Cert.ReferenceWOutIdeal.sig) → Buf (Elt Ideal) ℓ) (g' : Dev Cert.ReferenceWOutIdeal.nD → PrngReg), Pre_KernelWOutIdeal m →
    (∀ c : Dev Cert.KernelWOutIdeal.nD,
      m' ((c.tc : Thread Cert.ReferenceWOutIdeal.nD Cert.ReferenceWOutIdeal.τ).loc Cert.ReferenceWOutIdeal.main_arg0) = m ((c.tc : Thread Cert.KernelWOutIdeal.nD Cert.KernelWOutIdeal.τ).loc Cert.KernelWOutIdeal.main_arg0)
      ∧ m' ((c.tc : Thread Cert.ReferenceWOutIdeal.nD Cert.ReferenceWOutIdeal.τ).loc Cert.ReferenceWOutIdeal.main_arg1) = m ((c.tc : Thread Cert.KernelWOutIdeal.nD Cert.KernelWOutIdeal.τ).loc Cert.KernelWOutIdeal.main_arg1)) →
    ∃ (v0 : (c : Dev Cert.KernelWOutIdeal.nD) → Buf (Elt Ideal) ((c.tc : Thread Cert.KernelWOutIdeal.nD Cert.KernelWOutIdeal.τ).loc Cert.KernelWOutIdeal.main_v0)),
      θ_run (Cert.KernelWOutIdeal.defs (F := Ideal)) (onTc (τ := Cert.KernelWOutIdeal.τ) (Cert.KernelWOutIdeal.main (F := Ideal))) ⟨m, fun _ => 0, g⟩ (fun r => ∀ c : Dev Cert.KernelWOutIdeal.nD,
          r.2.mem ((c.tc : Thread Cert.KernelWOutIdeal.nD Cert.KernelWOutIdeal.τ).loc Cert.KernelWOutIdeal.main_v0) = v0 c
          ∧ r.2.mem ((c.tc : Thread Cert.KernelWOutIdeal.nD Cert.KernelWOutIdeal.τ).loc Cert.KernelWOutIdeal.main_arg0) = m ((c.tc : Thread Cert.KernelWOutIdeal.nD Cert.KernelWOutIdeal.τ).loc Cert.KernelWOutIdeal.main_arg0)
          ∧ r.2.mem ((c.tc : Thread Cert.KernelWOutIdeal.nD Cert.KernelWOutIdeal.τ).loc Cert.KernelWOutIdeal.main_arg1) = m ((c.tc : Thread Cert.KernelWOutIdeal.nD Cert.KernelWOutIdeal.τ).loc Cert.KernelWOutIdeal.main_arg1))
      ∧ θ_run (Cert.ReferenceWOutIdeal.defs (F := Ideal)) (onTc (τ := Cert.ReferenceWOutIdeal.τ) (Cert.ReferenceWOutIdeal.main (F := Ideal))) ⟨m', fun _ => 0, g'⟩ (fun r => ∀ c : Dev Cert.ReferenceWOutIdeal.nD,
          r.2.mem ((c.tc : Thread Cert.ReferenceWOutIdeal.nD Cert.ReferenceWOutIdeal.τ).loc Cert.ReferenceWOutIdeal.main_v5) = v0 c
          ∧ r.2.mem ((c.tc : Thread Cert.ReferenceWOutIdeal.nD Cert.ReferenceWOutIdeal.τ).loc Cert.ReferenceWOutIdeal.main_arg0) = m' ((c.tc : Thread Cert.ReferenceWOutIdeal.nD Cert.ReferenceWOutIdeal.τ).loc Cert.ReferenceWOutIdeal.main_arg0)
          ∧ r.2.mem ((c.tc : Thread Cert.ReferenceWOutIdeal.nD Cert.ReferenceWOutIdeal.τ).loc Cert.ReferenceWOutIdeal.main_arg1) = m' ((c.tc : Thread Cert.ReferenceWOutIdeal.nD Cert.ReferenceWOutIdeal.τ).loc Cert.ReferenceWOutIdeal.main_arg1))

def preserves_KernelWGate_KernelWGateIdeal : Prop :=
  True

def algebraic_KernelWGateIdeal_ReferenceWGateIdeal [hKernelWGateIdeal : Cert.KernelWGateIdeal.Facts] [hReferenceWGateIdeal : Cert.ReferenceWGateIdeal.Facts] : Prop :=
  ∀ (m : (ℓ : Loc Cert.KernelWGateIdeal.nD Cert.KernelWGateIdeal.τ Cert.KernelWGateIdeal.sig) → Buf (Elt Ideal) ℓ) (g : Dev Cert.KernelWGateIdeal.nD → PrngReg)
    (m' : (ℓ : Loc Cert.ReferenceWGateIdeal.nD Cert.ReferenceWGateIdeal.τ Cert.ReferenceWGateIdeal.sig) → Buf (Elt Ideal) ℓ) (g' : Dev Cert.ReferenceWGateIdeal.nD → PrngReg), Pre_KernelWGateIdeal m →
    (∀ c : Dev Cert.KernelWGateIdeal.nD,
      m' ((c.tc : Thread Cert.ReferenceWGateIdeal.nD Cert.ReferenceWGateIdeal.τ).loc Cert.ReferenceWGateIdeal.main_arg0) = m ((c.tc : Thread Cert.KernelWGateIdeal.nD Cert.KernelWGateIdeal.τ).loc Cert.KernelWGateIdeal.main_arg0)
      ∧ m' ((c.tc : Thread Cert.ReferenceWGateIdeal.nD Cert.ReferenceWGateIdeal.τ).loc Cert.ReferenceWGateIdeal.main_arg1) = m ((c.tc : Thread Cert.KernelWGateIdeal.nD Cert.KernelWGateIdeal.τ).loc Cert.KernelWGateIdeal.main_arg1)) →
    ∃ (v0 : (c : Dev Cert.KernelWGateIdeal.nD) → Buf (Elt Ideal) ((c.tc : Thread Cert.KernelWGateIdeal.nD Cert.KernelWGateIdeal.τ).loc Cert.KernelWGateIdeal.main_v0)),
      θ_run (Cert.KernelWGateIdeal.defs (F := Ideal)) (onTc (τ := Cert.KernelWGateIdeal.τ) (Cert.KernelWGateIdeal.main (F := Ideal))) ⟨m, fun _ => 0, g⟩ (fun r => ∀ c : Dev Cert.KernelWGateIdeal.nD,
          r.2.mem ((c.tc : Thread Cert.KernelWGateIdeal.nD Cert.KernelWGateIdeal.τ).loc Cert.KernelWGateIdeal.main_v0) = v0 c
          ∧ r.2.mem ((c.tc : Thread Cert.KernelWGateIdeal.nD Cert.KernelWGateIdeal.τ).loc Cert.KernelWGateIdeal.main_arg0) = m ((c.tc : Thread Cert.KernelWGateIdeal.nD Cert.KernelWGateIdeal.τ).loc Cert.KernelWGateIdeal.main_arg0)
          ∧ r.2.mem ((c.tc : Thread Cert.KernelWGateIdeal.nD Cert.KernelWGateIdeal.τ).loc Cert.KernelWGateIdeal.main_arg1) = m ((c.tc : Thread Cert.KernelWGateIdeal.nD Cert.KernelWGateIdeal.τ).loc Cert.KernelWGateIdeal.main_arg1))
      ∧ θ_run (Cert.ReferenceWGateIdeal.defs (F := Ideal)) (onTc (τ := Cert.ReferenceWGateIdeal.τ) (Cert.ReferenceWGateIdeal.main (F := Ideal))) ⟨m', fun _ => 0, g'⟩ (fun r => ∀ c : Dev Cert.ReferenceWGateIdeal.nD,
          r.2.mem ((c.tc : Thread Cert.ReferenceWGateIdeal.nD Cert.ReferenceWGateIdeal.τ).loc Cert.ReferenceWGateIdeal.main_v5) = v0 c
          ∧ r.2.mem ((c.tc : Thread Cert.ReferenceWGateIdeal.nD Cert.ReferenceWGateIdeal.τ).loc Cert.ReferenceWGateIdeal.main_arg0) = m' ((c.tc : Thread Cert.ReferenceWGateIdeal.nD Cert.ReferenceWGateIdeal.τ).loc Cert.ReferenceWGateIdeal.main_arg0)
          ∧ r.2.mem ((c.tc : Thread Cert.ReferenceWGateIdeal.nD Cert.ReferenceWGateIdeal.τ).loc Cert.ReferenceWGateIdeal.main_arg1) = m' ((c.tc : Thread Cert.ReferenceWGateIdeal.nD Cert.ReferenceWGateIdeal.τ).loc Cert.ReferenceWGateIdeal.main_arg1))

def preserves_KernelWIn_KernelWInIdeal : Prop :=
  True

def algebraic_KernelWInIdeal_ReferenceWInIdeal [hKernelWInIdeal : Cert.KernelWInIdeal.Facts] [hReferenceWInIdeal : Cert.ReferenceWInIdeal.Facts] : Prop :=
  ∀ (m : (ℓ : Loc Cert.KernelWInIdeal.nD Cert.KernelWInIdeal.τ Cert.KernelWInIdeal.sig) → Buf (Elt Ideal) ℓ) (g : Dev Cert.KernelWInIdeal.nD → PrngReg)
    (m' : (ℓ : Loc Cert.ReferenceWInIdeal.nD Cert.ReferenceWInIdeal.τ Cert.ReferenceWInIdeal.sig) → Buf (Elt Ideal) ℓ) (g' : Dev Cert.ReferenceWInIdeal.nD → PrngReg), Pre_KernelWInIdeal m →
    (∀ c : Dev Cert.KernelWInIdeal.nD,
      m' ((c.tc : Thread Cert.ReferenceWInIdeal.nD Cert.ReferenceWInIdeal.τ).loc Cert.ReferenceWInIdeal.main_arg0) = m ((c.tc : Thread Cert.KernelWInIdeal.nD Cert.KernelWInIdeal.τ).loc Cert.KernelWInIdeal.main_arg0)
      ∧ m' ((c.tc : Thread Cert.ReferenceWInIdeal.nD Cert.ReferenceWInIdeal.τ).loc Cert.ReferenceWInIdeal.main_arg1) = m ((c.tc : Thread Cert.KernelWInIdeal.nD Cert.KernelWInIdeal.τ).loc Cert.KernelWInIdeal.main_arg1)
      ∧ m' ((c.tc : Thread Cert.ReferenceWInIdeal.nD Cert.ReferenceWInIdeal.τ).loc Cert.ReferenceWInIdeal.main_arg2) = m ((c.tc : Thread Cert.KernelWInIdeal.nD Cert.KernelWInIdeal.τ).loc Cert.KernelWInIdeal.main_arg2)) →
    ∃ (v0 : (c : Dev Cert.KernelWInIdeal.nD) → Buf (Elt Ideal) ((c.tc : Thread Cert.KernelWInIdeal.nD Cert.KernelWInIdeal.τ).loc Cert.KernelWInIdeal.main_v0)),
      θ_run (Cert.KernelWInIdeal.defs (F := Ideal)) (onTc (τ := Cert.KernelWInIdeal.τ) (Cert.KernelWInIdeal.main (F := Ideal))) ⟨m, fun _ => 0, g⟩ (fun r => ∀ c : Dev Cert.KernelWInIdeal.nD,
          r.2.mem ((c.tc : Thread Cert.KernelWInIdeal.nD Cert.KernelWInIdeal.τ).loc Cert.KernelWInIdeal.main_v0) = v0 c
          ∧ r.2.mem ((c.tc : Thread Cert.KernelWInIdeal.nD Cert.KernelWInIdeal.τ).loc Cert.KernelWInIdeal.main_arg0) = m ((c.tc : Thread Cert.KernelWInIdeal.nD Cert.KernelWInIdeal.τ).loc Cert.KernelWInIdeal.main_arg0)
          ∧ r.2.mem ((c.tc : Thread Cert.KernelWInIdeal.nD Cert.KernelWInIdeal.τ).loc Cert.KernelWInIdeal.main_arg1) = m ((c.tc : Thread Cert.KernelWInIdeal.nD Cert.KernelWInIdeal.τ).loc Cert.KernelWInIdeal.main_arg1)
          ∧ r.2.mem ((c.tc : Thread Cert.KernelWInIdeal.nD Cert.KernelWInIdeal.τ).loc Cert.KernelWInIdeal.main_arg2) = m ((c.tc : Thread Cert.KernelWInIdeal.nD Cert.KernelWInIdeal.τ).loc Cert.KernelWInIdeal.main_arg2))
      ∧ θ_run (Cert.ReferenceWInIdeal.defs (F := Ideal)) (onTc (τ := Cert.ReferenceWInIdeal.τ) (Cert.ReferenceWInIdeal.main (F := Ideal))) ⟨m', fun _ => 0, g'⟩ (fun r => ∀ c : Dev Cert.ReferenceWInIdeal.nD,
          r.2.mem ((c.tc : Thread Cert.ReferenceWInIdeal.nD Cert.ReferenceWInIdeal.τ).loc Cert.ReferenceWInIdeal.main_v9) = v0 c
          ∧ r.2.mem ((c.tc : Thread Cert.ReferenceWInIdeal.nD Cert.ReferenceWInIdeal.τ).loc Cert.ReferenceWInIdeal.main_arg0) = m' ((c.tc : Thread Cert.ReferenceWInIdeal.nD Cert.ReferenceWInIdeal.τ).loc Cert.ReferenceWInIdeal.main_arg0)
          ∧ r.2.mem ((c.tc : Thread Cert.ReferenceWInIdeal.nD Cert.ReferenceWInIdeal.τ).loc Cert.ReferenceWInIdeal.main_arg1) = m' ((c.tc : Thread Cert.ReferenceWInIdeal.nD Cert.ReferenceWInIdeal.τ).loc Cert.ReferenceWInIdeal.main_arg1)
          ∧ r.2.mem ((c.tc : Thread Cert.ReferenceWInIdeal.nD Cert.ReferenceWInIdeal.τ).loc Cert.ReferenceWInIdeal.main_arg2) = m' ((c.tc : Thread Cert.ReferenceWInIdeal.nD Cert.ReferenceWInIdeal.τ).loc Cert.ReferenceWInIdeal.main_arg2))

def preserves_KernelWPle_KernelWPleIdeal : Prop :=
  True

def algebraic_KernelWPleIdeal_ReferenceWPleIdeal [hKernelWPleIdeal : Cert.KernelWPleIdeal.Facts] [hReferenceWPleIdeal : Cert.ReferenceWPleIdeal.Facts] : Prop :=
  ∀ (m : (ℓ : Loc Cert.KernelWPleIdeal.nD Cert.KernelWPleIdeal.τ Cert.KernelWPleIdeal.sig) → Buf (Elt Ideal) ℓ) (g : Dev Cert.KernelWPleIdeal.nD → PrngReg)
    (m' : (ℓ : Loc Cert.ReferenceWPleIdeal.nD Cert.ReferenceWPleIdeal.τ Cert.ReferenceWPleIdeal.sig) → Buf (Elt Ideal) ℓ) (g' : Dev Cert.ReferenceWPleIdeal.nD → PrngReg), Pre_KernelWPleIdeal m →
    (∀ c : Dev Cert.KernelWPleIdeal.nD,
      m' ((c.tc : Thread Cert.ReferenceWPleIdeal.nD Cert.ReferenceWPleIdeal.τ).loc Cert.ReferenceWPleIdeal.main_arg0) = m ((c.tc : Thread Cert.KernelWPleIdeal.nD Cert.KernelWPleIdeal.τ).loc Cert.KernelWPleIdeal.main_arg0)
      ∧ m' ((c.tc : Thread Cert.ReferenceWPleIdeal.nD Cert.ReferenceWPleIdeal.τ).loc Cert.ReferenceWPleIdeal.main_arg1) = m ((c.tc : Thread Cert.KernelWPleIdeal.nD Cert.KernelWPleIdeal.τ).loc Cert.KernelWPleIdeal.main_arg1)) →
    ∃ (v0 : (c : Dev Cert.KernelWPleIdeal.nD) → Buf (Elt Ideal) ((c.tc : Thread Cert.KernelWPleIdeal.nD Cert.KernelWPleIdeal.τ).loc Cert.KernelWPleIdeal.main_v0)),
      θ_run (Cert.KernelWPleIdeal.defs (F := Ideal)) (onTc (τ := Cert.KernelWPleIdeal.τ) (Cert.KernelWPleIdeal.main (F := Ideal))) ⟨m, fun _ => 0, g⟩ (fun r => ∀ c : Dev Cert.KernelWPleIdeal.nD,
          r.2.mem ((c.tc : Thread Cert.KernelWPleIdeal.nD Cert.KernelWPleIdeal.τ).loc Cert.KernelWPleIdeal.main_v0) = v0 c
          ∧ r.2.mem ((c.tc : Thread Cert.KernelWPleIdeal.nD Cert.KernelWPleIdeal.τ).loc Cert.KernelWPleIdeal.main_arg0) = m ((c.tc : Thread Cert.KernelWPleIdeal.nD Cert.KernelWPleIdeal.τ).loc Cert.KernelWPleIdeal.main_arg0)
          ∧ r.2.mem ((c.tc : Thread Cert.KernelWPleIdeal.nD Cert.KernelWPleIdeal.τ).loc Cert.KernelWPleIdeal.main_arg1) = m ((c.tc : Thread Cert.KernelWPleIdeal.nD Cert.KernelWPleIdeal.τ).loc Cert.KernelWPleIdeal.main_arg1))
      ∧ θ_run (Cert.ReferenceWPleIdeal.defs (F := Ideal)) (onTc (τ := Cert.ReferenceWPleIdeal.τ) (Cert.ReferenceWPleIdeal.main (F := Ideal))) ⟨m', fun _ => 0, g'⟩ (fun r => ∀ c : Dev Cert.ReferenceWPleIdeal.nD,
          r.2.mem ((c.tc : Thread Cert.ReferenceWPleIdeal.nD Cert.ReferenceWPleIdeal.τ).loc Cert.ReferenceWPleIdeal.main_v7) = v0 c
          ∧ r.2.mem ((c.tc : Thread Cert.ReferenceWPleIdeal.nD Cert.ReferenceWPleIdeal.τ).loc Cert.ReferenceWPleIdeal.main_arg0) = m' ((c.tc : Thread Cert.ReferenceWPleIdeal.nD Cert.ReferenceWPleIdeal.τ).loc Cert.ReferenceWPleIdeal.main_arg0)
          ∧ r.2.mem ((c.tc : Thread Cert.ReferenceWPleIdeal.nD Cert.ReferenceWPleIdeal.τ).loc Cert.ReferenceWPleIdeal.main_arg1) = m' ((c.tc : Thread Cert.ReferenceWPleIdeal.nD Cert.ReferenceWPleIdeal.τ).loc Cert.ReferenceWPleIdeal.main_arg1))

def preserves_KernelBIn_KernelBInIdeal : Prop :=
  True

def algebraic_KernelBInIdeal_ReferenceBInIdeal [hKernelBInIdeal : Cert.KernelBInIdeal.Facts] [hReferenceBInIdeal : Cert.ReferenceBInIdeal.Facts] : Prop :=
  ∀ (m : (ℓ : Loc Cert.KernelBInIdeal.nD Cert.KernelBInIdeal.τ Cert.KernelBInIdeal.sig) → Buf (Elt Ideal) ℓ) (g : Dev Cert.KernelBInIdeal.nD → PrngReg)
    (m' : (ℓ : Loc Cert.ReferenceBInIdeal.nD Cert.ReferenceBInIdeal.τ Cert.ReferenceBInIdeal.sig) → Buf (Elt Ideal) ℓ) (g' : Dev Cert.ReferenceBInIdeal.nD → PrngReg), Pre_KernelBInIdeal m →
    (∀ c : Dev Cert.KernelBInIdeal.nD,
      m' ((c.tc : Thread Cert.ReferenceBInIdeal.nD Cert.ReferenceBInIdeal.τ).loc Cert.ReferenceBInIdeal.main_arg0) = m ((c.tc : Thread Cert.KernelBInIdeal.nD Cert.KernelBInIdeal.τ).loc Cert.KernelBInIdeal.main_arg0)
      ∧ m' ((c.tc : Thread Cert.ReferenceBInIdeal.nD Cert.ReferenceBInIdeal.τ).loc Cert.ReferenceBInIdeal.main_arg1) = m ((c.tc : Thread Cert.KernelBInIdeal.nD Cert.KernelBInIdeal.τ).loc Cert.KernelBInIdeal.main_arg1)
      ∧ m' ((c.tc : Thread Cert.ReferenceBInIdeal.nD Cert.ReferenceBInIdeal.τ).loc Cert.ReferenceBInIdeal.main_arg2) = m ((c.tc : Thread Cert.KernelBInIdeal.nD Cert.KernelBInIdeal.τ).loc Cert.KernelBInIdeal.main_arg2)
      ∧ m' ((c.tc : Thread Cert.ReferenceBInIdeal.nD Cert.ReferenceBInIdeal.τ).loc Cert.ReferenceBInIdeal.main_arg3) = m ((c.tc : Thread Cert.KernelBInIdeal.nD Cert.KernelBInIdeal.τ).loc Cert.KernelBInIdeal.main_arg3)
      ∧ m' ((c.tc : Thread Cert.ReferenceBInIdeal.nD Cert.ReferenceBInIdeal.τ).loc Cert.ReferenceBInIdeal.main_arg4) = m ((c.tc : Thread Cert.KernelBInIdeal.nD Cert.KernelBInIdeal.τ).loc Cert.KernelBInIdeal.main_arg4)) →
    ∃ (v0 : (c : Dev Cert.KernelBInIdeal.nD) → Buf (Elt Ideal) ((c.tc : Thread Cert.KernelBInIdeal.nD Cert.KernelBInIdeal.τ).loc Cert.KernelBInIdeal.main_v6_0)) (v1 : (c : Dev Cert.KernelBInIdeal.nD) → Buf (Elt Ideal) ((c.tc : Thread Cert.KernelBInIdeal.nD Cert.KernelBInIdeal.τ).loc Cert.KernelBInIdeal.main_v6_1)) (v2 : (c : Dev Cert.KernelBInIdeal.nD) → Buf (Elt Ideal) ((c.tc : Thread Cert.KernelBInIdeal.nD Cert.KernelBInIdeal.τ).loc Cert.KernelBInIdeal.main_v6_2)) (v3 : (c : Dev Cert.KernelBInIdeal.nD) → Buf (Elt Ideal) ((c.tc : Thread Cert.KernelBInIdeal.nD Cert.KernelBInIdeal.τ).loc Cert.KernelBInIdeal.main_v6_3)) (v4 : (c : Dev Cert.KernelBInIdeal.nD) → Buf (Elt Ideal) ((c.tc : Thread Cert.KernelBInIdeal.nD Cert.KernelBInIdeal.τ).loc Cert.KernelBInIdeal.main_v6_4)) (v5 : (c : Dev Cert.KernelBInIdeal.nD) → Buf (Elt Ideal) ((c.tc : Thread Cert.KernelBInIdeal.nD Cert.KernelBInIdeal.τ).loc Cert.KernelBInIdeal.main_v6_5)),
      θ_run (Cert.KernelBInIdeal.defs (F := Ideal)) (onTc (τ := Cert.KernelBInIdeal.τ) (Cert.KernelBInIdeal.main (F := Ideal))) ⟨m, fun _ => 0, g⟩ (fun r => ∀ c : Dev Cert.KernelBInIdeal.nD,
          r.2.mem ((c.tc : Thread Cert.KernelBInIdeal.nD Cert.KernelBInIdeal.τ).loc Cert.KernelBInIdeal.main_v6_0) = v0 c
          ∧ r.2.mem ((c.tc : Thread Cert.KernelBInIdeal.nD Cert.KernelBInIdeal.τ).loc Cert.KernelBInIdeal.main_v6_1) = v1 c
          ∧ r.2.mem ((c.tc : Thread Cert.KernelBInIdeal.nD Cert.KernelBInIdeal.τ).loc Cert.KernelBInIdeal.main_v6_2) = v2 c
          ∧ r.2.mem ((c.tc : Thread Cert.KernelBInIdeal.nD Cert.KernelBInIdeal.τ).loc Cert.KernelBInIdeal.main_v6_3) = v3 c
          ∧ r.2.mem ((c.tc : Thread Cert.KernelBInIdeal.nD Cert.KernelBInIdeal.τ).loc Cert.KernelBInIdeal.main_v6_4) = v4 c
          ∧ r.2.mem ((c.tc : Thread Cert.KernelBInIdeal.nD Cert.KernelBInIdeal.τ).loc Cert.KernelBInIdeal.main_v6_5) = v5 c
          ∧ r.2.mem ((c.tc : Thread Cert.KernelBInIdeal.nD Cert.KernelBInIdeal.τ).loc Cert.KernelBInIdeal.main_arg0) = m ((c.tc : Thread Cert.KernelBInIdeal.nD Cert.KernelBInIdeal.τ).loc Cert.KernelBInIdeal.main_arg0)
          ∧ r.2.mem ((c.tc : Thread Cert.KernelBInIdeal.nD Cert.KernelBInIdeal.τ).loc Cert.KernelBInIdeal.main_arg1) = m ((c.tc : Thread Cert.KernelBInIdeal.nD Cert.KernelBInIdeal.τ).loc Cert.KernelBInIdeal.main_arg1)
          ∧ r.2.mem ((c.tc : Thread Cert.KernelBInIdeal.nD Cert.KernelBInIdeal.τ).loc Cert.KernelBInIdeal.main_arg2) = m ((c.tc : Thread Cert.KernelBInIdeal.nD Cert.KernelBInIdeal.τ).loc Cert.KernelBInIdeal.main_arg2)
          ∧ r.2.mem ((c.tc : Thread Cert.KernelBInIdeal.nD Cert.KernelBInIdeal.τ).loc Cert.KernelBInIdeal.main_arg3) = m ((c.tc : Thread Cert.KernelBInIdeal.nD Cert.KernelBInIdeal.τ).loc Cert.KernelBInIdeal.main_arg3)
          ∧ r.2.mem ((c.tc : Thread Cert.KernelBInIdeal.nD Cert.KernelBInIdeal.τ).loc Cert.KernelBInIdeal.main_arg4) = m ((c.tc : Thread Cert.KernelBInIdeal.nD Cert.KernelBInIdeal.τ).loc Cert.KernelBInIdeal.main_arg4))
      ∧ θ_run (Cert.ReferenceBInIdeal.defs (F := Ideal)) (onTc (τ := Cert.ReferenceBInIdeal.τ) (Cert.ReferenceBInIdeal.main (F := Ideal))) ⟨m', fun _ => 0, g'⟩ (fun r => ∀ c : Dev Cert.ReferenceBInIdeal.nD,
          r.2.mem ((c.tc : Thread Cert.ReferenceBInIdeal.nD Cert.ReferenceBInIdeal.τ).loc Cert.ReferenceBInIdeal.main_v30) = v0 c
          ∧ r.2.mem ((c.tc : Thread Cert.ReferenceBInIdeal.nD Cert.ReferenceBInIdeal.τ).loc Cert.ReferenceBInIdeal.main_v31) = v1 c
          ∧ r.2.mem ((c.tc : Thread Cert.ReferenceBInIdeal.nD Cert.ReferenceBInIdeal.τ).loc Cert.ReferenceBInIdeal.main_v25) = v2 c
          ∧ r.2.mem ((c.tc : Thread Cert.ReferenceBInIdeal.nD Cert.ReferenceBInIdeal.τ).loc Cert.ReferenceBInIdeal.main_v32) = v3 c
          ∧ r.2.mem ((c.tc : Thread Cert.ReferenceBInIdeal.nD Cert.ReferenceBInIdeal.τ).loc Cert.ReferenceBInIdeal.main_v28) = v4 c
          ∧ r.2.mem ((c.tc : Thread Cert.ReferenceBInIdeal.nD Cert.ReferenceBInIdeal.τ).loc Cert.ReferenceBInIdeal.main_v29) = v5 c
          ∧ r.2.mem ((c.tc : Thread Cert.ReferenceBInIdeal.nD Cert.ReferenceBInIdeal.τ).loc Cert.ReferenceBInIdeal.main_arg0) = m' ((c.tc : Thread Cert.ReferenceBInIdeal.nD Cert.ReferenceBInIdeal.τ).loc Cert.ReferenceBInIdeal.main_arg0)
          ∧ r.2.mem ((c.tc : Thread Cert.ReferenceBInIdeal.nD Cert.ReferenceBInIdeal.τ).loc Cert.ReferenceBInIdeal.main_arg1) = m' ((c.tc : Thread Cert.ReferenceBInIdeal.nD Cert.ReferenceBInIdeal.τ).loc Cert.ReferenceBInIdeal.main_arg1)
          ∧ r.2.mem ((c.tc : Thread Cert.ReferenceBInIdeal.nD Cert.ReferenceBInIdeal.τ).loc Cert.ReferenceBInIdeal.main_arg2) = m' ((c.tc : Thread Cert.ReferenceBInIdeal.nD Cert.ReferenceBInIdeal.τ).loc Cert.ReferenceBInIdeal.main_arg2)
          ∧ r.2.mem ((c.tc : Thread Cert.ReferenceBInIdeal.nD Cert.ReferenceBInIdeal.τ).loc Cert.ReferenceBInIdeal.main_arg3) = m' ((c.tc : Thread Cert.ReferenceBInIdeal.nD Cert.ReferenceBInIdeal.τ).loc Cert.ReferenceBInIdeal.main_arg3)
          ∧ r.2.mem ((c.tc : Thread Cert.ReferenceBInIdeal.nD Cert.ReferenceBInIdeal.τ).loc Cert.ReferenceBInIdeal.main_arg4) = m' ((c.tc : Thread Cert.ReferenceBInIdeal.nD Cert.ReferenceBInIdeal.τ).loc Cert.ReferenceBInIdeal.main_arg4))

def Claim : Prop :=
  ∃ (hKernel : Cert.Kernel.Facts) (hKernelIdeal : Cert.KernelIdeal.Facts) (hReferenceIdeal : Cert.ReferenceIdeal.Facts) (hKernelB : Cert.KernelB.Facts) (hKernelBIdeal : Cert.KernelBIdeal.Facts) (hReferenceBIdeal : Cert.ReferenceBIdeal.Facts) (hKernelInA : Cert.KernelInA.Facts) (hKernelInAIdeal : Cert.KernelInAIdeal.Facts) (hReferenceInAIdeal : Cert.ReferenceInAIdeal.Facts) (hKernelInB : Cert.KernelInB.Facts) (hKernelInBIdeal : Cert.KernelInBIdeal.Facts) (hReferenceInBIdeal : Cert.ReferenceInBIdeal.Facts) (hKernelWOut : Cert.KernelWOut.Facts) (hKernelWOutIdeal : Cert.KernelWOutIdeal.Facts) (hReferenceWOutIdeal : Cert.ReferenceWOutIdeal.Facts) (hKernelWGate : Cert.KernelWGate.Facts) (hKernelWGateIdeal : Cert.KernelWGateIdeal.Facts) (hReferenceWGateIdeal : Cert.ReferenceWGateIdeal.Facts) (hKernelWIn : Cert.KernelWIn.Facts) (hKernelWInIdeal : Cert.KernelWInIdeal.Facts) (hReferenceWInIdeal : Cert.ReferenceWInIdeal.Facts) (hKernelWPle : Cert.KernelWPle.Facts) (hKernelWPleIdeal : Cert.KernelWPleIdeal.Facts) (hReferenceWPleIdeal : Cert.ReferenceWPleIdeal.Facts) (hKernelBIn : Cert.KernelBIn.Facts) (hKernelBInIdeal : Cert.KernelBInIdeal.Facts) (hReferenceBInIdeal : Cert.ReferenceBInIdeal.Facts) (hPre_finite : Cert.Pre_finite.Facts) (hPre_finite_b : Cert.Pre_finite_b.Facts) (hPre_finite_in_a : Cert.Pre_finite_in_a.Facts) (hPre_finite_in_b : Cert.Pre_finite_in_b.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelB (hKernelB := hKernelB)
    ∧ quiescent_KernelBIdeal (hKernelBIdeal := hKernelBIdeal)
    ∧ quiescent_KernelBIdeal_pre_finite_b (hKernelBIdeal := hKernelBIdeal) (hPre_finite_b := hPre_finite_b)
    ∧ quiescent_ReferenceBIdeal (hReferenceBIdeal := hReferenceBIdeal)
    ∧ quiescent_ReferenceBIdeal_pre_finite_b (hReferenceBIdeal := hReferenceBIdeal) (hPre_finite_b := hPre_finite_b)
    ∧ quiescent_KernelInA (hKernelInA := hKernelInA)
    ∧ quiescent_KernelInAIdeal (hKernelInAIdeal := hKernelInAIdeal)
    ∧ quiescent_KernelInAIdeal_pre_finite_in_a (hKernelInAIdeal := hKernelInAIdeal) (hPre_finite_in_a := hPre_finite_in_a)
    ∧ quiescent_ReferenceInAIdeal (hReferenceInAIdeal := hReferenceInAIdeal)
    ∧ quiescent_ReferenceInAIdeal_pre_finite_in_a (hReferenceInAIdeal := hReferenceInAIdeal) (hPre_finite_in_a := hPre_finite_in_a)
    ∧ quiescent_KernelInB (hKernelInB := hKernelInB)
    ∧ quiescent_KernelInBIdeal (hKernelInBIdeal := hKernelInBIdeal)
    ∧ quiescent_KernelInBIdeal_pre_finite_in_b (hKernelInBIdeal := hKernelInBIdeal) (hPre_finite_in_b := hPre_finite_in_b)
    ∧ quiescent_ReferenceInBIdeal (hReferenceInBIdeal := hReferenceInBIdeal)
    ∧ quiescent_ReferenceInBIdeal_pre_finite_in_b (hReferenceInBIdeal := hReferenceInBIdeal) (hPre_finite_in_b := hPre_finite_in_b)
    ∧ quiescent_KernelWOut (hKernelWOut := hKernelWOut)
    ∧ quiescent_KernelWOutIdeal (hKernelWOutIdeal := hKernelWOutIdeal)
    ∧ quiescent_ReferenceWOutIdeal (hReferenceWOutIdeal := hReferenceWOutIdeal)
    ∧ quiescent_KernelWGate (hKernelWGate := hKernelWGate)
    ∧ quiescent_KernelWGateIdeal (hKernelWGateIdeal := hKernelWGateIdeal)
    ∧ quiescent_ReferenceWGateIdeal (hReferenceWGateIdeal := hReferenceWGateIdeal)
    ∧ quiescent_KernelWIn (hKernelWIn := hKernelWIn)
    ∧ quiescent_KernelWInIdeal (hKernelWInIdeal := hKernelWInIdeal)
    ∧ quiescent_ReferenceWInIdeal (hReferenceWInIdeal := hReferenceWInIdeal)
    ∧ quiescent_KernelWPle (hKernelWPle := hKernelWPle)
    ∧ quiescent_KernelWPleIdeal (hKernelWPleIdeal := hKernelWPleIdeal)
    ∧ quiescent_ReferenceWPleIdeal (hReferenceWPleIdeal := hReferenceWPleIdeal)
    ∧ quiescent_KernelBIn (hKernelBIn := hKernelBIn)
    ∧ quiescent_KernelBInIdeal (hKernelBInIdeal := hKernelBInIdeal)
    ∧ quiescent_ReferenceBInIdeal (hReferenceBInIdeal := hReferenceBInIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelB_KernelBIdeal
    ∧ algebraic_KernelBIdeal_ReferenceBIdeal_pre_finite_b (hKernelBIdeal := hKernelBIdeal) (hReferenceBIdeal := hReferenceBIdeal) (hPre_finite_b := hPre_finite_b)
    ∧ preserves_KernelInA_KernelInAIdeal
    ∧ algebraic_KernelInAIdeal_ReferenceInAIdeal_pre_finite_in_a (hKernelInAIdeal := hKernelInAIdeal) (hReferenceInAIdeal := hReferenceInAIdeal) (hPre_finite_in_a := hPre_finite_in_a)
    ∧ preserves_KernelInB_KernelInBIdeal
    ∧ algebraic_KernelInBIdeal_ReferenceInBIdeal_pre_finite_in_b (hKernelInBIdeal := hKernelInBIdeal) (hReferenceInBIdeal := hReferenceInBIdeal) (hPre_finite_in_b := hPre_finite_in_b)
    ∧ preserves_KernelWOut_KernelWOutIdeal
    ∧ algebraic_KernelWOutIdeal_ReferenceWOutIdeal (hKernelWOutIdeal := hKernelWOutIdeal) (hReferenceWOutIdeal := hReferenceWOutIdeal)
    ∧ preserves_KernelWGate_KernelWGateIdeal
    ∧ algebraic_KernelWGateIdeal_ReferenceWGateIdeal (hKernelWGateIdeal := hKernelWGateIdeal) (hReferenceWGateIdeal := hReferenceWGateIdeal)
    ∧ preserves_KernelWIn_KernelWInIdeal
    ∧ algebraic_KernelWInIdeal_ReferenceWInIdeal (hKernelWInIdeal := hKernelWInIdeal) (hReferenceWInIdeal := hReferenceWInIdeal)
    ∧ preserves_KernelWPle_KernelWPleIdeal
    ∧ algebraic_KernelWPleIdeal_ReferenceWPleIdeal (hKernelWPleIdeal := hKernelWPleIdeal) (hReferenceWPleIdeal := hReferenceWPleIdeal)
    ∧ preserves_KernelBIn_KernelBInIdeal
    ∧ algebraic_KernelBInIdeal_ReferenceBInIdeal (hKernelBInIdeal := hKernelBInIdeal) (hReferenceBInIdeal := hReferenceBInIdeal)
-- ==== Pre_finite.lean ====
abbrev S2048x1024 : Shape := ⟨2, ![2048, 1024]⟩
abbrev S2048x2048 : Shape := ⟨2, ![2048, 2048]⟩
abbrev S4x256x256 : Shape := ⟨3, ![4, 256, 256]⟩
abbrev S1x1024 : Shape := ⟨2, ![1, 1024]⟩
abbrev S1024x1024 : Shape := ⟨2, ![1024, 1024]⟩
abbrev S_ : Shape := ⟨0, ![]⟩

class Facts : Prop where
  bcast_S_S2048x2048 : S_.BroadcastsInDim S2048x2048 (![] : Fin 0 → Fin S2048x2048.rank)
  bcast_S_S2048x1024 : S_.BroadcastsInDim S2048x1024 (![] : Fin 0 → Fin S2048x1024.rank)
  bcast_S_S4x256x256 : S_.BroadcastsInDim S4x256x256 (![] : Fin 0 → Fin S4x256x256.rank)
  bcast_S_S1x1024 : S_.BroadcastsInDim S1x1024 (![] : Fin 0 → Fin S1x1024.rank)
  bcast_S_S1024x1024 : S_.BroadcastsInDim S1024x1024 (![] : Fin 0 → Fin S1024x1024.rank)

variable [Facts]

def fn_part1 {F : FTy → Type} [FloatOps F] (main_arg7 : FVec F S2048x1024 .f32) (main_v2 : IVec S2048x2048 1) (main_v5 : IVec S2048x1024 1) (main_v8 : IVec S4x256x256 1) (main_v11 : IVec S1x1024 1) (main_v14 : IVec S1024x1024 1) (main_v17 : IVec S1024x1024 1) : IVec S2048x2048 1 × IVec S2048x1024 1 × IVec S4x256x256 1 × IVec S1x1024 1 × IVec S1024x1024 1 × IVec S1024x1024 1 × IVec S2048x1024 1 :=
  let main_v18 : FVec F S2048x1024 .f32 := Host.absf main_arg7
  let main_cst_5 : FVec F S_ .f32 := constant S_ .f32 0x7F800000#32
  let main_v19 : FVec F S2048x1024 .f32 := broadcastInDim S2048x1024 ![] bcast_S_S2048x1024 main_cst_5
  let main_v20 : IVec S2048x1024 1 := cmpf .olt main_v18 main_v19
  (main_v2, main_v5, main_v8, main_v11, main_v14, main_v17, main_v20)

def fn {F : FTy → Type} [FloatOps F] (main_arg0 : FVec F S2048x1024 .f32) (main_arg1 : FVec F S2048x2048 .f32) (main_arg2 : FVec F S2048x1024 .f32) (main_arg3 : FVec F S4x256x256 .f32) (main_arg4 : FVec F S1x1024 .f32) (main_arg5 : FVec F S1024x1024 .f32) (main_arg6 : FVec F S1024x1024 .f32) (main_arg7 : FVec F S2048x1024 .f32) : IVec S2048x2048 1 × IVec S2048x1024 1 × IVec S4x256x256 1 × IVec S1x1024 1 × IVec S1024x1024 1 × IVec S1024x1024 1 × IVec S2048x1024 1 :=
  let main_v0 : FVec F S2048x2048 .f32 := Host.absf main_arg1
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_v3 : FVec F S2048x1024 .f32 := Host.absf main_arg2
  let main_cst_0 : FVec F S_ .f32 := constant S_ .f32 0x7F800000#32
  let main_v4 : FVec F S2048x1024 .f32 := broadcastInDim S2048x1024 ![] bcast_S_S2048x1024 main_cst_0
  let main_v5 : IVec S2048x1024 1 := cmpf .olt main_v3 main_v4
  let main_v6 : FVec F S4x256x256 .f32 := Host.absf main_arg3
  let main_cst_1 : FVec F S_ .f32 := constant S_ .f32 0x7F800000#32
  let main_v7 : FVec F S4x256x256 .f32 := broadcastInDim S4x256x256 ![] bcast_S_S4x256x256 main_cst_1
  let main_v8 : IVec S4x256x256 1 := cmpf .olt main_v6 main_v7
  let main_v9 : FVec F S1x1024 .f32 := Host.absf main_arg4
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1024x1024 .f32 := Host.absf main_arg5
  let main_cst_3 : FVec F S_ .f32 := constant S_ .f32 0x7F800000#32
  let main_v13 : FVec F S1024x1024 .f32 := broadcastInDim S1024x1024 ![] bcast_S_S1024x1024 main_cst_3
  let main_v14 : IVec S1024x1024 1 := cmpf .olt main_v12 main_v13
  let main_v15 : FVec F S1024x1024 .f32 := Host.absf main_arg6
  let main_cst_4 : FVec F S_ .f32 := constant S_ .f32 0x7F800000#32
  let main_v16 : FVec F S1024x1024 .f32 := broadcastInDim S1024x1024 ![] bcast_S_S1024x1024 main_cst_4
  let main_v17 : IVec S1024x1024 1 := cmpf .olt main_v15 main_v16
  fn_part1 (F := F) main_arg7 main_v2 main_v5 main_v8 main_v11 main_v14 main_v17
-- ==== Pre_finite_b.lean ====
abbrev S2048x1024 : Shape := ⟨2, ![2048, 1024]⟩
abbrev S1024x1024 : Shape := ⟨2, ![1024, 1024]⟩
abbrev S_ : Shape := ⟨0, ![]⟩

class Facts : Prop where
  bcast_S_S2048x1024 : S_.BroadcastsInDim S2048x1024 (![] : Fin 0 → Fin S2048x1024.rank)
  bcast_S_S1024x1024 : S_.BroadcastsInDim S1024x1024 (![] : Fin 0 → Fin S1024x1024.rank)

variable [Facts]

def fn {F : FTy → Type} [FloatOps F] (main_arg0 : FVec F S2048x1024 .f32) (main_arg1 : FVec F S2048x1024 .f32) (main_arg2 : FVec F S2048x1024 .f32) (main_arg3 : FVec F S2048x1024 .f32) (main_arg4 : FVec F S1024x1024 .f32) (main_arg5 : FVec F S1024x1024 .f32) (main_arg6 : FVec F S2048x1024 .f32) : IVec S2048x1024 1 × IVec S2048x1024 1 × IVec S1024x1024 1 × IVec S1024x1024 1 × IVec S2048x1024 1 :=
  let main_v0 : FVec F S2048x1024 .f32 := Host.absf main_arg1
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S2048x1024 .f32 := Host.absf main_arg3
  let main_cst_0 : FVec F S_ .f32 := constant S_ .f32 0x7F800000#32
  let main_v4 : FVec F S2048x1024 .f32 := broadcastInDim S2048x1024 ![] bcast_S_S2048x1024 main_cst_0
  let main_v5 : IVec S2048x1024 1 := cmpf .olt main_v3 main_v4
  let main_v6 : FVec F S1024x1024 .f32 := Host.absf main_arg4
  let main_cst_1 : FVec F S_ .f32 := constant S_ .f32 0x7F800000#32
  let main_v7 : FVec F S1024x1024 .f32 := broadcastInDim S1024x1024 ![] bcast_S_S1024x1024 main_cst_1
  let main_v8 : IVec S1024x1024 1 := cmpf .olt main_v6 main_v7
  let main_v9 : FVec F S1024x1024 .f32 := Host.absf main_arg5
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_v12 : FVec F S2048x1024 .f32 := Host.absf main_arg6
  let main_cst_3 : FVec F S_ .f32 := constant S_ .f32 0x7F800000#32
  let main_v13 : FVec F S2048x1024 .f32 := broadcastInDim S2048x1024 ![] bcast_S_S2048x1024 main_cst_3
  let main_v14 : IVec S2048x1024 1 := cmpf .olt main_v12 main_v13
  (main_v2, main_v5, main_v8, main_v11, main_v14)
-- ==== Pre_finite_in_a.lean ====
abbrev S2048x1024 : Shape := ⟨2, ![2048, 1024]⟩
abbrev S1024x2048 : Shape := ⟨2, ![1024, 2048]⟩
abbrev S1x1024 : Shape := ⟨2, ![1, 1024]⟩
abbrev S2048x2048 : Shape := ⟨2, ![2048, 2048]⟩
abbrev S_ : Shape := ⟨0, ![]⟩

class Facts : Prop where
  bitsLt_bf16_f32 : FTy.bits .bf16 < FTy.bits .f32
  bcast_S_S2048x1024 : S_.BroadcastsInDim S2048x1024 (![] : Fin 0 → Fin S2048x1024.rank)
  bcast_S_S1024x2048 : S_.BroadcastsInDim S1024x2048 (![] : Fin 0 → Fin S1024x2048.rank)
  bcast_S_S1x1024 : S_.BroadcastsInDim S1x1024 (![] : Fin 0 → Fin S1x1024.rank)
  bcast_S_S2048x2048 : S_.BroadcastsInDim S2048x2048 (![] : Fin 0 → Fin S2048x2048.rank)

variable [Facts]

def fn {F : FTy → Type} [FloatOps F] (main_arg0 : FVec F S2048x1024 .f32) (main_arg1 : FVec F S1024x2048 .f32) (main_arg2 : FVec F S1x1024 .f32) (main_arg3 : FVec F S2048x2048 .bf16) (main_arg4 : FVec F S2048x1024 .f32) : IVec S2048x1024 1 × IVec S1024x2048 1 × IVec S1x1024 1 × IVec S2048x2048 1 :=
  let main_v0 : FVec F S2048x2048 .f32 := (extf .f32 · bitsLt_bf16_f32) main_arg3
  let main_v1 : FVec F S2048x1024 .f32 := Host.absf main_arg0
  let main_cst : FVec F S_ .f32 := constant S_ .f32 0x7F800000#32
  let main_v2 : FVec F S2048x1024 .f32 := broadcastInDim S2048x1024 ![] bcast_S_S2048x1024 main_cst
  let main_v3 : IVec S2048x1024 1 := cmpf .olt main_v1 main_v2
  let main_v4 : FVec F S1024x2048 .f32 := Host.absf main_arg1
  let main_cst_0 : FVec F S_ .f32 := constant S_ .f32 0x7F800000#32
  let main_v5 : FVec F S1024x2048 .f32 := broadcastInDim S1024x2048 ![] bcast_S_S1024x2048 main_cst_0
  let main_v6 : IVec S1024x2048 1 := cmpf .olt main_v4 main_v5
  let main_v7 : FVec F S1x1024 .f32 := Host.absf main_arg2
  let main_cst_1 : FVec F S_ .f32 := constant S_ .f32 0x7F800000#32
  let main_v8 : FVec F S1x1024 .f32 := broadcastInDim S1x1024 ![] bcast_S_S1x1024 main_cst_1
  let main_v9 : IVec S1x1024 1 := cmpf .olt main_v7 main_v8
  let main_v10 : FVec F S2048x2048 .f32 := Host.absf main_v0
  let main_cst_2 : FVec F S_ .f32 := constant S_ .f32 0x7F800000#32
  let main_v11 : FVec F S2048x2048 .f32 := broadcastInDim S2048x2048 ![] bcast_S_S2048x2048 main_cst_2
  let main_v12 : IVec S2048x2048 1 := cmpf .olt main_v10 main_v11
  (main_v3, main_v6, main_v9, main_v12)
-- ==== Pre_finite_in_b.lean ====
abbrev S2048x1024 : Shape := ⟨2, ![2048, 1024]⟩
abbrev S1024x2048 : Shape := ⟨2, ![1024, 2048]⟩
abbrev S1x1024 : Shape := ⟨2, ![1, 1024]⟩
abbrev S_ : Shape := ⟨0, ![]⟩

class Facts : Prop where
  bitsLt_bf16_f32 : FTy.bits .bf16 < FTy.bits .f32
  bcast_S_S2048x1024 : S_.BroadcastsInDim S2048x1024 (![] : Fin 0 → Fin S2048x1024.rank)
  bcast_S_S1024x2048 : S_.BroadcastsInDim S1024x2048 (![] : Fin 0 → Fin S1024x2048.rank)
  bcast_S_S1x1024 : S_.BroadcastsInDim S1x1024 (![] : Fin 0 → Fin S1x1024.rank)

variable [Facts]

def fn_part1 {F : FTy → Type} [FloatOps F] (main_v0 : FVec F S2048x1024 .f32) (main_v1 : FVec F S2048x1024 .f32) (main_v2 : FVec F S2048x1024 .f32) (main_v3 : FVec F S2048x1024 .f32) (main_v6 : IVec S2048x1024 1) (main_v9 : IVec S1024x2048 1) (main_v12 : IVec S1024x2048 1) (main_v15 : IVec S1x1024 1) (main_v18 : IVec S1x1024 1) : IVec S2048x1024 1 × IVec S1024x2048 1 × IVec S1024x2048 1 × IVec S1x1024 1 × IVec S1x1024 1 × IVec S2048x1024 1 × IVec S2048x1024 1 × IVec S2048x1024 1 × IVec S2048x1024 1 :=
  let main_v19 : FVec F S2048x1024 .f32 := Host.absf main_v0
  let main_cst_4 : FVec F S_ .f32 := constant S_ .f32 0x7F800000#32
  let main_v20 : FVec F S2048x1024 .f32 := broadcastInDim S2048x1024 ![] bcast_S_S2048x1024 main_cst_4
  let main_v21 : IVec S2048x1024 1 := cmpf .olt main_v19 main_v20
  let main_v22 : FVec F S2048x1024 .f32 := Host.absf main_v1
  let main_cst_5 : FVec F S_ .f32 := constant S_ .f32 0x7F800000#32
  let main_v23 : FVec F S2048x1024 .f32 := broadcastInDim S2048x1024 ![] bcast_S_S2048x1024 main_cst_5
  let main_v24 : IVec S2048x1024 1 := cmpf .olt main_v22 main_v23
  let main_v25 : FVec F S2048x1024 .f32 := Host.absf main_v2
  let main_cst_6 : FVec F S_ .f32 := constant S_ .f32 0x7F800000#32
  let main_v26 : FVec F S2048x1024 .f32 := broadcastInDim S2048x1024 ![] bcast_S_S2048x1024 main_cst_6
  let main_v27 : IVec S2048x1024 1 := cmpf .olt main_v25 main_v26
  let main_v28 : FVec F S2048x1024 .f32 := Host.absf main_v3
  let main_cst_7 : FVec F S_ .f32 := constant S_ .f32 0x7F800000#32
  let main_v29 : FVec F S2048x1024 .f32 := broadcastInDim S2048x1024 ![] bcast_S_S2048x1024 main_cst_7
  let main_v30 : IVec S2048x1024 1 := cmpf .olt main_v28 main_v29
  (main_v6, main_v9, main_v12, main_v15, main_v18, main_v21, main_v24, main_v27, main_v30)

def fn {F : FTy → Type} [FloatOps F] (main_arg0 : FVec F S2048x1024 .f32) (main_arg1 : FVec F S1024x2048 .f32) (main_arg2 : FVec F S1024x2048 .f32) (main_arg3 : FVec F S1x1024 .f32) (main_arg4 : FVec F S1x1024 .f32) (main_arg5 : FVec F S2048x1024 .bf16) (main_arg6 : FVec F S2048x1024 .bf16) (main_arg7 : FVec F S2048x1024 .bf16) (main_arg8 : FVec F S2048x1024 .bf16) (main_arg9 : FVec F S2048x1024 .f32) : IVec S2048x1024 1 × IVec S1024x2048 1 × IVec S1024x2048 1 × IVec S1x1024 1 × IVec S1x1024 1 × IVec S2048x1024 1 × IVec S2048x1024 1 × IVec S2048x1024 1 × IVec S2048x1024 1 :=
  let main_v0 : FVec F S2048x1024 .f32 := (extf .f32 · bitsLt_bf16_f32) main_arg5
  let main_v1 : FVec F S2048x1024 .f32 := (extf .f32 · bitsLt_bf16_f32) main_arg6
  let main_v2 : FVec F S2048x1024 .f32 := (extf .f32 · bitsLt_bf16_f32) main_arg7
  let main_v3 : FVec F S2048x1024 .f32 := (extf .f32 · bitsLt_bf16_f32) main_arg8
  let main_v4 : FVec F S2048x1024 .f32 := Host.absf main_arg0
  let main_cst : FVec F S_ .f32 := constant S_ .f32 0x7F800000#32
  let main_v5 : FVec F S2048x1024 .f32 := broadcastInDim S2048x1024 ![] bcast_S_S2048x1024 main_cst
  let main_v6 : IVec S2048x1024 1 := cmpf .olt main_v4 main_v5
  let main_v7 : FVec F S1024x2048 .f32 := Host.absf main_arg1
  let main_cst_0 : FVec F S_ .f32 := constant S_ .f32 0x7F800000#32
  let main_v8 : FVec F S1024x2048 .f32 := broadcastInDim S1024x2048 ![] bcast_S_S1024x2048 main_cst_0
  let main_v9 : IVec S1024x2048 1 := cmpf .olt main_v7 main_v8
  let main_v10 : FVec F S1024x2048 .f32 := Host.absf main_arg2
  let main_cst_1 : FVec F S_ .f32 := constant S_ .f32 0x7F800000#32
  let main_v11 : FVec F S1024x2048 .f32 := broadcastInDim S1024x2048 ![] bcast_S_S1024x2048 main_cst_1
  let main_v12 : IVec S1024x2048 1 := cmpf .olt main_v10 main_v11
  let main_v13 : FVec F S1x1024 .f32 := Host.absf main_arg3
  let main_cst_2 : FVec F S_ .f32 := constant S_ .f32 0x7F800000#32
  let main_v14 : FVec F S1x1024 .f32 := broadcastInDim S1x1024 ![] bcast_S_S1x1024 main_cst_2
  let main_v15 : IVec S1x1024 1 := cmpf .olt main_v13 main_v14
  let main_v16 : FVec F S1x1024 .f32 := Host.absf main_arg4
  let main_cst_3 : FVec F S_ .f32 := constant S_ .f32 0x7F800000#32
  let main_v17 : FVec F S1x1024 .f32 := broadcastInDim S1x1024 ![] bcast_S_S1x1024 main_cst_3
  let main_v18 : IVec S1x1024 1 := cmpf .olt main_v16 main_v17
  fn_part1 (F := F) main_v0 main_v1 main_v2 main_v3 main_v6 main_v9 main_v12 main_v15 main_v18
-- ==== Kernel.lean ====
abbrev S2048x1024 : Shape := ⟨2, ![2048, 1024]⟩
abbrev S2048x2048 : Shape := ⟨2, ![2048, 2048]⟩
abbrev S4x256x256 : Shape := ⟨3, ![4, 256, 256]⟩
abbrev S1x1024 : Shape := ⟨2, ![1, 1024]⟩
abbrev S1024x1024 : Shape := ⟨2, ![1024, 1024]⟩
abbrev S2048x4x256 : Shape := ⟨3, ![2048, 4, 256]⟩
abbrev S_ : Shape := ⟨0, ![]⟩
abbrev S16x4x256 : Shape := ⟨3, ![16, 4, 256]⟩
abbrev S2064x4x256 : Shape := ⟨3, ![2064, 4, 256]⟩
abbrev S2048 : Shape := ⟨1, ![2048]⟩
abbrev S2048x1x256 : Shape := ⟨3, ![2048, 1, 256]⟩
abbrev S2048x256 : Shape := ⟨2, ![2048, 256]⟩
abbrev S2048x1 : Shape := ⟨2, ![2048, 1]⟩
abbrev S4x256x2048 : Shape := ⟨3, ![4, 256, 2048]⟩
abbrev S256x1024 : Shape := ⟨2, ![256, 1024]⟩
abbrev S256x2048 : Shape := ⟨2, ![256, 2048]⟩
abbrev S272x1024 : Shape := ⟨2, ![272, 1024]⟩
abbrev S16x1024 : Shape := ⟨2, ![16, 1024]⟩
abbrev S1024 : Shape := ⟨1, ![1024]⟩
abbrev S256x1 : Shape := ⟨2, ![256, 1]⟩
abbrev S256x256 : Shape := ⟨2, ![256, 256]⟩
abbrev S1x256x256 : Shape := ⟨3, ![1, 256, 256]⟩
abbrev S272x256 : Shape := ⟨2, ![272, 256]⟩

abbrev nBuf : Space → Nat
  | .hbm => 110
  | .vmem => 26
  | .smem => 0
  | _ => 0

abbrev bufTy : (tb : Table) → Fin (tcTables nBuf tb) → BufTy
  | .hbm, ⟨0, _⟩ => ⟨S2048x1024, .f32⟩
  | .hbm, ⟨1, _⟩ => ⟨S2048x2048, .f32⟩
  | .hbm, ⟨2, _⟩ => ⟨S2048x1024, .f32⟩
  | .hbm, ⟨3, _⟩ => ⟨S4x256x256, .f32⟩
  | .hbm, ⟨4, _⟩ => ⟨S1x1024, .f32⟩
  | .hbm, ⟨5, _⟩ => ⟨S1024x1024, .f32⟩
  | .hbm, ⟨6, _⟩ => ⟨S1024x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x4x256, .f32⟩
  | .hbm, ⟨11, _⟩ => ⟨S_, .f32⟩
  | .hbm, ⟨12, _⟩ => ⟨S_, .f32⟩
  | .hbm, ⟨13, _⟩ => ⟨S2048x4x256, .f32⟩
  | .hbm, ⟨14, _⟩ => ⟨S_, .f32⟩
  | .hbm, ⟨15, _⟩ => ⟨S16x4x256, .f32⟩
  | .hbm, ⟨16, _⟩ => ⟨S2064x4x256, .f32⟩
  | .hbm, ⟨17, _⟩ => ⟨S2048, .i32⟩
  | .hbm, ⟨18, _⟩ => ⟨S_, .i32⟩
  | .hbm, ⟨19, _⟩ => ⟨S2048, .i32⟩
  | .hbm, ⟨20, _⟩ => ⟨S2048, .i32⟩
  | .hbm, ⟨21, _⟩ => ⟨S2048x1x256, .f32⟩
  | .hbm, ⟨22, _⟩ => ⟨S2048x256, .f32⟩
  | .hbm, ⟨23, _⟩ => ⟨S_, .i32⟩
  | .hbm, ⟨24, _⟩ => ⟨S2048, .i32⟩
  | .hbm, ⟨25, _⟩ => ⟨S2048, .i32⟩
  | .hbm, ⟨26, _⟩ => ⟨S2048, .f32⟩
  | .hbm, ⟨27, _⟩ => ⟨S2048x1, .f32⟩
  | .hbm, ⟨28, _⟩ => ⟨S2048x1x256, .f32⟩
  | .hbm, ⟨29, _⟩ => ⟨S2048x256, .f32⟩
  | .hbm, ⟨30, _⟩ => ⟨S2048x256, .f32⟩
  | .hbm, ⟨31, _⟩ => ⟨S2048x256, .f32⟩
  | .hbm, ⟨32, _⟩ => ⟨S2048x256, .f32⟩
  | .hbm, ⟨33, _⟩ => ⟨S2048x1x256, .f32⟩
  | .hbm, ⟨34, _⟩ => ⟨S2048x256, .f32⟩
  | .hbm, ⟨35, _⟩ => ⟨S_, .i32⟩
  | .hbm, ⟨36, _⟩ => ⟨S2048, .i32⟩
  | .hbm, ⟨37, _⟩ => ⟨S2048, .i32⟩
  | .hbm, ⟨38, _⟩ => ⟨S2048, .f32⟩
  | .hbm, ⟨39, _⟩ => ⟨S2048x1, .f32⟩
  | .hbm, ⟨40, _⟩ => ⟨S2048x1x256, .f32⟩
  | .hbm, ⟨41, _⟩ => ⟨S2048x256, .f32⟩
  | .hbm, ⟨42, _⟩ => ⟨S2048x256, .f32⟩
  | .hbm, ⟨43, _⟩ => ⟨S2048x256, .f32⟩
  | .hbm, ⟨44, _⟩ => ⟨S2048x256, .f32⟩
  | .hbm, ⟨45, _⟩ => ⟨S2048x1x256, .f32⟩
  | .hbm, ⟨46, _⟩ => ⟨S2048x256, .f32⟩
  | .hbm, ⟨47, _⟩ => ⟨S_, .i32⟩
  | .hbm, ⟨48, _⟩ => ⟨S2048, .i32⟩
  | .hbm, ⟨49, _⟩ => ⟨S2048, .i32⟩
  | .hbm, ⟨50, _⟩ => ⟨S2048, .f32⟩
  | .hbm, ⟨51, _⟩ => ⟨S2048x1, .f32⟩
  | .hbm, ⟨52, _⟩ => ⟨S2048x1x256, .f32⟩
  | .hbm, ⟨53, _⟩ => ⟨S2048x256, .f32⟩
  | .hbm, ⟨54, _⟩ => ⟨S2048x256, .f32⟩
  | .hbm, ⟨55, _⟩ => ⟨S2048x256, .f32⟩
  | .hbm, ⟨56, _⟩ => ⟨S2048x256, .f32⟩
  | .hbm, ⟨57, _⟩ => ⟨S2048x1x256, .f32⟩
  | .hbm, ⟨58, _⟩ => ⟨S2048x256, .f32⟩
  | .hbm, ⟨59, _⟩ => ⟨S_, .i32⟩
  | .hbm, ⟨60, _⟩ => ⟨S2048, .i32⟩
  | .hbm, ⟨61, _⟩ => ⟨S2048, .i32⟩
  | .hbm, ⟨62, _⟩ => ⟨S2048, .f32⟩
  | .hbm, ⟨63, _⟩ => ⟨S2048x1, .f32⟩
  | .hbm, ⟨64, _⟩ => ⟨S2048x1x256, .f32⟩
  | .hbm, ⟨65, _⟩ => ⟨S2048x256, .f32⟩
  | .hbm, ⟨66, _⟩ => ⟨S2048x256, .f32⟩
  | .hbm, ⟨67, _⟩ => ⟨S2048x256, .f32⟩
  | .hbm, ⟨68, _⟩ => ⟨S2048x256, .f32⟩
  | .hbm, ⟨69, _⟩ => ⟨S2048x1x256, .f32⟩
  | .hbm, ⟨70, _⟩ => ⟨S2048x1x256, .f32⟩
  | .hbm, ⟨71, _⟩ => ⟨S2048x1x256, .f32⟩
  | .hbm, ⟨72, _⟩ => ⟨S2048x1x256, .f32⟩
  | .hbm, ⟨73, _⟩ => ⟨S2048x4x256, .f32⟩
  | .hbm, ⟨74, _⟩ => ⟨S2048x4x256, .f32⟩
  | .hbm, ⟨75, _⟩ => ⟨S4x256x2048, .f32⟩
  | .hbm, ⟨76, _⟩ => ⟨S2048x4x256, .f32⟩
  | .hbm, ⟨77, _⟩ => ⟨S2048x1024, .f32⟩
  | .hbm, ⟨78, _⟩ => ⟨S2048x1024, .f32⟩
  | .hbm, ⟨79, _⟩ => ⟨S2048x1024, .f32⟩
  | .hbm, ⟨80, _⟩ => ⟨S2048x1024, .f32⟩
  | .hbm, ⟨81, _⟩ => ⟨S2048x1024, .f32⟩
  | .hbm, ⟨82, _⟩ => ⟨S_, .f32⟩
  | .hbm, ⟨83, _⟩ => ⟨S2048x1024, .f32⟩
  | .hbm, ⟨84, _⟩ => ⟨S2048x1024, .f32⟩
  | .hbm, ⟨85, _⟩ => ⟨S_, .f32⟩
  | .hbm, ⟨86, _⟩ => ⟨S2048x1024, .f32⟩
  | .hbm, ⟨87, _⟩ => ⟨S2048x1024, .f32⟩
  | .hbm, ⟨88, _⟩ => ⟨S2048x1024, .f32⟩
  | .hbm, ⟨89, _⟩ => ⟨S2048x1024, .f32⟩
  | .hbm, ⟨90, _⟩ => ⟨S2048x1024, .f32⟩
  | .hbm, ⟨91, _⟩ => ⟨S2048x1024, .f32⟩
  | .hbm, ⟨92, _⟩ => ⟨S2048x1024, .f32⟩
  | .hbm, ⟨93, _⟩ => ⟨S2048x1024, .f32⟩
  | .hbm, ⟨94, _⟩ => ⟨S2048x1024, .f32⟩
  | .hbm, ⟨95, _⟩ => ⟨S_, .f32⟩
  | .hbm, ⟨96, _⟩ => ⟨S2048x1024, .f32⟩
  | .hbm, ⟨97, _⟩ => ⟨S2048x1024, .f32⟩
  | .hbm, ⟨98, _⟩ => ⟨S_, .f32⟩
  | .hbm, ⟨99, _⟩ => ⟨S2048x1024, .f32⟩
  | .hbm, ⟨100, _⟩ => ⟨S2048x1024, .f32⟩
  | .hbm, ⟨101, _⟩ => ⟨S1024x1024, .bf16⟩
  | .hbm, ⟨102, _⟩ => ⟨S1024x1024, .bf16⟩
  | .hbm, ⟨103, _⟩ => ⟨S4x256x256, .bf16⟩
  | .hbm, ⟨104, _⟩ => ⟨S2048x1024, .bf16⟩
  | .hbm, ⟨105, _⟩ => ⟨S2048x1024, .bf16⟩
  | .hbm, ⟨106, _⟩ => ⟨S2048x1024, .f32⟩
  | .hbm, ⟨107, _⟩ => ⟨S2048x1024, .bf16⟩
  | .hbm, ⟨108, _⟩ => ⟨S2048x2048, .bf16⟩
  | .hbm, ⟨109, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1024x1024, .bf16⟩
  | .local _ .vmem, ⟨11, _⟩ => ⟨S1024x1024, .bf16⟩
  | .local _ .vmem, ⟨12, _⟩ => ⟨S1x1024, .f32⟩
  | .local _ .vmem, ⟨13, _⟩ => ⟨S4x256x256, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .f32⟩
  | .local _ .vmem, ⟨19, _⟩ => ⟨S256x1024, .f32⟩
  | .local _ .vmem, ⟨20, _⟩ => ⟨S256x1024, .bf16⟩
  | .local _ .vmem, ⟨21, _⟩ => ⟨S256x1024, .bf16⟩
  | .local _ .vmem, ⟨22, _⟩ => ⟨S256x2048, .bf16⟩
  | .local _ .vmem, ⟨23, _⟩ => ⟨S256x2048, .bf16⟩
  | .local _ .vmem, ⟨24, _⟩ => ⟨S1x1024, .f32⟩
  | .local _ .vmem, ⟨25, _⟩ => ⟨S272x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_call0_call0_cst : Ref sig .tc := ⟨.hbm, 11, rfl⟩
abbrev main_call0_call0_v0 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_1 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_2 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_c_3 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_call1_v0 : Ref sig .tc := ⟨.hbm, 80, rfl⟩
abbrev main_call1_v1 : Ref sig .tc := ⟨.hbm, 81, rfl⟩
abbrev main_call1_cst : Ref sig .tc := ⟨.hbm, 82, rfl⟩
abbrev main_call1_v2 : Ref sig .tc := ⟨.hbm, 83, rfl⟩
abbrev main_call1_v3 : Ref sig .tc := ⟨.hbm, 84, rfl⟩
abbrev main_call1_cst_0 : Ref sig .tc := ⟨.hbm, 85, rfl⟩
abbrev main_call1_v4 : Ref sig .tc := ⟨.hbm, 86, rfl⟩
abbrev main_call1_v5 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_cst_4 : Ref sig .tc := ⟨.hbm, 95, rfl⟩
abbrev main_v71 : Ref sig .tc := ⟨.hbm, 96, rfl⟩
abbrev main_v72 : Ref sig .tc := ⟨.hbm, 97, rfl⟩
abbrev main_cst_5 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78_0 : Ref sig .tc := ⟨.hbm, 104, rfl⟩
abbrev main_v78_1 : Ref sig .tc := ⟨.hbm, 105, rfl⟩
abbrev main_v78_2 : Ref sig .tc := ⟨.hbm, 106, rfl⟩
abbrev main_v78_3 : Ref sig .tc := ⟨.hbm, 107, rfl⟩
abbrev main_v78_4 : Ref sig .tc := ⟨.hbm, 108, rfl⟩
abbrev main_v78_5 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== ReferenceIdeal.lean ====
abbrev S2048x1024 : Shape := ⟨2, ![2048, 1024]⟩
abbrev S2048x2048 : Shape := ⟨2, ![2048, 2048]⟩
abbrev S4x256x256 : Shape := ⟨3, ![4, 256, 256]⟩
abbrev S1x1024 : Shape := ⟨2, ![1, 1024]⟩
abbrev S1024x1024 : Shape := ⟨2, ![1024, 1024]⟩
abbrev S2048x4x256 : Shape := ⟨3, ![2048, 4, 256]⟩
abbrev S_ : Shape := ⟨0, ![]⟩
abbrev S16x4x256 : Shape := ⟨3, ![16, 4, 256]⟩
abbrev S2064x4x256 : Shape := ⟨3, ![2064, 4, 256]⟩
abbrev S2048 : Shape := ⟨1, ![2048]⟩
abbrev S2048x1x256 : Shape := ⟨3, ![2048, 1, 256]⟩
abbrev S2048x256 : Shape := ⟨2, ![2048, 256]⟩
abbrev S2048x1 : Shape := ⟨2, ![2048, 1]⟩
abbrev S4x256x2048 : Shape := ⟨3, ![4, 256, 2048]⟩
abbrev S1024 : Shape := ⟨1, ![1024]⟩
abbrev S4x2048x256 : Shape := ⟨3, ![4, 2048, 256]⟩

abbrev nBuf : Space → Nat
  | .hbm => 201
  | .vmem => 0
  | .smem => 0
  | _ => 0

abbrev hbmTy0_0 (i : Nat) : BufTy := match i % 128 with
  | 0 => ⟨S2048x1024, .f32⟩
  | 1 => ⟨S2048x2048, .f32⟩
  | 2 => ⟨S2048x1024, .f32⟩
  | 3 => ⟨S4x256x256, .f32⟩
  | 4 => ⟨S1x1024, .f32⟩
  | 5 => ⟨S1024x1024, .f32⟩
  | 6 => ⟨S1024x1024, .f32⟩
  | 7 => ⟨S2048x1024, .f32⟩
  | 8 => ⟨S2048x1024, .f32⟩
  | 9 => ⟨S2048x1024, .f32⟩
  | 10 => ⟨S2048x4x256, .f32⟩
  | 11 => ⟨S_, .f32⟩
  | 12 => ⟨S_, .f32⟩
  | 13 => ⟨S2048x4x256, .f32⟩
  | 14 => ⟨S_, .f32⟩
  | 15 => ⟨S16x4x256, .f32⟩
  | 16 => ⟨S2064x4x256, .f32⟩
  | 17 => ⟨S_, .f32⟩
  | 18 => ⟨S16x4x256, .f32⟩
  | 19 => ⟨S2048, .i32⟩
  | 20 => ⟨S_, .i32⟩
  | 21 => ⟨S2048, .i32⟩
  | 22 => ⟨S2048, .i32⟩
  | 23 => ⟨S2048x1x256, .f32⟩
  | 24 => ⟨S2048x256, .f32⟩
  | 25 => ⟨S_, .i32⟩
  | 26 => ⟨S2048, .i32⟩
  | 27 => ⟨S2048, .i32⟩
  | 28 => ⟨S2048, .f32⟩
  | 29 => ⟨S2048x1, .f32⟩
  | 30 => ⟨S2048x1x256, .f32⟩
  | 31 => ⟨S2048x256, .f32⟩
  | 32 => ⟨S2048x256, .f32⟩
  | 33 => ⟨S2048x256, .f32⟩
  | 34 => ⟨S2048x256, .f32⟩
  | 35 => ⟨S2048x1x256, .f32⟩
  | 36 => ⟨S2048x256, .f32⟩
  | 37 => ⟨S_, .i32⟩
  | 38 => ⟨S2048, .i32⟩
  | 39 => ⟨S2048, .i32⟩
  | 40 => ⟨S2048, .f32⟩
  | 41 => ⟨S2048x1, .f32⟩
  | 42 => ⟨S2048x1x256, .f32⟩
  | 43 => ⟨S2048x256, .f32⟩
  | 44 => ⟨S2048x256, .f32⟩
  | 45 => ⟨S2048x256, .f32⟩
  | 46 => ⟨S2048x256, .f32⟩
  | 47 => ⟨S2048x1x256, .f32⟩
  | 48 => ⟨S2048x256, .f32⟩
  | 49 => ⟨S_, .i32⟩
  | 50 => ⟨S2048, .i32⟩
  | 51 => ⟨S2048, .i32⟩
  | 52 => ⟨S2048, .f32⟩
  | 53 => ⟨S2048x1, .f32⟩
  | 54 => ⟨S2048x1x256, .f32⟩
  | 55 => ⟨S2048x256, .f32⟩
  | 56 => ⟨S2048x256, .f32⟩
  | 57 => ⟨S2048x256, .f32⟩
  | 58 => ⟨S2048x256, .f32⟩
  | 59 => ⟨S2048x1x256, .f32⟩
  | 60 => ⟨S2048x256, .f32⟩
  | 61 => ⟨S_, .i32⟩
  | 62 => ⟨S2048, .i32⟩
  | 63 => ⟨S2048, .i32⟩
  | 64 => ⟨S2048, .f32⟩
  | 65 => ⟨S2048x1, .f32⟩
  | 66 => ⟨S2048x1x256, .f32⟩
  | 67 => ⟨S2048x256, .f32⟩
  | 68 => ⟨S2048x256, .f32⟩
  | 69 => ⟨S2048x256, .f32⟩
  | 70 => ⟨S2048x256, .f32⟩
  | 71 => ⟨S2048x1x256, .f32⟩
  | 72 => ⟨S2048x1x256, .f32⟩
  | 73 => ⟨S2048x1x256, .f32⟩
  | 74 => ⟨S2048x1x256, .f32⟩
  | 75 => ⟨S2048x4x256, .f32⟩
  | 76 => ⟨S2048x4x256, .f32⟩
  | 77 => ⟨S4x256x2048, .f32⟩
  | 78 => ⟨S2048x4x256, .f32⟩
  | 79 => ⟨S2048x1024, .f32⟩
  | 80 => ⟨S2048x1024, .f32⟩
  | 81 => ⟨S2048x1024, .f32⟩
  | 82 => ⟨S2048x1024, .f32⟩
  | 83 => ⟨S2048x1024, .f32⟩
  | 84 => ⟨S_, .f32⟩
  | 85 => ⟨S2048x1024, .f32⟩
  | 86 => ⟨S2048x1024, .f32⟩
  | 87 => ⟨S_, .f32⟩
  | 88 => ⟨S2048x1024, .f32⟩
  | 89 => ⟨S2048x1024, .f32⟩
  | 90 => ⟨S_, .f32⟩
  | 91 => ⟨S2048x1024, .f32⟩
  | 92 => ⟨S2048x1024, .f32⟩
  | 93 => ⟨S2048x1024, .f32⟩
  | 94 => ⟨S2048x1024, .f32⟩
  | 95 => ⟨S2048x1024, .f32⟩
  | 96 => ⟨S2048x1024, .f32⟩
  | 97 => ⟨S2048x1024, .f32⟩
  | 98 => ⟨S2048x1024, .f32⟩
  | 99 => ⟨S2048x1024, .f32⟩
  | 100 => ⟨S2048x1024, .f32⟩
  | 101 => ⟨S_, .f32⟩
  | 102 => ⟨S2048x1024, .f32⟩
  | 103 => ⟨S2048x1024, .f32⟩
  | 104 => ⟨S_, .f32⟩
  | 105 => ⟨S2048x1024, .f32⟩
  | 106 => ⟨S2048x1024, .f32⟩
  | 107 => ⟨S_, .f32⟩
  | 108 => ⟨S2048x1024, .f32⟩
  | 109 => ⟨S2048x1024, .f32⟩
  | 110 => ⟨S2048x1024, .f32⟩
  | 111 => ⟨S2048x1024, .f32⟩
  | 112 => ⟨S2048x1024, .f32⟩
  | 113 => ⟨S2048x1024, .f32⟩
  | 114 => ⟨S2048x1024, .f32⟩
  | 115 => ⟨S2048x1024, .f32⟩
  | 116 => ⟨S2048x1024, .f32⟩
  | 117 => ⟨S2048x1024, .f32⟩
  | 118 => ⟨S2048x1024, .f32⟩
  | 119 => ⟨S2048x1024, .f32⟩
  | 120 => ⟨S2048x1024, .f32⟩
  | 121 => ⟨S2048x1024, .f32⟩
  | 122 => ⟨S2048x1024, .f32⟩
  | 123 => ⟨S2048x1024, .f32⟩
  | 124 => ⟨S2048x1024, .f32⟩
  | 125 => ⟨S2048x1024, .f32⟩
  | 126 => ⟨S2048x1024, .f32⟩
  | 127 => ⟨S2048x1024, .f32⟩
  | _ => ⟨S2048x1024, .f32⟩

abbrev hbmTy0_1 (i : Nat) : BufTy := match i % 128 with
  | 0 => ⟨S_, .f32⟩
  | 1 => ⟨S1024, .f32⟩
  | 2 => ⟨S1x1024, .f32⟩
  | 3 => ⟨S2048x1024, .f32⟩
  | 4 => ⟨S2048x1024, .f32⟩
  | 5 => ⟨S2048x4x256, .f32⟩
  | 6 => ⟨S4x256x2048, .f32⟩
  | 7 => ⟨S4x2048x256, .f32⟩
  | 8 => ⟨S2048x4x256, .f32⟩
  | 9 => ⟨S2048x4x256, .f32⟩
  | 10 => ⟨S2048x1x256, .f32⟩
  | 11 => ⟨S2048x256, .f32⟩
  | 12 => ⟨S2048x1x256, .f32⟩
  | 13 => ⟨S2048x256, .f32⟩
  | 14 => ⟨S2048x1x256, .f32⟩
  | 15 => ⟨S2048x256, .f32⟩
  | 16 => ⟨S2048x1x256, .f32⟩
  | 17 => ⟨S2048x256, .f32⟩
  | 18 => ⟨S2048x256, .f32⟩
  | 19 => ⟨S2048x256, .f32⟩
  | 20 => ⟨S2048x256, .f32⟩
  | 21 => ⟨S2048x1x256, .f32⟩
  | 22 => ⟨S_, .f32⟩
  | 23 => ⟨S2048x4x256, .f32⟩
  | 24 => ⟨S2048x1x256, .f32⟩
  | 25 => ⟨S_, .f32⟩
  | 26 => ⟨S2064x4x256, .f32⟩
  | 27 => ⟨S2048x256, .f32⟩
  | 28 => ⟨S2048x256, .f32⟩
  | 29 => ⟨S2048x256, .f32⟩
  | 30 => ⟨S2048x1x256, .f32⟩
  | 31 => ⟨S_, .f32⟩
  | 32 => ⟨S2048x4x256, .f32⟩
  | 33 => ⟨S2048x4x256, .f32⟩
  | 34 => ⟨S2048x1x256, .f32⟩
  | 35 => ⟨S_, .f32⟩
  | 36 => ⟨S2064x4x256, .f32⟩
  | 37 => ⟨S2064x4x256, .f32⟩
  | 38 => ⟨S2048x256, .f32⟩
  | 39 => ⟨S2048x256, .f32⟩
  | 40 => ⟨S2048x256, .f32⟩
  | 41 => ⟨S2048x1x256, .f32⟩
  | 42 => ⟨S_, .f32⟩
  | 43 => ⟨S2048x4x256, .f32⟩
  | 44 => ⟨S2048x4x256, .f32⟩
  | 45 => ⟨S2048x1x256, .f32⟩
  | 46 => ⟨S_, .f32⟩
  | 47 => ⟨S2064x4x256, .f32⟩
  | 48 => ⟨S2064x4x256, .f32⟩
  | 49 => ⟨S2048x256, .f32⟩
  | 50 => ⟨S2048x256, .f32⟩
  | 51 => ⟨S2048x256, .f32⟩
  | 52 => ⟨S2048x1x256, .f32⟩
  | 53 => ⟨S_, .f32⟩
  | 54 => ⟨S2048x4x256, .f32⟩
  | 55 => ⟨S2048x4x256, .f32⟩
  | 56 => ⟨S2048x1x256, .f32⟩
  | 57 => ⟨S_, .f32⟩
  | 58 => ⟨S2064x4x256, .f32⟩
  | 59 => ⟨S2064x4x256, .f32⟩
  | 60 => ⟨S16x4x256, .f32⟩
  | 61 => ⟨S2048x4x256, .f32⟩
  | 62 => ⟨S2048x4x256, .f32⟩
  | 63 => ⟨S_, .f32⟩
  | 64 => ⟨S_, .f32⟩
  | 65 => ⟨S2048x4x256, .f32⟩
  | 66 => ⟨S2048x4x256, .f32⟩
  | 67 => ⟨S2048x1024, .f32⟩
  | 68 => ⟨S2048x2048, .f32⟩
  | 69 => ⟨S2048x1024, .bf16⟩
  | 70 => ⟨S2048x1024, .bf16⟩
  | 71 => ⟨S2048x1024, .bf16⟩
  | 72 => ⟨S2048x2048, .bf16⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_call0_call0_cst : Ref sig .tc := ⟨.hbm, 11, rfl⟩
abbrev main_call0_call0_v0 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_c : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_2 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_3 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_c_4 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_call1_v0 : Ref sig .tc := ⟨.hbm, 82, rfl⟩
abbrev main_call1_v1 : Ref sig .tc := ⟨.hbm, 83, rfl⟩
abbrev main_call1_cst : Ref sig .tc := ⟨.hbm, 84, rfl⟩
abbrev main_call1_v2 : Ref sig .tc := ⟨.hbm, 85, rfl⟩
abbrev main_call1_v3 : Ref sig .tc := ⟨.hbm, 86, rfl⟩
abbrev main_call1_cst_0 : Ref sig .tc := ⟨.hbm, 87, rfl⟩
abbrev main_call1_v4 : Ref sig .tc := ⟨.hbm, 88, rfl⟩
abbrev main_v65_2 : Ref sig .tc := ⟨.hbm, 89, rfl⟩
abbrev main_call1_cst_1 : Ref sig .tc := ⟨.hbm, 90, rfl⟩
abbrev main_call1_v6 : Ref sig .tc := ⟨.hbm, 91, rfl⟩
abbrev main_call1_v7 : Ref sig .tc := ⟨.hbm, 92, rfl⟩
abbrev main_v65_1 : Ref sig .tc := ⟨.hbm, 93, rfl⟩
abbrev main_v65_0 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_5 : Ref sig .tc := ⟨.hbm, 101, rfl⟩
abbrev main_v72 : Ref sig .tc := ⟨.hbm, 102, rfl⟩
abbrev main_v73 : Ref sig .tc := ⟨.hbm, 103, rfl⟩
abbrev main_cst_6 : Ref sig .tc := ⟨.hbm, 104, rfl⟩
abbrev main_v74 : Ref sig .tc := ⟨.hbm, 105, rfl⟩
abbrev main_v75 : Ref sig .tc := ⟨.hbm, 106, rfl⟩
abbrev main_cst_7 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_call2_v0 : Ref sig .tc := ⟨.hbm, 123, rfl⟩
abbrev main_call2_v1 : Ref sig .tc := ⟨.hbm, 124, rfl⟩
abbrev main_call2_v2 : Ref sig .tc := ⟨.hbm, 125, rfl⟩
abbrev main_v91 : Ref sig .tc := ⟨.hbm, 126, rfl⟩
abbrev main_v92 : Ref sig .tc := ⟨.hbm, 127, rfl⟩
abbrev main_cst_8 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_cst_9 : Ref sig .tc := ⟨.hbm, 150, rfl⟩
abbrev main_v114 : Ref sig .tc := ⟨.hbm, 151, rfl⟩
abbrev main_v115 : Ref sig .tc := ⟨.hbm, 152, rfl⟩
abbrev main_cst_10 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_cst_11 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_cst_12 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_cst_13 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_cst_14 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_cst_15 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_cst_16 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_call3_call0_cst : Ref sig .tc := ⟨.hbm, 191, rfl⟩
abbrev main_call3_call0_v0 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩

abbrev nD : Nat := 1
abbrev τ : Topo := Topo.v7x

variable {F : FTy → Type} [FloatOps F]
-- ==== KernelB.lean ====
abbrev S2048x1024 : Shape := ⟨2, ![2048, 1024]⟩
abbrev S1024x1024 : Shape := ⟨2, ![1024, 1024]⟩
abbrev S_ : Shape := ⟨0, ![]⟩
abbrev S256x1024 : Shape := ⟨2, ![256, 1024]⟩

abbrev nBuf : Space → Nat
  | .hbm => 35
  | .vmem => 22
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S1024x1024, .f32⟩
  | .hbm, ⟨5, _⟩ => ⟨S1024x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048x1024, .f32⟩
  | .hbm, ⟨27, _⟩ => ⟨S2048x1024, .f32⟩
  | .hbm, ⟨28, _⟩ => ⟨S1024x1024, .bf16⟩
  | .hbm, ⟨29, _⟩ => ⟨S1024x1024, .bf16⟩
  | .hbm, ⟨30, _⟩ => ⟨S2048x1024, .bf16⟩
  | .hbm, ⟨31, _⟩ => ⟨S2048x1024, .bf16⟩
  | .hbm, ⟨32, _⟩ => ⟨S2048x1024, .f32⟩
  | .hbm, ⟨33, _⟩ => ⟨S2048x1024, .bf16⟩
  | .hbm, ⟨34, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1024x1024, .bf16⟩
  | .local _ .vmem, ⟨11, _⟩ => ⟨S1024x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .f32⟩
  | .local _ .vmem, ⟨17, _⟩ => ⟨S256x1024, .f32⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_v8 : Ref sig .tc := ⟨.hbm, 24, rfl⟩
abbrev main_cst_0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13_0 : Ref sig .tc := ⟨.hbm, 30, rfl⟩
abbrev main_v13_1 : Ref sig .tc := ⟨.hbm, 31, rfl⟩
abbrev main_v13_2 : Ref sig .tc := ⟨.hbm, 32, rfl⟩
abbrev main_v13_3 : Ref sig .tc := ⟨.hbm, 33, rfl⟩
abbrev main_v13_4 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceBIdeal.lean ====
abbrev S2048x1024 : Shape := ⟨2, ![2048, 1024]⟩
abbrev S1024x1024 : Shape := ⟨2, ![1024, 1024]⟩
abbrev S_ : Shape := ⟨0, ![]⟩

abbrev nBuf : Space → Nat
  | .hbm => 56
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S1024x1024, .f32⟩
  | .hbm, ⟨5, _⟩ => ⟨S1024x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S2048x1024, .f32⟩
  | .hbm, ⟨31, _⟩ => ⟨S2048x1024, .f32⟩
  | .hbm, ⟨32, _⟩ => ⟨S_, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .bf16⟩
  | .hbm, ⟨53, _⟩ => ⟨S2048x1024, .bf16⟩
  | .hbm, ⟨54, _⟩ => ⟨S2048x1024, .bf16⟩
  | .hbm, ⟨55, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v0_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v0_1 : Ref sig .tc := ⟨.hbm, 18, rfl⟩
abbrev main_v0_0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst : Ref sig .tc := ⟨.hbm, 26, rfl⟩
abbrev main_v7 : Ref sig .tc := ⟨.hbm, 27, rfl⟩
abbrev main_v8 : Ref sig .tc := ⟨.hbm, 28, rfl⟩
abbrev main_cst_0 : Ref sig .tc := ⟨.hbm, 29, rfl⟩
abbrev main_v9 : Ref sig .tc := ⟨.hbm, 30, rfl⟩
abbrev main_v10 : Ref sig .tc := ⟨.hbm, 31, rfl⟩
abbrev main_cst_1 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩

abbrev nD : Nat := 1
abbrev τ : Topo := Topo.v7x

variable {F : FTy → Type} [FloatOps F]
-- ==== KernelInA.lean ====
abbrev S2048x1024 : Shape := ⟨2, ![2048, 1024]⟩
abbrev S1024x2048 : Shape := ⟨2, ![1024, 2048]⟩
abbrev S1x1024 : Shape := ⟨2, ![1, 1024]⟩
abbrev S2048x2048 : Shape := ⟨2, ![2048, 2048]⟩
abbrev S1024x8x256 : Shape := ⟨3, ![1024, 8, 256]⟩
abbrev S8x1024x256 : Shape := ⟨3, ![8, 1024, 256]⟩
abbrev S256x2048 : Shape := ⟨2, ![256, 2048]⟩
abbrev S256x1024 : Shape := ⟨2, ![256, 1024]⟩
abbrev S256x256 : Shape := ⟨2, ![256, 256]⟩
abbrev S1x1024x256 : Shape := ⟨3, ![1, 1024, 256]⟩
abbrev S1024x256 : Shape := ⟨2, ![1024, 256]⟩
abbrev S256 : Shape := ⟨1, ![256]⟩
abbrev S256x1 : Shape := ⟨2, ![256, 1]⟩
abbrev S1024 : Shape := ⟨1, ![1024]⟩

abbrev nBuf : Space → Nat
  | .hbm => 10
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S1024x2048, .f32⟩
  | .hbm, ⟨2, _⟩ => ⟨S1x1024, .f32⟩
  | .hbm, ⟨3, _⟩ => ⟨S2048x2048, .bf16⟩
  | .hbm, ⟨4, _⟩ => ⟨S2048x1024, .f32⟩
  | .hbm, ⟨5, _⟩ => ⟨S1024x8x256, .f32⟩
  | .hbm, ⟨6, _⟩ => ⟨S8x1024x256, .f32⟩
  | .hbm, ⟨7, _⟩ => ⟨S8x1024x256, .bf16⟩
  | .hbm, ⟨8, _⟩ => ⟨S2048x1024, .f32⟩
  | .hbm, ⟨9, _⟩ => ⟨S1x1024, .f32⟩
  | .local _ .vmem, ⟨0, _⟩ => ⟨S256x2048, .bf16⟩
  | .local _ .vmem, ⟨1, _⟩ => ⟨S256x2048, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S8x1024x256, .bf16⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceInAIdeal.lean ====
abbrev S2048x1024 : Shape := ⟨2, ![2048, 1024]⟩
abbrev S1024x2048 : Shape := ⟨2, ![1024, 2048]⟩
abbrev S1x1024 : Shape := ⟨2, ![1, 1024]⟩
abbrev S2048x2048 : Shape := ⟨2, ![2048, 2048]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 51
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x2048, .f32⟩
  | .hbm, ⟨2, _⟩ => ⟨S1x1024, .f32⟩
  | .hbm, ⟨3, _⟩ => ⟨S2048x2048, .bf16⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x2048, .f32⟩
  | .hbm, ⟨25, _⟩ => ⟨S2048x2048, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S2048, .f32⟩
  | .hbm, ⟨36, _⟩ => ⟨S2048x1, .f32⟩
  | .hbm, ⟨37, _⟩ => ⟨S2048x1024, .f32⟩
  | .hbm, ⟨38, _⟩ => ⟨S2048x1024, .f32⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S_, .f32⟩
  | .hbm, ⟨44, _⟩ => ⟨S2048, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== KernelInB.lean ====
abbrev S2048x1024 : Shape := ⟨2, ![2048, 1024]⟩
abbrev S1024x2048 : Shape := ⟨2, ![1024, 2048]⟩
abbrev S1x1024 : Shape := ⟨2, ![1, 1024]⟩
abbrev S1024x8x256 : Shape := ⟨3, ![1024, 8, 256]⟩
abbrev S8x1024x256 : Shape := ⟨3, ![8, 1024, 256]⟩
abbrev S256x1024 : Shape := ⟨2, ![256, 1024]⟩
abbrev S256x256 : Shape := ⟨2, ![256, 256]⟩
abbrev S1x1024x256 : Shape := ⟨3, ![1, 1024, 256]⟩
abbrev S1024x256 : Shape := ⟨2, ![1024, 256]⟩
abbrev S256 : Shape := ⟨1, ![256]⟩
abbrev S256x1 : Shape := ⟨2, ![256, 1]⟩
abbrev S1024 : Shape := ⟨1, ![1024]⟩

abbrev nBuf : Space → Nat
  | .hbm => 19
  | .vmem => 20
  | .smem => 0
  | _ => 0

abbrev bufTy : (tb : Table) → Fin (tcTables nBuf tb) → BufTy
  | .hbm, ⟨0, _⟩ => ⟨S2048x1024, .f32⟩
  | .hbm, ⟨1, _⟩ => ⟨S1024x2048, .f32⟩
  | .hbm, ⟨2, _⟩ => ⟨S1024x2048, .f32⟩
  | .hbm, ⟨3, _⟩ => ⟨S1x1024, .f32⟩
  | .hbm, ⟨4, _⟩ => ⟨S1x1024, .f32⟩
  | .hbm, ⟨5, _⟩ => ⟨S2048x1024, .bf16⟩
  | .hbm, ⟨6, _⟩ => ⟨S2048x1024, .bf16⟩
  | .hbm, ⟨7, _⟩ => ⟨S2048x1024, .bf16⟩
  | .hbm, ⟨8, _⟩ => ⟨S2048x1024, .bf16⟩
  | .hbm, ⟨9, _⟩ => ⟨S2048x1024, .f32⟩
  | .hbm, ⟨10, _⟩ => ⟨S1024x8x256, .f32⟩
  | .hbm, ⟨11, _⟩ => ⟨S8x1024x256, .f32⟩
  | .hbm, ⟨12, _⟩ => ⟨S8x1024x256, .bf16⟩
  | .hbm, ⟨13, _⟩ => ⟨S1024x8x256, .f32⟩
  | .hbm, ⟨14, _⟩ => ⟨S8x1024x256, .f32⟩
  | .hbm, ⟨15, _⟩ => ⟨S8x1024x256, .bf16⟩
  | .hbm, ⟨16, _⟩ => ⟨S2048x1024, .f32⟩
  | .hbm, ⟨17, _⟩ => ⟨S1x1024, .f32⟩
  | .hbm, ⟨18, _⟩ => ⟨S1x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S8x1024x256, .bf16⟩
  | .local _ .vmem, ⟨13, _⟩ => ⟨S8x1024x256, .bf16⟩
  | .local _ .vmem, ⟨14, _⟩ => ⟨S1x1024, .f32⟩
  | .local _ .vmem, ⟨15, _⟩ => ⟨S1x1024, .f32⟩
  | .local _ .vmem, ⟨16, _⟩ => ⟨S256x1024, .f32⟩
  | .local _ .vmem, ⟨17, _⟩ => ⟨S256x1024, .f32⟩
  | .local _ .vmem, ⟨18, _⟩ => ⟨S1x1024, .f32⟩
  | .local _ .vmem, ⟨19, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v6_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem12_0 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x1024x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceInBIdeal.lean ====
abbrev S2048x1024 : Shape := ⟨2, ![2048, 1024]⟩
abbrev S1024x2048 : Shape := ⟨2, ![1024, 2048]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S2048x2048 : Shape := ⟨2, ![2048, 2048]⟩
abbrev S1024 : Shape := ⟨1, ![1024]⟩

abbrev nBuf : Space → Nat
  | .hbm => 104
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x2048, .f32⟩
  | .hbm, ⟨2, _⟩ => ⟨S1024x2048, .f32⟩
  | .hbm, ⟨3, _⟩ => ⟨S1x1024, .f32⟩
  | .hbm, ⟨4, _⟩ => ⟨S1x1024, .f32⟩
  | .hbm, ⟨5, _⟩ => ⟨S2048x1024, .bf16⟩
  | .hbm, ⟨6, _⟩ => ⟨S2048x1024, .bf16⟩
  | .hbm, ⟨7, _⟩ => ⟨S2048x1024, .bf16⟩
  | .hbm, ⟨8, _⟩ => ⟨S2048x1024, .bf16⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S2048x1, .f32⟩
  | .hbm, ⟨22, _⟩ => ⟨S_, .f32⟩
  | .hbm, ⟨23, _⟩ => ⟨S2048x1, .f32⟩
  | .hbm, ⟨24, _⟩ => ⟨S2048x1, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x2048, .f32⟩
  | .hbm, ⟨30, _⟩ => ⟨S2048x2048, .bf16⟩
  | .hbm, ⟨31, _⟩ => ⟨S2048x2048, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S_, .f32⟩
  | .hbm, ⟨41, _⟩ => ⟨S2048, .f32⟩
  | .hbm, ⟨42, _⟩ => ⟨S2048x1, .f32⟩
  | .hbm, ⟨43, _⟩ => ⟨S2048x1024, .f32⟩
  | .hbm, ⟨44, _⟩ => ⟨S2048x1024, .f32⟩
  | .hbm, ⟨45, _⟩ => ⟨S2048x1, .f32⟩
  | .hbm, ⟨46, _⟩ => ⟨S_, .f32⟩
  | .hbm, ⟨47, _⟩ => ⟨S2048x1, .f32⟩
  | .hbm, ⟨48, _⟩ => ⟨S2048x1, .f32⟩
  | .hbm, ⟨49, _⟩ => ⟨S_, .f32⟩
  | .hbm, ⟨50, _⟩ => ⟨S2048, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S_, .f32⟩
  | .hbm, ⟨58, _⟩ => ⟨S2048, .f32⟩
  | .hbm, ⟨59, _⟩ => ⟨S2048x1, .f32⟩
  | .hbm, ⟨60, _⟩ => ⟨S_, .f32⟩
  | .hbm, ⟨61, _⟩ => ⟨S2048x1, .f32⟩
  | .hbm, ⟨62, _⟩ => ⟨S2048x1, .f32⟩
  | .hbm, ⟨63, _⟩ => ⟨S_, .f32⟩
  | .hbm, ⟨64, _⟩ => ⟨S2048x1, .f32⟩
  | .hbm, ⟨65, _⟩ => ⟨S2048x1, .f32⟩
  | .hbm, ⟨66, _⟩ => ⟨S2048x1, .f32⟩
  | .hbm, ⟨67, _⟩ => ⟨S2048x1, .f32⟩
  | .hbm, ⟨68, _⟩ => ⟨S_, .f32⟩
  | .hbm, ⟨69, _⟩ => ⟨S2048x1, .f32⟩
  | .hbm, ⟨70, _⟩ => ⟨S2048x1, .f32⟩
  | .hbm, ⟨71, _⟩ => ⟨S2048x1024, .f32⟩
  | .hbm, ⟨72, _⟩ => ⟨S2048x1024, .f32⟩
  | .hbm, ⟨73, _⟩ => ⟨S2048x1024, .f32⟩
  | .hbm, ⟨74, _⟩ => ⟨S2048x1024, .f32⟩
  | .hbm, ⟨75, _⟩ => ⟨S2048x2048, .f32⟩
  | .hbm, ⟨76, _⟩ => ⟨S2048x2048, .bf16⟩
  | .hbm, ⟨77, _⟩ => ⟨S2048x2048, .f32⟩
  | .hbm, ⟨78, _⟩ => ⟨S2048x1024, .f32⟩
  | .hbm, ⟨79, _⟩ => ⟨S2048x1024, .f32⟩
  | .hbm, ⟨80, _⟩ => ⟨S_, .f32⟩
  | .hbm, ⟨81, _⟩ => ⟨S1024, .f32⟩
  | .hbm, ⟨82, _⟩ => ⟨S1x1024, .f32⟩
  | .hbm, ⟨83, _⟩ => ⟨S2048x1024, .f32⟩
  | .hbm, ⟨84, _⟩ => ⟨S2048x1024, .f32⟩
  | .hbm, ⟨85, _⟩ => ⟨S2048x1024, .f32⟩
  | .hbm, ⟨86, _⟩ => ⟨S_, .f32⟩
  | .hbm, ⟨87, _⟩ => ⟨S2048, .f32⟩
  | .hbm, ⟨88, _⟩ => ⟨S2048x1, .f32⟩
  | .hbm, ⟨89, _⟩ => ⟨S2048x1024, .f32⟩
  | .hbm, ⟨90, _⟩ => ⟨S2048x1024, .f32⟩
  | .hbm, ⟨91, _⟩ => ⟨S2048x1, .f32⟩
  | .hbm, ⟨92, _⟩ => ⟨S_, .f32⟩
  | .hbm, ⟨93, _⟩ => ⟨S2048x1, .f32⟩
  | .hbm, ⟨94, _⟩ => ⟨S2048x1, .f32⟩
  | .hbm, ⟨95, _⟩ => ⟨S_, .f32⟩
  | .hbm, ⟨96, _⟩ => ⟨S2048, .f32⟩
  | .hbm, ⟨97, _⟩ => ⟨S2048x1024, .f32⟩
  | .hbm, ⟨98, _⟩ => ⟨S2048x1024, .f32⟩
  | .hbm, ⟨99, _⟩ => ⟨S2048x1024, .f32⟩
  | .hbm, ⟨100, _⟩ => ⟨S2048x1024, .f32⟩
  | .hbm, ⟨101, _⟩ => ⟨S2048x1024, .f32⟩
  | .hbm, ⟨102, _⟩ => ⟨S2048x1024, .f32⟩
  | .hbm, ⟨103, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_10 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_11 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_12 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_13 : Ref sig .tc := ⟨.hbm, 92, rfl⟩
abbrev main_v68 : Ref sig .tc := ⟨.hbm, 93, rfl⟩
abbrev main_v69 : Ref sig .tc := ⟨.hbm, 94, rfl⟩
abbrev main_cst_14 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩

abbrev nD : Nat := 1
abbrev τ : Topo := Topo.v7x

variable {F : FTy → Type} [FloatOps F]
-- ==== KernelWOut.lean ====
abbrev S2048x1024 : Shape := ⟨2, ![2048, 1024]⟩
abbrev S1024x1024 : Shape := ⟨2, ![1024, 1024]⟩
abbrev S2048x256 : Shape := ⟨2, ![2048, 256]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .f32⟩
  | .hbm, ⟨2, _⟩ => ⟨S1024x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x1024, .f32⟩
  | .local _ .vmem, ⟨3, _⟩ => ⟨S256x1024, .bf16⟩
  | .local _ .vmem, ⟨4, _⟩ => ⟨S256x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceWOutIdeal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .f32⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S2048x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelWGate.lean ====
abbrev S2048x1024 : Shape := ⟨2, ![2048, 1024]⟩
abbrev S1024x1024 : Shape := ⟨2, ![1024, 1024]⟩
abbrev S2048x256 : Shape := ⟨2, ![2048, 256]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | .hbm, ⟨2, _⟩ => ⟨S1024x1024, .bf16⟩
  | .local _ .vmem, ⟨0, _⟩ => ⟨S2048x256, .f32⟩
  | .local _ .vmem, ⟨1, _⟩ => ⟨S2048x256, .f32⟩
  | .local _ .vmem, ⟨2, _⟩ => ⟨S2048x1024, .bf16⟩
  | .local _ .vmem, ⟨3, _⟩ => ⟨S256x1024, .bf16⟩
  | .local _ .vmem, ⟨4, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceWGateIdeal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S2048x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelWIn.lean ====
abbrev S2048x1024 : Shape := ⟨2, ![2048, 1024]⟩
abbrev S8x1024x256 : Shape := ⟨3, ![8, 1024, 256]⟩
abbrev S2048x256 : Shape := ⟨2, ![2048, 256]⟩
abbrev S8x256x256 : Shape := ⟨3, ![8, 256, 256]⟩
abbrev S256x1024 : Shape := ⟨2, ![256, 1024]⟩
abbrev S256x256 : Shape := ⟨2, ![256, 256]⟩
abbrev S1x256x256 : Shape := ⟨3, ![1, 256, 256]⟩

abbrev nBuf : Space → Nat
  | .hbm => 4
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .bf16⟩
  | .hbm, ⟨3, _⟩ => ⟨S8x1024x256, .bf16⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S2048x1024, .bf16⟩
  | .local _ .vmem, ⟨4, _⟩ => ⟨S8x256x256, .bf16⟩
  | .local _ .vmem, ⟨5, _⟩ => ⟨S8x256x256, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceWInIdeal.lean ====
abbrev S2048x1024 : Shape := ⟨2, ![2048, 1024]⟩
abbrev S2048x2048 : Shape := ⟨2, ![2048, 2048]⟩
abbrev S_ : Shape := ⟨0, ![]⟩
abbrev S1024x2048 : Shape := ⟨2, ![1024, 2048]⟩
abbrev S1024x8x256 : Shape := ⟨3, ![1024, 8, 256]⟩
abbrev S8x1024x256 : Shape := ⟨3, ![8, 1024, 256]⟩

abbrev nBuf : Space → Nat
  | .hbm => 14
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .bf16⟩
  | .hbm, ⟨3, _⟩ => ⟨S2048x2048, .bf16⟩
  | .hbm, ⟨4, _⟩ => ⟨S_, .f32⟩
  | .hbm, ⟨5, _⟩ => ⟨S1024x2048, .f32⟩
  | .hbm, ⟨6, _⟩ => ⟨S2048x1024, .f32⟩
  | .hbm, ⟨7, _⟩ => ⟨S2048x2048, .f32⟩
  | .hbm, ⟨8, _⟩ => ⟨S2048x2048, .f32⟩
  | .hbm, ⟨9, _⟩ => ⟨S2048x1024, .f32⟩
  | .hbm, ⟨10, _⟩ => ⟨S1024x2048, .f32⟩
  | .hbm, ⟨11, _⟩ => ⟨S1024x2048, .bf16⟩
  | .hbm, ⟨12, _⟩ => ⟨S1024x8x256, .bf16⟩
  | .hbm, ⟨13, _⟩ => ⟨S8x1024x256, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== KernelWPle.lean ====
abbrev S2048x256 : Shape := ⟨2, ![2048, 256]⟩
abbrev S2048x1024 : Shape := ⟨2, ![2048, 1024]⟩
abbrev S8x256x128 : Shape := ⟨3, ![8, 256, 128]⟩
abbrev S256x1024 : Shape := ⟨2, ![256, 1024]⟩
abbrev S256x128 : Shape := ⟨2, ![256, 128]⟩
abbrev S1x256x128 : Shape := ⟨3, ![1, 256, 128]⟩

abbrev nBuf : Space → Nat
  | .hbm => 3
  | .vmem => 3
  | .smem => 0
  | _ => 0

abbrev bufTy : (tb : Table) → Fin (tcTables nBuf tb) → BufTy
  | .hbm, ⟨0, _⟩ => ⟨S2048x256, .f32⟩
  | .hbm, ⟨1, _⟩ => ⟨S2048x1024, .bf16⟩
  | .hbm, ⟨2, _⟩ => ⟨S8x256x128, .bf16⟩
  | .local _ .vmem, ⟨0, _⟩ => ⟨S2048x256, .f32⟩
  | .local _ .vmem, ⟨1, _⟩ => ⟨S2048x1024, .bf16⟩
  | .local _ .vmem, ⟨2, _⟩ => ⟨S8x256x128, .bf16⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S2048x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x256x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== ReferenceWPleIdeal.lean ====
abbrev S2048x256 : Shape := ⟨2, ![2048, 256]⟩
abbrev S2048x1024 : Shape := ⟨2, ![2048, 1024]⟩
abbrev S_ : Shape := ⟨0, ![]⟩
abbrev S256x1024 : Shape := ⟨2, ![256, 1024]⟩
abbrev S1024x256 : Shape := ⟨2, ![1024, 256]⟩
abbrev S256x8x128 : Shape := ⟨3, ![256, 8, 128]⟩
abbrev S8x256x128 : Shape := ⟨3, ![8, 256, 128]⟩

abbrev nBuf : Space → Nat
  | .hbm => 11
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S2048x1024, .bf16⟩
  | .hbm, ⟨2, _⟩ => ⟨S_, .f32⟩
  | .hbm, ⟨3, _⟩ => ⟨S256x1024, .f32⟩
  | .hbm, ⟨4, _⟩ => ⟨S2048x1024, .f32⟩
  | .hbm, ⟨5, _⟩ => ⟨S2048x1024, .f32⟩
  | .hbm, ⟨6, _⟩ => ⟨S1024x256, .f32⟩
  | .hbm, ⟨7, _⟩ => ⟨S256x1024, .f32⟩
  | .hbm, ⟨8, _⟩ => ⟨S256x1024, .bf16⟩
  | .hbm, ⟨9, _⟩ => ⟨S256x8x128, .bf16⟩
  | .hbm, ⟨10, _⟩ => ⟨S8x256x128, .bf16⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KernelBIn.lean ====
abbrev S2048x1024 : Shape := ⟨2, ![2048, 1024]⟩
abbrev S1024x2048 : Shape := ⟨2, ![1024, 2048]⟩
abbrev S1x1024 : Shape := ⟨2, ![1, 1024]⟩
abbrev S1024x8x256 : Shape := ⟨3, ![1024, 8, 256]⟩
abbrev S8x1024x256 : Shape := ⟨3, ![8, 1024, 256]⟩
abbrev S256x1024 : Shape := ⟨2, ![256, 1024]⟩
abbrev S256 : Shape := ⟨1, ![256]⟩
abbrev S256x1 : Shape := ⟨2, ![256, 1]⟩
abbrev S1x1024x256 : Shape := ⟨3, ![1, 1024, 256]⟩
abbrev S1024x256 : Shape := ⟨2, ![1024, 256]⟩
abbrev S256x256 : Shape := ⟨2, ![256, 256]⟩

abbrev nBuf : Space → Nat
  | .hbm => 17
  | .vmem => 18
  | .smem => 0
  | _ => 0

abbrev bufTy : (tb : Table) → Fin (tcTables nBuf tb) → BufTy
  | .hbm, ⟨0, _⟩ => ⟨S2048x1024, .f32⟩
  | .hbm, ⟨1, _⟩ => ⟨S1024x2048, .f32⟩
  | .hbm, ⟨2, _⟩ => ⟨S1024x2048, .f32⟩
  | .hbm, ⟨3, _⟩ => ⟨S1x1024, .f32⟩
  | .hbm, ⟨4, _⟩ => ⟨S1x1024, .f32⟩
  | .hbm, ⟨5, _⟩ => ⟨S1024x8x256, .f32⟩
  | .hbm, ⟨6, _⟩ => ⟨S8x1024x256, .f32⟩
  | .hbm, ⟨7, _⟩ => ⟨S8x1024x256, .bf16⟩
  | .hbm, ⟨8, _⟩ => ⟨S1024x8x256, .f32⟩
  | .hbm, ⟨9, _⟩ => ⟨S8x1024x256, .f32⟩
  | .hbm, ⟨10, _⟩ => ⟨S8x1024x256, .bf16⟩
  | .hbm, ⟨11, _⟩ => ⟨S2048x1024, .bf16⟩
  | .hbm, ⟨12, _⟩ => ⟨S2048x1024, .bf16⟩
  | .hbm, ⟨13, _⟩ => ⟨S2048x1024, .f32⟩
  | .hbm, ⟨14, _⟩ => ⟨S2048x1024, .bf16⟩
  | .hbm, ⟨15, _⟩ => ⟨S2048x1024, .f32⟩
  | .hbm, ⟨16, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S8x1024x256, .bf16⟩
  | .local _ .vmem, ⟨5, _⟩ => ⟨S8x1024x256, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .f32⟩
  | .local _ .vmem, ⟨11, _⟩ => ⟨S256x1024, .f32⟩
  | .local _ .vmem, ⟨12, _⟩ => ⟨S256x1024, .bf16⟩
  | .local _ .vmem, ⟨13, _⟩ => ⟨S256x1024, .bf16⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev main_v6_4 : Ref sig .tc := ⟨.hbm, 15, rfl⟩
abbrev main_v6_5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceBInIdeal.lean ====
abbrev S2048x1024 : Shape := ⟨2, ![2048, 1024]⟩
abbrev S1024x2048 : Shape := ⟨2, ![1024, 2048]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S2048x2048 : Shape := ⟨2, ![2048, 2048]⟩

abbrev nBuf : Space → Nat
  | .hbm => 44
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x2048, .f32⟩
  | .hbm, ⟨2, _⟩ => ⟨S1024x2048, .f32⟩
  | .hbm, ⟨3, _⟩ => ⟨S1x1024, .f32⟩
  | .hbm, ⟨4, _⟩ => ⟨S1x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S_, .f32⟩
  | .hbm, ⟨22, _⟩ => ⟨S2048, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S_, .f32⟩
  | .hbm, ⟨28, _⟩ => ⟨S2048x1, .f32⟩
  | .hbm, ⟨29, _⟩ => ⟨S2048x1, .f32⟩
  | .hbm, ⟨30, _⟩ => ⟨S2048x1, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x2048, .f32⟩
  | .hbm, ⟨36, _⟩ => ⟨S2048x1024, .f32⟩
  | .hbm, ⟨37, _⟩ => ⟨S2048x1024, .f32⟩
  | .hbm, ⟨38, _⟩ => ⟨S2048x2048, .f32⟩
  | .hbm, ⟨39, _⟩ => ⟨S2048x1024, .f32⟩
  | .hbm, ⟨40, _⟩ => ⟨S2048x1024, .f32⟩
  | .hbm, ⟨41, _⟩ => ⟨S2048x1024, .bf16⟩
  | .hbm, ⟨42, _⟩ => ⟨S2048x1024, .bf16⟩
  | .hbm, ⟨43, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== Proof.Finite.lean ====
/- Real values among the extended reals: which operations keep them real, and the one identity between the two ways a
   program differentiates `z * sigmoid z`. -/
module

public import Idealize.ShloMosaic.PureOps.Ideal.Laws
public import Idealize.ShloMosaic.PureOps.Ideal

@[expose] public section

noncomputable section

open Idealize.ShloMosaic

namespace Cert.Finite

/-- The value is a real number, neither infinity. -/
def IsReal (x : EReal) : Prop := ∃ r : ℝ, x = (r : EReal)

theorem IsReal.coe (r : ℝ) : IsReal (r : EReal) := ⟨r, rfl⟩

theorem IsReal.zero : IsReal 0 := ⟨0, EReal.coe_zero.symm⟩

theorem IsReal.one : IsReal 1 := ⟨1, EReal.coe_one.symm⟩

/-- Sums, differences and products of real values are real. -/
theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A quotient of real values whose divisor is not zero is real. -/
theorem IsReal.div {x y : EReal} (hx : IsReal x) (hy : IsReal y) (h : y ≠ 0) : IsReal (Ideal.div x y) := by
  obtain ⟨a, rfl⟩ := hx
  obtain ⟨b, rfl⟩ := hy
  rw [Ideal.div, if_neg h, ← EReal.coe_inv]
  exact ⟨a * b⁻¹, (EReal.coe_mul a b⁻¹).symm⟩

/-- A finite sum of real values is real. -/
theorem IsReal.sum {ι : Type*} (s : Finset ι) (f : ι → EReal) (h : ∀ i ∈ s, IsReal (f i)) : IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))

/-- The sigmoid of anything, infinities included, is a real value. -/
theorem IsReal.logistic (x : EReal) : IsReal (Ideal.logistic x) := by
  induction x using EReal.rec with
  | bot => rw [Ideal.logistic_bot]; exact .zero
  | top => rw [Ideal.logistic_top]; exact .one
  | coe r => exact ⟨_, Ideal.logistic_coe r⟩

/-- A value whose absolute value is below infinity is real. -/
theorem IsReal.of_abs_lt {x : EReal} (h : max x (-x) < ⊤) : IsReal x := by
  induction x using EReal.rec with
  | bot => simp at h
  | top => simp at h
  | coe r => exact ⟨r, rfl⟩

/-- A real value kept in an array's carrier as its real part. -/
theorem IsReal.coe_toReal {x : EReal} (h : IsReal x) : ((x.toReal : ℝ) : EReal) = x := by
  obtain ⟨r, rfl⟩ := h
  rw [EReal.toReal_coe]

/-- Two spellings of the derivative of `z * sigmoid z` against a real cotangent `c`: `sigma (1 + z (1 - sigma))` at once,
    and the product rule's two terms. At an infinite `z` the sigmoid is 0 or 1 and both sides are the same. -/
theorem silu_grad {c : EReal} (hc : IsReal c) (z : EReal) :
    c * (Ideal.logistic z * (1 + z * (1 - Ideal.logistic z)))
      = c * Ideal.logistic z + (z * c) * (Ideal.logistic z * (1 - Ideal.logistic z)) := by
  obtain ⟨c, rfl⟩ := hc
  induction z using EReal.rec with
  | bot => rw [Ideal.logistic_bot]; simp
  | top =>
    have h : (1 : EReal) - 1 = 0 := by rw [← EReal.coe_one, ← EReal.coe_sub, sub_self, EReal.coe_zero]
    rw [Ideal.logistic_top, h]; simp
  | coe r =>
    rw [Ideal.logistic_coe]
    generalize (1 + Real.exp (-r))⁻¹ = s
    rw [← EReal.coe_one]
    simp only [← EReal.coe_mul, ← EReal.coe_add, ← EReal.coe_sub]
    congr 1
    ring

end Cert.Finite

end
-- ==== Proof.Spec.lean ====
/- The two output-projection gradients as plain formulas, element by element, over the extended reals, for any number
   of rows. `ct` is the gradient of the block's output, `e` the embedding rows, `g` the gate (a sigmoid), `wg` and `wo`
   the gate's and the output's weights. Each formula of a row reads that row only, so a block of rows of the result is
   the formula of the block. -/
module

public import proofs.«01_k».proof.Proof.Finite
public import Idealize.ShloMosaic.Lib.Pointwise.Index

@[expose] public section

noncomputable section

open Idealize.ShloMosaic Cert.Finite

namespace Cert.Spec

/-- An activation: `n` rows of 1024. -/
abbrev Act (n : ℕ) := (⟨2, ![n, 1024]⟩ : Shape).Idx → EReal

/-- A square weight. -/
abbrev Wt := (⟨2, ![1024, 1024]⟩ : Shape).Idx → EReal

variable {n : ℕ}

/-- The gradient of the embedding rows. -/
def de (ct g : Act n) : Act n := fun i => ct i * g i

/-- The gradient of the gate's argument. -/
def dgate (ct e g : Act n) : Act n := fun i => ct i * e i * g i * (1 - g i)

/-- The product with a weight's transpose. -/
def nt (a : Act n) (w : Wt) : Act n := fun i => ∑ k : Fin 1024, a (ix2 (i 0 : Fin n) k) * w (ix2 (i 1 : Fin 1024) k)

/-- The gradient of the gate's input: directly, and through the gate's product. -/
def dx (ct e g : Act n) (wg : Wt) : Act n := fun i => ct i + nt (dgate ct e g) wg i

/-- The gradient of the output product's left operand. -/
def dy (ct e g : Act n) (wg wo : Wt) : Act n := nt (dx ct e g wg) wo

/-- The derivative of `z * sigmoid z`. -/
def dsilu (z : EReal) : EReal := Ideal.logistic z * (1 + z * (1 - Ideal.logistic z))

/-- The gradient of the attention's output: through the product with the silu gate. -/
def dOut (ct e g z : Act n) (wg wo : Wt) : Act n := fun i => dy ct e g wg wo i * (z i * Ideal.logistic (z i))

/-- The gradient of the silu gate's argument. -/
def dz (ct e g o z : Act n) (wg wo : Wt) : Act n := fun i => dy ct e g wg wo i * o i * dsilu (z i)

/-- Row `r` of block `b`. -/
def rowOf (b : Fin 8) (r : Fin 256) : Fin 2048 := ⟨b.val * 256 + r.val, by omega⟩

/-- Block `b` of an activation's rows. -/
def block {w : ℕ} (b : Fin 8) (X : (⟨2, ![2048, w]⟩ : Shape).Idx → EReal) : (⟨2, ![256, w]⟩ : Shape).Idx → EReal :=
  fun y => X (ix2 (rowOf b (y 0)) (y 1 : Fin w))

/-- The gate's gradient is real where its factors are. -/
theorem dgate_real {ct e g : Act n} (hct : ∀ i, IsReal (ct i)) (he : ∀ i, IsReal (e i)) (hg : ∀ i, IsReal (g i))
    (i) : IsReal (dgate ct e g i) :=
  (((hct i).mul (he i)).mul (hg i)).mul (IsReal.one.sub (hg i))

/-- A product of real arrays is real. -/
theorem nt_real {a : Act n} {w : Wt} (ha : ∀ i, IsReal (a i)) (hw : ∀ i, IsReal (w i)) (i) : IsReal (nt a w i) :=
  .sum _ _ fun k _ => (ha _).mul (hw _)

/-- The output product's gradient is real where everything it is made of is. -/
theorem dy_real {ct e g : Act n} {wg wo : Wt} (hct : ∀ i, IsReal (ct i)) (he : ∀ i, IsReal (e i))
    (hg : ∀ i, IsReal (g i)) (hwg : ∀ i, IsReal (wg i)) (hwo : ∀ i, IsReal (wo i)) (i) : IsReal (dy ct e g wg wo i) :=
  nt_real (fun j => (hct j).add (nt_real (dgate_real hct he hg) hwg j)) hwo i

end Cert.Spec

end
-- ==== Proof.SpecA.lean ====
/- The pooling mixer's output gradients as plain formulas, element by element, over the extended reals. Beside the
   arguments of `Spec`: `z` the argument of the silu gate, `m` the mixed pools, `sc` the mixer's scale (one row), `w` the
   four groups' weights. Column `c` of 1024 lies in group `c / 256`, whose trailing mean runs over `2 ^ (c / 256 + 1)` rows. -/
module

public import proofs.«01_k».proof.Proof.Spec

@[expose] public section

noncomputable section

open Idealize.ShloMosaic Cert.Finite

namespace Cert.Spec

/-- One row of 1024. -/
abbrev Row := (⟨2, ![1, 1024]⟩ : Shape).Idx → EReal

/-- The groups' weights. -/
abbrev Wg := (⟨3, ![4, 256, 256]⟩ : Shape).Idx → EReal

variable {n : ℕ}

/-- The group a column lies in, and its place in the group. -/
def grp (c : Fin 1024) : Fin 4 := ⟨c.val / 256, by omega⟩
def lane (c : Fin 1024) : Fin 256 := ⟨c.val % 256, by omega⟩

/-- Column `k` of group `g`. -/
def col (g : Fin 4) (k : Fin 256) : Fin 1024 := ⟨g.val * 256 + k.val, by omega⟩

theorem grp_col (g : Fin 4) (k : Fin 256) : grp (col g k) = g := Fin.ext (by simp only [grp, col]; omega)
theorem lane_col (g : Fin 4) (k : Fin 256) : lane (col g k) = k := Fin.ext (by simp only [lane, col]; omega)
theorem col_grp_lane (c : Fin 1024) : col (grp c) (lane c) = c := Fin.ext (by simp only [lane, grp, col]; omega)

/-- How many rows a group's trailing mean runs over: 2, 4, 8, 16. -/
def width (g : Fin 4) : ℕ := 2 ^ (g.val + 1)

/-- The gradient of the scaled mix. -/
def dmx (ct e g z : Act n) (wg wo : Wt) : Act n := fun i => dy ct e g wg wo i * (z i * Ideal.logistic (z i))

/-- The gradient of the mixed pools. -/
def dm (ct e g z : Act n) (sc : Row) (wg wo : Wt) : Act n := fun i => dmx ct e g z wg wo i * sc (ix2 0 (i 1 : Fin 1024))

/-- The gradient of the silu gate's argument. -/
def dzA (ct e g z m : Act n) (sc : Row) (wg wo : Wt) : Act n :=
  fun i => dy ct e g wg wo i * (m i * sc (ix2 0 (i 1 : Fin 1024))) * dsilu (z i)

/-- A column of the scale's gradient, summed over the rows. -/
def dsc (ct e g z m : Act n) (wg wo : Wt) (c : Fin 1024) : EReal :=
  ∑ r : Fin n, dmx ct e g z wg wo (ix2 r c) * m (ix2 r c)

/-- The gradient of the pools: each group's product with its weight's transpose. -/
def dpool (d : Act n) (w : Wg) : Act n :=
  fun i => ∑ k : Fin 256, d (ix2 (i 0 : Fin n) (col (grp (i 1)) k)) * w (ix3 (grp (i 1)) (lane (i 1)) k)

/-- How many frames the trailing mean at row `r` of a group is over. -/
def cnt (r : ℕ) (g : Fin 4) : EReal := ((min (r + 1) (width g) : ℕ) : ℝ)

/-- The gradient of a trailing sum: the pools' gradient over the number of frames. -/
def q (d : Act 2048) (w : Wg) : Act 2048 :=
  fun i => Ideal.div (dpool d w i) (cnt (i 0 : Fin 2048).val (grp (i 1)))

/-- An array of rows continued by zeros. -/
def ext (x : Act 2048) (r : ℕ) (c : Fin 1024) : EReal := if h : r < 2048 then x (ix2 ⟨r, h⟩ c) else 0

/-- The gradient of the mixer's input: the sums over the windows that begin at the row, less the frame's own. -/
def du (d : Act 2048) (w : Wg) : Act 2048 :=
  fun i => (∑ j ∈ Finset.range (width (grp (i 1))), ext (q d w) ((i 0 : Fin 2048).val + j) (i 1)) - dpool d w i

/-- Two activations side by side. -/
def beside {n : ℕ} (a b : Act n) : (⟨2, ![n, 2048]⟩ : Shape).Idx → EReal :=
  fun i => if h : (i 1 : Fin 2048).val < 1024 then a (ix2 (i 0 : Fin n) ⟨(i 1 : Fin 2048).val, h⟩)
    else b (ix2 (i 0 : Fin n) ⟨(i 1 : Fin 2048).val - 1024, by
      have : (i 1 : Fin 2048).val < 2048 := (i 1 : Fin 2048).isLt
      omega⟩)

theorem width_pos (g : Fin 4) : 0 < width g := Nat.pow_pos (by decide)

/-- The number of frames is never zero. -/
theorem cnt_ne_zero (r : ℕ) (g : Fin 4) : cnt r g ≠ 0 := by
  have h : 0 < min (r + 1) (width g) := by have := width_pos g; omega
  unfold cnt
  intro hz
  have : (((min (r + 1) (width g) : ℕ) : ℝ)) = 0 := by exact_mod_cast hz
  have : min (r + 1) (width g) = 0 := by exact_mod_cast this
  omega

theorem cnt_real (r : ℕ) (g : Fin 4) : IsReal (cnt r g) := ⟨_, rfl⟩

end Cert.Spec

end
-- ==== Proof.PayA.lean ====
/- What the first layer's stored values are, element by element, as the plain formulas of `Spec`. -/
module

public import proofs.«01_k».proof.Proof.Gen.KernelIdeal.Skeleton
public import proofs.«01_k».proof.Proof.SpecA
public import Idealize.ShloMosaic.Lib.Pipeline.ValueKit

@[expose] public section

set_option maxRecDepth 16384

noncomputable section

open Idealize.ShloMosaic Idealize.ShloMosaic.TcCoe Idealize.SL.Sem

namespace Cert.PayA

open Cert.KernelIdeal Cert.KernelIdeal.Gen

variable (ct e g z mm : FVec Ideal S256x1024 .f32) (wg wo : FVec Ideal S1024x1024 .bf16) (sc : FVec Ideal S1x1024 .f32)

/-- The stored embedding gradient. -/
theorem pay_de : k0_pay4 (F := Ideal) ct g = Spec.de (n := 256) ct g := by
  funext y
  pointwise [k0_pay4, k0_pay3, Spec.de]

/-- The stored gate gradient. -/
theorem pay_dgate : k0_pay5 (F := Ideal) ct e g = Spec.dgate (n := 256) ct e g := by
  funext y
  pointwise [k0_pay5, k0_pay3, Spec.dgate]

/-- The stored input gradient. -/
theorem pay_dx : k0_pay6 (F := Ideal) ct e g wg = Spec.dx (n := 256) ct e g wg := by
  funext y
  unfold k0_pay6
  rw [pay_dgate]
  pointwise [Spec.dx, Spec.nt]

/-- The output product's gradient, which the rest shares. -/
theorem pay_dy : k0_pay7 (F := Ideal) ct e g wg wo = Spec.dy (n := 256) ct e g wg wo := by
  funext y
  unfold k0_pay7
  rw [pay_dx]
  pointwise [Spec.dy, Spec.nt]

/-- The stored gradient of the mixed pools. -/
theorem pay_dm : k0_pay16 (F := Ideal) (k0_pay7 ct e g wg wo) (k0_pay10 z) sc = Spec.dm (n := 256) ct e g z sc wg wo := by
  funext y
  rw [pay_dy]
  pointwise [k0_pay16, k0_pay13, k0_pay10, k0_pay9, k0_pay8, Spec.dm, Spec.dmx]

/-- The stored gradient of the silu gate's argument. -/
theorem pay_dz : k0_pay14 (F := Ideal) (k0_pay7 ct e g wg wo) (k0_pay8 z) (k0_pay9 z) k0_pay11 mm sc
    = Spec.dzA (n := 256) ct e g z mm sc wg wo := by
  funext y
  rw [pay_dy]
  pointwise [k0_pay14, k0_pay12, k0_pay11, k0_pay9, k0_pay8, Spec.dzA, Spec.dsilu]

/-- The scale's gradient: the block's columns summed onto what is there. -/
theorem pay_dsc (acc : FVec Ideal S1x1024 .f32) (y : S1x1024.Idx) :
    k0_pay15 (F := Ideal) (k0_pay7 ct e g wg wo) (k0_pay10 z) mm acc y
      = acc y + Spec.dsc (n := 256) ct e g z mm wg wo (y 1 : Fin 1024) := by
  rw [pay_dy]
  obtain ⟨c, rfl⟩ : ∃ c : Fin 1024, y = ix2 0 c := ⟨y 1, by rw [eq_ix2 y]; congr 1; exact Subsingleton.elim (α := Fin 1) _ _⟩
  pointwise [k0_pay15, k0_pay13, k0_pay12, k0_pay10, k0_pay9, k0_pay8, Spec.dsc, Spec.dmx]

/-- The zero the scale's gradient starts from. -/
theorem pay_zero (y : S1x1024.Idx) : k0_pay1 (F := Ideal) y = 0 := by
  pointwise [k0_pay1]

/-- The zero the rows after the last are. -/
theorem pay_zeros (y : S16x1024.Idx) : k0_pay2 (F := Ideal) y = 0 := by
  pointwise [k0_pay2]

/-- The rows kept for the next step are copied as they are. -/
theorem pay_keep (x : FVec Ideal S16x1024 .f32) : k0_pay31 (F := Ideal) x = x := by
  funext y
  pointwise [k0_pay31]

section Groups

variable (d : FVec Ideal S256x1024 .bf16) (w : FVec Ideal S4x256x256 .bf16)

/-- The four groups' products: each the group's columns of the pools' gradient. -/
theorem pay_pool0 (i j : Fin 256) (x : FVec Ideal S256x256 .bf16) (v : FVec Ideal S1x256x256 .bf16)
    (hx : ∀ i k : Fin 256, x (ix2 i k) = d (ix2 i (Spec.col 0 k))) (hv : ∀ i k : Fin 256, v (ix3 0 i k) = w (ix3 0 i k)) :
    k0_pay19 (F := Ideal) (k0_pay18 x) v (ix2 i j) = Spec.dpool (n := 256) d w (ix2 i (Spec.col 0 j)) := by
  pointwise [k0_pay19, k0_pay18, Spec.dpool, hx, hv, Spec.grp_col, Spec.lane_col]

theorem pay_pool1 (i j : Fin 256) (x : FVec Ideal S256x256 .bf16) (v : FVec Ideal S1x256x256 .bf16)
    (hx : ∀ i k : Fin 256, x (ix2 i k) = d (ix2 i (Spec.col 1 k))) (hv : ∀ i k : Fin 256, v (ix3 0 i k) = w (ix3 1 i k)) :
    k0_pay22 (F := Ideal) x v (ix2 i j) = Spec.dpool (n := 256) d w (ix2 i (Spec.col 1 j)) := by
  pointwise [k0_pay22, Spec.dpool, hx, hv, Spec.grp_col, Spec.lane_col]

theorem pay_pool2 (i j : Fin 256) (x : FVec Ideal S256x256 .bf16) (v : FVec Ideal S1x256x256 .bf16)
    (hx : ∀ i k : Fin 256, x (ix2 i k) = d (ix2 i (Spec.col 2 k))) (hv : ∀ i k : Fin 256, v (ix3 0 i k) = w (ix3 2 i k)) :
    k0_pay25 (F := Ideal) x v (ix2 i j) = Spec.dpool (n := 256) d w (ix2 i (Spec.col 2 j)) := by
  pointwise [k0_pay25, Spec.dpool, hx, hv, Spec.grp_col, Spec.lane_col]

theorem pay_pool3 (i j : Fin 256) (x : FVec Ideal S256x256 .bf16) (v : FVec Ideal S1x256x256 .bf16)
    (hx : ∀ i k : Fin 256, x (ix2 i k) = d (ix2 i (Spec.col 3 k))) (hv : ∀ i k : Fin 256, v (ix3 0 i k) = w (ix3 3 i k)) :
    k0_pay28 (F := Ideal) x v (ix2 i j) = Spec.dpool (n := 256) d w (ix2 i (Spec.col 3 j)) := by
  pointwise [k0_pay28, Spec.dpool, hx, hv, Spec.grp_col, Spec.lane_col]

end Groups

/-- The number of frames a trailing mean is over, as grid point `t` counts it at row `i` of its block. -/
theorem count : ∀ (g : Fin 4) (t : Fin 8) (i : Fin 256),
    (IntOp.minsi (IntOp.addi (IntOp.addi (Scalar.muli (Scalar.subi 7#32 (BitVec.ofNat 32 t.val)) 256#32)
      (BitVec.ofNat 32 i.val)) 1#32) (BitVec.ofNat 32 (Spec.width g))).toInt
      = ((min ((7 - t.val) * 256 + i.val + 1) (Spec.width g) : ℕ) : ℤ) := by
  decide +kernel

/-- That number as an extended real. -/
theorem count_ideal (g : Fin 4) (t : Fin 8) (i : Fin 256) (s : BitVec 32) (hs : s = BitVec.ofNat 32 (Spec.width g)) :
    FloatOps.sitofp (F := Ideal) FTy.f32 (IntOp.minsi (IntOp.addi (IntOp.addi (Scalar.muli (Scalar.subi 7#32
      (BitVec.ofNat 32 t.val)) 256#32) (BitVec.ofNat 32 i.val)) 1#32) s) = Spec.cnt ((7 - t.val) * 256 + i.val) g := by
  subst hs
  unfold Spec.cnt
  change (((IntOp.minsi _ _ : BitVec 32).toInt : ℝ) : EReal) = _
  rw [count g t i]
  norm_cast

section Quotients

variable (t : Fin 8) (i j : Fin 256) (x : FVec Ideal S256x256 .bf16) (v : FVec Ideal S1x256x256 .bf16)

/-- The four groups' quotients: the group's product over the number of frames. -/
theorem pay_q0 : k0_pay20 (F := Ideal) (k0_pay17 (BitVec.ofNat 32 t.val)) x v (ix2 i j)
    = Ideal.div (k0_pay19 (F := Ideal) x v (ix2 i j)) (Spec.cnt ((7 - t.val) * 256 + i.val) 0) := by
  pointwise [k0_pay20, k0_pay17]
  rw [count_ideal 0 t i 2#32 rfl]

theorem pay_q1 : k0_pay23 (F := Ideal) (k0_pay17 (BitVec.ofNat 32 t.val)) x v (ix2 i j)
    = Ideal.div (k0_pay22 (F := Ideal) x v (ix2 i j)) (Spec.cnt ((7 - t.val) * 256 + i.val) 1) := by
  pointwise [k0_pay23, k0_pay17]
  rw [count_ideal 1 t i 4#32 rfl]

theorem pay_q2 : k0_pay26 (F := Ideal) (k0_pay17 (BitVec.ofNat 32 t.val)) x v (ix2 i j)
    = Ideal.div (k0_pay25 (F := Ideal) x v (ix2 i j)) (Spec.cnt ((7 - t.val) * 256 + i.val) 2) := by
  pointwise [k0_pay26, k0_pay17]
  rw [count_ideal 2 t i 8#32 rfl]

theorem pay_q3 : k0_pay29 (F := Ideal) (k0_pay17 (BitVec.ofNat 32 t.val)) x v (ix2 i j)
    = Ideal.div (k0_pay28 (F := Ideal) x v (ix2 i j)) (Spec.cnt ((7 - t.val) * 256 + i.val) 3) := by
  pointwise [k0_pay29, k0_pay17]
  rw [count_ideal 3 t i 16#32 rfl]

end Quotients

section Windows

variable (i j : Fin 256) (A : ℕ → EReal) (a : FVec Ideal S272x256 .f32) (ha : ∀ r : Fin 272, a (ix2 r j) = A r.val)
include ha

/-- The four groups' windows: sums of 2, 4, 8 and 16 rows by doubling, less the product. -/
theorem pay_u0 (x : FVec Ideal S256x256 .bf16) (v : FVec Ideal S1x256x256 .bf16) :
    k0_pay21 (F := Ideal) x v a (ix2 i j)
      = (∑ n ∈ Finset.range (Spec.width 0), A (i.val + n)) - k0_pay19 (F := Ideal) x v (ix2 i j) := by
  pointwise [k0_pay21, ha]
  change _ = (∑ n ∈ Finset.range 2, A (i.val + n)) - _
  simp (disch := omega) only [Nat.reduceSubDiff, Nat.mod_add_mod, Nat.add_assoc, Nat.reduceAdd, Nat.mod_eq_of_lt,
    Finset.sum_range_succ, Finset.sum_range_zero, zero_add, Nat.add_zero]

theorem pay_u1 (p : FVec Ideal S256x256 .f32) :
    k0_pay24 (F := Ideal) p a (ix2 i j) = (∑ n ∈ Finset.range (Spec.width 1), A (i.val + n)) - p (ix2 i j) := by
  pointwise [k0_pay24, ha]
  change _ = (∑ n ∈ Finset.range 4, A (i.val + n)) - _
  simp (disch := omega) only [Nat.reduceSubDiff, Nat.mod_add_mod, Nat.add_assoc, Nat.reduceAdd, Nat.mod_eq_of_lt,
    Finset.sum_range_succ, Finset.sum_range_zero, zero_add, Nat.add_zero, add_assoc]

theorem pay_u2 (x : FVec Ideal S256x256 .bf16) (v : FVec Ideal S1x256x256 .bf16) :
    k0_pay27 (F := Ideal) x v a (ix2 i j)
      = (∑ n ∈ Finset.range (Spec.width 2), A (i.val + n)) - k0_pay25 (F := Ideal) x v (ix2 i j) := by
  pointwise [k0_pay27, ha]
  change _ = (∑ n ∈ Finset.range 8, A (i.val + n)) - _
  simp (disch := omega) only [Nat.reduceSubDiff, Nat.mod_add_mod, Nat.add_assoc, Nat.reduceAdd, Nat.mod_eq_of_lt,
    Finset.sum_range_succ, Finset.sum_range_zero, zero_add, Nat.add_zero, add_assoc]

theorem pay_u3 (x : FVec Ideal S256x256 .bf16) (v : FVec Ideal S1x256x256 .bf16) :
    k0_pay30 (F := Ideal) x v a (ix2 i j)
      = (∑ n ∈ Finset.range (Spec.width 3), A (i.val + n)) - k0_pay28 (F := Ideal) x v (ix2 i j) := by
  pointwise [k0_pay30, ha]
  change _ = (∑ n ∈ Finset.range 16, A (i.val + n)) - _
  simp (disch := omega) only [Nat.reduceSubDiff, Nat.mod_add_mod, Nat.add_assoc, Nat.reduceAdd, Nat.mod_eq_of_lt,
    Finset.sum_range_succ, Finset.sum_range_zero, zero_add, Nat.add_zero, add_assoc]

end Windows

end Cert.PayA

end
-- ==== Proof.ValueA.lean ====
/- What the first layer's kernel leaves in its results of one block each, as the plain formulas of `Spec`. The kernel takes
   the blocks of rows from the last to the first. -/
module

public import proofs.«01_k».proof.Proof.Gen.KernelIdeal.Frame
public import proofs.«01_k».proof.Proof.PayA

@[expose] public section

set_option maxRecDepth 16384

noncomputable section

open Idealize.ShloMosaic Idealize.ShloMosaic.TcCoe Idealize.SL.Sem
open Idealize.ShloMosaic.Pipeline (Dat)

namespace Cert.ValueA

open Cert.KernelIdeal Cert.KernelIdeal.Gen Cert.PayA

variable (m : (ℓ : Loc nD τ sig) → Buf (Elt Ideal) ℓ)

/-- The blocks of rows run backwards; the weights and the scale are whole. -/
theorem idx : ∀ t : Fin cfg0.N, win0_0.index t = ![7 - t.val, 0] ∧ win0_1.index t = ![7 - t.val, 0] ∧ win0_2.index t = ![7 - t.val, 0]
    ∧ win0_3.index t = ![7 - t.val, 0] ∧ win0_4.index t = ![7 - t.val, 0] ∧ win0_5.index t = ![0, 0] ∧ win0_6.index t = ![0, 0]
    ∧ win0_7.index t = ![0, 0] ∧ win0_8.index t = ![0, 0, 0] ∧ win0_9.index t = ![7 - t.val, 0]
    ∧ win0_10.index t = ![7 - t.val, 0] ∧ win0_11.index t = ![7 - t.val, 0] ∧ win0_12.index t = ![7 - t.val, 0]
    ∧ win0_13.index t = ![7 - t.val, 0] ∧ win0_14.index t = ![0, 0] :=
  (by decide +kernel : ∀ t : Fin grid0.N, _)

/-- The weights as the kernel gets them: the casts keep every value. -/
theorem entry_wg (c : Dev nD) : V m c main_v75 = m ((c : Thread nD τ).loc main_arg6) := by
  entry_read
  rfl

theorem entry_wo (c : Dev nD) : V m c main_v76 = m ((c : Thread nD τ).loc main_arg5) := by
  entry_read
  rfl

theorem entry_w (c : Dev nD) : V m c main_v77 = m ((c : Thread nD τ).loc main_arg3) := by
  entry_read
  rfl

/-- The number of the block of rows grid point `t` works on. -/
def blk (t : Fin cfg0.N) : Fin 8 := ⟨7 - t.val, by omega⟩

/-- The grid point as a number below eight, and the coordinate the kernel reads. -/
def pt (t : Fin cfg0.N) : Fin 8 := ⟨t.val, t.isLt⟩

theorem coord : ∀ t : Fin cfg0.N, (grid0.coords t 0).val = (pt t).val :=
  (by decide +kernel : ∀ t : Fin grid0.N, _)

/-- The activations' input blocks are their arrays' blocks of rows. -/
theorem blk_ct (c : Dev nD) (t : Fin cfg0.N) : iblk m c 0 t = Spec.block (blk t) (m ((c : Thread nD τ).loc main_arg7)) := by
  funext y
  unfold Spec.block
  blk_ext [iblk, V, idx t, Spec.rowOf, blk]

theorem blk_e (c : Dev nD) (t : Fin cfg0.N) : iblk m c 1 t = Spec.block (blk t) (m ((c : Thread nD τ).loc main_arg2)) := by
  funext y
  unfold Spec.block
  blk_ext [iblk, V, idx t, Spec.rowOf, blk]

theorem blk_g (c : Dev nD) (t : Fin cfg0.N) : iblk m c 2 t = Spec.block (blk t) (V m c main_v74) := by
  funext y
  unfold Spec.block
  blk_ext [iblk, idx t, Spec.rowOf, blk]

theorem blk_z (c : Dev nD) (t : Fin cfg0.N) : iblk m c 3 t = Spec.block (blk t) (V m c main_v1) := by
  funext y
  unfold Spec.block
  blk_ext [iblk, idx t, Spec.rowOf, blk]

theorem blk_m (c : Dev nD) (t : Fin cfg0.N) : iblk m c 4 t = Spec.block (blk t) (V m c main_v61) := by
  funext y
  unfold Spec.block
  blk_ext [iblk, idx t, Spec.rowOf, blk]

/-- The blocks of the weights and of the scale are the whole arrays. -/
theorem blk_wg (c : Dev nD) (t : Fin cfg0.N) : iblk m c 5 t = (m ((c : Thread nD τ).loc main_arg6)) := by
  rw [← entry_wg m c]
  funext y
  blk_ext [iblk, idx t]

theorem blk_wo (c : Dev nD) (t : Fin cfg0.N) : iblk m c 6 t = (m ((c : Thread nD τ).loc main_arg5)) := by
  rw [← entry_wo m c]
  funext y
  blk_ext [iblk, idx t]

theorem blk_w (c : Dev nD) (t : Fin cfg0.N) : iblk m c 8 t = (m ((c : Thread nD τ).loc main_arg3)) := by
  rw [← entry_w m c]
  funext y
  blk_ext [iblk, idx t]

theorem blk_sc (c : Dev nD) (t : Fin cfg0.N) : iblk m c 7 t = (m ((c : Thread nD τ).loc main_arg4)) := by
  funext y
  blk_ext [iblk, V, idx t]

/-- The results' blocks lie at the grid point's rows. -/
theorem emb_de (t : Fin cfg0.N) (y : S256x1024.Idx) :
    (((cfg0.win 9).blk t).view.emb y : S2048x1024.Idx) = ix2 (Spec.rowOf (blk t) (y 0)) (y 1 : Fin 1024) := by
  blk_ext [idx t, Spec.rowOf, blk]

theorem emb_dgate (t : Fin cfg0.N) (y : S256x1024.Idx) :
    (((cfg0.win 10).blk t).view.emb y : S2048x1024.Idx) = ix2 (Spec.rowOf (blk t) (y 0)) (y 1 : Fin 1024) := by
  blk_ext [idx t, Spec.rowOf, blk]

theorem emb_dx (t : Fin cfg0.N) (y : S256x1024.Idx) :
    (((cfg0.win 11).blk t).view.emb y : S2048x1024.Idx) = ix2 (Spec.rowOf (blk t) (y 0)) (y 1 : Fin 1024) := by
  blk_ext [idx t, Spec.rowOf, blk]

theorem emb_dm (t : Fin cfg0.N) (y : S256x1024.Idx) :
    (((cfg0.win 12).blk t).view.emb y : S2048x1024.Idx) = ix2 (Spec.rowOf (blk t) (y 0)) (y 1 : Fin 1024) := by
  blk_ext [idx t, Spec.rowOf, blk]

/-- The embedding gradient a grid point leaves is its block of rows of the whole one. -/
theorem out_de (c : Dev nD) (t : Fin cfg0.N) : (outsAt0 m c t.val t.isLt).1
    = Spec.block (blk t) (Spec.de (n := 2048) (m ((c : Thread nD τ).loc main_arg7)) (V m c main_v74)) := by
  by_cases h : t.val % 8 = 0
  · rw [outsAt0_A m c t h]
    frame_out
    rw [pay_de, blk_ct, blk_g]
    rfl
  · rw [outsAt0_B m c t h]
    frame_out
    rw [pay_de, blk_ct, blk_g]
    rfl

/-- The embedding gradient after the run. -/
theorem final_de (c : Dev nD) : (dats m 0 c).arrAt 9 (cfgs 0).N
    = Spec.de (n := 2048) (m ((c : Thread nD τ).loc main_arg7)) (V m c main_v74) := by
  refine (dats m 0 c).arrAt_eq_of_covers 9 _ (by decide +kernel) fun t _ y => ?_
  blk_simp
  rw [after0_9, out_de, emb_de t y]
  rfl

/-- The gate gradient a grid point leaves is its block of rows of the whole one. -/
theorem out_dgate (c : Dev nD) (t : Fin cfg0.N) : (outsAt0 m c t.val t.isLt).2.1
    = Spec.block (blk t) (Spec.dgate (n := 2048) (m ((c : Thread nD τ).loc main_arg7)) (m ((c : Thread nD τ).loc main_arg2)) (V m c main_v74)) := by
  by_cases h : t.val % 8 = 0
  · rw [outsAt0_A m c t h]
    frame_out
    rw [pay_dgate, blk_ct, blk_e, blk_g]
    rfl
  · rw [outsAt0_B m c t h]
    frame_out
    rw [pay_dgate, blk_ct, blk_e, blk_g]
    rfl

/-- The gate gradient after the run. -/
theorem final_dgate (c : Dev nD) : (dats m 0 c).arrAt 10 (cfgs 0).N
    = Spec.dgate (n := 2048) (m ((c : Thread nD τ).loc main_arg7)) (m ((c : Thread nD τ).loc main_arg2)) (V m c main_v74) := by
  refine (dats m 0 c).arrAt_eq_of_covers 10 _ (by decide +kernel) fun t _ y => ?_
  blk_simp
  rw [after0_10, out_dgate, emb_dgate t y]
  rfl

/-- The input gradient a grid point leaves is its block of rows of the whole one. -/
theorem out_dx (c : Dev nD) (t : Fin cfg0.N) : (outsAt0 m c t.val t.isLt).2.2.1
    = Spec.block (blk t) (Spec.dx (n := 2048) (m ((c : Thread nD τ).loc main_arg7)) (m ((c : Thread nD τ).loc main_arg2)) (V m c main_v74) (m ((c : Thread nD τ).loc main_arg6))) := by
  by_cases h : t.val % 8 = 0
  · rw [outsAt0_A m c t h]
    frame_out
    rw [pay_dx, blk_ct, blk_e, blk_g, blk_wg]
    rfl
  · rw [outsAt0_B m c t h]
    frame_out
    rw [pay_dx, blk_ct, blk_e, blk_g, blk_wg]
    rfl

/-- The input gradient after the run. -/
theorem final_dx (c : Dev nD) : (dats m 0 c).arrAt 11 (cfgs 0).N
    = Spec.dx (n := 2048) (m ((c : Thread nD τ).loc main_arg7)) (m ((c : Thread nD τ).loc main_arg2)) (V m c main_v74) (m ((c : Thread nD τ).loc main_arg6)) := by
  refine (dats m 0 c).arrAt_eq_of_covers 11 _ (by decide +kernel) fun t _ y => ?_
  blk_simp
  rw [after0_11, out_dx, emb_dx t y]
  rfl

/-- The gradient of the mixed pools a grid point leaves is its block of rows of the whole one. -/
theorem out_dm (c : Dev nD) (t : Fin cfg0.N) : (outsAt0 m c t.val t.isLt).2.2.2.1
    = Spec.block (blk t) (Spec.dm (n := 2048) (m ((c : Thread nD τ).loc main_arg7)) (m ((c : Thread nD τ).loc main_arg2)) (V m c main_v74) (V m c main_v1)
      (m ((c : Thread nD τ).loc main_arg4)) (m ((c : Thread nD τ).loc main_arg6)) (m ((c : Thread nD τ).loc main_arg5))) := by
  by_cases h : t.val % 8 = 0
  · rw [outsAt0_A m c t h]
    frame_out
    rw [pay_dm, blk_ct, blk_e, blk_g, blk_z, blk_sc, blk_wg, blk_wo]
    rfl
  · rw [outsAt0_B m c t h]
    frame_out
    rw [pay_dm, blk_ct, blk_e, blk_g, blk_z, blk_sc, blk_wg, blk_wo]
    rfl

/-- The gradient of the mixed pools after the run. -/
theorem final_dm (c : Dev nD) : (dats m 0 c).arrAt 12 (cfgs 0).N
    = Spec.dm (n := 2048) (m ((c : Thread nD τ).loc main_arg7)) (m ((c : Thread nD τ).loc main_arg2)) (V m c main_v74) (V m c main_v1)
      (m ((c : Thread nD τ).loc main_arg4)) (m ((c : Thread nD τ).loc main_arg6)) (m ((c : Thread nD τ).loc main_arg5)) := by
  refine (dats m 0 c).arrAt_eq_of_covers 12 _ (by decide +kernel) fun t _ y => ?_
  blk_simp
  rw [after0_12, out_dm, emb_dm t y]
  rfl

end Cert.ValueA

end
-- ==== Proof.Stores.lean ====
/- Stores that are all blocks of one array, read back; and loads of part of a block. -/
module

public import proofs.«01_k».proof.Proof.Gen.KernelIdeal.Frame
public import proofs.«01_k».proof.Proof.PayA
public import Idealize.ShloMosaic.Lib.Pipeline.ReadBack

@[expose] public section

set_option maxRecDepth 16384

noncomputable section

open Idealize.ShloMosaic Idealize.ShloMosaic.TcCoe Idealize.SL.Sem

namespace Cert.Stores

/-- Stores over earlier contents, read at an index: where every store is a block of `G`, and either some store covers the
    index or the earlier contents are `G` there, the contents are `G` there. -/
theorem read_writes {sig : RefSig} {κ : Kind} {sp : Space} {s : Shape} {e : EltTy} {Val : EltTy → Type}
    (v : View sig κ sp s e) (f : v.ty.Contents Val) (G : s.Idx → Val e) (y : s.Idx) :
    ∀ L : List (View.Piece Val s e), View.PiecesOf G L → (v.read Val f y = G y ∨ ∃ p ∈ L, y ∈ p.1.set) →
      v.read Val (v.writes Val f L) y = G y
  | [], _, h => by
    rcases h with h | ⟨p, hp, _⟩
    · exact h
    · exact absurd hp List.not_mem_nil
  | p :: L, hL, h => by
    by_cases hm : y ∈ p.1.set
    · obtain ⟨r, w⟩ := p
      obtain ⟨x, rfl⟩ : ∃ x, r.emb x = y := r.exists_idx_of_mem hm
      rw [View.read_writes_cons_emb]
      exact hL.1 x
    · have hm' : y ∉ Finset.univ.map p.1.emb := by rwa [Rect.map_emb_univ]
      rw [View.writes_cons, View.read_slice_write_of_not_mem p.1 _ _ _ hm']
      refine read_writes v f G y L hL.2 (h.imp_right ?_)
      rintro ⟨q, hq, hy⟩
      rcases List.mem_cons.mp hq with rfl | hq
      · exact absurd hy hm
      · exact ⟨q, hq, hy⟩

/-- Stores that are all blocks of `G`, read at an index one of them covers. -/
theorem canon_of {s : Shape} {e : EltTy} {Val : EltTy → Type} [∀ e, Nonempty (Val e)] (G : s.Idx → Val e)
    (L : List (View.Piece Val s e)) (hL : View.PiecesOf G L) (y : s.Idx) (h : ∃ p ∈ L, y ∈ p.1.set) :
    View.canon L y = G y :=
  View.canon_apply_of_pieces G L (fun _ hp x => hL.mem _ hp x) y h

end Cert.Stores

end
-- ==== Proof.WindowA.lean ====
/- What the first layer's kernel keeps from one block of rows to the next: the quotients of the pools' gradient by the number
   of frames, of the block itself and of the sixteen rows after it. -/
module

public import proofs.«01_k».proof.Proof.ValueA
public import proofs.«01_k».proof.Proof.Stores

@[expose] public section

set_option maxRecDepth 16384

noncomputable section

open Idealize.ShloMosaic Idealize.ShloMosaic.TcCoe Idealize.SL.Sem
open Idealize.ShloMosaic.Pipeline (Dat)

namespace Cert.WindowA

open Cert.KernelIdeal Cert.KernelIdeal.Gen Cert.PayA Cert.ValueA

variable (m : (ℓ : Loc nD τ sig) → Buf (Elt Ideal) ℓ)

/-- The gradient of the mixed pools, the whole array. -/
def D (c : Dev nD) : Spec.Act 2048 := Spec.dm (n := 2048) (m ((c : Thread nD τ).loc main_arg7)) (m ((c : Thread nD τ).loc main_arg2)) (V m c main_v74)
  (V m c main_v1) (m ((c : Thread nD τ).loc main_arg4)) (m ((c : Thread nD τ).loc main_arg6)) (m ((c : Thread nD τ).loc main_arg5))

/-- The groups' weights. -/
def W (c : Dev nD) : Spec.Wg := m ((c : Thread nD τ).loc main_arg3)

/-- The quotients of the pools' gradient by the number of frames, continued by zeros. -/
def Q (c : Dev nD) (r : ℕ) (k : Fin 1024) : EReal := Spec.ext (Spec.q (D m c) (W m c)) r k

/-- The block of the mixed pools' gradient the kernel stores and reads back. -/
theorem stored (c : Dev nD) (t : Fin cfg0.N) :
    k0_pay16 (F := Ideal) (k0_pay7 (iblk m c 0 t) (iblk m c 1 t) (iblk m c 2 t) (iblk m c 5 t) (iblk m c 6 t)) (k0_pay10 (iblk m c 3 t)) (iblk m c 7 t)
      = Spec.block (blk t) (D m c) := by
  rw [pay_dm, blk_ct, blk_e, blk_g, blk_z, blk_sc, blk_wg, blk_wo]
  rfl

/-- The groups' weights as the kernel gets them. -/
theorem weights (c : Dev nD) (t : Fin cfg0.N) : iblk m c 8 t = W m c := blk_w m c t

/-- A group's columns of the block read back. -/
theorem cols {κ : Kind} {sp : Space} (v : View sig κ sp S256x1024 .bf16) (g : Fin 4) (o : ℕ) (ho : o = g.val * 256) (X : Spec.Act 256)
    (inb : ∀ a, (![0, 0] : Fin 2 → ℕ) a + (![256, 1024] : Fin 2 → ℕ) a ≤ S256x1024.size a)
    (inb' : ∀ a, (![0, o] : Fin 2 → ℕ) a + (![256, 256] : Fin 2 → ℕ) a ≤ S256x1024.size a) (i k : Fin 256) :
    v.readCov (Val := Elt Ideal) [⟨Rect.unit (s := S256x1024) ![0, 0] ![256, 1024] inb, X⟩]
      (Rect.unit (s := S256x1024) ![0, o] ![256, 256] inb').toLoadRect (ix2 i k)
      = X (ix2 i (Spec.col g k)) := by
  subst ho
  rw [View.readCov_eq_canon']
  refine (congrFun (View.canon_cons_unit_lit (Val := Elt Ideal) (S := S256x1024) (e := .bf16) inb X [] fun a => by fin_cases a <;> rfl) _).trans ?_
  refine congrArg X (funext fun a => Fin.ext ?_)
  fin_cases a
  · show 0 + 1 * i.val = i.val
    omega
  · show g.val * 256 + 1 * k.val = g.val * 256 + k.val
    omega

/-- A group's weight read out of the four. -/
theorem weight (g : Fin 4) (o : ℕ) (ho : o = g.val) (X : Spec.Wg)
    (inb : ∀ a, (![o, 0, 0] : Fin 3 → ℕ) a + (![1, 256, 256] : Fin 3 → ℕ) a ≤ S4x256x256.size a) (i k : Fin 256) :
    View.ld (Val := Elt Ideal) (e' := .bf16) X (Rect.unit (s := S4x256x256) ![o, 0, 0] ![1, 256, 256] inb) (ix3 0 i k) = X (ix3 g i k) := by
  subst ho
  refine congrArg X (funext fun a => Fin.ext ?_)
  fin_cases a
  · show g.val + 1 * 0 = g.val
    omega
  · show 0 + 1 * i.val = i.val
    omega
  · show 0 + 1 * k.val = k.val
    omega

/-- The product of a block's row is the product of the whole array's row. -/
theorem dpool_block (c : Dev nD) (b : Fin 8) (i : Fin 256) (k : Fin 1024) :
    Spec.dpool (n := 256) (Spec.block b (D m c)) (W m c) (ix2 i k) = Spec.dpool (n := 2048) (D m c) (W m c) (ix2 (Spec.rowOf b i) k) := rfl

/-- A quotient of a block's row, as an entry of the whole array of quotients. -/
theorem quot (c : Dev nD) (t : Fin cfg0.N) (g : Fin 4) (i j : Fin 256) :
    Ideal.div (Spec.dpool (n := 256) (Spec.block (blk t) (D m c)) (W m c) (ix2 i (Spec.col g j))) (Spec.cnt ((7 - (pt t).val) * 256 + i.val) g)
      = Q m c ((7 - t.val) * 256 + i.val) (Spec.col g j) := by
  have h : (7 - t.val) * 256 + i.val < 2048 := by omega
  rw [dpool_block]
  unfold Q Spec.ext
  rw [dif_pos h]
  unfold Spec.q
  show _ = Ideal.div _ (Spec.cnt _ (Spec.grp (Spec.col g j)))
  rw [Spec.grp_col]
  rfl

section Tiles

variable (c : Dev nD) (t : Fin cfg0.N) (i j : Fin 256) (x : FVec Ideal S256x256 .bf16) (v : FVec Ideal S1x256x256 .bf16)

/-- The four stored tiles of quotients. -/
theorem tile0 (hx : ∀ i k : Fin 256, x (ix2 i k) = Spec.block (blk t) (D m c) (ix2 i (Spec.col 0 k)))
    (hv : ∀ i k : Fin 256, v (ix3 0 i k) = W m c (ix3 0 i k)) :
    k0_pay20 (F := Ideal) (k0_pay17 (BitVec.ofNat 32 (grid0.coords t 0).val)) (k0_pay18 x) v (ix2 i j)
      = Q m c ((7 - t.val) * 256 + i.val) (Spec.col 0 j) := by
  rw [coord t, pay_q0 (pt t) i j, pay_pool0 _ _ i j x v hx hv, quot]

theorem tile1 (hx : ∀ i k : Fin 256, x (ix2 i k) = Spec.block (blk t) (D m c) (ix2 i (Spec.col 1 k)))
    (hv : ∀ i k : Fin 256, v (ix3 0 i k) = W m c (ix3 1 i k)) :
    k0_pay23 (F := Ideal) (k0_pay17 (BitVec.ofNat 32 (grid0.coords t 0).val)) x v (ix2 i j)
      = Q m c ((7 - t.val) * 256 + i.val) (Spec.col 1 j) := by
  rw [coord t, pay_q1 (pt t) i j, pay_pool1 _ _ i j x v hx hv, quot]

theorem tile2 (hx : ∀ i k : Fin 256, x (ix2 i k) = Spec.block (blk t) (D m c) (ix2 i (Spec.col 2 k)))
    (hv : ∀ i k : Fin 256, v (ix3 0 i k) = W m c (ix3 2 i k)) :
    k0_pay26 (F := Ideal) (k0_pay17 (BitVec.ofNat 32 (grid0.coords t 0).val)) x v (ix2 i j)
      = Q m c ((7 - t.val) * 256 + i.val) (Spec.col 2 j) := by
  rw [coord t, pay_q2 (pt t) i j, pay_pool2 _ _ i j x v hx hv, quot]

theorem tile3 (hx : ∀ i k : Fin 256, x (ix2 i k) = Spec.block (blk t) (D m c) (ix2 i (Spec.col 3 k)))
    (hv : ∀ i k : Fin 256, v (ix3 0 i k) = W m c (ix3 3 i k)) :
    k0_pay29 (F := Ideal) (k0_pay17 (BitVec.ofNat 32 (grid0.coords t 0).val)) x v (ix2 i j)
      = Q m c ((7 - t.val) * 256 + i.val) (Spec.col 3 j) := by
  rw [coord t, pay_q3 (pt t) i j, pay_pool3 _ _ i j x v hx hv, quot]

end Tiles

/-- The tile of quotients of group `g` in step `t`. -/
def T (c : Dev nD) (t : Fin cfg0.N) (g : Fin 4) : S256x256.Idx → Elt Ideal .f32 :=
  fun x => Q m c ((7 - t.val) * 256 + (x 0 : Fin 256).val) (Spec.col g (x 1 : Fin 256))

/-- Every index of a tile's shape is a row and a column. -/
theorem pair (x : S256x256.Idx) : ∃ i j : Fin 256, x = ix2 i j := ⟨x 0, x 1, eq_ix2 _⟩

section Stored

variable {κ : Kind} {sp : Space} (v : View sig κ sp S256x1024 .bf16) (c : Dev nD) (t : Fin cfg0.N)

/-- The stored tiles, each read through the loads it is made of. -/
theorem stored0 : k0_pay20 (F := Ideal) (k0_pay17 (BitVec.ofNat 32 (grid0.coords t 0).val))
      (k0_pay18 (v.readCov (Val := Elt Ideal) [⟨Rect.unit (s := S256x1024) ![0, 0] ![256, 1024] inb_S256x1024_S256x1024_0_0, Spec.block (blk t) (D m c)⟩]
        (Rect.unit (s := S256x1024) ![0, 0] ![256, 256] inb_S256x1024_S256x256_0_0).toLoadRect))
      (View.ld (Val := Elt Ideal) (e' := .bf16) (W m c) (Rect.unit (s := S4x256x256) ![0, 0, 0] ![1, 256, 256] inb_S4x256x256_S1x256x256_0_0_0)) = T m c t 0 := by
  funext x
  obtain ⟨i, j, rfl⟩ := pair x
  exact tile0 m c t i j _ _ (fun i k => cols v 0 _ rfl _ _ _ i k) fun i k => weight 0 _ rfl _ _ i k

theorem stored1 : k0_pay23 (F := Ideal) (k0_pay17 (BitVec.ofNat 32 (grid0.coords t 0).val))
      (v.readCov (Val := Elt Ideal) [⟨Rect.unit (s := S256x1024) ![0, 0] ![256, 1024] inb_S256x1024_S256x1024_0_0, Spec.block (blk t) (D m c)⟩]
        (Rect.unit (s := S256x1024) ![0, 256] ![256, 256] inb_S256x1024_S256x256_0_256).toLoadRect)
      (View.ld (Val := Elt Ideal) (e' := .bf16) (W m c) (Rect.unit (s := S4x256x256) ![1, 0, 0] ![1, 256, 256] inb_S4x256x256_S1x256x256_1_0_0)) = T m c t 1 := by
  funext x
  obtain ⟨i, j, rfl⟩ := pair x
  exact tile1 m c t i j _ _ (fun i k => cols v 1 _ rfl _ _ _ i k) fun i k => weight 1 _ rfl _ _ i k

theorem stored2 : k0_pay26 (F := Ideal) (k0_pay17 (BitVec.ofNat 32 (grid0.coords t 0).val))
      (v.readCov (Val := Elt Ideal) [⟨Rect.unit (s := S256x1024) ![0, 0] ![256, 1024] inb_S256x1024_S256x1024_0_0, Spec.block (blk t) (D m c)⟩]
        (Rect.unit (s := S256x1024) ![0, 512] ![256, 256] inb_S256x1024_S256x256_0_512).toLoadRect)
      (View.ld (Val := Elt Ideal) (e' := .bf16) (W m c) (Rect.unit (s := S4x256x256) ![2, 0, 0] ![1, 256, 256] inb_S4x256x256_S1x256x256_2_0_0)) = T m c t 2 := by
  funext x
  obtain ⟨i, j, rfl⟩ := pair x
  exact tile2 m c t i j _ _ (fun i k => cols v 2 _ rfl _ _ _ i k) fun i k => weight 2 _ rfl _ _ i k

theorem stored3 : k0_pay29 (F := Ideal) (k0_pay17 (BitVec.ofNat 32 (grid0.coords t 0).val))
      (v.readCov (Val := Elt Ideal) [⟨Rect.unit (s := S256x1024) ![0, 0] ![256, 1024] inb_S256x1024_S256x1024_0_0, Spec.block (blk t) (D m c)⟩]
        (Rect.unit (s := S256x1024) ![0, 768] ![256, 256] inb_S256x1024_S256x256_0_768).toLoadRect)
      (View.ld (Val := Elt Ideal) (e' := .bf16) (W m c) (Rect.unit (s := S4x256x256) ![3, 0, 0] ![1, 256, 256] inb_S4x256x256_S1x256x256_3_0_0)) = T m c t 3 := by
  funext x
  obtain ⟨i, j, rfl⟩ := pair x
  exact tile3 m c t i j _ _ (fun i k => cols v 3 _ rfl _ _ _ i k) fun i k => weight 3 _ rfl _ _ i k

end Stored

/-- The rows the scratch stands for in step `t`, row by row: the block's own, then the rows after it. -/
def G (c : Dev nD) (t : Fin cfg0.N) : S272x1024.Idx → Elt Ideal .f32 := fun y => Q m c ((7 - t.val) * 256 + (y 0 : Fin 272).val) (y 1 : Fin 1024)

/-- What the scratch holds when step `t` is over: the block's rows, and its first sixteen once more. -/
def K (c : Dev nD) (t : Fin cfg0.N) : S272x1024.Idx → Elt Ideal .f32 :=
  fun y => Q m c ((7 - t.val) * 256 + if (y 0 : Fin 272).val < 256 then (y 0 : Fin 272).val else (y 0 : Fin 272).val - 256) (y 1 : Fin 1024)

/-- The place of a tile's entry in the scratch. -/
theorem place (g : Fin 4) (o : ℕ) (ho : o = g.val * 256)
    (inb : ∀ a, (![0, o] : Fin 2 → ℕ) a + (![256, 256] : Fin 2 → ℕ) a ≤ S272x1024.size a) (i j : Fin 256) :
    (Rect.unit (s := S272x1024) ![0, o] ![256, 256] inb).emb (ix2 i j) = (ix2 (⟨i.val, by omega⟩ : Fin 272) (Spec.col g j) : S272x1024.Idx) := by
  subst ho
  refine funext fun a => Fin.ext ?_
  fin_cases a
  · show 0 + 1 * i.val = i.val
    omega
  · show g.val * 256 + 1 * j.val = g.val * 256 + j.val
    omega

/-- A tile is a block of either array. -/
theorem tile_G (c : Dev nD) (t : Fin cfg0.N) (g : Fin 4) (o : ℕ) (ho : o = g.val * 256)
    (inb : ∀ a, (![0, o] : Fin 2 → ℕ) a + (![256, 256] : Fin 2 → ℕ) a ≤ S272x1024.size a) (x : S256x256.Idx) :
    T m c t g x = G m c t ((Rect.unit (s := S272x1024) ![0, o] ![256, 256] inb).emb x) := by
  obtain ⟨i, j, rfl⟩ := pair x
  rw [place g o ho inb i j]
  rfl

theorem tile_K (c : Dev nD) (t : Fin cfg0.N) (g : Fin 4) (o : ℕ) (ho : o = g.val * 256)
    (inb : ∀ a, (![0, o] : Fin 2 → ℕ) a + (![256, 256] : Fin 2 → ℕ) a ≤ S272x1024.size a) (x : S256x256.Idx) :
    T m c t g x = K m c t ((Rect.unit (s := S272x1024) ![0, o] ![256, 256] inb).emb x) := by
  obtain ⟨i, j, rfl⟩ := pair x
  rw [place g o ho inb i j]
  show _ = Q m c ((7 - t.val) * 256 + if i.val < 256 then i.val else i.val - 256) (Spec.col g j)
  rw [if_pos i.isLt]
  rfl

/-- The first rows of the scratch, a column in group `g`, lie in the group's tile. -/
theorem in_tile (g : Fin 4) (o : ℕ) (ho : o = g.val * 256)
    (inb : ∀ a, (![0, o] : Fin 2 → ℕ) a + (![256, 256] : Fin 2 → ℕ) a ≤ S272x1024.size a) (y : S272x1024.Idx)
    (h : (y 0 : Fin 272).val < 256) (hg : Spec.grp (y 1) = g) : y ∈ (Rect.unit (s := S272x1024) ![0, o] ![256, 256] inb).set := by
  have e : (y 1 : Fin 1024).val / 256 = g.val := congrArg Fin.val hg
  refine Rect.mem_set_unit.mpr fun a => ?_
  fin_cases a
  · exact ⟨Nat.zero_le _, by show (y 0 : Fin 272).val < 0 + 256; omega⟩
  · exact ⟨by show o ≤ (y 1 : Fin 1024).val; omega, by show (y 1 : Fin 1024).val < o + 256; omega⟩

/-- The last sixteen rows lie in the rows kept apart. -/
theorem in_tail (inb : ∀ a, (![256, 0] : Fin 2 → ℕ) a + (![16, 1024] : Fin 2 → ℕ) a ≤ S272x1024.size a) (y : S272x1024.Idx)
    (h : ¬ (y 0 : Fin 272).val < 256) : y ∈ (Rect.unit (s := S272x1024) ![256, 0] ![16, 1024] inb).set := by
  have h0 : (y 0 : Fin 272).val < 272 := (y 0 : Fin 272).isLt
  have h1 : (y 1 : Fin 1024).val < 1024 := (y 1 : Fin 1024).isLt
  refine Rect.mem_set_unit.mpr fun a => ?_
  fin_cases a
  · exact ⟨by show 256 ≤ (y 0 : Fin 272).val; omega, by show (y 0 : Fin 272).val < 256 + 16; omega⟩
  · exact ⟨Nat.zero_le _, by show (y 1 : Fin 1024).val < 0 + 1024; omega⟩

/-- The zeros stored before the first step are the rows after the array's last. -/
theorem zeros (c : Dev nD) (t : Fin cfg0.N) (h : t.val % 8 = 0)
    (inb : ∀ a, (![256, 0] : Fin 2 → ℕ) a + (![16, 1024] : Fin 2 → ℕ) a ≤ S272x1024.size a) (x : S16x1024.Idx) :
    k0_pay2 (F := Ideal) x = G m c t ((Rect.unit (s := S272x1024) ![256, 0] ![16, 1024] inb).emb x) := by
  have ht : t.val < 8 := t.isLt
  rw [pay_zeros]
  unfold G Q Spec.ext
  rw [dif_neg]
  show ¬ (7 - t.val) * 256 + (256 + 1 * (x 0 : Fin 16).val) < 2048
  omega

/-- The first sixteen rows of the one array are the last sixteen of the other. -/
theorem shift (c : Dev nD) (t : Fin cfg0.N) (inb : ∀ a, (![256, 0] : Fin 2 → ℕ) a + (![16, 1024] : Fin 2 → ℕ) a ≤ S272x1024.size a)
    (inb' : ∀ a, (![0, 0] : Fin 2 → ℕ) a + (![16, 1024] : Fin 2 → ℕ) a ≤ S272x1024.size a) (x : S16x1024.Idx) :
    G m c t ((Rect.unit (s := S272x1024) ![0, 0] ![16, 1024] inb').toLoadRect.idx x)
      = K m c t ((Rect.unit (s := S272x1024) ![256, 0] ![16, 1024] inb).emb x) := by
  have hx : (x 0 : Fin 16).val < 16 := (x 0 : Fin 16).isLt
  unfold G K
  refine congrArg₂ (Q m c) ?_ ?_
  · show (7 - t.val) * 256 + (0 + 1 * (x 0 : Fin 16).val)
      = (7 - t.val) * 256 + if 256 + 1 * (x 0 : Fin 16).val < 256 then 256 + 1 * (x 0 : Fin 16).val else 256 + 1 * (x 0 : Fin 16).val - 256
    rw [if_neg (by omega)]
    omega
  · rfl

/-- Every column lies in one of the four groups. -/
theorem four (g : Fin 4) : g = 3 ∨ g = 2 ∨ g = 1 ∨ g = 0 := by revert g; decide

/-- A row of the first 256 lies in one of the four tiles. -/
theorem covered (P3 P2 P1 P0 : S256x256.Idx → Elt Ideal .f32) (L : List (View.Piece (Elt Ideal) S272x1024 .f32)) (y : S272x1024.Idx)
    (h : (y 0 : Fin 272).val < 256) :
    ∃ p ∈ (⟨Rect.unit (s := S272x1024) ![0, 768] ![256, 256] inb_S272x1024_S256x256_0_768, P3⟩ : View.Piece (Elt Ideal) S272x1024 .f32)
      :: ⟨Rect.unit (s := S272x1024) ![0, 512] ![256, 256] inb_S272x1024_S256x256_0_512, P2⟩
      :: ⟨Rect.unit (s := S272x1024) ![0, 256] ![256, 256] inb_S272x1024_S256x256_0_256, P1⟩
      :: ⟨Rect.unit (s := S272x1024) ![0, 0] ![256, 256] inb_S272x1024_S256x256_0_0, P0⟩ :: L, y ∈ p.1.set := by
  rcases four (Spec.grp (y 1)) with hg | hg | hg | hg
  · exact ⟨_, .head _, in_tile 3 768 rfl inb_S272x1024_S256x256_0_768 y h hg⟩
  · exact ⟨_, .tail _ (.head _), in_tile 2 512 rfl inb_S272x1024_S256x256_0_512 y h hg⟩
  · exact ⟨_, .tail _ (.tail _ (.head _)), in_tile 1 256 rfl inb_S272x1024_S256x256_0_256 y h hg⟩
  · exact ⟨_, .tail _ (.tail _ (.tail _ (.head _))), in_tile 0 0 rfl inb_S272x1024_S256x256_0_0 y h hg⟩

/-- The rows read back from the top of the scratch lie in the tiles. -/
theorem top_row (inb' : ∀ a, (![0, 0] : Fin 2 → ℕ) a + (![16, 1024] : Fin 2 → ℕ) a ≤ S272x1024.size a) (x : S16x1024.Idx) :
    (((Rect.unit (s := S272x1024) ![0, 0] ![16, 1024] inb').toLoadRect.idx x : S272x1024.Idx) 0 : Fin 272).val < 256 := by
  have hx : (x 0 : Fin 16).val < 16 := (x 0 : Fin 16).isLt
  show 0 + 1 * (x 0 : Fin 16).val < 256
  omega

/-- What the scratch holds after the first step: the block's rows, and its first sixteen once more. -/
theorem kept_first (c : Dev nD) (t : Fin cfg0.N) (h : t.val % 8 = 0) : (outsAt0 m c t.val t.isLt).2.2.2.2.2.2 = K m c t := by
  rw [outsAt0_A m c t h]
  frame_out
  rw [stored, weights, pay_keep]
  rw [stored3 m _ c t, stored2 m _ c t, stored1 m _ c t, stored0 m _ c t]
  funext y
  refine View.canon_append_of_piecesOf (Val := Elt Ideal) (e := .f32) (K m c t) [_] [_, _, _, _, _] ?_ y ?_
  · refine ⟨fun x => ?_, tile_K m c t 3 768 rfl inb_S272x1024_S256x256_0_768, tile_K m c t 2 512 rfl inb_S272x1024_S256x256_0_512, tile_K m c t 1 256 rfl inb_S272x1024_S256x256_0_256, tile_K m c t 0 0 rfl inb_S272x1024_S256x256_0_0, trivial⟩
    rw [View.readCov_eq_canon']
    refine (Stores.canon_of (Val := Elt Ideal) (e := .f32) (G m c t) _ ?_ _ ?_).trans
      (shift m c t inb_S272x1024_S16x1024_256_0 inb_S272x1024_S16x1024_0_0 x)
    · exact ⟨tile_G m c t 3 768 rfl inb_S272x1024_S256x256_0_768, tile_G m c t 2 512 rfl inb_S272x1024_S256x256_0_512, tile_G m c t 1 256 rfl inb_S272x1024_S256x256_0_256, tile_G m c t 0 0 rfl inb_S272x1024_S256x256_0_0, zeros m c t h inb_S272x1024_S16x1024_256_0, trivial⟩
    · exact covered _ _ _ _ _ _ (top_row inb_S272x1024_S16x1024_0_0 x)
  · by_cases hy : (y 0 : Fin 272).val < 256
    · obtain ⟨p, hp, hm⟩ := covered _ _ _ _ [] y hy
      exact ⟨p, .tail _ hp, hm⟩
    · exact ⟨_, .head _, in_tail inb_S272x1024_S16x1024_256_0 y hy⟩

/-- What the scratch holds after a later step: likewise. -/
theorem kept_later (c : Dev nD) (t : Fin cfg0.N) (h : ¬ t.val % 8 = 0) : (outsAt0 m c t.val t.isLt).2.2.2.2.2.2 = K m c t := by
  rw [outsAt0_B m c t h]
  frame_out
  rw [stored, weights, pay_keep]
  rw [stored3 m _ c t, stored2 m _ c t, stored1 m _ c t, stored0 m _ c t]
  funext y
  refine Stores.canon_of (Val := Elt Ideal) (e := .f32) (K m c t) _ ?_ y ?_
  · refine ⟨fun x => ?_, tile_K m c t 3 768 rfl inb_S272x1024_S256x256_0_768, tile_K m c t 2 512 rfl inb_S272x1024_S256x256_0_512, tile_K m c t 1 256 rfl inb_S272x1024_S256x256_0_256, tile_K m c t 0 0 rfl inb_S272x1024_S256x256_0_0, trivial⟩
    rw [View.readCov_eq_canon']
    refine (Stores.canon_of (Val := Elt Ideal) (e := .f32) (G m c t) _ ?_ _ ?_).trans
      (shift m c t inb_S272x1024_S16x1024_256_0 inb_S272x1024_S16x1024_0_0 x)
    · exact ⟨tile_G m c t 3 768 rfl inb_S272x1024_S256x256_0_768, tile_G m c t 2 512 rfl inb_S272x1024_S256x256_0_512, tile_G m c t 1 256 rfl inb_S272x1024_S256x256_0_256, tile_G m c t 0 0 rfl inb_S272x1024_S256x256_0_0, trivial⟩
    · exact covered _ _ _ _ _ _ (top_row inb_S272x1024_S16x1024_0_0 x)
  · by_cases hy : (y 0 : Fin 272).val < 256
    · obtain ⟨p, hp, hm⟩ := covered _ _ _ _ [] y hy
      exact ⟨p, .tail _ hp, hm⟩
    · exact ⟨_, .head _, in_tail inb_S272x1024_S16x1024_256_0 y hy⟩

/-- What the scratch holds after a step. -/
theorem kept (c : Dev nD) (t : Fin cfg0.N) : (outsAt0 m c t.val t.isLt).2.2.2.2.2.2 = K m c t := by
  by_cases h : t.val % 8 = 0
  · exact kept_first m c t h
  · exact kept_later m c t h

end Cert.WindowA

end
-- ==== Proof.WindowU.lean ====
/- What the first layer's kernel leaves of the gradients of the mixer's input and of the silu gate's argument, side by side. -/
module

public import proofs.«01_k».proof.Proof.WindowA

@[expose] public section

set_option maxRecDepth 16384

noncomputable section

open Idealize.ShloMosaic Idealize.ShloMosaic.TcCoe Idealize.SL.Sem
open Idealize.ShloMosaic.Pipeline (Dat)

namespace Cert.WindowU

open Cert.KernelIdeal Cert.KernelIdeal.Gen Cert.PayA Cert.ValueA Cert.WindowA

variable (m : (ℓ : Loc nD τ sig) → Buf (Elt Ideal) ℓ)

/-- The gradient of the silu gate's argument, the whole array. -/
def Z (c : Dev nD) : Spec.Act 2048 := Spec.dzA (n := 2048) (m ((c : Thread nD τ).loc main_arg7)) (m ((c : Thread nD τ).loc main_arg2)) (V m c main_v74)
  (V m c main_v1) (V m c main_v61) (m ((c : Thread nD τ).loc main_arg4)) (m ((c : Thread nD τ).loc main_arg6)) (m ((c : Thread nD τ).loc main_arg5))

/-- The two gradients side by side. -/
def U (c : Dev nD) : S2048x2048.Idx → Elt Ideal .bf16 := Spec.beside (Spec.du (D m c) (W m c)) (Z m c)

/-- The stored block of the silu gate's gradient. -/
theorem stored_z (c : Dev nD) (t : Fin cfg0.N) :
    k0_pay14 (F := Ideal) (k0_pay7 (iblk m c 0 t) (iblk m c 1 t) (iblk m c 2 t) (iblk m c 5 t) (iblk m c 6 t)) (k0_pay8 (iblk m c 3 t)) (k0_pay9 (iblk m c 3 t))
      k0_pay11 (iblk m c 4 t) (iblk m c 7 t) = Spec.block (blk t) (Z m c) := by
  rw [pay_dz, blk_ct, blk_e, blk_g, blk_z, blk_m, blk_sc, blk_wg, blk_wo]
  rfl

/-- It is the right half of the block. -/
theorem right (c : Dev nD) (t : Fin cfg0.N) (x : S256x1024.Idx) :
    Spec.block (blk t) (Z m c) x
      = Spec.block (blk t) (U m c) ((Rect.unit (s := S256x2048) ![0, 1024] ![256, 1024] inb_S256x2048_S256x1024_0_1024).emb x) := by
  obtain ⟨i, k, rfl⟩ : ∃ (i : Fin 256) (k : Fin 1024), x = ix2 i k := ⟨x 0, x 1, eq_ix2 _⟩
  have e : (Rect.unit (s := S256x2048) ![0, 1024] ![256, 1024] inb_S256x2048_S256x1024_0_1024).emb (ix2 i k)
      = (ix2 i ⟨1024 + k.val, by omega⟩ : S256x2048.Idx) := by
    refine funext fun a => Fin.ext ?_
    fin_cases a
    · show 0 + 1 * i.val = i.val
      omega
    · show 1024 + 1 * k.val = 1024 + k.val
      omega
  rw [e]
  unfold Spec.block U Spec.beside
  rw [dif_neg (by show ¬ (1024 + k.val < 1024); omega)]
  refine congrArg (Z m c) (congrArg₂ ix2 rfl (Fin.ext ?_))
  show k.val = 1024 + k.val - 1024
  omega

/-- A tile of the left half: the windows' sums less the product. -/
theorem left (c : Dev nD) (t : Fin cfg0.N) (g : Fin 4) (o : ℕ) (ho : o = g.val * 256)
    (inb : ∀ a, (![0, o] : Fin 2 → ℕ) a + (![256, 256] : Fin 2 → ℕ) a ≤ S256x2048.size a) (i j : Fin 256) :
    (∑ n ∈ Finset.range (Spec.width g), Q m c ((7 - t.val) * 256 + (i.val + n)) (Spec.col g j))
        - Spec.dpool (n := 256) (Spec.block (blk t) (D m c)) (W m c) (ix2 i (Spec.col g j))
      = Spec.block (blk t) (U m c) ((Rect.unit (s := S256x2048) ![0, o] ![256, 256] inb).emb (ix2 i j)) := by
  subst ho
  have e : (Rect.unit (s := S256x2048) ![0, g.val * 256] ![256, 256] inb).emb (ix2 i j)
      = (ix2 i ⟨g.val * 256 + j.val, by omega⟩ : S256x2048.Idx) := by
    refine funext fun a => Fin.ext ?_
    fin_cases a
    · show 0 + 1 * i.val = i.val
      omega
    · show g.val * 256 + 1 * j.val = g.val * 256 + j.val
      omega
  rw [e, dpool_block]
  unfold Spec.block U Spec.beside
  rw [dif_pos (by show g.val * 256 + j.val < 1024; omega)]
  show _ = (∑ n ∈ Finset.range (Spec.width (Spec.grp (Spec.col g j))), Spec.ext (Spec.q (D m c) (W m c)) ((7 - t.val) * 256 + i.val + n) (Spec.col g j))
    - Spec.dpool (D m c) (W m c) (ix2 (Spec.rowOf (blk t) i) (Spec.col g j))
  rw [Spec.grp_col]
  simp only [Nat.add_assoc]
  rfl

/-- The place of a loaded entry in the scratch. -/
theorem load (g : Fin 4) (o : ℕ) (ho : o = g.val * 256)
    (inb : ∀ a, (![0, o] : Fin 2 → ℕ) a + (![272, 256] : Fin 2 → ℕ) a ≤ S272x1024.size a) (r : Fin 272) (j : Fin 256) :
    (Rect.unit (s := S272x1024) ![0, o] ![272, 256] inb).idx (ix2 r j) = (ix2 r (Spec.col g j) : S272x1024.Idx) := by
  subst ho
  refine funext fun a => Fin.ext ?_
  fin_cases a
  · show 0 + 1 * r.val = r.val
    omega
  · show g.val * 256 + 1 * j.val = g.val * 256 + j.val
    omega

section Tiles

variable (c : Dev nD) (t : Fin cfg0.N) (i j : Fin 256) {κ : Kind} {sp : Space} (v : View sig κ sp S256x1024 .bf16)
  (a : FVec Ideal S272x256 .f32)

/-- The four stored tiles of the left half, from the loads they are made of. -/
theorem left0 (ha : ∀ r : Fin 272, a (ix2 r j) = Q m c ((7 - t.val) * 256 + r.val) (Spec.col 0 j)) :
    k0_pay21 (F := Ideal) (k0_pay18 (v.readCov (Val := Elt Ideal) [⟨Rect.unit (s := S256x1024) ![0, 0] ![256, 1024] inb_S256x1024_S256x1024_0_0, Spec.block (blk t) (D m c)⟩]
        (Rect.unit (s := S256x1024) ![0, 0] ![256, 256] inb_S256x1024_S256x256_0_0).toLoadRect))
      (View.ld (Val := Elt Ideal) (e' := .bf16) (W m c) (Rect.unit (s := S4x256x256) ![0, 0, 0] ![1, 256, 256] inb_S4x256x256_S1x256x256_0_0_0)) a (ix2 i j)
      = Spec.block (blk t) (U m c) ((Rect.unit (s := S256x2048) ![0, 0] ![256, 256] inb_S256x2048_S256x256_0_0).emb (ix2 i j)) := by
  rw [pay_u0 i j (fun r => Q m c ((7 - t.val) * 256 + r) (Spec.col 0 j)) a ha _ _,
    pay_pool0 _ _ i j _ _ (fun i k => cols v 0 0 rfl _ _ _ i k) fun i k => weight 0 0 rfl _ _ i k]
  exact left m c t 0 0 rfl _ i j

theorem left1 (ha : ∀ r : Fin 272, a (ix2 r j) = Q m c ((7 - t.val) * 256 + r.val) (Spec.col 1 j)) :
    k0_pay24 (F := Ideal) (k0_pay22 (v.readCov (Val := Elt Ideal) [⟨Rect.unit (s := S256x1024) ![0, 0] ![256, 1024] inb_S256x1024_S256x1024_0_0, Spec.block (blk t) (D m c)⟩]
        (Rect.unit (s := S256x1024) ![0, 256] ![256, 256] inb_S256x1024_S256x256_0_256).toLoadRect)
      (View.ld (Val := Elt Ideal) (e' := .bf16) (W m c) (Rect.unit (s := S4x256x256) ![1, 0, 0] ![1, 256, 256] inb_S4x256x256_S1x256x256_1_0_0))) a (ix2 i j)
      = Spec.block (blk t) (U m c) ((Rect.unit (s := S256x2048) ![0, 256] ![256, 256] inb_S256x2048_S256x256_0_256).emb (ix2 i j)) := by
  rw [pay_u1 i j (fun r => Q m c ((7 - t.val) * 256 + r) (Spec.col 1 j)) a ha _,
    pay_pool1 _ _ i j _ _ (fun i k => cols v 1 256 rfl _ _ _ i k) fun i k => weight 1 1 rfl _ _ i k]
  exact left m c t 1 256 rfl _ i j

theorem left2 (ha : ∀ r : Fin 272, a (ix2 r j) = Q m c ((7 - t.val) * 256 + r.val) (Spec.col 2 j)) :
    k0_pay27 (F := Ideal) (v.readCov (Val := Elt Ideal) [⟨Rect.unit (s := S256x1024) ![0, 0] ![256, 1024] inb_S256x1024_S256x1024_0_0, Spec.block (blk t) (D m c)⟩]
        (Rect.unit (s := S256x1024) ![0, 512] ![256, 256] inb_S256x1024_S256x256_0_512).toLoadRect)
      (View.ld (Val := Elt Ideal) (e' := .bf16) (W m c) (Rect.unit (s := S4x256x256) ![2, 0, 0] ![1, 256, 256] inb_S4x256x256_S1x256x256_2_0_0)) a (ix2 i j)
      = Spec.block (blk t) (U m c) ((Rect.unit (s := S256x2048) ![0, 512] ![256, 256] inb_S256x2048_S256x256_0_512).emb (ix2 i j)) := by
  rw [pay_u2 i j (fun r => Q m c ((7 - t.val) * 256 + r) (Spec.col 2 j)) a ha _ _,
    pay_pool2 _ _ i j _ _ (fun i k => cols v 2 512 rfl _ _ _ i k) fun i k => weight 2 2 rfl _ _ i k]
  exact left m c t 2 512 rfl _ i j

theorem left3 (ha : ∀ r : Fin 272, a (ix2 r j) = Q m c ((7 - t.val) * 256 + r.val) (Spec.col 3 j)) :
    k0_pay30 (F := Ideal) (v.readCov (Val := Elt Ideal) [⟨Rect.unit (s := S256x1024) ![0, 0] ![256, 1024] inb_S256x1024_S256x1024_0_0, Spec.block (blk t) (D m c)⟩]
        (Rect.unit (s := S256x1024) ![0, 768] ![256, 256] inb_S256x1024_S256x256_0_768).toLoadRect)
      (View.ld (Val := Elt Ideal) (e' := .bf16) (W m c) (Rect.unit (s := S4x256x256) ![3, 0, 0] ![1, 256, 256] inb_S4x256x256_S1x256x256_3_0_0)) a (ix2 i j)
      = Spec.block (blk t) (U m c) ((Rect.unit (s := S256x2048) ![0, 768] ![256, 256] inb_S256x2048_S256x256_0_768).emb (ix2 i j)) := by
  rw [pay_u3 i j (fun r => Q m c ((7 - t.val) * 256 + r) (Spec.col 3 j)) a ha _ _,
    pay_pool3 _ _ i j _ _ (fun i k => cols v 3 768 rfl _ _ _ i k) fun i k => weight 3 3 rfl _ _ i k]
  exact left m c t 3 768 rfl _ i j

end Tiles

/-- A row of the block of both gradients, a column of it, lies in one of the five stored pieces. -/
theorem covered_u (P3 P2 P1 P0 : S256x256.Idx → Elt Ideal .bf16) (P : S256x1024.Idx → Elt Ideal .bf16) (y : S256x2048.Idx) :
    ∃ p ∈ [(⟨Rect.unit (s := S256x2048) ![0, 768] ![256, 256] inb_S256x2048_S256x256_0_768, P3⟩ : View.Piece (Elt Ideal) S256x2048 .bf16),
      ⟨Rect.unit (s := S256x2048) ![0, 512] ![256, 256] inb_S256x2048_S256x256_0_512, P2⟩,
      ⟨Rect.unit (s := S256x2048) ![0, 256] ![256, 256] inb_S256x2048_S256x256_0_256, P1⟩,
      ⟨Rect.unit (s := S256x2048) ![0, 0] ![256, 256] inb_S256x2048_S256x256_0_0, P0⟩,
      ⟨Rect.unit (s := S256x2048) ![0, 1024] ![256, 1024] inb_S256x2048_S256x1024_0_1024, P⟩], y ∈ p.1.set := by
  have h0 : (y 0 : Fin 256).val < 256 := (y 0 : Fin 256).isLt
  have h1 : (y 1 : Fin 2048).val < 2048 := (y 1 : Fin 2048).isLt
  have key : ∀ (o w : ℕ) (inb : ∀ a, (![0, o] : Fin 2 → ℕ) a + (![256, w] : Fin 2 → ℕ) a ≤ S256x2048.size a),
      o ≤ (y 1 : Fin 2048).val → (y 1 : Fin 2048).val < o + w → y ∈ (Rect.unit (s := S256x2048) ![0, o] ![256, w] inb).set := by
    intro o w inb hl hu
    refine Rect.mem_set_unit.mpr fun a => ?_
    fin_cases a
    · exact ⟨Nat.zero_le _, by show (y 0 : Fin 256).val < 0 + 256; omega⟩
    · exact ⟨hl, hu⟩
  by_cases c1 : 1024 ≤ (y 1 : Fin 2048).val
  · exact ⟨_, .tail _ (.tail _ (.tail _ (.tail _ (.head _)))), key 1024 1024 inb_S256x2048_S256x1024_0_1024 c1 (by omega)⟩
  by_cases c2 : 768 ≤ (y 1 : Fin 2048).val
  · exact ⟨_, .head _, key 768 256 inb_S256x2048_S256x256_0_768 c2 (by omega)⟩
  by_cases c3 : 512 ≤ (y 1 : Fin 2048).val
  · exact ⟨_, .tail _ (.head _), key 512 256 inb_S256x2048_S256x256_0_512 c3 (by omega)⟩
  by_cases c4 : 256 ≤ (y 1 : Fin 2048).val
  · exact ⟨_, .tail _ (.tail _ (.head _)), key 256 256 inb_S256x2048_S256x256_0_256 c4 (by omega)⟩
  · exact ⟨_, .tail _ (.tail _ (.tail _ (.head _))), key 0 256 inb_S256x2048_S256x256_0_0 (Nat.zero_le _) (by omega)⟩

/-- What a later step finds in the last rows of the scratch are the rows after its block. -/
theorem halo (c : Dev nD) (t : Fin cfg0.N) (h : ¬ t.val % 8 = 0) (y : S272x1024.Idx) (hy : ¬ (y 0 : Fin 272).val < 256) :
    (outsAt0 m c (t.val - 1) (Nat.lt_of_le_of_lt (Nat.sub_le _ _) t.isLt)).2.2.2.2.2.2 y = G m c t y := by
  have ht : t.val < 8 := t.isLt
  rw [show (outsAt0 m c (t.val - 1) (Nat.lt_of_le_of_lt (Nat.sub_le _ _) t.isLt)).2.2.2.2.2.2 = _ from
    kept m c ⟨t.val - 1, Nat.lt_of_le_of_lt (Nat.sub_le _ _) t.isLt⟩]
  unfold K G
  rw [if_neg hy]
  refine congrArg₂ (Q m c) ?_ rfl
  show (7 - (t.val - 1)) * 256 + ((y 0 : Fin 272).val - 256) = (7 - t.val) * 256 + (y 0 : Fin 272).val
  omega

/-- The place a column of a group is stored at, or after the tiles. -/
theorem tile_or (g : Fin 4) (o : ℕ) (ho : o = g.val * 256)
    (inb : ∀ a, (![0, o] : Fin 2 → ℕ) a + (![256, 256] : Fin 2 → ℕ) a ≤ S272x1024.size a) (r : Fin 272) (j : Fin 256) (h : r.val < 256) :
    (ix2 r (Spec.col g j) : S272x1024.Idx) ∈ (Rect.unit (s := S272x1024) ![0, o] ![256, 256] inb).set :=
  in_tile g o ho inb _ h (Spec.grp_col g j)

/-- The block of both gradients the first step leaves. -/
theorem out_first (c : Dev nD) (t : Fin cfg0.N) (h : t.val % 8 = 0) :
    (outsAt0 m c t.val t.isLt).2.2.2.2.1 = Spec.block (blk t) (U m c) := by
  rw [outsAt0_A m c t h]
  frame_out
  rw [stored, weights, stored_z]
  rw [stored3 m _ c t, stored2 m _ c t, stored1 m _ c t, stored0 m _ c t]
  funext y
  refine Stores.canon_of (Val := Elt Ideal) (e := .bf16) (Spec.block (blk t) (U m c)) _ ?_ y (covered_u _ _ _ _ _ y)
  refine ⟨fun x => ?_, fun x => ?_, fun x => ?_, fun x => ?_, right m c t, trivial⟩
  · obtain ⟨i, j, rfl⟩ := pair x
    refine left3 m c t i j _ _ fun r => ?_
    rw [View.readCov_eq_canon']
    refine (Stores.canon_of (Val := Elt Ideal) (e := .f32) (G m c t) _ ?_ _ ?_).trans (congrArg (G m c t) (load 3 768 rfl inb_S272x1024_S272x256_0_768 r j))
    · exact ⟨tile_G m c t 3 768 rfl inb_S272x1024_S256x256_0_768, tile_G m c t 2 512 rfl inb_S272x1024_S256x256_0_512, tile_G m c t 1 256 rfl inb_S272x1024_S256x256_0_256, tile_G m c t 0 0 rfl inb_S272x1024_S256x256_0_0, zeros m c t h inb_S272x1024_S16x1024_256_0, trivial⟩
    · rw [load 3 768 rfl inb_S272x1024_S272x256_0_768 r j]
      by_cases hr : r.val < 256
      · exact ⟨_, .head _, tile_or 3 768 rfl inb_S272x1024_S256x256_0_768 r j hr⟩
      · exact ⟨_, .tail _ (.tail _ (.tail _ (.tail _ (.head _)))), in_tail inb_S272x1024_S16x1024_256_0 _ hr⟩
  · obtain ⟨i, j, rfl⟩ := pair x
    refine left2 m c t i j _ _ fun r => ?_
    rw [View.readCov_eq_canon']
    refine (Stores.canon_of (Val := Elt Ideal) (e := .f32) (G m c t) _ ?_ _ ?_).trans (congrArg (G m c t) (load 2 512 rfl inb_S272x1024_S272x256_0_512 r j))
    · exact ⟨tile_G m c t 2 512 rfl inb_S272x1024_S256x256_0_512, tile_G m c t 1 256 rfl inb_S272x1024_S256x256_0_256, tile_G m c t 0 0 rfl inb_S272x1024_S256x256_0_0, zeros m c t h inb_S272x1024_S16x1024_256_0, trivial⟩
    · rw [load 2 512 rfl inb_S272x1024_S272x256_0_512 r j]
      by_cases hr : r.val < 256
      · exact ⟨_, .head _, tile_or 2 512 rfl inb_S272x1024_S256x256_0_512 r j hr⟩
      · exact ⟨_, .tail _ (.tail _ (.tail _ (.head _))), in_tail inb_S272x1024_S16x1024_256_0 _ hr⟩
  · obtain ⟨i, j, rfl⟩ := pair x
    refine left1 m c t i j _ _ fun r => ?_
    rw [View.readCov_eq_canon']
    refine (Stores.canon_of (Val := Elt Ideal) (e := .f32) (G m c t) _ ?_ _ ?_).trans (congrArg (G m c t) (load 1 256 rfl inb_S272x1024_S272x256_0_256 r j))
    · exact ⟨tile_G m c t 1 256 rfl inb_S272x1024_S256x256_0_256, tile_G m c t 0 0 rfl inb_S272x1024_S256x256_0_0, zeros m c t h inb_S272x1024_S16x1024_256_0, trivial⟩
    · rw [load 1 256 rfl inb_S272x1024_S272x256_0_256 r j]
      by_cases hr : r.val < 256
      · exact ⟨_, .head _, tile_or 1 256 rfl inb_S272x1024_S256x256_0_256 r j hr⟩
      · exact ⟨_, .tail _ (.tail _ (.head _)), in_tail inb_S272x1024_S16x1024_256_0 _ hr⟩
  · obtain ⟨i, j, rfl⟩ := pair x
    refine left0 m c t i j _ _ fun r => ?_
    rw [View.readCov_eq_canon']
    refine (Stores.canon_of (Val := Elt Ideal) (e := .f32) (G m c t) _ ?_ _ ?_).trans (congrArg (G m c t) (load 0 0 rfl inb_S272x1024_S272x256_0_0 r j))
    · exact ⟨tile_G m c t 0 0 rfl inb_S272x1024_S256x256_0_0, zeros m c t h inb_S272x1024_S16x1024_256_0, trivial⟩
    · rw [load 0 0 rfl inb_S272x1024_S272x256_0_0 r j]
      by_cases hr : r.val < 256
      · exact ⟨_, .head _, tile_or 0 0 rfl inb_S272x1024_S256x256_0_0 r j hr⟩
      · exact ⟨_, .tail _ (.head _), in_tail inb_S272x1024_S16x1024_256_0 _ hr⟩

/-- The block of both gradients a later step leaves. -/
theorem out_later (c : Dev nD) (t : Fin cfg0.N) (h : ¬ t.val % 8 = 0) :
    (outsAt0 m c t.val t.isLt).2.2.2.2.1 = Spec.block (blk t) (U m c) := by
  rw [outsAt0_B m c t h]
  frame_out
  rw [stored, weights, stored_z]
  rw [stored3 m _ c t, stored2 m _ c t, stored1 m _ c t, stored0 m _ c t]
  funext y
  refine Stores.canon_of (Val := Elt Ideal) (e := .bf16) (Spec.block (blk t) (U m c)) _ ?_ y (covered_u _ _ _ _ _ y)
  refine ⟨fun x => ?_, fun x => ?_, fun x => ?_, fun x => ?_, right m c t, trivial⟩
  · obtain ⟨i, j, rfl⟩ := pair x
    refine left3 m c t i j _ _ fun r => ?_
    rw [View.ld_apply, load 3 768 rfl inb_S272x1024_S272x256_0_768 r j]
    refine Stores.read_writes (Val := Elt Ideal) (e := .f32) _ _ (G m c t) _ _ ⟨tile_G m c t 3 768 rfl inb_S272x1024_S256x256_0_768, tile_G m c t 2 512 rfl inb_S272x1024_S256x256_0_512, tile_G m c t 1 256 rfl inb_S272x1024_S256x256_0_256, tile_G m c t 0 0 rfl inb_S272x1024_S256x256_0_0, trivial⟩ ?_
    by_cases hr : r.val < 256
    · exact .inr ⟨_, .head _, tile_or 3 768 rfl inb_S272x1024_S256x256_0_768 r j hr⟩
    · refine .inl ?_
      rw [read_unread_whole]
      exact halo m c t h _ hr
  · obtain ⟨i, j, rfl⟩ := pair x
    refine left2 m c t i j _ _ fun r => ?_
    rw [View.ld_apply, load 2 512 rfl inb_S272x1024_S272x256_0_512 r j]
    refine Stores.read_writes (Val := Elt Ideal) (e := .f32) _ _ (G m c t) _ _ ⟨tile_G m c t 2 512 rfl inb_S272x1024_S256x256_0_512, tile_G m c t 1 256 rfl inb_S272x1024_S256x256_0_256, tile_G m c t 0 0 rfl inb_S272x1024_S256x256_0_0, trivial⟩ ?_
    by_cases hr : r.val < 256
    · exact .inr ⟨_, .head _, tile_or 2 512 rfl inb_S272x1024_S256x256_0_512 r j hr⟩
    · refine .inl ?_
      rw [read_unread_whole]
      exact halo m c t h _ hr
  · obtain ⟨i, j, rfl⟩ := pair x
    refine left1 m c t i j _ _ fun r => ?_
    rw [View.ld_apply, load 1 256 rfl inb_S272x1024_S272x256_0_256 r j]
    refine Stores.read_writes (Val := Elt Ideal) (e := .f32) _ _ (G m c t) _ _ ⟨tile_G m c t 1 256 rfl inb_S272x1024_S256x256_0_256, tile_G m c t 0 0 rfl inb_S272x1024_S256x256_0_0, trivial⟩ ?_
    by_cases hr : r.val < 256
    · exact .inr ⟨_, .head _, tile_or 1 256 rfl inb_S272x1024_S256x256_0_256 r j hr⟩
    · refine .inl ?_
      rw [read_unread_whole]
      exact halo m c t h _ hr
  · obtain ⟨i, j, rfl⟩ := pair x
    refine left0 m c t i j _ _ fun r => ?_
    rw [View.ld_apply, load 0 0 rfl inb_S272x1024_S272x256_0_0 r j]
    refine Stores.read_writes (Val := Elt Ideal) (e := .f32) _ _ (G m c t) _ _ ⟨tile_G m c t 0 0 rfl inb_S272x1024_S256x256_0_0, trivial⟩ ?_
    by_cases hr : r.val < 256
    · exact .inr ⟨_, .head _, tile_or 0 0 rfl inb_S272x1024_S256x256_0_0 r j hr⟩
    · refine .inl ?_
      rw [read_unread_whole]
      exact halo m c t h _ hr

/-- The block of both gradients a step leaves. -/
theorem out_u (c : Dev nD) (t : Fin cfg0.N) : (outsAt0 m c t.val t.isLt).2.2.2.2.1 = Spec.block (blk t) (U m c) := by
  by_cases h : t.val % 8 = 0
  · exact out_first m c t h
  · exact out_later m c t h

theorem emb_u (t : Fin cfg0.N) (y : S256x2048.Idx) :
    (((cfg0.win 13).blk t).view.emb y : S2048x2048.Idx) = ix2 (Spec.rowOf (blk t) (y 0)) (y 1 : Fin 2048) := by
  blk_ext [idx t, Spec.rowOf, blk]

/-- Both gradients after the run. -/
theorem final_u (c : Dev nD) : (dats m 0 c).arrAt 13 (cfgs 0).N = U m c := by
  refine (dats m 0 c).arrAt_eq_of_covers 13 _ (by decide +kernel) fun t _ y => ?_
  blk_simp
  rw [after0_13, out_u, emb_u t y]
  rfl

end Cert.WindowU

end
-- ==== Proof.ScaleA.lean ====
/- What the first layer's kernel leaves of the gradient of the channel scale, summed over the steps. -/
module

public import proofs.«01_k».proof.Proof.WindowA

@[expose] public section

set_option maxRecDepth 16384

noncomputable section

open Idealize.ShloMosaic Idealize.ShloMosaic.TcCoe Idealize.SL.Sem
open Idealize.ShloMosaic.Pipeline (Dat)

namespace Cert.ScaleA

open Cert.KernelIdeal Cert.KernelIdeal.Gen Cert.PayA Cert.ValueA

variable (m : (ℓ : Loc nD τ sig) → Buf (Elt Ideal) ℓ)

/-- A row's share of the gradient of the scale. -/
def share (c : Dev nD) (r : Fin 2048) (k : Fin 1024) : EReal :=
  Spec.dmx (n := 2048) (m ((c : Thread nD τ).loc main_arg7)) (m ((c : Thread nD τ).loc main_arg2)) (V m c main_v74)
  (V m c main_v1) (m ((c : Thread nD τ).loc main_arg6)) (m ((c : Thread nD τ).loc main_arg5)) (ix2 r k) * V m c main_v61 (ix2 r k)

/-- A block of rows' share of it. -/
def part (c : Dev nD) (t : Fin cfg0.N) (y : S1x1024.Idx) : EReal := ∑ r : Fin 256, share m c (Spec.rowOf (blk t) r) (y 1 : Fin 1024)

/-- What a step adds, given the sum before it. -/
theorem step (c : Dev nD) (t : Fin cfg0.N) (acc : FVec Ideal S1x1024 .f32) (y : S1x1024.Idx) :
    k0_pay15 (F := Ideal) (k0_pay7 (iblk m c 0 t) (iblk m c 1 t) (iblk m c 2 t) (iblk m c 5 t) (iblk m c 6 t)) (k0_pay10 (iblk m c 3 t)) (iblk m c 4 t) acc y
      = acc y + part m c t y := by
  rw [pay_dsc, blk_ct, blk_e, blk_g, blk_z, blk_m, blk_wg, blk_wo]
  rfl

/-- The sum after the first step. -/
theorem out_first (c : Dev nD) (t : Fin cfg0.N) (h : t.val % 8 = 0) (y : S1x1024.Idx) :
    (outsAt0 m c t.val t.isLt).2.2.2.2.2.1 y = k0_pay1 (F := Ideal) y + part m c t y := by
  rw [outsAt0_A m c t h]
  frame_out
  exact step m c t _ y

/-- The sum after a later step. -/
theorem out_later (c : Dev nD) (t : Fin cfg0.N) (h : ¬ t.val % 8 = 0) (y : S1x1024.Idx) :
    (outsAt0 m c t.val t.isLt).2.2.2.2.2.1 y
      = (outsAt0 m c (t.val - 1) (Nat.lt_of_le_of_lt (Nat.sub_le _ _) t.isLt)).2.2.2.2.2.1 y + part m c t y := by
  rw [outsAt0_B m c t h]
  frame_out
  exact step m c t _ y

/-- The sum over the steps, last block of rows first, is the sum over all rows. -/
theorem regroup (c : Dev nD) (y : S1x1024.Idx) :
    (∑ t : Fin cfg0.N, part m c t y) = ∑ r : Fin 2048, share m c r (y 1 : Fin 1024) := by
  rw [Fin.sum_univ_tiles 8 256 rfl, ← Equiv.sum_comp Fin.revPerm]
  refine Finset.sum_congr rfl fun t _ => Finset.sum_congr rfl fun r _ => congrArg (fun k => share m c k (y 1 : Fin 1024)) (Fin.ext ?_)
  have ht : t.val < 8 := t.isLt
  show (7 - (8 - (t.val + 1))) * 256 + r.val = t.val * 256 + r.val
  rw [show 7 - (8 - (t.val + 1)) = t.val from by omega]

/-- The sum after the last step. -/
theorem out_dsc (c : Dev nD) (t : Fin cfg0.N) (ht : t.val + 1 = cfg0.N) (y : S1x1024.Idx) :
    (outsAt0 m c t.val t.isLt).2.2.2.2.2.1 y = ∑ r : Fin 2048, share m c r (y 1 : Fin 1024) := by
  rw [Pipeline.eq_sum_fin_of_reset_step_apply_last (fun n h => (outsAt0 m c n h).2.2.2.2.2.1) 8 (k0_pay1 (F := Ideal)) (part m c)
    (out_first m c) (out_later m c) (le_of_eq N_0) t ht y, pay_zero, zero_add, regroup]

/-- The gradient of the scale after the run. -/
theorem final_dsc (c : Dev nD) : (dats m 0 c).arrAt 14 (cfgs 0).N = fun y : S1x1024.Idx => ∑ r : Fin 2048, share m c r (y 1 : Fin 1024) := by
  refine (dats m 0 c).arrAt_eq_of_after_last 14 t0_7 (by decide +kernel) _ fun j => ?_
  blk_simp
  rw [after0_14]
  exact out_dsc m c t0_7 rfl _

end Cert.ScaleA

end
-- ==== Proof.Cumsum.lean ====
/- Running sums: a window sum over the first axis as a sum over rows, that it keeps values real, and the telescoping of a
   running sum from the end of differences of an array and the array moved up. -/
module

public import proofs.«01_k».proof.Proof.Finite
public import Idealize.ShloMosaic.Lib.Pipeline.ValueKit

@[expose] public section

set_option maxRecDepth 16384

noncomputable section

open Idealize.ShloMosaic Cert.Finite

namespace Cert.Cumsum

/-- A fold that adds one term after another is the sum of the terms. -/
theorem fold_add {ι : Type*} (f : ι → EReal) (l : List ι) (v : EReal) : l.foldl (fun r i => r + f i) v = v + (l.map f).sum := by
  induction l generalizing v with
  | nil => simp
  | cons a l ih => rw [List.foldl_cons, ih, List.map_cons, List.sum_cons, add_assoc]

/-- The windows of a running sum over the rows: 2048 rows, one group, one column. -/
def rows : (⟨3, ![2048, 1, 1]⟩ : Shape).Idx ≃ Fin 2048 where
  toFun k := k 0
  invFun n := ix3 n (0 : Fin 1) (0 : Fin 1)
  left_inv k := by
    refine funext fun a => ?_
    fin_cases a
    · rfl
    · exact Subsingleton.elim (α := Fin 1) _ _
    · exact Subsingleton.elim (α := Fin 1) _ _
  right_inv n := rfl

/-- The entry a place of the window adds, read off its three coordinates. -/
theorem place (lo : ℕ) (x : (⟨3, ![2048, 4, 256]⟩ : Shape).Idx → EReal) (s : Fin 2048) (g : Fin 4) (c : Fin 256)
    (k : (⟨3, ![2048, 1, 1]⟩ : Shape).Idx)
    {inst : Decidable (∀ a : Fin 3, (![lo, 0, 0] : Fin 3 → ℕ) a ≤ ((ix3 s g c : (⟨3, ![2048, 4, 256]⟩ : Shape).Idx) a).val * (![1, 1, 1] : Fin 3 → ℕ) a + (k a).val
        ∧ ((ix3 s g c : (⟨3, ![2048, 4, 256]⟩ : Shape).Idx) a).val * (![1, 1, 1] : Fin 3 → ℕ) a + (k a).val - (![lo, 0, 0] : Fin 3 → ℕ) a
          < (⟨3, ![2048, 4, 256]⟩ : Shape).size a)} :
    (if hin : ∀ a : Fin 3, (![lo, 0, 0] : Fin 3 → ℕ) a ≤ ((ix3 s g c : (⟨3, ![2048, 4, 256]⟩ : Shape).Idx) a).val * (![1, 1, 1] : Fin 3 → ℕ) a + (k a).val
        ∧ ((ix3 s g c : (⟨3, ![2048, 4, 256]⟩ : Shape).Idx) a).val * (![1, 1, 1] : Fin 3 → ℕ) a + (k a).val - (![lo, 0, 0] : Fin 3 → ℕ) a
          < (⟨3, ![2048, 4, 256]⟩ : Shape).size a then
      x (fun a => ⟨((ix3 s g c : (⟨3, ![2048, 4, 256]⟩ : Shape).Idx) a).val * (![1, 1, 1] : Fin 3 → ℕ) a + (k a).val - (![lo, 0, 0] : Fin 3 → ℕ) a, (hin a).2⟩) else 0)
    = if hin : lo ≤ s.val + (rows k).val ∧ s.val + (rows k).val - lo < 2048
        then x (ix3 ⟨s.val + (rows k).val - lo, hin.2⟩ g c) else 0 := by
  have e0 : (rows k).val = (k 0).val := rfl
  have e1 : (k 1).val = 0 := by have : (k 1).val < 1 := (k 1).isLt; omega
  have e2 : (k 2).val = 0 := by have : (k 2).val < 1 := (k 2).isLt; omega
  by_cases hin : lo ≤ s.val + (rows k).val ∧ s.val + (rows k).val - lo < 2048
  · rw [dif_pos hin, dif_pos]
    · refine congrArg x (funext fun a => Fin.ext ?_)
      fin_cases a
      · show s.val * 1 + (k 0).val - lo = s.val + (rows k).val - lo
        omega
      · show g.val * 1 + (k 1).val - 0 = g.val
        omega
      · show c.val * 1 + (k 2).val - 0 = c.val
        omega
    · intro a
      fin_cases a
      · show lo ≤ s.val * 1 + (k 0).val ∧ s.val * 1 + (k 0).val - lo < 2048
        omega
      · show 0 ≤ g.val * 1 + (k 1).val ∧ g.val * 1 + (k 1).val - 0 < 4
        omega
      · show 0 ≤ c.val * 1 + (k 2).val ∧ c.val * 1 + (k 2).val - 0 < 256
        omega
  · rw [dif_neg hin, dif_neg]
    intro hall
    have : lo ≤ s.val * 1 + (k 0).val ∧ s.val * 1 + (k 0).val - lo < 2048 := hall 0
    omega

/-- The window sum at a row: the rows of its window that lie in the array. -/
theorem window_apply (lo hi : ℕ) (x : (⟨3, ![2048, 4, 256]⟩ : Shape).Idx → EReal)
    (h : (⟨3, ![2048, 4, 256]⟩ : Shape).ReduceWindows ![2048, 1, 1] ![1, 1, 1] ![lo, 0, 0] ![hi, 0, 0] ⟨3, ![2048, 4, 256]⟩)
    (s : Fin 2048) (g : Fin 4) (c : Fin 256) :
    Ideal.hostReduceWindowAdd ![2048, 1, 1] ![1, 1, 1] ![lo, 0, 0] ![hi, 0, 0] h x 0 (ix3 s g c)
      = ∑ n : Fin 2048, if hin : lo ≤ s.val + n.val ∧ s.val + n.val - lo < 2048
          then x (ix3 ⟨s.val + n.val - lo, hin.2⟩ g c) else 0 := by
  unfold Ideal.hostReduceWindowAdd Host.reduceWindow
  refine (fold_add _ _ _).trans ?_
  rw [zero_add, ← Fin.sum_univ_def]
  refine Fintype.sum_equiv ((⟨3, ![2048, 1, 1]⟩ : Shape).rowMajor.symm.trans rows) _ _ fun n => ?_
  exact place lo x s g c ((⟨3, ![2048, 1, 1]⟩ : Shape).rowMajor.symm n)

/-- A window sum of real values is real. -/
theorem window_real (lo hi : ℕ) (x : (⟨3, ![2048, 4, 256]⟩ : Shape).Idx → EReal) (hx : ∀ i, IsReal (x i))
    (h : (⟨3, ![2048, 4, 256]⟩ : Shape).ReduceWindows ![2048, 1, 1] ![1, 1, 1] ![lo, 0, 0] ![hi, 0, 0] ⟨3, ![2048, 4, 256]⟩)
    (s : Fin 2048) (g : Fin 4) (c : Fin 256) :
    IsReal (Ideal.hostReduceWindowAdd ![2048, 1, 1] ![1, 1, 1] ![lo, 0, 0] ![hi, 0, 0] h x 0 (ix3 s g c)) := by
  rw [window_apply]
  refine .sum _ _ fun n _ => ?_
  split
  · exact hx _
  · exact .zero

/-- The printed running sum from a zero is that window sum. -/
theorem printed (lo hi : ℕ) (x : FVec Ideal (⟨3, ![2048, 4, 256]⟩ : Shape) .f32) {u : Shape} (v : FVec Ideal u .f32)
    (h : (⟨3, ![2048, 4, 256]⟩ : Shape).ReduceWindows ![2048, 1, 1] ![1, 1, 1] ![lo, 0, 0] ![hi, 0, 0] ⟨3, ![2048, 4, 256]⟩)
    (hu : 0 < u.numel) (hz : v (Shape.Idx.first hu) = 0) :
    Host.reduceWindowAdd ![2048, 1, 1] ![1, 1, 1] ![lo, 0, 0] ![hi, 0, 0] x v h hu
      = Ideal.hostReduceWindowAdd ![2048, 1, 1] ![1, 1, 1] ![lo, 0, 0] ![hi, 0, 0] h x 0 := by
  unfold Host.reduceWindowAdd
  rw [hz]
  rfl

/-- The real numbers' telescoping sum. -/
theorem telescope_real (f : ℕ → ℝ) (N s w : ℕ) (hz : ∀ n, N ≤ n → f n = 0) :
    (∑ n ∈ Finset.range N, (f (s + n) - f (s + n + w))) = ∑ j ∈ Finset.range w, f (s + j) := by
  rw [Finset.sum_sub_distrib]
  have h1 : (∑ n ∈ Finset.range (w + N), f (s + n)) = (∑ j ∈ Finset.range w, f (s + j)) + ∑ n ∈ Finset.range N, f (s + n + w) := by
    rw [Finset.sum_range_add]
    refine congrArg _ (Finset.sum_congr rfl fun n _ => congrArg f ?_)
    omega
  have h2 : (∑ n ∈ Finset.range (N + w), f (s + n)) = ∑ n ∈ Finset.range N, f (s + n) := by
    rw [Finset.sum_range_add, Finset.sum_eq_zero (s := Finset.range w), add_zero]
    intro n _
    exact hz _ (by omega)
  rw [Nat.add_comm w N, h2] at h1
  rw [h1]
  ring

/-- A finite sum of reals, carried. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A running sum from the end of `f r - f (r + w)`, for a real `f` that ends at the last row, is the sum of the `w` values from the row on. -/
theorem telescope (f : ℕ → EReal) (hf : ∀ n, IsReal (f n)) (hz : ∀ n, 2048 ≤ n → f n = 0) (s w : ℕ) :
    (∑ n : Fin 2048, if s + n.val < 2048 then f (s + n.val) + -f (s + n.val + w) else 0) = ∑ j ∈ Finset.range w, f (s + j) := by
  choose r hr using hf
  have hz' : ∀ n, 2048 ≤ n → r n = 0 := fun n hn => by
    have := hz n hn
    rw [hr] at this
    exact_mod_cast this
  have hterm : ∀ n : Fin 2048, (if s + n.val < 2048 then f (s + n.val) + -f (s + n.val + w) else 0)
      = ((r (s + n.val) - r (s + n.val + w) : ℝ) : EReal) := fun n => by
    split
    · rw [hr, hr, EReal.coe_sub, sub_eq_add_neg]
    · rw [hz' _ (by omega), hz' _ (by omega), sub_zero, EReal.coe_zero]
  rw [Finset.sum_congr rfl fun n _ => hterm n, ← coe_sum, Fin.sum_univ_eq_sum_range (fun n => r (s + n) - r (s + n + w)) 2048,
    telescope_real r 2048 s w hz', coe_sum]
  exact Finset.sum_congr rfl fun j _ => (hr _).symm

end Cert.Cumsum

end
-- ==== Proof.RefA.lean ====
/- The first layer's reference up to the gradient of the pools: jax's own backward pass over the array, as the plain formulas of
   `Spec`, and the mixed pools' realness. -/
module

public import proofs.«01_k».proof.Proof.Gen.ReferenceIdeal.Read
public import proofs.«01_k».proof.Proof.SpecA
public import proofs.«01_k».proof.Proof.Cumsum
public import Idealize.ShloMosaic.Lib.Pipeline.ValueKit

@[expose] public section

set_option maxRecDepth 16384

noncomputable section

open Idealize.ShloMosaic Idealize.ShloMosaic.TcCoe Idealize.SL.Sem

namespace Cert.RefA

open Cert.ReferenceIdeal Cert.ReferenceIdeal.Gen Cert.ReferenceIdeal.Read Cert.Finite

variable (x0 : (⟨S2048x1024, .f32⟩ : BufTy).Contents (Elt Ideal)) (x1 : (⟨S2048x2048, .f32⟩ : BufTy).Contents (Elt Ideal))
  (x2 : (⟨S2048x1024, .f32⟩ : BufTy).Contents (Elt Ideal)) (x3 : (⟨S4x256x256, .f32⟩ : BufTy).Contents (Elt Ideal))
  (x4 : (⟨S1x1024, .f32⟩ : BufTy).Contents (Elt Ideal)) (x5 x6 : (⟨S1024x1024, .f32⟩ : BufTy).Contents (Elt Ideal))
  (x7 : (⟨S2048x1024, .f32⟩ : BufTy).Contents (Elt Ideal))

/-- The cotangent, reshaped to its own shape. -/
theorem ct_same : val_main_v81 (F := Ideal) x7 = x7 := by
  funext i
  pointwise [val_main_v81]

theorem ct_same' : val_main_v82 (F := Ideal) x7 = x7 := by
  funext i
  pointwise [val_main_v82]

/-- The gate is a sigmoid, a real value whatever its argument. -/
theorem gate_real (i : S2048x1024.Idx) : IsReal (val_main_v75 (F := Ideal) x0 x1 x3 x4 x5 x6 i) := by
  have h : val_main_v75 (F := Ideal) x0 x1 x3 x4 x5 x6 i
      = Ideal.logistic (val_main_v69 (F := Ideal) x0 x1 x3 x4 x5 x6 i) := by
    pointwise [val_main_v75, val_main_v74, val_main_cst_6, val_main_v73, val_main_v72, val_main_cst_5, val_main_v71, val_main_v70]
    rfl
  rw [h]
  exact .logistic _

/-- The sigmoid of the silu gate's argument. -/
theorem sig_eq (i : S2048x1024.Idx) : val_main_v65_2 (F := Ideal) x1 i = Ideal.logistic (val_main_v1 (F := Ideal) x1 i) := by
  pointwise [val_main_v65_2, val_main_call1_v4, val_main_call1_cst_0, val_main_call1_v3, val_main_call1_v2,
    val_main_call1_cst, val_main_call1_v1, val_main_call1_v0]
  rfl

/-- The embedding gradient. -/
theorem de_eq : val_main_v84 (F := Ideal) x0 x1 x3 x4 x5 x6 x7
    = Spec.de (n := 2048) x7 (val_main_v75 (F := Ideal) x0 x1 x3 x4 x5 x6) := by
  funext i
  unfold val_main_v84
  rw [ct_same']
  pointwise [Spec.de]

/-- The gate gradient. -/
theorem dgate_eq : val_main_v85 (F := Ideal) x0 x1 x2 x3 x4 x5 x6 x7
    = Spec.dgate (n := 2048) x7 x2 (val_main_v75 (F := Ideal) x0 x1 x3 x4 x5 x6) := by
  funext i
  unfold val_main_v85 val_main_v83 val_main_v78 val_main_v77
  rw [ct_same']
  pointwise [Spec.dgate, val_main_v76, val_main_cst_7]
  rw [mul_comm (x2 i) (x7 i), ← mul_assoc]

/-- The input gradient. -/
theorem dx_eq : val_main_v87 (F := Ideal) x0 x1 x2 x3 x4 x5 x6 x7
    = Spec.dx (n := 2048) x7 x2 (val_main_v75 (F := Ideal) x0 x1 x3 x4 x5 x6) x6 := by
  funext i
  unfold val_main_v87 val_main_v86
  rw [ct_same, dgate_eq]
  pointwise [Spec.dx, Spec.nt]

/-- The output product's gradient. -/
theorem dy_eq : val_main_v88 (F := Ideal) x0 x1 x2 x3 x4 x5 x6 x7
    = Spec.dy (n := 2048) x7 x2 (val_main_v75 (F := Ideal) x0 x1 x3 x4 x5 x6) x6 x5 := by
  funext i
  unfold val_main_v88
  rw [dx_eq]
  pointwise [Spec.dy, Spec.nt]

/-- The scaled mix's gradient. -/
theorem dmx_eq : val_main_v90 (F := Ideal) x0 x1 x2 x3 x4 x5 x6 x7
    = Spec.dmx (n := 2048) x7 x2 (val_main_v75 (F := Ideal) x0 x1 x3 x4 x5 x6) (val_main_v1 (F := Ideal) x1) x6 x5 := by
  funext i
  unfold val_main_v90
  rw [dy_eq]
  pointwise [Spec.dmx, val_main_v65_0]
  rw [sig_eq]

/-- The mixed pools' gradient. -/
theorem dm_eq : val_main_v96 (F := Ideal) x0 x1 x2 x3 x4 x5 x6 x7
    = Spec.dm (n := 2048) x7 x2 (val_main_v75 (F := Ideal) x0 x1 x3 x4 x5 x6) (val_main_v1 (F := Ideal) x1) x4 x6 x5 := by
  funext i
  unfold val_main_v96
  rw [dmx_eq]
  obtain ⟨r, c, rfl⟩ : ∃ (r : Fin 2048) (c : Fin 1024), i = ix2 r c := ⟨i 0, i 1, eq_ix2 _⟩
  pointwise [Spec.dm, val_main_v95]

/-- The scale's gradient. -/
theorem dsc_eq (y : S1x1024.Idx) : val_main_v94 (F := Ideal) x0 x1 x2 x3 x4 x5 x6 x7 y
    = Spec.dsc (n := 2048) x7 x2 (val_main_v75 (F := Ideal) x0 x1 x3 x4 x5 x6) (val_main_v1 (F := Ideal) x1)
      (val_main_v62 (F := Ideal) x1 x3) x6 x5 (y 1 : Fin 1024) := by
  unfold val_main_v94 val_main_v93 val_main_v92
  rw [dmx_eq]
  obtain ⟨c, rfl⟩ : ∃ c : Fin 1024, y = ix2 0 c := ⟨y 1, by rw [eq_ix2 y]; congr 1; exact Subsingleton.elim (α := Fin 1) _ _⟩
  pointwise [val_main_cst_8, Spec.dsc]
  exact Finset.sum_congr rfl fun r _ => mul_comm _ _

/-- The gradient of the silu gate's argument, where the incoming gradient is real. -/
theorem dz_eq (h : ∀ i : S2048x1024.Idx, IsReal (Spec.dy (n := 2048) x7 x2 (val_main_v75 (F := Ideal) x0 x1 x3 x4 x5 x6) x6 x5 i
      * (val_main_v62 (F := Ideal) x1 x3 i * x4 (ix2 0 (i 1 : Fin 1024))))) :
    val_main_v91 (F := Ideal) x0 x1 x2 x3 x4 x5 x6 x7
    = Spec.dzA (n := 2048) x7 x2 (val_main_v75 (F := Ideal) x0 x1 x3 x4 x5 x6) (val_main_v1 (F := Ideal) x1)
      (val_main_v62 (F := Ideal) x1 x3) x4 x6 x5 := by
  funext i
  unfold val_main_v91 val_main_call2_v1 val_main_call2_v2 val_main_call2_v0 val_main_v89
  rw [dy_eq]
  obtain ⟨r, c, rfl⟩ : ∃ (r : Fin 2048) (c : Fin 1024), i = ix2 r c := ⟨i 0, i 1, eq_ix2 _⟩
  have hc := h (ix2 r c)
  pointwise [Spec.dzA, Spec.dsilu, val_main_v64, val_main_v63, val_main_v65_1, val_main_call1_v7, val_main_call1_v6, val_main_call1_cst_1]
  rw [sig_eq, mul_comm (_ * x4 _)]
  exact (silu_grad hc _).symm

end Cert.RefA

end
-- ==== Proof.MixA.lean ====
/- The first layer's reference: the forward trailing means, the groups' product over them and the mixed pools are real where the
   arguments are. -/
module

public import proofs.«01_k».proof.Proof.RefA

@[expose] public section

set_option maxRecDepth 16384

noncomputable section

open Idealize.ShloMosaic Idealize.ShloMosaic.TcCoe Idealize.SL.Sem

namespace Cert.MixA

open Cert.ReferenceIdeal Cert.ReferenceIdeal.Gen Cert.ReferenceIdeal.Read Cert.Finite

variable (x1 : (⟨S2048x2048, .f32⟩ : BufTy).Contents (Elt Ideal)) (x3 : (⟨S4x256x256, .f32⟩ : BufTy).Contents (Elt Ideal))

/-- The number of frames a trailing mean is over, as the reference counts it at row `r`. -/
theorem count : ∀ (g : Fin 4) (r : Fin 2048),
    (IntOp.minsi (IntOp.addi 1#32 (BitVec.ofNat 32 r.val)) (BitVec.ofNat 32 (Spec.width g))).toInt
      = ((min (r.val + 1) (Spec.width g) : ℕ) : ℤ) := by
  decide +kernel

/-- That number as an extended real. -/
theorem count_ideal (g : Fin 4) (r : Fin 2048) (s : BitVec 32) (hs : s = BitVec.ofNat 32 (Spec.width g)) :
    FloatOps.sitofp (F := Ideal) FTy.f32 (IntOp.minsi (IntOp.addi 1#32 (BitVec.ofNat 32 r.val)) s) = Spec.cnt r.val g := by
  subst hs
  unfold Spec.cnt
  change (((IntOp.minsi _ _ : BitVec 32).toInt : ℝ) : EReal) = _
  rw [count g r]
  norm_cast

/-- The four groups' counts. -/
theorem cnt0 (r : Fin 2048) (k : Fin 1) : val_main_v15 (F := Ideal) (ix2 r k) = Spec.cnt r.val 0 := by
  pointwise [val_main_v15, val_main_v14, val_main_v13, val_main_v12, val_main_c_1, val_main_v9, val_main_v8, val_main_c, val_main_v7]
  exact count_ideal 0 r 2#32 rfl

theorem cnt1 (r : Fin 2048) (k : Fin 1) : val_main_v26 (F := Ideal) (ix2 r k) = Spec.cnt r.val 1 := by
  pointwise [val_main_v26, val_main_v25, val_main_v24, val_main_v23, val_main_c_2, val_main_v9, val_main_v8, val_main_c, val_main_v7]
  exact count_ideal 1 r 4#32 rfl

theorem cnt2 (r : Fin 2048) (k : Fin 1) : val_main_v37 (F := Ideal) (ix2 r k) = Spec.cnt r.val 2 := by
  pointwise [val_main_v37, val_main_v36, val_main_v35, val_main_v34, val_main_c_3, val_main_v9, val_main_v8, val_main_c, val_main_v7]
  exact count_ideal 2 r 8#32 rfl

theorem cnt3 (r : Fin 2048) (k : Fin 1) : val_main_v48 (F := Ideal) (ix2 r k) = Spec.cnt r.val 3 := by
  pointwise [val_main_v48, val_main_v47, val_main_v46, val_main_v45, val_main_c_4, val_main_v9, val_main_v8, val_main_c, val_main_v7]
  exact count_ideal 3 r 16#32 rfl

section Real

variable (h1 : ∀ i, IsReal (x1 i))
include h1

/-- The mixer's input, by group, is real. -/
theorem u_real (i : S2048x4x256.Idx) : IsReal (val_main_v2 (F := Ideal) x1 i) := by
  obtain ⟨k, hk⟩ : ∃ k, val_main_v2 (F := Ideal) x1 i = x1 k := ⟨_, rfl⟩
  rw [hk]
  exact h1 k

/-- Its running sums are real. -/
theorem sum_real (i : S2048x4x256.Idx) : IsReal (val_main_v3 (F := Ideal) x1 i) := by
  obtain ⟨s, g, c, rfl⟩ : ∃ (s : Fin 2048) (g : Fin 4) (c : Fin 256), i = ix3 s g c := ⟨i 0, i 1, i 2, eq_ix3 _⟩
  have hz : val_main_call0_call0_v0 (F := Ideal) (Shape.Idx.first h_S_) = 0 := by
    pointwise [val_main_call0_call0_v0, val_main_call0_call0_cst]
  unfold val_main_v3
  rw [Cumsum.printed _ _ _ _ _ _ hz]
  exact Cumsum.window_real _ _ _ (u_real x1 h1) _ s g c

/-- So are they with sixteen zeros before them. -/
theorem padded_real (i : S2064x4x256.Idx) : IsReal (val_main_v5 (F := Ideal) x1 i) := by
  obtain ⟨s, g, c, rfl⟩ : ∃ (s : Fin 2064) (g : Fin 4) (c : Fin 256), i = ix3 s g c := ⟨i 0, i 1, i 2, eq_ix3 _⟩
  have e : val_main_v5 (F := Ideal) x1 (ix3 s g c)
      = if h : s.val < 16 then 0 else val_main_v3 (F := Ideal) x1 (ix3 ⟨s.val - 16, by omega⟩ g c) := by
    pointwise [val_main_v5, val_main_v4, val_main_cst]
  rw [e]
  split
  · exact .zero
  · exact sum_real x1 h1 _

/-- The four groups' trailing means are real. -/
theorem mean0 (r : Fin 2048) (k : Fin 256) : IsReal (val_main_v20 (F := Ideal) x1 (ix2 r k)) := by
  have e : val_main_v20 (F := Ideal) x1 (ix2 r k)
      = Ideal.div (val_main_v3 (F := Ideal) x1 (ix3 r 0 k) - val_main_v5 (F := Ideal) x1 (ix3 ⟨14 + r.val, by omega⟩ 0 k)) (Spec.cnt r.val 0) := by
    pointwise [val_main_v20, val_main_v19, cnt0, val_main_v18, val_main_v17, val_main_v16, val_main_v11, val_main_v10]
  rw [e]
  exact ((sum_real x1 h1 _).sub (padded_real x1 h1 _)).div (Spec.cnt_real _ _) (Spec.cnt_ne_zero _ _)

theorem mean1 (r : Fin 2048) (k : Fin 256) : IsReal (val_main_v31 (F := Ideal) x1 (ix2 r k)) := by
  have e : val_main_v31 (F := Ideal) x1 (ix2 r k)
      = Ideal.div (val_main_v3 (F := Ideal) x1 (ix3 r 1 k) - val_main_v5 (F := Ideal) x1 (ix3 ⟨12 + r.val, by omega⟩ 1 k)) (Spec.cnt r.val 1) := by
    pointwise [val_main_v31, val_main_v30, cnt1, val_main_v29, val_main_v28, val_main_v27, val_main_v22, val_main_v21]
  rw [e]
  exact ((sum_real x1 h1 _).sub (padded_real x1 h1 _)).div (Spec.cnt_real _ _) (Spec.cnt_ne_zero _ _)

theorem mean2 (r : Fin 2048) (k : Fin 256) : IsReal (val_main_v42 (F := Ideal) x1 (ix2 r k)) := by
  have e : val_main_v42 (F := Ideal) x1 (ix2 r k)
      = Ideal.div (val_main_v3 (F := Ideal) x1 (ix3 r 2 k) - val_main_v5 (F := Ideal) x1 (ix3 ⟨8 + r.val, by omega⟩ 2 k)) (Spec.cnt r.val 2) := by
    pointwise [val_main_v42, val_main_v41, cnt2, val_main_v40, val_main_v39, val_main_v38, val_main_v33, val_main_v32]
  rw [e]
  exact ((sum_real x1 h1 _).sub (padded_real x1 h1 _)).div (Spec.cnt_real _ _) (Spec.cnt_ne_zero _ _)

theorem mean3 (r : Fin 2048) (k : Fin 256) : IsReal (val_main_v53 (F := Ideal) x1 (ix2 r k)) := by
  have e : val_main_v53 (F := Ideal) x1 (ix2 r k)
      = Ideal.div (val_main_v3 (F := Ideal) x1 (ix3 r 3 k) - val_main_v5 (F := Ideal) x1 (ix3 ⟨r.val, by omega⟩ 3 k)) (Spec.cnt r.val 3) := by
    pointwise [val_main_v53, val_main_v52, cnt3, val_main_v51, val_main_v50, val_main_v49, val_main_v44, val_main_v43]
  rw [e]
  exact ((sum_real x1 h1 _).sub (padded_real x1 h1 _)).div (Spec.cnt_real _ _) (Spec.cnt_ne_zero _ _)

/-- The means less the frame's own are real. -/
theorem pool_real (i : S2048x4x256.Idx) : IsReal (val_main_v59 (F := Ideal) x1 i) := by
  obtain ⟨r, g, k, rfl⟩ : ∃ (s : Fin 2048) (g : Fin 4) (c : Fin 256), i = ix3 s g c := ⟨i 0, i 1, i 2, eq_ix3 _⟩
  refine IsReal.sub ?_ (u_real x1 h1 _)
  fin_cases g
  · have e : val_main_v58 (F := Ideal) x1 (ix3 r 0 k) = val_main_v20 (F := Ideal) x1 (ix2 r k) := by
      pointwise [val_main_v58, val_main_v54, val_main_v55, val_main_v56, val_main_v57]
    exact e ▸ mean0 x1 h1 r k
  · have e : val_main_v58 (F := Ideal) x1 (ix3 r 1 k) = val_main_v31 (F := Ideal) x1 (ix2 r k) := by
      pointwise [val_main_v58, val_main_v54, val_main_v55, val_main_v56, val_main_v57]
    exact e ▸ mean1 x1 h1 r k
  · have e : val_main_v58 (F := Ideal) x1 (ix3 r 2 k) = val_main_v42 (F := Ideal) x1 (ix2 r k) := by
      pointwise [val_main_v58, val_main_v54, val_main_v55, val_main_v56, val_main_v57]
    exact e ▸ mean2 x1 h1 r k
  · have e : val_main_v58 (F := Ideal) x1 (ix3 r 3 k) = val_main_v53 (F := Ideal) x1 (ix2 r k) := by
      pointwise [val_main_v58, val_main_v54, val_main_v55, val_main_v56, val_main_v57]
    exact e ▸ mean3 x1 h1 r k

/-- The mixed pools are real. -/
theorem mix_real (h3 : ∀ i, IsReal (x3 i)) (i : S2048x1024.Idx) : IsReal (val_main_v62 (F := Ideal) x1 x3 i) := by
  obtain ⟨r, k, rfl⟩ : ∃ (r : Fin 2048) (k : Fin 1024), i = ix2 r k := ⟨i 0, i 1, eq_ix2 _⟩
  have e : val_main_v62 (F := Ideal) x1 x3 (ix2 r k)
      = ∑ x : Fin 256, x3 (ix3 (Spec.grp k) x (Spec.lane k)) * val_main_v59 (F := Ideal) x1 (ix3 r (Spec.grp k) x) := by
    pointwise [val_main_v62, val_main_v61, val_main_v60]
    rfl
  rw [e]
  exact .sum _ _ fun x _ => (h3 _).mul (pool_real x1 h1 _)

end Real

end Cert.MixA

end
-- ==== Proof.PoolA.lean ====
/- The first layer's reference from the gradient of the pools on: the quotients by the number of frames, the two padded sums that
   carry them, and the running sum from the last row that gives the gradient of the mixer's input. -/
module

public import proofs.«01_k».proof.Proof.MixA
public import Idealize.ShloMosaic.Lib.KernelVsHost

@[expose] public section

set_option maxRecDepth 16384

noncomputable section

open Idealize.ShloMosaic Idealize.ShloMosaic.TcCoe Idealize.SL.Sem

namespace Cert.PoolA

open Cert.ReferenceIdeal Cert.ReferenceIdeal.Gen Cert.ReferenceIdeal.Read Cert.Finite

variable (x0 : (⟨S2048x1024, .f32⟩ : BufTy).Contents (Elt Ideal)) (x1 : (⟨S2048x2048, .f32⟩ : BufTy).Contents (Elt Ideal))
  (x2 : (⟨S2048x1024, .f32⟩ : BufTy).Contents (Elt Ideal)) (x3 : (⟨S4x256x256, .f32⟩ : BufTy).Contents (Elt Ideal))
  (x4 : (⟨S1x1024, .f32⟩ : BufTy).Contents (Elt Ideal)) (x5 x6 : (⟨S1024x1024, .f32⟩ : BufTy).Contents (Elt Ideal))
  (x7 : (⟨S2048x1024, .f32⟩ : BufTy).Contents (Elt Ideal))

/-- The gradient of the mixed pools. -/
def D : Spec.Act 2048 := Spec.dm (n := 2048) x7 x2 (val_main_v75 (F := Ideal) x0 x1 x3 x4 x5 x6) (val_main_v1 (F := Ideal) x1) x4 x6 x5

/-- The gradient of the pools. -/
theorem dpool_eq (r : Fin 2048) (g : Fin 4) (k : Fin 256) : val_main_v100 (F := Ideal) x0 x1 x2 x3 x4 x5 x6 x7 (ix3 r g k)
    = Spec.dpool (n := 2048) (D x0 x1 x2 x3 x4 x5 x6 x7) x3 (ix2 r (Spec.col g k)) := by
  unfold Spec.dpool D
  rw [← RefA.dm_eq]
  pointwise [val_main_v100, val_main_v99, val_main_v98, val_main_v97]
  rw [Spec.grp_col, Spec.lane_col]
  refine Finset.sum_congr rfl fun x _ => ?_
  rfl

/-- The quotients of the four groups. -/
theorem q0 (r : Fin 2048) (k : Fin 256) : val_main_v136 (F := Ideal) x0 x1 x2 x3 x4 x5 x6 x7 (ix2 r k)
    = Spec.q (D x0 x1 x2 x3 x4 x5 x6 x7) x3 (ix2 r (Spec.col 0 k)) := by
  pointwise [val_main_v136, val_main_v135, MixA.cnt0, val_main_v103, val_main_v102, dpool_eq, Spec.q]
  rw [Spec.grp_col]

theorem q1 (r : Fin 2048) (k : Fin 256) : val_main_v127 (F := Ideal) x0 x1 x2 x3 x4 x5 x6 x7 (ix2 r k)
    = Spec.q (D x0 x1 x2 x3 x4 x5 x6 x7) x3 (ix2 r (Spec.col 1 k)) := by
  pointwise [val_main_v127, val_main_v126, MixA.cnt1, val_main_v105, val_main_v104, dpool_eq, Spec.q]
  rw [Spec.grp_col]

theorem q2 (r : Fin 2048) (k : Fin 256) : val_main_v118 (F := Ideal) x0 x1 x2 x3 x4 x5 x6 x7 (ix2 r k)
    = Spec.q (D x0 x1 x2 x3 x4 x5 x6 x7) x3 (ix2 r (Spec.col 2 k)) := by
  pointwise [val_main_v118, val_main_v117, MixA.cnt2, val_main_v107, val_main_v106, dpool_eq, Spec.q]
  rw [Spec.grp_col]

theorem q3 (r : Fin 2048) (k : Fin 256) : val_main_v111 (F := Ideal) x0 x1 x2 x3 x4 x5 x6 x7 (ix2 r k)
    = Spec.q (D x0 x1 x2 x3 x4 x5 x6 x7) x3 (ix2 r (Spec.col 3 k)) := by
  pointwise [val_main_v111, val_main_v110, MixA.cnt3, val_main_v109, val_main_v108, dpool_eq, Spec.q]
  rw [Spec.grp_col]

/-- A group's column of values padded into an array of all groups: the values where the row and the group match, zero elsewhere. -/
theorem pad_at (n lo hi g hg : ℕ) (x : S2048x1x256.Idx → EReal) {u : Shape} (v : u.Idx → EReal)
    (h : S2048x1x256.Pads ![lo, g, 0] ![hi, hg, 0] ![0, 0, 0] ⟨3, ![n, 4, 256]⟩) (hu : 0 < u.numel) (hz : v (Shape.Idx.first hu) = 0)
    (r : Fin n) (g' : Fin 4) (k : Fin 256) :
    pad ⟨3, ![n, 4, 256]⟩ ![lo, g, 0] ![hi, hg, 0] ![0, 0, 0] x v h hu (ix3 r g' k)
      = if hin : g'.val = g ∧ lo ≤ r.val ∧ r.val - lo < 2048 then x (ix3 ⟨r.val - lo, hin.2.2⟩ (0 : Fin 1) k) else 0 := by
  by_cases hin : g'.val = g ∧ lo ≤ r.val ∧ r.val - lo < 2048
  · rw [dif_pos hin]
    refine pad_apply_of_inside _ _ _ _ _ h hu _ _ fun a => ?_
    fin_cases a
    · show r.val = lo + (r.val - lo) * (0 + 1)
      omega
    · show g'.val = g + 0 * (0 + 1)
      omega
    · show k.val = 0 + k.val * (0 + 1)
      omega
  · rw [dif_neg hin, ← hz]
    by_cases hg : g'.val = g
    · refine pad_apply_of_not_inside _ _ _ _ _ h hu _ 0 ?_
      show ¬ (lo ≤ r.val ∧ (r.val - lo) % (0 + 1) = 0 ∧ (r.val - lo) / (0 + 1) < 2048)
      omega
    · refine pad_apply_of_not_inside _ _ _ _ _ h hu _ 1 ?_
      show ¬ (g ≤ g'.val ∧ (g'.val - g) % (0 + 1) = 0 ∧ (g'.val - g) / (0 + 1) < 1)
      omega

/-- Where each group's quotients are placed. -/
theorem at0 (r : Fin 2048) (g : Fin 4) (k : Fin 256) : val_main_v139 (F := Ideal) x0 x1 x2 x3 x4 x5 x6 x7 (ix3 r g k)
    = if g.val = 0 then Spec.ext (Spec.q (D x0 x1 x2 x3 x4 x5 x6 x7) x3) r.val (Spec.col 0 k) else 0 := by
  unfold val_main_v139
  rw [pad_at 2048 0 0 0 3 _ _ _ _ (by pointwise [val_main_cst_15]) r g k]
  by_cases hg : g.val = 0
  · rw [if_pos hg, dif_pos ⟨hg, Nat.zero_le _, by omega⟩]
    unfold Spec.ext
    rw [dif_pos r.isLt]
    pointwise [val_main_v138, q0]
  · rw [if_neg hg, dif_neg fun h => hg h.1]

theorem at1 (r : Fin 2048) (g : Fin 4) (k : Fin 256) : val_main_v130 (F := Ideal) x0 x1 x2 x3 x4 x5 x6 x7 (ix3 r g k)
    = if g.val = 1 then Spec.ext (Spec.q (D x0 x1 x2 x3 x4 x5 x6 x7) x3) r.val (Spec.col 1 k) else 0 := by
  unfold val_main_v130
  rw [pad_at 2048 0 0 1 2 _ _ _ _ (by pointwise [val_main_cst_13]) r g k]
  by_cases hg : g.val = 1
  · rw [if_pos hg, dif_pos ⟨hg, Nat.zero_le _, by omega⟩]
    unfold Spec.ext
    rw [dif_pos r.isLt]
    pointwise [val_main_v129, q1]
  · rw [if_neg hg, dif_neg fun h => hg h.1]

theorem at2 (r : Fin 2048) (g : Fin 4) (k : Fin 256) : val_main_v121 (F := Ideal) x0 x1 x2 x3 x4 x5 x6 x7 (ix3 r g k)
    = if g.val = 2 then Spec.ext (Spec.q (D x0 x1 x2 x3 x4 x5 x6 x7) x3) r.val (Spec.col 2 k) else 0 := by
  unfold val_main_v121
  rw [pad_at 2048 0 0 2 1 _ _ _ _ (by pointwise [val_main_cst_11]) r g k]
  by_cases hg : g.val = 2
  · rw [if_pos hg, dif_pos ⟨hg, Nat.zero_le _, by omega⟩]
    unfold Spec.ext
    rw [dif_pos r.isLt]
    pointwise [val_main_v120, q2]
  · rw [if_neg hg, dif_neg fun h => hg h.1]

theorem at3 (r : Fin 2048) (g : Fin 4) (k : Fin 256) : val_main_v114 (F := Ideal) x0 x1 x2 x3 x4 x5 x6 x7 (ix3 r g k)
    = if g.val = 3 then Spec.ext (Spec.q (D x0 x1 x2 x3 x4 x5 x6 x7) x3) r.val (Spec.col 3 k) else 0 := by
  unfold val_main_v114
  rw [pad_at 2048 0 0 3 0 _ _ _ _ (by pointwise [val_main_cst_9]) r g k]
  by_cases hg : g.val = 3
  · rw [if_pos hg, dif_pos ⟨hg, Nat.zero_le _, by omega⟩]
    unfold Spec.ext
    rw [dif_pos r.isLt]
    pointwise [val_main_v113, q3]
  · rw [if_neg hg, dif_neg fun h => hg h.1]

/-- Where their negatives are, moved down by the rows the mean does not run over. -/
theorem neg0 (r : Fin 2048) (g : Fin 4) (k : Fin 256) (h : 16 + r.val < 2064) : val_main_v142 (F := Ideal) x0 x1 x2 x3 x4 x5 x6 x7 (ix3 ⟨16 + r.val, h⟩ g k)
    = if g.val = 0 then -Spec.ext (Spec.q (D x0 x1 x2 x3 x4 x5 x6 x7) x3) (r.val + 2) (Spec.col 0 k) else 0 := by
  unfold val_main_v142
  rw [pad_at 2064 14 2 0 3 _ _ _ _ (by pointwise [val_main_cst_16]) _ g k]
  by_cases hg : g.val = 0
  · rw [if_pos hg]
    unfold Spec.ext
    by_cases hr : r.val + 2 < 2048
    · rw [dif_pos hr, dif_pos ⟨hg, by show 14 ≤ 16 + r.val; omega, by show 16 + r.val - 14 < 2048; omega⟩]
      pointwise [val_main_v141, val_main_v137, q0]
      exact congrArg (fun a => -Spec.q (D x0 x1 x2 x3 x4 x5 x6 x7) x3 (ix2 a (Spec.col 0 k))) (Fin.ext (by show 16 + r.val - 14 = r.val + 2; omega))
    · rw [dif_neg hr, dif_neg (fun h => hr (by have := h.2.2; change 16 + r.val - 14 < 2048 at this; omega)), neg_zero]
  · rw [if_neg hg, dif_neg fun h => hg h.1]

theorem neg1 (r : Fin 2048) (g : Fin 4) (k : Fin 256) (h : 16 + r.val < 2064) : val_main_v133 (F := Ideal) x0 x1 x2 x3 x4 x5 x6 x7 (ix3 ⟨16 + r.val, h⟩ g k)
    = if g.val = 1 then -Spec.ext (Spec.q (D x0 x1 x2 x3 x4 x5 x6 x7) x3) (r.val + 4) (Spec.col 1 k) else 0 := by
  unfold val_main_v133
  rw [pad_at 2064 12 4 1 2 _ _ _ _ (by pointwise [val_main_cst_14]) _ g k]
  by_cases hg : g.val = 1
  · rw [if_pos hg]
    unfold Spec.ext
    by_cases hr : r.val + 4 < 2048
    · rw [dif_pos hr, dif_pos ⟨hg, by show 12 ≤ 16 + r.val; omega, by show 16 + r.val - 12 < 2048; omega⟩]
      pointwise [val_main_v132, val_main_v128, q1]
      exact congrArg (fun a => -Spec.q (D x0 x1 x2 x3 x4 x5 x6 x7) x3 (ix2 a (Spec.col 1 k))) (Fin.ext (by show 16 + r.val - 12 = r.val + 4; omega))
    · rw [dif_neg hr, dif_neg (fun h => hr (by have := h.2.2; change 16 + r.val - 12 < 2048 at this; omega)), neg_zero]
  · rw [if_neg hg, dif_neg fun h => hg h.1]

theorem neg2 (r : Fin 2048) (g : Fin 4) (k : Fin 256) (h : 16 + r.val < 2064) : val_main_v124 (F := Ideal) x0 x1 x2 x3 x4 x5 x6 x7 (ix3 ⟨16 + r.val, h⟩ g k)
    = if g.val = 2 then -Spec.ext (Spec.q (D x0 x1 x2 x3 x4 x5 x6 x7) x3) (r.val + 8) (Spec.col 2 k) else 0 := by
  unfold val_main_v124
  rw [pad_at 2064 8 8 2 1 _ _ _ _ (by pointwise [val_main_cst_12]) _ g k]
  by_cases hg : g.val = 2
  · rw [if_pos hg]
    unfold Spec.ext
    by_cases hr : r.val + 8 < 2048
    · rw [dif_pos hr, dif_pos ⟨hg, by show 8 ≤ 16 + r.val; omega, by show 16 + r.val - 8 < 2048; omega⟩]
      pointwise [val_main_v123, val_main_v119, q2]
      exact congrArg (fun a => -Spec.q (D x0 x1 x2 x3 x4 x5 x6 x7) x3 (ix2 a (Spec.col 2 k))) (Fin.ext (by show 16 + r.val - 8 = r.val + 8; omega))
    · rw [dif_neg hr, dif_neg (fun h => hr (by have := h.2.2; change 16 + r.val - 8 < 2048 at this; omega)), neg_zero]
  · rw [if_neg hg, dif_neg fun h => hg h.1]

theorem neg3 (r : Fin 2048) (g : Fin 4) (k : Fin 256) (h : 16 + r.val < 2064) : val_main_v116 (F := Ideal) x0 x1 x2 x3 x4 x5 x6 x7 (ix3 ⟨16 + r.val, h⟩ g k)
    = if g.val = 3 then -Spec.ext (Spec.q (D x0 x1 x2 x3 x4 x5 x6 x7) x3) (r.val + 16) (Spec.col 3 k) else 0 := by
  unfold val_main_v116
  rw [pad_at 2064 0 16 3 0 _ _ _ _ (by pointwise [val_main_cst_10]) _ g k]
  by_cases hg : g.val = 3
  · rw [if_pos hg]
    unfold Spec.ext
    by_cases hr : r.val + 16 < 2048
    · rw [dif_pos hr, dif_pos ⟨hg, by show 0 ≤ 16 + r.val; omega, by show 16 + r.val - 0 < 2048; omega⟩]
      pointwise [val_main_v115, val_main_v112, q3]
      exact congrArg (fun a => -Spec.q (D x0 x1 x2 x3 x4 x5 x6 x7) x3 (ix2 a (Spec.col 3 k))) (Fin.ext (by show 16 + r.val - 0 = r.val + 16; omega))
    · rw [dif_neg hr, dif_neg (fun h => hr (by have := h.2.2; change 16 + r.val - 0 < 2048 at this; omega)), neg_zero]
  · rw [if_neg hg, dif_neg fun h => hg h.1]

/-- What the running sum from the last row runs over: a quotient less the one `width` rows on. -/
theorem step_eq (r : Fin 2048) (g : Fin 4) (k : Fin 256) : val_main_v146 (F := Ideal) x0 x1 x2 x3 x4 x5 x6 x7 (ix3 r g k)
    = Spec.ext (Spec.q (D x0 x1 x2 x3 x4 x5 x6 x7) x3) r.val (Spec.col g k) + -Spec.ext (Spec.q (D x0 x1 x2 x3 x4 x5 x6 x7) x3) (r.val + Spec.width g) (Spec.col g k) := by
  pointwise [val_main_v146, val_main_v140, val_main_v131, val_main_v122, val_main_v145, val_main_v143, val_main_v134, val_main_v125,
    at0, at1, at2, at3, neg0, neg1, neg2, neg3]
  fin_cases g <;> simp [Spec.width]

end Cert.PoolA

end
-- ==== Proof.RunA.lean ====
/- The first layer's reference as a run: its six results as the plain formulas, where its arguments are real. -/
module

public import proofs.«01_k».proof.Proof.PoolA

@[expose] public section

set_option maxRecDepth 16384

noncomputable section

open Idealize.ShloMosaic Idealize.ShloMosaic.TcCoe Idealize.SL.Sem

namespace Cert.RunA

open Cert.ReferenceIdeal Cert.ReferenceIdeal.Gen Cert.ReferenceIdeal.Read Cert.Finite Cert.PoolA

section Values

variable (x0 : (⟨S2048x1024, .f32⟩ : BufTy).Contents (Elt Ideal)) (x1 : (⟨S2048x2048, .f32⟩ : BufTy).Contents (Elt Ideal))
  (x2 : (⟨S2048x1024, .f32⟩ : BufTy).Contents (Elt Ideal)) (x3 : (⟨S4x256x256, .f32⟩ : BufTy).Contents (Elt Ideal))
  (x4 : (⟨S1x1024, .f32⟩ : BufTy).Contents (Elt Ideal)) (x5 x6 : (⟨S1024x1024, .f32⟩ : BufTy).Contents (Elt Ideal))
  (x7 : (⟨S2048x1024, .f32⟩ : BufTy).Contents (Elt Ideal))

/-- The gradient of the mixer's input, where the quotients are real. -/
theorem du_eq (hq : ∀ i, IsReal (Spec.q (D x0 x1 x2 x3 x4 x5 x6 x7) x3 i)) :
    val_main_v149 (F := Ideal) x0 x1 x2 x3 x4 x5 x6 x7 = Spec.du (D x0 x1 x2 x3 x4 x5 x6 x7) x3 := by
  have hsum : ∀ (s : Fin 2048) (g : Fin 4) (k : Fin 256), val_main_v147 (F := Ideal) x0 x1 x2 x3 x4 x5 x6 x7 (ix3 s g k)
      = ∑ j ∈ Finset.range (Spec.width g), Spec.ext (Spec.q (D x0 x1 x2 x3 x4 x5 x6 x7) x3) (s.val + j) (Spec.col g k) := fun s g k => by
    have hz : val_main_call3_call0_v0 (F := Ideal) (Shape.Idx.first h_S_) = 0 := by
      pointwise [val_main_call3_call0_v0, val_main_call3_call0_cst]
    unfold val_main_v147
    rw [Cumsum.printed _ _ _ _ _ _ hz, Cumsum.window_apply,
      ← Cumsum.telescope (fun n => Spec.ext (Spec.q (D x0 x1 x2 x3 x4 x5 x6 x7) x3) n (Spec.col g k)) (fun n => ?_) (fun n hn => ?_)]
    · refine Finset.sum_congr rfl fun n _ => ?_
      by_cases h : s.val + n.val < 2048
      · rw [if_pos h, dif_pos ⟨Nat.zero_le _, h⟩, step_eq]
        rfl
      · rw [if_neg h, dif_neg fun h' => h h'.2]
    · unfold Spec.ext
      split
      · exact hq _
      · exact .zero
    · unfold Spec.ext
      rw [dif_neg (by omega)]
  funext i
  obtain ⟨r, c, rfl⟩ : ∃ (r : Fin 2048) (c : Fin 1024), i = ix2 r c := ⟨i 0, i 1, eq_ix2 _⟩
  have e : val_main_v149 (F := Ideal) x0 x1 x2 x3 x4 x5 x6 x7 (ix2 r c)
      = -val_main_v100 (F := Ideal) x0 x1 x2 x3 x4 x5 x6 x7 (ix3 r (Spec.grp c) (Spec.lane c))
        + val_main_v147 (F := Ideal) x0 x1 x2 x3 x4 x5 x6 x7 (ix3 r (Spec.grp c) (Spec.lane c)) := by
    pointwise [val_main_v149, val_main_v148, val_main_v101]
    rfl
  rw [e, hsum, dpool_eq, Spec.col_grp_lane, add_comm, ← sub_eq_add_neg]
  rfl

/-- Where the arguments are real, so is the gradient reaching the silu gate. -/
theorem cot_real (h1 : ∀ i, IsReal (x1 i)) (h2 : ∀ i, IsReal (x2 i)) (h3 : ∀ i, IsReal (x3 i)) (h4 : ∀ i, IsReal (x4 i))
    (h5 : ∀ i, IsReal (x5 i)) (h6 : ∀ i, IsReal (x6 i)) (h7 : ∀ i, IsReal (x7 i)) (i : S2048x1024.Idx) :
    IsReal (Spec.dy (n := 2048) x7 x2 (val_main_v75 (F := Ideal) x0 x1 x3 x4 x5 x6) x6 x5 i
      * (val_main_v62 (F := Ideal) x1 x3 i * x4 (ix2 0 (i 1 : Fin 1024)))) :=
  (Spec.dy_real h7 h2 (RefA.gate_real _ _ _ _ _ _) h6 h5 i).mul ((MixA.mix_real x1 x3 h1 h3 i).mul (h4 _))

/-- And so are the quotients. -/
theorem q_real (h1 : ∀ i, IsReal (x1 i)) (h2 : ∀ i, IsReal (x2 i)) (h3 : ∀ i, IsReal (x3 i)) (h4 : ∀ i, IsReal (x4 i))
    (h5 : ∀ i, IsReal (x5 i)) (h6 : ∀ i, IsReal (x6 i)) (h7 : ∀ i, IsReal (x7 i)) (i : S2048x1024.Idx) :
    IsReal (Spec.q (D x0 x1 x2 x3 x4 x5 x6 x7) x3 i) := by
  have hz : ∀ k, IsReal (val_main_v1 (F := Ideal) x1 k) := fun k => by
    obtain ⟨k', hk⟩ : ∃ k', val_main_v1 (F := Ideal) x1 k = x1 k' := ⟨_, rfl⟩
    rw [hk]
    exact h1 k'
  refine IsReal.div (.sum _ _ fun k _ => IsReal.mul ?_ (h3 _)) (Spec.cnt_real _ _) (Spec.cnt_ne_zero _ _)
  exact ((Spec.dy_real h7 h2 (RefA.gate_real _ _ _ _ _ _) h6 h5 _).mul ((hz _).mul (.logistic _))).mul (h4 _)

/-- The two gradients side by side. -/
theorem duz_eq (hq : ∀ i, IsReal (Spec.q (D x0 x1 x2 x3 x4 x5 x6 x7) x3 i))
    (hc : ∀ i : S2048x1024.Idx, IsReal (Spec.dy (n := 2048) x7 x2 (val_main_v75 (F := Ideal) x0 x1 x3 x4 x5 x6) x6 x5 i
      * (val_main_v62 (F := Ideal) x1 x3 i * x4 (ix2 0 (i 1 : Fin 1024))))) :
    val_main_v154 (F := Ideal) x0 x1 x2 x3 x4 x5 x6 x7
      = Spec.beside (Spec.du (D x0 x1 x2 x3 x4 x5 x6 x7) x3)
        (Spec.dzA (n := 2048) x7 x2 (val_main_v75 (F := Ideal) x0 x1 x3 x4 x5 x6) (val_main_v1 (F := Ideal) x1)
          (val_main_v62 (F := Ideal) x1 x3) x4 x6 x5) := by
  rw [← du_eq x0 x1 x2 x3 x4 x5 x6 x7 hq, ← RefA.dz_eq x0 x1 x2 x3 x4 x5 x6 x7 hc]
  funext i
  obtain ⟨r, c, rfl⟩ : ∃ (r : Fin 2048) (c : Fin 2048), i = ix2 r c := ⟨i 0, i 1, eq_ix2 _⟩
  pointwise [val_main_v154, val_main_v150, Spec.beside]

end Values

variable (m : (ℓ : Loc nD τ sig) → Buf (Elt Ideal) ℓ)

/-- The gate, the silu gate's argument, the mixed pools and the pools' gradient as the reference computes them from its memory. -/
abbrev gate (c : Dev nD) : (⟨S2048x1024, .f32⟩ : BufTy).Contents (Elt Ideal) :=
  val_main_v75 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6))

abbrev arg (c : Dev nD) : (⟨S2048x1024, .f32⟩ : BufTy).Contents (Elt Ideal) := val_main_v1 (F := Ideal) (m ((c.tc : Thread nD τ).loc main_arg1))

abbrev mix (c : Dev nD) : (⟨S2048x1024, .f32⟩ : BufTy).Contents (Elt Ideal) :=
  val_main_v62 (F := Ideal) (m ((c.tc : Thread nD τ).loc main_arg1)) (m ((c.tc : Thread nD τ).loc main_arg3))

/-- The reference's run: its six results as the plain formulas, its arguments kept. -/
theorem run (ρ : Dev nD → PrngReg)
    (h1 : ∀ (c : Dev nD) i, IsReal (m ((c.tc : Thread nD τ).loc main_arg1) i))
    (h2 : ∀ (c : Dev nD) i, IsReal (m ((c.tc : Thread nD τ).loc main_arg2) i))
    (h3 : ∀ (c : Dev nD) i, IsReal (m ((c.tc : Thread nD τ).loc main_arg3) i))
    (h4 : ∀ (c : Dev nD) i, IsReal (m ((c.tc : Thread nD τ).loc main_arg4) i))
    (h5 : ∀ (c : Dev nD) i, IsReal (m ((c.tc : Thread nD τ).loc main_arg5) i))
    (h6 : ∀ (c : Dev nD) i, IsReal (m ((c.tc : Thread nD τ).loc main_arg6) i))
    (h7 : ∀ (c : Dev nD) i, IsReal (m ((c.tc : Thread nD τ).loc main_arg7) i)) :
    θ_run defs (onTc (τ := τ) (main (F := Ideal))) ⟨m, fun _ => 0, ρ⟩ fun r => ∀ c : Dev nD,
      r.2.mem ((c.tc : Thread nD τ).loc main_v151) = Spec.de (n := 2048) (m ((c.tc : Thread nD τ).loc main_arg7)) (gate m c)
      ∧ r.2.mem ((c.tc : Thread nD τ).loc main_v152) = Spec.dgate (n := 2048) (m ((c.tc : Thread nD τ).loc main_arg7)) (m ((c.tc : Thread nD τ).loc main_arg2)) (gate m c)
      ∧ r.2.mem ((c.tc : Thread nD τ).loc main_v87) = Spec.dx (n := 2048) (m ((c.tc : Thread nD τ).loc main_arg7)) (m ((c.tc : Thread nD τ).loc main_arg2)) (gate m c) (m ((c.tc : Thread nD τ).loc main_arg6))
      ∧ r.2.mem ((c.tc : Thread nD τ).loc main_v153) = Spec.dm (n := 2048) (m ((c.tc : Thread nD τ).loc main_arg7)) (m ((c.tc : Thread nD τ).loc main_arg2)) (gate m c) (arg m c) (m ((c.tc : Thread nD τ).loc main_arg4)) (m ((c.tc : Thread nD τ).loc main_arg6)) (m ((c.tc : Thread nD τ).loc main_arg5))
      ∧ r.2.mem ((c.tc : Thread nD τ).loc main_v154) = Spec.beside (Spec.du (Spec.dm (n := 2048) (m ((c.tc : Thread nD τ).loc main_arg7)) (m ((c.tc : Thread nD τ).loc main_arg2)) (gate m c) (arg m c) (m ((c.tc : Thread nD τ).loc main_arg4)) (m ((c.tc : Thread nD τ).loc main_arg6)) (m ((c.tc : Thread nD τ).loc main_arg5))) (m ((c.tc : Thread nD τ).loc main_arg3))) (Spec.dzA (n := 2048) (m ((c.tc : Thread nD τ).loc main_arg7)) (m ((c.tc : Thread nD τ).loc main_arg2)) (gate m c) (arg m c) (mix m c) (m ((c.tc : Thread nD τ).loc main_arg4)) (m ((c.tc : Thread nD τ).loc main_arg6)) (m ((c.tc : Thread nD τ).loc main_arg5)))
      ∧ (r.2.mem ((c.tc : Thread nD τ).loc main_v94) = fun y : S1x1024.Idx => Spec.dsc (n := 2048) (m ((c.tc : Thread nD τ).loc main_arg7)) (m ((c.tc : Thread nD τ).loc main_arg2)) (gate m c) (arg m c) (mix m c) (m ((c.tc : Thread nD τ).loc main_arg6)) (m ((c.tc : Thread nD τ).loc main_arg5)) (y 1 : Fin 1024))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun r h c => ?_) (Cert.ReferenceIdeal.Value.run m ρ)
  obtain ⟨e0, e1, e2, e3, e4, e5, ha⟩ := h c
  have hc := cot_real (m ((c.tc : Thread nD τ).loc main_arg0)) _ _ _ _ _ _ _ (h1 c) (h2 c) (h3 c) (h4 c) (h5 c) (h6 c) (h7 c)
  have hq := q_real (m ((c.tc : Thread nD τ).loc main_arg0)) _ _ _ _ _ _ _ (h1 c) (h2 c) (h3 c) (h4 c) (h5 c) (h6 c) (h7 c)
  refine ⟨e0.trans ?_, e1.trans ?_, e2.trans ?_, e3.trans ?_, e4.trans ?_, e5.trans ?_, ha⟩
  · exact (val_main_v151_eq (F := Ideal) _).trans (RefA.de_eq _ _ _ _ _ _ _)
  · exact (val_main_v152_eq (F := Ideal) _).trans (RefA.dgate_eq _ _ _ _ _ _ _ _)
  · exact (val_main_v87_eq (F := Ideal) _).trans (RefA.dx_eq _ _ _ _ _ _ _ _)
  · exact (val_main_v153_eq (F := Ideal) _).trans (RefA.dm_eq _ _ _ _ _ _ _ _)
  · exact (val_main_v154_eq (F := Ideal) _).trans (duz_eq _ _ _ _ _ _ _ _ hq hc)
  · exact (val_main_v94_eq (F := Ideal) _).trans (funext fun y => RefA.dsc_eq _ _ _ _ _ _ _ _ y)

end Cert.RunA

end
-- ==== Proof.Tested.lean ====
/- The precondition's test of one array, "the absolute value is below infinity", read as "every value is real". -/
module

public import proofs.«01_k».proof.Proof.Finite
public import Idealize.ShloMosaic.Lib.Pipeline.ValueKit

@[expose] public section

noncomputable section

open Idealize.ShloMosaic

namespace Cert.Finite

/-- An array every element of which passes the test holds real values. -/
theorem real_of_test {s : Shape} {x : FVec Ideal s .f32} {h : Shape.BroadcastsInDim ⟨0, ![]⟩ s ![]}
    (hx : cmpf .olt (Host.absf x) (broadcastInDim s ![] h (constant (F := Ideal) ⟨0, ![]⟩ .f32 0x7F800000#32))
      = fun _ => 1#1) (i : s.Idx) : IsReal (x i) := by
  have htop : Ideal.ofBits .f32 0x7F800000#32 = ⊤ := by simp [Ideal.ofBits, Ideal.ieee]
  have hi := congrFun hx i
  pointwise at hi
  rw [htop] at hi
  refine .of_abs_lt ?_
  by_contra hn
  rw [decide_eq_false (show ¬ FloatOps.absf (x i) < ⊤ from hn)] at hi
  exact absurd hi (by decide)

end Cert.Finite

end
-- ==== Proof.BridgeA.lean ====
/- The first layer: what both programs compute before the backward pass is one array each, the precondition's words as real
   values, and the two programs' six results set beside each other. -/
module

public import proofs.«01_k».proof.Defs
public import proofs.«01_k».proof.Proof.WindowU
public import proofs.«01_k».proof.Proof.ScaleA
public import proofs.«01_k».proof.Proof.RunA
public import proofs.«01_k».proof.Proof.Tested
public import proofs.«01_k».proof.Proof.Gen.KernelIdeal.Value
public import proofs.«01_k».proof.Proof.Gen.ReferenceIdeal.Run
public import proofs.«01_k».proof.Proof.Gen.Pre_finite
public import Idealize.ShloMosaic.Lib.Claim

@[expose] public section

set_option maxRecDepth 16384

noncomputable section

open Idealize.ShloMosaic Idealize.ShloMosaic.TcCoe Idealize.SL.Sem

namespace Cert.BridgeA

open Cert.KernelIdeal Cert.KernelIdeal.Gen Cert.Finite

variable (m : (ℓ : Loc nD τ sig) → Buf (Elt Ideal) ℓ)

/-- Four pools that agree one by one agree stacked. -/
theorem four {a b c d a' b' c' d' : (⟨S2048x1x256, .f32⟩ : BufTy).Contents (Elt Ideal)} (ha : a = a') (hb : b = b') (hc : c = c') (hd : d = d') :
    concatenate S2048x4x256 1 [⟨S2048x1x256, a⟩, ⟨S2048x1x256, b⟩, ⟨S2048x1x256, c⟩, ⟨S2048x1x256, d⟩] concatenates_S2048x1x256_S2048x1x256_S2048x1x256_S2048x1x256_S2048x4x256_d1 =
      concatenate S2048x4x256 1 [⟨S2048x1x256, a'⟩, ⟨S2048x1x256, b'⟩, ⟨S2048x1x256, c'⟩, ⟨S2048x1x256, d'⟩] concatenates_S2048x1x256_S2048x1x256_S2048x1x256_S2048x1x256_S2048x4x256_d1 := by
  subst ha hb hc hd
  rfl

/-- The silu gate's argument the kernel's host code computes is the reference's. -/
theorem entry_arg (c : Dev nD) : V m c main_v1 = Cert.ReferenceIdeal.Read.val_main_v1 (F := Ideal)
    (m ((c : Thread nD τ).loc main_arg1)) := by
  entry_read
  rfl

set_option maxHeartbeats 4000000 in
/-- And so are the mixed pools. -/
theorem entry_mix (c : Dev nD) : V m c main_v61 = Cert.ReferenceIdeal.Read.val_main_v62 (F := Ideal)
    (m ((c : Thread nD τ).loc main_arg1)) (m ((c : Thread nD τ).loc main_arg3)) := by
  entry_read
  unfold Cert.ReferenceIdeal.Read.val_main_v62 Cert.ReferenceIdeal.Read.val_main_v61 Cert.ReferenceIdeal.Read.val_main_v60 Cert.ReferenceIdeal.Read.val_main_v59 Cert.ReferenceIdeal.Read.val_main_v58
  refine congrArg (fun a => shapeCast S2048x1024 (transpose S2048x4x256 [2, 0, 1] (Host.dotGeneral (F := Ideal) (φ₁ := .f32) (φ₂ := .f32) dot_S4x256x256_S2048x4x256_S4x256x2048_1_2_2_0_0_1 none (m ((c : Thread nD τ).loc main_arg3)) a) transposes_S4x256x2048_S2048x4x256_2_0_1) shapeCasts_S2048x4x256_S2048x1024) ?_
  refine congrArg₂ (fun a b => subf a b) (four ?_ ?_ ?_ ?_) ?_
  · rfl
  · rfl
  · rfl
  · rfl
  · rfl

set_option maxHeartbeats 8000000 in
/-- And so is the gate. -/
theorem entry_gate (c : Dev nD) : V m c main_v74 = Cert.ReferenceIdeal.Read.val_main_v75 (F := Ideal)
    (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  entry_read
  unfold Cert.ReferenceIdeal.Read.val_main_v75 Cert.ReferenceIdeal.Read.val_main_v73 Cert.ReferenceIdeal.Read.val_main_v71 Cert.ReferenceIdeal.Read.val_main_v70 Cert.ReferenceIdeal.Read.val_main_v69 Cert.ReferenceIdeal.Read.val_main_v68 Cert.ReferenceIdeal.Read.val_main_v67 Cert.ReferenceIdeal.Read.val_main_v66 Cert.ReferenceIdeal.Read.val_main_v64 Cert.ReferenceIdeal.Read.val_main_v62 Cert.ReferenceIdeal.Read.val_main_v61 Cert.ReferenceIdeal.Read.val_main_v60 Cert.ReferenceIdeal.Read.val_main_v59 Cert.ReferenceIdeal.Read.val_main_v58
  refine congrArg₂ (fun a b => Host.divf a b) ?_ (congrArg₂ (fun a b => addf a b) ?_ (congrArg (fun a => Host.exp (Host.negf (Host.dotGeneral (F := Ideal) (φ₁ := .f32) (φ₂ := .f32) dot_S2048x1024_S1024x1024_S2048x1024_1_0_0_1_n_n none (addf (m ((c : Thread nD τ).loc main_arg0)) (Host.dotGeneral (F := Ideal) (φ₁ := .f32) (φ₂ := .f32) dot_S2048x1024_S1024x1024_S2048x1024_1_0_0_1_n_n none a (m ((c : Thread nD τ).loc main_arg5)))) (m ((c : Thread nD τ).loc main_arg6))))) (congrArg₂ (fun a b => mulf a b) (congrArg₂ (fun a b => mulf a b) (congrArg (fun a => shapeCast S2048x1024 (transpose S2048x4x256 [2, 0, 1] (Host.dotGeneral (F := Ideal) (φ₁ := .f32) (φ₂ := .f32) dot_S4x256x256_S2048x4x256_S4x256x2048_1_2_2_0_0_1 none (m ((c : Thread nD τ).loc main_arg3)) a) transposes_S4x256x2048_S2048x4x256_2_0_1) shapeCasts_S2048x4x256_S2048x1024) (congrArg₂ (fun a b => subf a b) (four ?_ ?_ ?_ ?_) ?_)) ?_) ?_)))
  · rfl
  · rfl
  · rfl
  · rfl
  · rfl
  · rfl
  · rfl
  · rfl
  · rfl

/-- The kernel's run: its six results as the plain formulas, its arguments kept. -/
theorem kernel_run (g : Dev nD → PrngReg) : θ_run defs (onTc (τ := τ) (main (F := Ideal))) ⟨m, fun _ => 0, g⟩ fun r => ∀ c : Dev nD,
      r.2.mem ((c : Thread nD τ).loc main_v78_0) = Spec.de (n := 2048) (m ((c : Thread nD τ).loc main_arg7)) (V m c main_v74)
      ∧ r.2.mem ((c : Thread nD τ).loc main_v78_1) = Spec.dgate (n := 2048) (m ((c : Thread nD τ).loc main_arg7)) (m ((c : Thread nD τ).loc main_arg2)) (V m c main_v74)
      ∧ r.2.mem ((c : Thread nD τ).loc main_v78_2) = Spec.dx (n := 2048) (m ((c : Thread nD τ).loc main_arg7)) (m ((c : Thread nD τ).loc main_arg2)) (V m c main_v74) (m ((c : Thread nD τ).loc main_arg6))
      ∧ r.2.mem ((c : Thread nD τ).loc main_v78_3) = (Spec.dm (n := 2048) (m ((c : Thread nD τ).loc main_arg7)) (m ((c : Thread nD τ).loc main_arg2)) (V m c main_v74) (V m c main_v1) (m ((c : Thread nD τ).loc main_arg4)) (m ((c : Thread nD τ).loc main_arg6)) (m ((c : Thread nD τ).loc main_arg5)))
      ∧ r.2.mem ((c : Thread nD τ).loc main_v78_4) = Spec.beside (Spec.du (Spec.dm (n := 2048) (m ((c : Thread nD τ).loc main_arg7)) (m ((c : Thread nD τ).loc main_arg2)) (V m c main_v74) (V m c main_v1) (m ((c : Thread nD τ).loc main_arg4)) (m ((c : Thread nD τ).loc main_arg6)) (m ((c : Thread nD τ).loc main_arg5))) (m ((c : Thread nD τ).loc main_arg3))) (Spec.dzA (n := 2048) (m ((c : Thread nD τ).loc main_arg7)) (m ((c : Thread nD τ).loc main_arg2)) (V m c main_v74) (V m c main_v1) (V m c main_v61) (m ((c : Thread nD τ).loc main_arg4)) (m ((c : Thread nD τ).loc main_arg6)) (m ((c : Thread nD τ).loc main_arg5)))
      ∧ (r.2.mem ((c : Thread nD τ).loc main_v78_5) = fun y : S1x1024.Idx => Spec.dsc (n := 2048) (m ((c : Thread nD τ).loc main_arg7)) (m ((c : Thread nD τ).loc main_arg2)) (V m c main_v74) (V m c main_v1) (V m c main_v61) (m ((c : Thread nD τ).loc main_arg6)) (m ((c : Thread nD τ).loc main_arg5)) (y 1 : Fin 1024))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) := by
  refine (θ_run defs _ _).mono (fun r h c => ?_) (Cert.KernelIdeal.Value.run_blocks m g)
  obtain ⟨h0, h1, h2, h3, h4, h5, ha⟩ := h c
  exact ⟨h0.trans (Cert.ValueA.final_de m c), h1.trans (Cert.ValueA.final_dgate m c), h2.trans (Cert.ValueA.final_dx m c),
    h3.trans (Cert.ValueA.final_dm m c), h4.trans (Cert.WindowU.final_u m c), h5.trans (Cert.ScaleA.final_dsc m c), ha⟩

/-- The kernel and the reference compute the same six gradients. -/
theorem algebraic : Cert.algebraic_KernelIdeal_ReferenceIdeal_pre_finite := by
  intro m g m' g' hpre hagree
  have hg : ∀ c, Cert.RunA.gate m' c = V m c main_v74 := fun c => by
    obtain ⟨h0, h1, h2, h3, h4, h5, h6, h7⟩ := hagree c
    rw [entry_gate, ← h0, ← h1, ← h3, ← h4, ← h5, ← h6]
  have hz : ∀ c, Cert.RunA.arg m' c = V m c main_v1 := fun c => by
    obtain ⟨h0, h1, h2, h3, h4, h5, h6, h7⟩ := hagree c
    rw [entry_arg, ← h1]
  have hm : ∀ c, Cert.RunA.mix m' c = V m c main_v61 := fun c => by
    obtain ⟨h0, h1, h2, h3, h4, h5, h6, h7⟩ := hagree c
    rw [entry_mix, ← h1, ← h3]
  refine ⟨fun c => Spec.de (n := 2048) (m ((c : Thread nD τ).loc main_arg7)) (V m c main_v74),
    fun c => Spec.dgate (n := 2048) (m ((c : Thread nD τ).loc main_arg7)) (m ((c : Thread nD τ).loc main_arg2)) (V m c main_v74),
    fun c => Spec.dx (n := 2048) (m ((c : Thread nD τ).loc main_arg7)) (m ((c : Thread nD τ).loc main_arg2)) (V m c main_v74) (m ((c : Thread nD τ).loc main_arg6)),
    fun c => (Spec.dm (n := 2048) (m ((c : Thread nD τ).loc main_arg7)) (m ((c : Thread nD τ).loc main_arg2)) (V m c main_v74) (V m c main_v1) (m ((c : Thread nD τ).loc main_arg4)) (m ((c : Thread nD τ).loc main_arg6)) (m ((c : Thread nD τ).loc main_arg5))),
    fun c => Spec.beside (Spec.du (Spec.dm (n := 2048) (m ((c : Thread nD τ).loc main_arg7)) (m ((c : Thread nD τ).loc main_arg2)) (V m c main_v74) (V m c main_v1) (m ((c : Thread nD τ).loc main_arg4)) (m ((c : Thread nD τ).loc main_arg6)) (m ((c : Thread nD τ).loc main_arg5))) (m ((c : Thread nD τ).loc main_arg3))) (Spec.dzA (n := 2048) (m ((c : Thread nD τ).loc main_arg7)) (m ((c : Thread nD τ).loc main_arg2)) (V m c main_v74) (V m c main_v1) (V m c main_v61) (m ((c : Thread nD τ).loc main_arg4)) (m ((c : Thread nD τ).loc main_arg6)) (m ((c : Thread nD τ).loc main_arg5))),
    fun c => fun y : S1x1024.Idx => Spec.dsc (n := 2048) (m ((c : Thread nD τ).loc main_arg7)) (m ((c : Thread nD τ).loc main_arg2)) (V m c main_v74) (V m c main_v1) (V m c main_v61) (m ((c : Thread nD τ).loc main_arg6)) (m ((c : Thread nD τ).loc main_arg5)) (y 1 : Fin 1024),
    kernel_run m g,
    (θ_run Cert.ReferenceIdeal.defs _ _).mono (fun r h c => ?_) (Cert.RunA.run m' g' (fun c i => ?_) (fun c i => ?_) (fun c i => ?_)
      (fun c i => ?_) (fun c i => ?_) (fun c i => ?_) fun c i => ?_)⟩
  · obtain ⟨h0, h1, h2, h3, h4, h5, h6, h7⟩ := hagree c
    obtain ⟨r0, r1, r2, r3, r4, r5, ha⟩ := h c
    rw [hg c, h7] at r0
    rw [hg c, h2, h7] at r1
    rw [hg c, h2, h6, h7] at r2
    rw [hg c, hz c, h2, h4, h5, h6, h7] at r3
    rw [hg c, hz c, hm c, h2, h3, h4, h5, h6, h7] at r4
    rw [hg c, hz c, hm c, h2, h5, h6, h7] at r5
    exact ⟨r0, r1, r2, r3, r4, r5, ha⟩
  · obtain ⟨p1, p2, p3, p4, p5, p6, p7⟩ := hpre c
    obtain ⟨h0, h1, h2, h3, h4, h5, h6, h7⟩ := hagree c
    rw [h1]
    exact real_of_test p1 i
  · obtain ⟨p1, p2, p3, p4, p5, p6, p7⟩ := hpre c
    obtain ⟨h0, h1, h2, h3, h4, h5, h6, h7⟩ := hagree c
    rw [h2]
    exact real_of_test p2 i
  · obtain ⟨p1, p2, p3, p4, p5, p6, p7⟩ := hpre c
    obtain ⟨h0, h1, h2, h3, h4, h5, h6, h7⟩ := hagree c
    rw [h3]
    exact real_of_test p3 i
  · obtain ⟨p1, p2, p3, p4, p5, p6, p7⟩ := hpre c
    obtain ⟨h0, h1, h2, h3, h4, h5, h6, h7⟩ := hagree c
    rw [h4]
    exact real_of_test p4 i
  · obtain ⟨p1, p2, p3, p4, p5, p6, p7⟩ := hpre c
    obtain ⟨h0, h1, h2, h3, h4, h5, h6, h7⟩ := hagree c
    rw [h5]
    exact real_of_test p5 i
  · obtain ⟨p1, p2, p3, p4, p5, p6, p7⟩ := hpre c
    obtain ⟨h0, h1, h2, h3, h4, h5, h6, h7⟩ := hagree c
    rw [h6]
    exact real_of_test p6 i
  · obtain ⟨p1, p2, p3, p4, p5, p6, p7⟩ := hpre c
    obtain ⟨h0, h1, h2, h3, h4, h5, h6, h7⟩ := hagree c
    rw [h7]
    exact real_of_test p7 i

end Cert.BridgeA

end
-- ==== Proof.ValueB.lean ====
/- What the second layer's kernel leaves in its five results, as the plain formulas of `Spec`. -/
module

public import proofs.«01_k».proof.Proof.Gen.KernelBIdeal.Frame
public import proofs.«01_k».proof.Proof.Spec
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ValueB

open Cert.KernelBIdeal Cert.KernelBIdeal.Gen

variable (m : (ℓ : Loc nD τ sig) → Buf (Elt Ideal) ℓ)

/-- Every block of rows is the grid point's own; the weights are whole. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0]
    ∧ win0_7.index t = ![t.val, 0] ∧ win0_8.index t = ![t.val, 0] ∧ win0_9.index t = ![t.val, 0]
    ∧ win0_10.index t = ![t.val, 0] ∧ win0_11.index t = ![t.val, 0] :=
  (by decide +kernel : ∀ t : Fin grid0.N, _)

/-- The gate's weight as the kernel gets it: the cast keeps every value. -/
theorem entry_wg (c : Dev nD) : V m c main_v11 = m ((c : Thread nD τ).loc main_arg5) := by
  entry_read
  rfl

/-- The output's weight as the kernel gets it. -/
theorem entry_wo (c : Dev nD) : V m c main_v12 = m ((c : Thread nD τ).loc main_arg4) := by
  entry_read
  rfl

section Payloads

variable (ct e g o z : FVec Ideal S256x1024 .f32) (wg wo : FVec Ideal S1024x1024 .bf16)

/-- The stored embedding gradient. -/
theorem pay_de : k0_pay4 (F := Ideal) ct g = Spec.de (n := 256) ct g := by
  funext y
  pointwise [k0_pay4, k0_pay3, Spec.de]

/-- The stored gate gradient. -/
theorem pay_dgate : k0_pay5 (F := Ideal) ct e g = Spec.dgate (n := 256) ct e g := by
  funext y
  pointwise [k0_pay5, k0_pay3, Spec.dgate]

/-- The stored input gradient. -/
theorem pay_dx : k0_pay6 (F := Ideal) ct e g wg = Spec.dx (n := 256) ct e g wg := by
  funext y
  unfold k0_pay6
  rw [pay_dgate]
  pointwise [Spec.dx, Spec.nt]

/-- The output product's gradient, which the last two results share. -/
theorem pay_dy : k0_pay7 (F := Ideal) ct e g wg wo = Spec.dy (n := 256) ct e g wg wo := by
  funext y
  unfold k0_pay7
  rw [pay_dx]
  pointwise [Spec.dy, Spec.nt]

/-- The stored gradient of the attention's output. -/
theorem pay_dOut : k0_pay1 (F := Ideal) (k0_pay10 ct e g wg wo z) = Spec.dOut (n := 256) ct e g z wg wo := by
  funext y
  unfold k0_pay1 k0_pay10
  rw [pay_dy]
  pointwise [Spec.dOut, k0_pay8]

/-- The stored gradient of the silu gate's argument. -/
theorem pay_dz : k0_pay2 (F := Ideal) (k0_pay7 ct e g wg wo) (k0_pay9 z) o = Spec.dz (n := 256) ct e g o z wg wo := by
  funext y
  unfold k0_pay2
  rw [pay_dy]
  pointwise [Spec.dz, k0_pay9, k0_pay8, Spec.dsilu]

end Payloads

/-- The grid point as the number of a block of rows. -/
def blk (t : Fin cfg0.N) : Fin 8 := ⟨t.val, t.isLt⟩

/-- The activations' input blocks are their arrays' blocks of rows. -/
theorem blk_ct (c : Dev nD) (t : Fin cfg0.N) : iblk m c 0 t = Spec.block (blk t) (m ((c : Thread nD τ).loc main_arg6)) := by
  funext y
  unfold Spec.block
  blk_ext [iblk, V, idx t, Spec.rowOf, blk]

theorem blk_e (c : Dev nD) (t : Fin cfg0.N) : iblk m c 1 t = Spec.block (blk t) (m ((c : Thread nD τ).loc main_arg3)) := by
  funext y
  unfold Spec.block
  blk_ext [iblk, V, idx t, Spec.rowOf, blk]

theorem blk_g (c : Dev nD) (t : Fin cfg0.N) : iblk m c 2 t = Spec.block (blk t) (V m c main_v10) := by
  funext y
  unfold Spec.block
  blk_ext [iblk, idx t, Spec.rowOf, blk]

theorem blk_o (c : Dev nD) (t : Fin cfg0.N) : iblk m c 3 t = Spec.block (blk t) (m ((c : Thread nD τ).loc main_arg1)) := by
  funext y
  unfold Spec.block
  blk_ext [iblk, V, idx t, Spec.rowOf, blk]

theorem blk_z (c : Dev nD) (t : Fin cfg0.N) : iblk m c 4 t = Spec.block (blk t) (m ((c : Thread nD τ).loc main_arg2)) := by
  funext y
  unfold Spec.block
  blk_ext [iblk, V, idx t, Spec.rowOf, blk]

/-- The weights' input blocks are the weights. -/
theorem blk_wg (c : Dev nD) (t : Fin cfg0.N) : iblk m c 5 t = m ((c : Thread nD τ).loc main_arg5) := by
  rw [← entry_wg m c]
  funext y
  blk_ext [iblk, idx t]

theorem blk_wo (c : Dev nD) (t : Fin cfg0.N) : iblk m c 6 t = m ((c : Thread nD τ).loc main_arg4) := by
  rw [← entry_wo m c]
  funext y
  blk_ext [iblk, idx t]

/-- The five results' blocks lie at the grid point's rows. -/
theorem emb_de (t : Fin cfg0.N) (y : S256x1024.Idx) :
    (((cfg0.win 7).blk t).view.emb y : S2048x1024.Idx) = ix2 (Spec.rowOf (blk t) (y 0)) (y 1 : Fin 1024) := by
  blk_ext [idx t, Spec.rowOf, blk]

theorem emb_dgate (t : Fin cfg0.N) (y : S256x1024.Idx) :
    (((cfg0.win 8).blk t).view.emb y : S2048x1024.Idx) = ix2 (Spec.rowOf (blk t) (y 0)) (y 1 : Fin 1024) := by
  blk_ext [idx t, Spec.rowOf, blk]

theorem emb_dx (t : Fin cfg0.N) (y : S256x1024.Idx) :
    (((cfg0.win 9).blk t).view.emb y : S2048x1024.Idx) = ix2 (Spec.rowOf (blk t) (y 0)) (y 1 : Fin 1024) := by
  blk_ext [idx t, Spec.rowOf, blk]

theorem emb_dOut (t : Fin cfg0.N) (y : S256x1024.Idx) :
    (((cfg0.win 10).blk t).view.emb y : S2048x1024.Idx) = ix2 (Spec.rowOf (blk t) (y 0)) (y 1 : Fin 1024) := by
  blk_ext [idx t, Spec.rowOf, blk]

theorem emb_dz (t : Fin cfg0.N) (y : S256x1024.Idx) :
    (((cfg0.win 11).blk t).view.emb y : S2048x1024.Idx) = ix2 (Spec.rowOf (blk t) (y 0)) (y 1 : Fin 1024) := by
  blk_ext [idx t, Spec.rowOf, blk]

/-- The embedding gradient after the run. -/
theorem final_de (c : Dev nD) : (dats m 0 c).arrAt 7 (cfgs 0).N
    = Spec.de (n := 2048) (m ((c : Thread nD τ).loc main_arg6)) (V m c main_v10) := by
  refine (dats m 0 c).arrAt_eq_of_covers 7 _ (by decide +kernel) fun t _ y => ?_
  blk_simp
  rw [after0_7]
  frame_out
  rw [pay_de, blk_ct, blk_g]
  change Spec.de _ _ y = Spec.de _ _ _
  rw [emb_de t y]
  rfl

/-- The gate gradient after the run. -/
theorem final_dgate (c : Dev nD) : (dats m 0 c).arrAt 8 (cfgs 0).N
    = Spec.dgate (n := 2048) (m ((c : Thread nD τ).loc main_arg6)) (m ((c : Thread nD τ).loc main_arg3)) (V m c main_v10) := by
  refine (dats m 0 c).arrAt_eq_of_covers 8 _ (by decide +kernel) fun t _ y => ?_
  blk_simp
  rw [after0_8]
  frame_out
  rw [pay_dgate, blk_ct, blk_e, blk_g]
  change Spec.dgate _ _ _ y = Spec.dgate _ _ _ _
  rw [emb_dgate t y]
  rfl

/-- The input gradient after the run. -/
theorem final_dx (c : Dev nD) : (dats m 0 c).arrAt 9 (cfgs 0).N
    = Spec.dx (n := 2048) (m ((c : Thread nD τ).loc main_arg6)) (m ((c : Thread nD τ).loc main_arg3)) (V m c main_v10) (m ((c : Thread nD τ).loc main_arg5)) := by
  refine (dats m 0 c).arrAt_eq_of_covers 9 _ (by decide +kernel) fun t _ y => ?_
  blk_simp
  rw [after0_9]
  frame_out
  rw [pay_dx, blk_ct, blk_e, blk_g, blk_wg]
  change Spec.dx _ _ _ _ y = Spec.dx _ _ _ _ _
  rw [emb_dx t y]
  rfl

/-- The gradient of the attention's output after the run. -/
theorem final_dOut (c : Dev nD) : (dats m 0 c).arrAt 10 (cfgs 0).N
    = Spec.dOut (n := 2048) (m ((c : Thread nD τ).loc main_arg6)) (m ((c : Thread nD τ).loc main_arg3)) (V m c main_v10) (m ((c : Thread nD τ).loc main_arg2)) (m ((c : Thread nD τ).loc main_arg5)) (m ((c : Thread nD τ).loc main_arg4)) := by
  refine (dats m 0 c).arrAt_eq_of_covers 10 _ (by decide +kernel) fun t _ y => ?_
  blk_simp
  rw [after0_10]
  frame_out
  rw [pay_dOut, blk_ct, blk_e, blk_g, blk_z, blk_wg, blk_wo]
  change Spec.dOut _ _ _ _ _ _ y = Spec.dOut _ _ _ _ _ _ _
  rw [emb_dOut t y]
  rfl

/-- The gradient of the silu gate's argument after the run. -/
theorem final_dz (c : Dev nD) : (dats m 0 c).arrAt 11 (cfgs 0).N
    = Spec.dz (n := 2048) (m ((c : Thread nD τ).loc main_arg6)) (m ((c : Thread nD τ).loc main_arg3)) (V m c main_v10) (m ((c : Thread nD τ).loc main_arg1)) (m ((c : Thread nD τ).loc main_arg2)) (m ((c : Thread nD τ).loc main_arg5)) (m ((c : Thread nD τ).loc main_arg4)) := by
  refine (dats m 0 c).arrAt_eq_of_covers 11 _ (by decide +kernel) fun t _ y => ?_
  blk_simp
  rw [after0_11]
  frame_out
  rw [pay_dz, blk_ct, blk_e, blk_g, blk_o, blk_z, blk_wg, blk_wo]
  change Spec.dz _ _ _ _ _ _ _ y = Spec.dz _ _ _ _ _ _ _ _
  rw [emb_dz t y]
  rfl

end Cert.ValueB

end
-- ==== Proof.RefB.lean ====
/- The second layer's reference, result by result: jax's own backward pass over the array, as the plain formulas of `Spec`. -/
module

public import proofs.«01_k».proof.Proof.Gen.ReferenceBIdeal.Read
public import proofs.«01_k».proof.Proof.Spec
public import proofs.«01_k».proof.Proof.Finite
public import Idealize.ShloMosaic.Lib.Pipeline.ValueKit

@[expose] public section

set_option maxRecDepth 16384

noncomputable section

open Idealize.ShloMosaic Idealize.ShloMosaic.TcCoe Idealize.SL.Sem

namespace Cert.RefB

open Cert.ReferenceBIdeal Cert.ReferenceBIdeal.Gen Cert.ReferenceBIdeal.Read Cert.Finite

variable (x0 x1 x2 x3 x6 : (⟨S2048x1024, .f32⟩ : BufTy).Contents (Elt Ideal))
  (x4 x5 : (⟨S1024x1024, .f32⟩ : BufTy).Contents (Elt Ideal))

/-- The cotangent, reshaped to its own shape. -/
theorem ct_same : val_main_v16 (F := Ideal) x6 = x6 := by
  funext i
  pointwise [val_main_v16]

theorem ct_same' : val_main_v17 (F := Ideal) x6 = x6 := by
  funext i
  pointwise [val_main_v17]

/-- The gate is a sigmoid, a real value whatever its argument. -/
theorem gate_real (i : S2048x1024.Idx) : IsReal (val_main_v10 (F := Ideal) x0 x1 x2 x4 x5 i) := by
  have h : val_main_v10 (F := Ideal) x0 x1 x2 x4 x5 i
      = Ideal.logistic (val_main_v4 (F := Ideal) x0 x1 x2 x4 x5 i) := by
    pointwise [val_main_v10, val_main_v9, val_main_cst_0, val_main_v8, val_main_v7, val_main_cst, val_main_v6, val_main_v5]
    rfl
  rw [h]
  exact .logistic _

/-- The sigmoid of the silu gate's argument. -/
theorem sig_eq (i : S2048x1024.Idx) : val_main_v0_2 (F := Ideal) x2 i = Ideal.logistic (x2 i) := by
  pointwise [val_main_v0_2, val_main_call0_v4, val_main_call0_cst_0, val_main_call0_v3, val_main_call0_v2,
    val_main_call0_cst, val_main_call0_v1, val_main_call0_v0]
  rfl

/-- The embedding gradient. -/
theorem de_eq : val_main_v27 (F := Ideal) x0 x1 x2 x4 x5 x6
    = Spec.de (n := 2048) x6 (val_main_v10 (F := Ideal) x0 x1 x2 x4 x5) := by
  funext i
  unfold val_main_v27 val_main_v19
  rw [ct_same']
  pointwise [Spec.de]

/-- The gate gradient before its cast. -/
theorem dgate_eq : val_main_v20 (F := Ideal) x0 x1 x2 x3 x4 x5 x6
    = Spec.dgate (n := 2048) x6 x3 (val_main_v10 (F := Ideal) x0 x1 x2 x4 x5) := by
  funext i
  unfold val_main_v20 val_main_v18 val_main_v13 val_main_v12
  rw [ct_same']
  pointwise [Spec.dgate, val_main_v11, val_main_cst_1]
  rw [mul_comm (x3 i) (x6 i), ← mul_assoc]

/-- The input gradient. -/
theorem dx_eq : val_main_v22 (F := Ideal) x0 x1 x2 x3 x4 x5 x6
    = Spec.dx (n := 2048) x6 x3 (val_main_v10 (F := Ideal) x0 x1 x2 x4 x5) x5 := by
  funext i
  unfold val_main_v22 val_main_v21
  rw [ct_same, dgate_eq]
  pointwise [Spec.dx, Spec.nt]

/-- The output product's gradient. -/
theorem dy_eq : val_main_v23 (F := Ideal) x0 x1 x2 x3 x4 x5 x6
    = Spec.dy (n := 2048) x6 x3 (val_main_v10 (F := Ideal) x0 x1 x2 x4 x5) x5 x4 := by
  funext i
  unfold val_main_v23
  rw [dx_eq]
  pointwise [Spec.dy, Spec.nt]

/-- The gradient of the attention's output. -/
theorem dOut_eq : val_main_v29 (F := Ideal) x0 x1 x2 x3 x4 x5 x6
    = Spec.dOut (n := 2048) x6 x3 (val_main_v10 (F := Ideal) x0 x1 x2 x4 x5) x2 x5 x4 := by
  funext i
  unfold val_main_v29 val_main_v25
  rw [dy_eq]
  pointwise [Spec.dOut, val_main_v0_0]
  rw [sig_eq]

/-- The gradient of the silu gate's argument, where the incoming gradient is real. -/
theorem dz_eq (h : ∀ i, IsReal (Spec.dy (n := 2048) x6 x3 (val_main_v10 (F := Ideal) x0 x1 x2 x4 x5) x5 x4 i * x1 i)) :
    val_main_v30 (F := Ideal) x0 x1 x2 x3 x4 x5 x6
    = Spec.dz (n := 2048) x6 x3 (val_main_v10 (F := Ideal) x0 x1 x2 x4 x5) x1 x2 x5 x4 := by
  funext i
  unfold val_main_v30 val_main_v26 val_main_call1_v1 val_main_call1_v2 val_main_call1_v0 val_main_v24
  rw [dy_eq]
  pointwise [Spec.dz, Spec.dsilu, val_main_v0_1, val_main_call0_v7, val_main_call0_v6, val_main_call0_cst_1]
  rw [sig_eq, mul_comm (x1 i)]
  exact (silu_grad (h i) (x2 i)).symm

/-- The gate as the reference computes it from its memory. -/
abbrev gate (m : (ℓ : Loc nD τ sig) → Buf (Elt Ideal) ℓ) (c : Dev nD) : (⟨S2048x1024, .f32⟩ : BufTy).Contents (Elt Ideal) :=
  val_main_v10 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5))

/-- The reference's run: its five results as the plain formulas, its arguments kept. -/
theorem run (m : (ℓ : Loc nD τ sig) → Buf (Elt Ideal) ℓ) (ρ : Dev nD → PrngReg)
    (hc : ∀ (c : Dev nD) i, IsReal (Spec.dy (n := 2048) (m ((c.tc : Thread nD τ).loc main_arg6)) (m ((c.tc : Thread nD τ).loc main_arg3)) (gate m c) (m ((c.tc : Thread nD τ).loc main_arg5)) (m ((c.tc : Thread nD τ).loc main_arg4)) i * (m ((c.tc : Thread nD τ).loc main_arg1)) i)) :
    θ_run defs (onTc (τ := τ) (main (F := Ideal))) ⟨m, fun _ => 0, ρ⟩ fun r => ∀ c : Dev nD,
      r.2.mem ((c.tc : Thread nD τ).loc main_v27) = Spec.de (n := 2048) (m ((c.tc : Thread nD τ).loc main_arg6)) (gate m c)
      ∧ r.2.mem ((c.tc : Thread nD τ).loc main_v28) = Spec.dgate (n := 2048) (m ((c.tc : Thread nD τ).loc main_arg6)) (m ((c.tc : Thread nD τ).loc main_arg3)) (gate m c)
      ∧ r.2.mem ((c.tc : Thread nD τ).loc main_v22) = Spec.dx (n := 2048) (m ((c.tc : Thread nD τ).loc main_arg6)) (m ((c.tc : Thread nD τ).loc main_arg3)) (gate m c) (m ((c.tc : Thread nD τ).loc main_arg5))
      ∧ r.2.mem ((c.tc : Thread nD τ).loc main_v29) = Spec.dOut (n := 2048) (m ((c.tc : Thread nD τ).loc main_arg6)) (m ((c.tc : Thread nD τ).loc main_arg3)) (gate m c) (m ((c.tc : Thread nD τ).loc main_arg2)) (m ((c.tc : Thread nD τ).loc main_arg5)) (m ((c.tc : Thread nD τ).loc main_arg4))
      ∧ r.2.mem ((c.tc : Thread nD τ).loc main_v30) = Spec.dz (n := 2048) (m ((c.tc : Thread nD τ).loc main_arg6)) (m ((c.tc : Thread nD τ).loc main_arg3)) (gate m c) (m ((c.tc : Thread nD τ).loc main_arg1)) (m ((c.tc : Thread nD τ).loc main_arg2)) (m ((c.tc : Thread nD τ).loc main_arg5)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun r h c => ?_) (Cert.ReferenceBIdeal.Value.run m ρ)
  obtain ⟨h0, h1, h2, h3, h4, ha⟩ := h c
  refine ⟨h0.trans ?_, h1.trans ?_, h2.trans ?_, h3.trans ?_, h4.trans ?_, ha⟩
  · exact (val_main_v27_eq _ _ _ _ _ _).trans (de_eq _ _ _ _ _ _)
  · exact (val_main_v28_eq _ _ _ _ _ _ _).trans (dgate_eq _ _ _ _ _ _ _)
  · exact (val_main_v22_eq _ _ _ _ _ _ _).trans (dx_eq _ _ _ _ _ _ _)
  · exact (val_main_v29_eq _ _ _ _ _ _ _).trans (dOut_eq _ _ _ _ _ _ _)
  · exact (val_main_v30_eq m c).trans (dz_eq _ _ _ _ _ _ _ (hc c))

end Cert.RefB

end
-- ==== Proof.BridgeB.lean ====
/- The second layer: the gate both programs compute is one array, the precondition's words as real values, and the two
   programs' results set beside each other. -/
module

public import proofs.«01_k».proof.Defs
public import proofs.«01_k».proof.Proof.ValueB
public import proofs.«01_k».proof.Proof.RefB
public import proofs.«01_k».proof.Proof.Tested
public import proofs.«01_k».proof.Proof.Gen.KernelBIdeal.Value
public import proofs.«01_k».proof.Proof.Gen.ReferenceBIdeal.Run
public import proofs.«01_k».proof.Proof.Gen.Pre_finite_b
public import Idealize.ShloMosaic.Lib.Claim

@[expose] public section

set_option maxRecDepth 16384

noncomputable section

open Idealize.ShloMosaic Idealize.ShloMosaic.TcCoe Idealize.SL.Sem

namespace Cert.BridgeB

open Cert.KernelBIdeal Cert.KernelBIdeal.Gen Cert.Finite

variable (m : (ℓ : Loc nD τ sig) → Buf (Elt Ideal) ℓ)

/-- The gate the kernel's host code computes from the arguments is the reference's. -/
theorem entry_gate (c : Dev nD) : V m c main_v10 = Cert.ReferenceBIdeal.Read.val_main_v10 (F := Ideal)
    (m ((c : Thread nD τ).loc main_arg0)) (m ((c : Thread nD τ).loc main_arg1)) (m ((c : Thread nD τ).loc main_arg2))
    (m ((c : Thread nD τ).loc main_arg4)) (m ((c : Thread nD τ).loc main_arg5)) := by
  entry_read
  rfl

/-- Where the tested arrays are real, the gradient that reaches the silu gate is real. -/
theorem cotangent_real (hpre : Cert.Pre_KernelBIdeal_finite_b m) (c : Dev nD) (i : S2048x1024.Idx) :
    IsReal (Spec.dy (n := 2048) (m ((c : Thread nD τ).loc main_arg6)) (m ((c : Thread nD τ).loc main_arg3))
      (Cert.ReferenceBIdeal.Read.val_main_v10 (F := Ideal)
        (m ((c : Thread nD τ).loc main_arg0)) (m ((c : Thread nD τ).loc main_arg1)) (m ((c : Thread nD τ).loc main_arg2))
        (m ((c : Thread nD τ).loc main_arg4)) (m ((c : Thread nD τ).loc main_arg5)))
      (m ((c : Thread nD τ).loc main_arg5)) (m ((c : Thread nD τ).loc main_arg4)) i
      * m ((c : Thread nD τ).loc main_arg1) i) := by
  obtain ⟨ho, he, hwo, hwg, hct⟩ := hpre c
  exact (Spec.dy_real (real_of_test hct) (real_of_test he) (Cert.RefB.gate_real _ _ _ _ _) (real_of_test hwg)
    (real_of_test hwo) i).mul (real_of_test ho i)

/-- The kernel and the reference compute the same five gradients. -/
theorem algebraic : Cert.algebraic_KernelBIdeal_ReferenceBIdeal_pre_finite_b := by
  intro m g m' g' hpre hagree
  have hg : ∀ c, Cert.RefB.gate m' c = V m c main_v10 := fun c => by
    obtain ⟨h0, h1, h2, h3, h4, h5, h6⟩ := hagree c
    rw [entry_gate, ← h0, ← h1, ← h2, ← h4, ← h5]
  refine ⟨fun c => Spec.de (n := 2048) (m ((c : Thread nD τ).loc main_arg6)) (V m c main_v10),
    fun c => Spec.dgate (n := 2048) (m ((c : Thread nD τ).loc main_arg6)) (m ((c : Thread nD τ).loc main_arg3)) (V m c main_v10),
    fun c => Spec.dx (n := 2048) (m ((c : Thread nD τ).loc main_arg6)) (m ((c : Thread nD τ).loc main_arg3)) (V m c main_v10) (m ((c : Thread nD τ).loc main_arg5)),
    fun c => Spec.dOut (n := 2048) (m ((c : Thread nD τ).loc main_arg6)) (m ((c : Thread nD τ).loc main_arg3)) (V m c main_v10) (m ((c : Thread nD τ).loc main_arg2)) (m ((c : Thread nD τ).loc main_arg5)) (m ((c : Thread nD τ).loc main_arg4)),
    fun c => Spec.dz (n := 2048) (m ((c : Thread nD τ).loc main_arg6)) (m ((c : Thread nD τ).loc main_arg3)) (V m c main_v10) (m ((c : Thread nD τ).loc main_arg1)) (m ((c : Thread nD τ).loc main_arg2)) (m ((c : Thread nD τ).loc main_arg5)) (m ((c : Thread nD τ).loc main_arg4)),
    (θ_run defs _ _).mono (fun r h c => ?_) (Cert.KernelBIdeal.Value.run_blocks m g),
    (θ_run Cert.ReferenceBIdeal.defs _ _).mono (fun r h c => ?_) (Cert.RefB.run m' g' fun c i => ?_)⟩
  · obtain ⟨h0, h1, h2, h3, h4, ha⟩ := h c
    exact ⟨h0.trans (Cert.ValueB.final_de m c), h1.trans (Cert.ValueB.final_dgate m c),
      h2.trans (Cert.ValueB.final_dx m c), h3.trans (Cert.ValueB.final_dOut m c), h4.trans (Cert.ValueB.final_dz m c), ha⟩
  · obtain ⟨h0, h1, h2, h3, h4, h5, h6⟩ := hagree c
    obtain ⟨r0, r1, r2, r3, r4, ha⟩ := h c
    rw [hg c, h6] at r0
    rw [hg c, h3, h6] at r1
    rw [hg c, h3, h5, h6] at r2
    rw [hg c, h2, h3, h4, h5, h6] at r3
    rw [hg c, h1, h2, h3, h4, h5, h6] at r4
    exact ⟨r0, r1, r2, r3, r4, ha⟩
  · have := cotangent_real m hpre c i
    rw [← entry_gate, ← hg c] at this
    obtain ⟨h0, h1, h2, h3, h4, h5, h6⟩ := hagree c
    rw [h1, h3, h4, h5, h6]
    exact this

end Cert.BridgeB

end
-- ==== Proof.SpecW.lean ====
/- The gradient of a product's weights as a plain formula over the extended reals: `a` are the rows that entered the product,
   `b` the gradient of its result. A block of the result's rows reads the same columns of `a` and all of `b`. -/
module

public import proofs.«01_k».proof.Proof.Finite
public import Idealize.ShloMosaic.Lib.Pointwise.Index

@[expose] public section

noncomputable section

open Idealize.ShloMosaic Cert.Finite

namespace Cert.SpecW

/-- A matrix of `r` rows and `w` columns. -/
abbrev Mat (r w : ℕ) := (⟨2, ![r, w]⟩ : Shape).Idx → EReal

variable {s k n : ℕ}

/-- The product of a transpose with a matrix: the sum over the rows that both share. -/
def tn (a : Mat s k) (b : Mat s n) : Mat k n := fun i => ∑ r : Fin s, a (ix2 r (i 0 : Fin k)) * b (ix2 r (i 1 : Fin n))

/-- Column `r` of block `b` of 256 columns. -/
def colOf {q : ℕ} (b : Fin q) (r : Fin 256) : Fin (q * 256) :=
  ⟨b.val * 256 + r.val, by have := b.isLt; have := r.isLt; omega⟩

/-- A matrix's columns, 256 at a time. -/
def columns {q : ℕ} (b : Fin q) (X : Mat s (q * 256)) : Mat s 256 := fun y => X (ix2 (y 0 : Fin s) (colOf b (y 1)))

/-- Rows of the weight gradient, from the same columns of the left operand. -/
theorem tn_columns {q : ℕ} (b : Fin q) (X : Mat s (q * 256)) (Y : Mat s n) (y : (⟨2, ![256, n]⟩ : Shape).Idx) :
    tn (columns b X) Y y = tn X Y (ix2 (colOf b (y 0)) (y 1 : Fin n)) := rfl

/-- Entries of products with the same left column and the same right column. -/
theorem tn_congr {n' : ℕ} (a : Mat s k) (b : Mat s n) (b' : Mat s n') (i : Fin k) (j : Fin n) (j' : Fin n')
    (h : ∀ r : Fin s, b (ix2 r j) = b' (ix2 r j')) : tn a b (ix2 i j) = tn a b' (ix2 i j') :=
  Finset.sum_congr rfl fun r _ => congrArg (a (ix2 r i) * ·) (h r)

/-- Column `r` of block `b` of `w` columns. -/
def place {q w : ℕ} (b : Fin q) (r : Fin w) : Fin (q * w) :=
  ⟨b.val * w + r.val, lt_of_lt_of_le (Nat.add_lt_add_left r.isLt _)
    (le_trans (le_of_eq (Nat.succ_mul _ _).symm) (Nat.mul_le_mul_right w b.isLt))⟩

/-- A matrix as a stack of blocks of `w` columns. -/
def stacked {q w : ℕ} (X : Mat k (q * w)) : (⟨3, ![q, k, w]⟩ : Shape).Idx → EReal :=
  fun i => X (ix2 (i 1 : Fin k) (place (q := q) (w := w) (i 0) (i 2)))

/-- Two matrices of 1024 columns side by side. -/
def beside (l r : Mat s 1024) : Mat s 2048 := fun i =>
  if h : (i 1 : Fin 2048).val < 1024 then l (ix2 (i 0 : Fin s) ⟨(i 1 : Fin 2048).val, h⟩)
  else r (ix2 (i 0 : Fin s) ⟨(i 1 : Fin 2048).val - 1024, by have : (i 1 : Fin 2048).val < 2048 := (i 1 : Fin 2048).isLt; omega⟩)

end Cert.SpecW

end
-- ==== Proof.Norm.lean ====
/- The gradient of the RMS norm of each row, in the two spellings: the closed form, and the derivative of the inverse square
   root of the mean square taken step by step. They are equal where the rows and the gradients that reach them are real. -/
module

public import proofs.«01_k».proof.Proof.Spec
public import proofs.«01_k».proof.Proof.SpecW
public import Idealize.ShloMosaic.Lib.IdealHost
public import Idealize.ShloMosaic.Lib.Pointwise.Sums

@[expose] public section

noncomputable section

open Idealize.ShloMosaic Cert.Finite

namespace Cert.Norm

/-- The length of a row, as the programs' constant. -/
def width : EReal := Ideal.ofBits .f32 0x44800000#32

/-- What is added to the mean square, as the programs' constant. -/
def eps : EReal := Ideal.ofBits .f32 0x358637BD#32

/-- Minus one half, as the reference's constant. -/
def negHalf : EReal := Ideal.ofBits .f32 0xBF000000#32

/-- A gain for each column. -/
abbrev Gain := (⟨2, ![1, 1024]⟩ : Shape).Idx → EReal

variable {n : ℕ}

/-- A row's mean square. -/
def msq (x : Spec.Act n) (i : Fin n) : EReal := Ideal.div (∑ k : Fin 1024, x (ix2 i k) * x (ix2 i k)) width + eps

/-- One over its root. -/
def inv (x : Spec.Act n) (i : Fin n) : EReal := Ideal.rsqrt (msq x i)

/-- The rows scaled to a mean square of one. -/
def unit (x : Spec.Act n) : Spec.Act n := fun i => x i * inv x (i 0 : Fin n)

/-- The gradient of the scaled rows. -/
def dn (dh : Spec.Act n) (g : Gain) : Spec.Act n := fun i => dh i * g (ix2 (0 : Fin 1) (i 1 : Fin 1024))

/-- The gradient of the rows, in closed form. -/
def closed (dh x : Spec.Act n) (g : Gain) : Spec.Act n := fun i =>
  inv x (i 0 : Fin n) * (dn dh g i - unit x i
    * Ideal.div (∑ k : Fin 1024, dn dh g (ix2 (i 0 : Fin n) k) * unit x (ix2 (i 0 : Fin n) k)) width)

/-- The gradient of a row's sum of squares. -/
def slope (dh x : Spec.Act n) (g : Gain) (i : Fin n) : EReal :=
  Ideal.div ((∑ k : Fin 1024, x (ix2 i k) * dn dh g (ix2 i k)) * (negHalf * Ideal.div (inv x i) (msq x i))) width

/-- The gradient of the rows, step by step. -/
def chain (dh x : Spec.Act n) (g : Gain) : Spec.Act n := fun i =>
  dn dh g i * inv x (i 0 : Fin n) + x i * slope dh x g (i 0 : Fin n) + slope dh x g (i 0 : Fin n) * x i

/-- Two gradients of the same rows added. -/
def plus (a b : Spec.Act n) : Spec.Act n := fun i => a i + b i

/-- A row's share of the gain's gradient. -/
def share (dh x : Spec.Act n) (i : Fin n) (k : Fin 1024) : EReal := dh (ix2 i k) * unit x (ix2 i k)

/-- The gain's gradient. -/
def dgain (dh x : Spec.Act n) : Gain := fun y => ∑ i : Fin n, share dh x i (y 1 : Fin 1024)

/-- The gradient that reaches the norm, through a product of 2048 columns. -/
def dh (d : SpecW.Mat n 2048) (w : SpecW.Mat 1024 2048) : Spec.Act n := fun i =>
  ∑ k : Fin 2048, d (ix2 (i 0 : Fin n) k) * w (ix2 (i 1 : Fin 1024) k)

theorem width_eq : width = ((1024 : ℝ) : EReal) := by
  unfold width
  simp [Ideal.ofBits, Ideal.ieee, -EReal.coe_mul]; norm_num

theorem eps_pos : ∃ e : ℝ, 0 < e ∧ eps = (e : EReal) := by
  refine ⟨8796093 / 2 ^ 43, by norm_num, ?_⟩
  unfold eps
  simp [Ideal.ofBits, Ideal.ieee, -EReal.coe_mul]; norm_num

theorem negHalf_eq : negHalf = ((-(1 / 2) : ℝ) : EReal) := by
  unfold negHalf
  simp [Ideal.ofBits, Ideal.ieee, -EReal.coe_mul, -EReal.coe_neg]; norm_num

/-- A quotient of reals. -/
theorem div_coe (a b : ℝ) (h : b ≠ 0) : Ideal.div (a : EReal) (b : EReal) = ((a / b : ℝ) : EReal) := by
  have hb : (b : EReal) ≠ 0 := by
    rw [← EReal.coe_zero]
    exact fun e => h (EReal.coe_injective e)
  rw [Ideal.div, if_neg hb, ← EReal.coe_inv, ← EReal.coe_mul, div_eq_mul_inv]

/-- A sum of reals. -/
theorem sum_coe {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The identity of real numbers behind it: `v` is the mean square, `r` one over its root, `S` the sum of row times gradient. -/
theorem identity (d x r v S : ℝ) (hv : v ≠ 0) (hr : r * r = v⁻¹) :
    r * (d - x * r * ((S * r) / 1024)) = d * r + x * ((S * (-(1 / 2) * (r / v))) / 1024) + (S * (-(1 / 2) * (r / v))) / 1024 * x := by
  have h : r / v = r * (r * r) := by rw [hr, div_eq_mul_inv]
  rw [h]
  ring

/-- The two spellings agree on real rows. -/
theorem closed_eq (dh x : Spec.Act n) (g : Gain) (hd : ∀ i, IsReal (dh i)) (hx : ∀ i, IsReal (x i)) (hg : ∀ i, IsReal (g i)) :
    closed dh x g = chain dh x g := by
  funext i
  obtain ⟨e, he, hee⟩ := eps_pos
  choose xr hxr using hx
  choose dr hdr using fun i => (hd i).mul (hg (ix2 (0 : Fin 1) (i 1 : Fin 1024)))
  have hdn : ∀ j, dn dh g j = (dr j : EReal) := hdr
  have hm : msq x (i 0 : Fin n) = (((∑ k : Fin 1024, xr (ix2 (i 0 : Fin n) k) * xr (ix2 (i 0 : Fin n) k)) / 1024 + e : ℝ) : EReal) := by
    unfold msq
    simp only [hxr, ← EReal.coe_mul]
    rw [sum_coe, width_eq, div_coe _ _ (by norm_num), hee, ← EReal.coe_add]
  have hpos : 0 < (∑ k : Fin 1024, xr (ix2 (i 0 : Fin n) k) * xr (ix2 (i 0 : Fin n) k)) / 1024 + e :=
    add_pos_of_nonneg_of_pos (div_nonneg (Finset.sum_nonneg fun k _ => mul_self_nonneg _) (by norm_num)) he
  generalize (∑ k : Fin 1024, xr (ix2 (i 0 : Fin n) k) * xr (ix2 (i 0 : Fin n) k)) / 1024 + e = v at hm hpos
  have hi : inv x (i 0 : Fin n) = (((√v)⁻¹ : ℝ) : EReal) := by
    unfold inv
    rw [hm, Ideal.rsqrt_coe, if_neg (not_lt.mpr hpos.le), if_neg hpos.ne']
  have hr : (√v)⁻¹ * (√v)⁻¹ = v⁻¹ := by rw [← mul_inv, Real.mul_self_sqrt hpos.le]
  generalize (√v)⁻¹ = r at hi hr
  have hu : ∀ k : Fin 1024, unit x (ix2 (i 0 : Fin n) k) = ((xr (ix2 (i 0 : Fin n) k) * r : ℝ) : EReal) := fun k => by
    rw [EReal.coe_mul, ← hxr, ← hi]
    rfl
  have hui : unit x i = ((xr i * r : ℝ) : EReal) := by
    rw [EReal.coe_mul, ← hxr, ← hi]
    rfl
  have hS : (∑ k : Fin 1024, dr (ix2 (i 0 : Fin n) k) * (xr (ix2 (i 0 : Fin n) k) * r)) = (∑ k : Fin 1024, xr (ix2 (i 0 : Fin n) k) * dr (ix2 (i 0 : Fin n) k)) * r := by
    rw [Finset.sum_mul]
    exact Finset.sum_congr rfl fun k _ => by ring
  unfold closed chain slope
  simp only [hdn, hu, hui, hi, hm, hxr, negHalf_eq, width_eq, ← EReal.coe_mul, sum_coe]
  rw [hS, div_coe _ _ (by norm_num), div_coe _ _ hpos.ne']
  simp only [← EReal.coe_mul]
  rw [div_coe _ _ (by norm_num)]
  simp only [← EReal.coe_mul, ← EReal.coe_sub, ← EReal.coe_add]
  exact congrArg _ (identity _ _ _ _ _ hpos.ne' hr)

/-- The gradient that reaches the norm is real where its factors are. -/
theorem dh_real (d : SpecW.Mat n 2048) (w : SpecW.Mat 1024 2048) (hd : ∀ i, IsReal (d i)) (hw : ∀ i, IsReal (w i)) (i) : IsReal (dh d w i) :=
  .sum _ _ fun k _ => (hd _).mul (hw _)

/-- A block of rows of the closed form, from the same rows of its arguments. -/
theorem closed_block (b : Fin 8) (d x : Spec.Act 2048) (g : Gain) :
    closed (n := 256) (Spec.block b d) (Spec.block b x) g = Spec.block b (closed (n := 2048) d x g) := rfl

/-- A block of rows of the gradient that reaches the norm. -/
theorem dh_block (b : Fin 8) (d : SpecW.Mat 2048 2048) (w : SpecW.Mat 1024 2048) :
    dh (n := 256) (Spec.block b d) w = Spec.block b (dh (n := 2048) d w) := rfl

/-- The share of 256 columns in a row's gradient. -/
def tile (d : SpecW.Mat n 2048) (w : SpecW.Mat 1024 2048) (j : Fin 8) (i : (⟨2, ![n, 1024]⟩ : Shape).Idx) : EReal :=
  ∑ c : Fin 256, d (ix2 (i 0 : Fin n) (SpecW.place (q := 8) (w := 256) j c)) * w (ix2 (i 1 : Fin 1024) (SpecW.place (q := 8) (w := 256) j c))

/-- The product's 2048 columns, 256 at a time. -/
theorem dh_tiles (d : SpecW.Mat n 2048) (w : SpecW.Mat 1024 2048) (i : (⟨2, ![n, 1024]⟩ : Shape).Idx) :
    dh d w i = tile d w 0 i + tile d w 1 i + tile d w 2 i + tile d w 3 i + tile d w 4 i + tile d w 5 i + tile d w 6 i + tile d w 7 i :=
  (Fin.sum_univ_tiles 8 256 rfl _).trans (Fin.sum_univ_eight _)

end Cert.Norm

end
-- ==== Proof.ValueInA.lean ====
/- What the kernel of the first layer's input stage leaves in its two result arrays. -/
module

public import proofs.«01_k».proof.Proof.Norm
public import proofs.«01_k».proof.Proof.Gen.KernelInAIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ValueInA

open Cert.KernelInAIdeal Cert.KernelInAIdeal.Gen

variable (m : (ℓ : Loc nD τ sig) → Buf (Elt Ideal) ℓ)

/-- Rows are read and stored at the grid point's place; the weights and the gain are whole. -/
theorem idx : ∀ t : Fin cfg0.N, win0_0.index t = ![t.val, 0] ∧ win0_1.index t = ![t.val, 0] ∧ win0_2.index t = ![t.val, 0]
    ∧ win0_3.index t = ![0, 0, 0] ∧ win0_4.index t = ![0, 0] ∧ win0_5.index t = ![t.val, 0] ∧ win0_6.index t = ![0, 0] :=
  (by decide +kernel : ∀ t : Fin grid0.N, _)

/-- The input projection's weight as the kernel gets it: by blocks of 256 columns. -/
theorem entry_w (c : Dev nD) (j : Fin 8) (o : Fin 1024) (k : Fin 256) :
    V m c main_v2 (ix3 j o k : S8x1024x256.Idx) = m ((c : Thread nD τ).loc main_arg1) (ix2 o (SpecW.place (q := 8) (w := 256) j k) : S1024x2048.Idx) := by
  entry_read
  pointwise [SpecW.place]

section Payloads

/-- One block's product with the gradient's 256 columns. -/
def dot (a : FVec Ideal S256x256 .bf16) (b : FVec Ideal S1x1024x256 .bf16) (y : S256x1024.Idx) : EReal :=
  ∑ k : Fin 256, a (ix2 (y 0 : Fin 256) k) * b (ix3 (0 : Fin 1) (y 1 : Fin 1024) k)

/-- The first four products. -/
theorem pay_first (a0 a1 a2 a3 : FVec Ideal S256x256 .bf16) (b0 b1 b2 b3 : FVec Ideal S1x1024x256 .bf16) (y : S256x1024.Idx) :
    k0_pay4 (F := Ideal) a0 b0 a1 b1 a2 b2 a3 b3 y = dot a0 b0 y + dot a1 b1 y + dot a2 b2 y + dot a3 b3 y := by
  pointwise [k0_pay4, dot]

/-- The last four products. -/
theorem pay_last (s : FVec Ideal S256x1024 .f32) (a0 a1 a2 a3 : FVec Ideal S256x256 .bf16) (b0 b1 b2 b3 : FVec Ideal S1x1024x256 .bf16) (y : S256x1024.Idx) :
    k0_pay5 (F := Ideal) s a0 b0 a1 b1 a2 b2 a3 b3 y = s y + dot a0 b0 y + dot a1 b1 y + dot a2 b2 y + dot a3 b3 y := by
  pointwise [k0_pay5, dot]

variable (d : Vec Ideal S256x2048 .bf16) (wt : Vec Ideal S8x1024x256 .bf16) (w : SpecW.Mat 1024 2048)
  (hw : ∀ (j : Fin 8) (o : Fin 1024) (k : Fin 256), wt (ix3 j o k : S8x1024x256.Idx) = w (ix2 o (SpecW.place (q := 8) (w := 256) j k)))

/-- The gradient's columns as loaded. -/
theorem ld_d (j : Fin 8) (o : ℕ) (ho : o = j.val * 256) (inb : ∀ a, (![0, o] : Fin 2 → ℕ) a + (![256, 256] : Fin 2 → ℕ) a ≤ S256x2048.size a) (i k : Fin 256) :
    View.ld d (Rect.unit (s := S256x2048) ![0, o] ![256, 256] inb) (ix2 i k) = d (ix2 i (SpecW.place (q := 8) (w := 256) j k)) := by
  subst ho
  refine congrArg d (funext fun a => Fin.ext ?_)
  fin_cases a
  · show 0 + 1 * i.val = i.val
    omega
  · show j.val * 256 + 1 * k.val = j.val * 256 + k.val
    omega

/-- The weight's block as loaded. -/
theorem ld_w (j : Fin 8) (o : ℕ) (ho : o = j.val) (inb : ∀ a, (![o, 0, 0] : Fin 3 → ℕ) a + (![1, 1024, 256] : Fin 3 → ℕ) a ≤ S8x1024x256.size a) (q : Fin 1024) (k : Fin 256) :
    View.ld wt (Rect.unit (s := S8x1024x256) ![o, 0, 0] ![1, 1024, 256] inb) (ix3 (0 : Fin 1) q k) = wt (ix3 j q k : S8x1024x256.Idx) := by
  subst ho
  refine congrArg wt (funext fun a => Fin.ext ?_)
  fin_cases a
  · show j.val + 1 * 0 = j.val
    omega
  · show 0 + 1 * q.val = q.val
    omega
  · show 0 + 1 * k.val = k.val
    omega

include hw in
/-- A block's product is its share of the row's gradient. -/
theorem dot_tile (j : Fin 8) (o o' : ℕ) (ho : o = j.val * 256) (ho' : o' = j.val)
    (inb : ∀ a, (![0, o] : Fin 2 → ℕ) a + (![256, 256] : Fin 2 → ℕ) a ≤ S256x2048.size a)
    (inb' : ∀ a, (![o', 0, 0] : Fin 3 → ℕ) a + (![1, 1024, 256] : Fin 3 → ℕ) a ≤ S8x1024x256.size a) (y : S256x1024.Idx) :
    dot (View.ld d (Rect.unit (s := S256x2048) ![0, o] ![256, 256] inb)) (View.ld wt (Rect.unit (s := S8x1024x256) ![o', 0, 0] ![1, 1024, 256] inb')) y
      = Norm.tile (n := 256) d w j y :=
  Finset.sum_congr rfl fun k _ => congrArg₂ (· * ·) (ld_d d j o ho inb _ _) ((ld_w wt j o' ho' inb' _ _).trans (hw _ _ _))

/-- The gradient that reaches the norm, from the loaded blocks. -/
def grad : FVec Ideal S256x1024 .f32 :=
  k0_pay5 (F := Ideal)
        (k0_pay4 (View.ld d (Rect.unit ![0, 0] ![256, 256] inb_S256x2048_S256x256_0_0))
          (View.ld wt (Rect.unit ![0, 0, 0] ![1, 1024, 256] inb_S8x1024x256_S1x1024x256_0_0_0))
          (View.ld d (Rect.unit ![0, 256] ![256, 256] inb_S256x2048_S256x256_0_256))
          (View.ld wt (Rect.unit ![1, 0, 0] ![1, 1024, 256] inb_S8x1024x256_S1x1024x256_1_0_0))
          (View.ld d (Rect.unit ![0, 512] ![256, 256] inb_S256x2048_S256x256_0_512))
          (View.ld wt (Rect.unit ![2, 0, 0] ![1, 1024, 256] inb_S8x1024x256_S1x1024x256_2_0_0))
          (View.ld d (Rect.unit ![0, 768] ![256, 256] inb_S256x2048_S256x256_0_768))
          (View.ld wt (Rect.unit ![3, 0, 0] ![1, 1024, 256] inb_S8x1024x256_S1x1024x256_3_0_0)))
        (View.ld d (Rect.unit ![0, 1024] ![256, 256] inb_S256x2048_S256x256_0_1024))
        (View.ld wt (Rect.unit ![4, 0, 0] ![1, 1024, 256] inb_S8x1024x256_S1x1024x256_4_0_0))
        (View.ld d (Rect.unit ![0, 1280] ![256, 256] inb_S256x2048_S256x256_0_1280))
        (View.ld wt (Rect.unit ![5, 0, 0] ![1, 1024, 256] inb_S8x1024x256_S1x1024x256_5_0_0))
        (View.ld d (Rect.unit ![0, 1536] ![256, 256] inb_S256x2048_S256x256_0_1536))
        (View.ld wt (Rect.unit ![6, 0, 0] ![1, 1024, 256] inb_S8x1024x256_S1x1024x256_6_0_0))
        (View.ld d (Rect.unit ![0, 1792] ![256, 256] inb_S256x2048_S256x256_0_1792))
        (View.ld wt (Rect.unit ![7, 0, 0] ![1, 1024, 256] inb_S8x1024x256_S1x1024x256_7_0_0))

include hw in
/-- It is the product with all the columns. -/
theorem grad_eq : grad d wt = Norm.dh (n := 256) d w := by
  funext y
  unfold grad
  rw [pay_last, pay_first, Norm.dh_tiles]
  rw [dot_tile d wt w hw 0 0 0 rfl rfl, dot_tile d wt w hw 1 256 1 rfl rfl, dot_tile d wt w hw 2 512 2 rfl rfl, dot_tile d wt w hw 3 768 3 rfl rfl,
    dot_tile d wt w hw 4 1024 4 rfl rfl, dot_tile d wt w hw 5 1280 5 rfl rfl, dot_tile d wt w hw 6 1536 6 rfl rfl, dot_tile d wt w hw 7 1792 7 rfl rfl]

/-- One over the root of each row's mean square. -/
theorem pay_inv (x : FVec Ideal S256x1024 .f32) (y : S256x1.Idx) : k0_pay6 (F := Ideal) x y = Norm.inv (n := 256) x (y 0 : Fin 256) := by
  pointwise [k0_pay6, Norm.inv, Norm.msq, Norm.width, Norm.eps]

/-- The scaled rows. -/
theorem pay_unit (x : FVec Ideal S256x1024 .f32) : k0_pay7 (F := Ideal) x = Norm.unit (n := 256) x := by
  funext y
  pointwise [k0_pay7, pay_inv, Norm.unit]

/-- The stored rows. -/
theorem pay_dx (dh ct x : FVec Ideal S256x1024 .f32) (g : FVec Ideal S1x1024 .f32) (y : S256x1024.Idx) :
    k0_pay2 (F := Ideal) dh ct g (k0_pay6 x) (k0_pay7 x) y = ct y + Norm.closed (n := 256) dh x g y := by
  pointwise [k0_pay2, pay_inv, pay_unit, Norm.closed, Norm.dn, Norm.width]

/-- The sum of the gain's gradient, a step on. -/
theorem pay_dg (dh x : FVec Ideal S256x1024 .f32) (acc : FVec Ideal S1x1024 .f32) (y : S1x1024.Idx) :
    k0_pay1 (F := Ideal) dh (k0_pay7 x) acc y = acc y + Norm.dgain (n := 256) dh x y := by
  pointwise [k0_pay1, pay_unit, Norm.dgain, Norm.share]

/-- The sum's start. -/
theorem pay_zero (y : S1x1024.Idx) : k0_pay3 (F := Ideal) y = 0 := by
  pointwise [k0_pay3]

end Payloads

/-- The grid point as the number of a block of rows. -/
def blk (t : Fin cfg0.N) : Fin 8 := ⟨t.val, t.isLt⟩

/-- The blocks of rows that a grid point reads. -/
theorem blk_d (c : Dev nD) (t : Fin cfg0.N) : iblk m c 0 t = Spec.block (blk t) (m ((c : Thread nD τ).loc main_arg3)) := by
  funext y
  unfold Spec.block
  blk_ext [iblk, V, idx t, Spec.rowOf, blk]

theorem blk_x (c : Dev nD) (t : Fin cfg0.N) : iblk m c 1 t = Spec.block (blk t) (m ((c : Thread nD τ).loc main_arg0)) := by
  funext y
  unfold Spec.block
  blk_ext [iblk, V, idx t, Spec.rowOf, blk]

theorem blk_ct (c : Dev nD) (t : Fin cfg0.N) : iblk m c 2 t = Spec.block (blk t) (m ((c : Thread nD τ).loc main_arg4)) := by
  funext y
  unfold Spec.block
  blk_ext [iblk, V, idx t, Spec.rowOf, blk]

/-- The weight and the gain are read whole. -/
theorem blk_w (c : Dev nD) (t : Fin cfg0.N) : iblk m c 3 t = V m c main_v2 := by
  funext y
  blk_ext [iblk, idx t]

theorem blk_g (c : Dev nD) (t : Fin cfg0.N) : iblk m c 4 t = m ((c : Thread nD τ).loc main_arg2) := by
  funext y
  blk_ext [iblk, V, idx t]

/-- The stored rows lie at the grid point's place. -/
theorem emb_dx (t : Fin cfg0.N) (y : S256x1024.Idx) :
    (((cfg0.win 5).blk t).view.emb y : S2048x1024.Idx) = ix2 (Spec.rowOf (blk t) (y 0)) (y 1 : Fin 1024) := by
  blk_ext [idx t, Spec.rowOf, blk]

/-- The gradient that reaches the norm, all rows. -/
def dh (c : Dev nD) : Spec.Act 2048 := Norm.dh (n := 2048) (m ((c : Thread nD τ).loc main_arg3)) (m ((c : Thread nD τ).loc main_arg1))

/-- A grid point's rows of it. -/
theorem grad_blk (c : Dev nD) (t : Fin cfg0.N) : grad (iblk m c 0 t) (iblk m c 3 t) = Spec.block (blk t) (dh m c) := by
  rw [blk_d, blk_w]
  exact (grad_eq _ _ (m ((c : Thread nD τ).loc main_arg1)) (entry_w m c)).trans (Norm.dh_block _ _ _)

/-- The rows' gradient, all rows. -/
def dx (c : Dev nD) : Spec.Act 2048 := Norm.plus (n := 2048) (m ((c : Thread nD τ).loc main_arg4))
  (Norm.closed (n := 2048) (dh m c) (m ((c : Thread nD τ).loc main_arg0)) (m ((c : Thread nD τ).loc main_arg2)))

/-- What a grid point stores. -/
theorem stored_dx (c : Dev nD) (t : Fin cfg0.N) (y : S256x1024.Idx) :
    k0_pay2 (F := Ideal) (grad (iblk m c 0 t) (iblk m c 3 t)) (iblk m c 2 t) (iblk m c 4 t) (k0_pay6 (iblk m c 1 t)) (k0_pay7 (iblk m c 1 t)) y
      = Spec.block (blk t) (dx m c) y := by
  rw [pay_dx, grad_blk, blk_ct, blk_g, blk_x, Norm.closed_block]
  rfl

/-- The rows' gradient after the run. -/
theorem final_dx (c : Dev nD) : (dats m 0 c).arrAt 5 (cfgs 0).N = dx m c := by
  refine (dats m 0 c).arrAt_eq_of_covers 5 _ (by decide +kernel) fun t _ y => ?_
  blk_simp
  rw [after0_5]
  have e : (outsAt0 m c t.val t.isLt).1 y = Spec.block (blk t) (dx m c) y := by
    by_cases h : t.val % 8 = 0
    · rw [outsAt0_A m c t h]
      frame_out
      exact stored_dx m c t y
    · rw [outsAt0_B m c t h]
      frame_out
      exact stored_dx m c t y
  exact e.trans (congrArg (dx m c) (emb_dx t y).symm)

/-- A block of rows' share of the gain's gradient. -/
def part (c : Dev nD) (t : Fin cfg0.N) (y : S1x1024.Idx) : EReal :=
  ∑ r : Fin 256, Norm.share (n := 2048) (dh m c) (m ((c : Thread nD τ).loc main_arg0)) (Spec.rowOf (blk t) r) (y 1 : Fin 1024)

/-- What a step adds, given the sum before it. -/
theorem step (c : Dev nD) (t : Fin cfg0.N) (acc : FVec Ideal S1x1024 .f32) (y : S1x1024.Idx) :
    k0_pay1 (F := Ideal) (grad (iblk m c 0 t) (iblk m c 3 t)) (k0_pay7 (iblk m c 1 t)) acc y = acc y + part m c t y := by
  rw [pay_dg, grad_blk, blk_x]
  rfl

/-- The sum after the first step. -/
theorem out_first (c : Dev nD) (t : Fin cfg0.N) (h : t.val % 8 = 0) (y : S1x1024.Idx) :
    (outsAt0 m c t.val t.isLt).2 y = k0_pay3 (F := Ideal) y + part m c t y := by
  rw [outsAt0_A m c t h]
  frame_out
  exact step m c t _ y

/-- The sum after a later step. -/
theorem out_later (c : Dev nD) (t : Fin cfg0.N) (h : ¬ t.val % 8 = 0) (y : S1x1024.Idx) :
    (outsAt0 m c t.val t.isLt).2 y
      = (outsAt0 m c (t.val - 1) (Nat.lt_of_le_of_lt (Nat.sub_le _ _) t.isLt)).2 y + part m c t y := by
  rw [outsAt0_B m c t h]
  frame_out
  exact step m c t _ y

/-- The gain's gradient, all rows. -/
def dg (c : Dev nD) : Norm.Gain := Norm.dgain (n := 2048) (dh m c) (m ((c : Thread nD τ).loc main_arg0))

/-- The sum after the last step. -/
theorem out_dg (c : Dev nD) (t : Fin cfg0.N) (ht : t.val + 1 = cfg0.N) (y : S1x1024.Idx) :
    (outsAt0 m c t.val t.isLt).2 y = dg m c y := by
  rw [Pipeline.eq_sum_fin_of_reset_step_apply_last (fun n h => (outsAt0 m c n h).2) 8 (k0_pay3 (F := Ideal)) (part m c)
    (out_first m c) (out_later m c) (le_of_eq N_0) t ht y, pay_zero, zero_add]
  exact (Fin.sum_univ_tiles 8 256 rfl fun r => Norm.share (n := 2048) (dh m c) (m ((c : Thread nD τ).loc main_arg0)) r (y 1 : Fin 1024)).symm

/-- The gain's gradient after the run. -/
theorem final_dg (c : Dev nD) : (dats m 0 c).arrAt 6 (cfgs 0).N = dg m c := by
  refine (dats m 0 c).arrAt_eq_of_after_last 6 t0_7 (by decide +kernel) _ fun j => ?_
  blk_simp
  rw [after0_6]
  refine (out_dg m c t0_7 rfl _).trans (congrArg (dg m c) ?_)
  blk_ext [idx t0_7]

end Cert.ValueInA

end
-- ==== Proof.RefInA.lean ====
/- The reference of the first layer's input stage: its two results as the formulas of `Norm`. -/
module

public import proofs.«01_k».proof.Proof.Norm
public import proofs.«01_k».proof.Proof.Gen.ReferenceInAIdeal.Read
public import Idealize.ShloMosaic.Lib.Pipeline.ValueKit

@[expose] public section

set_option maxRecDepth 16384

noncomputable section

open Idealize.ShloMosaic Idealize.ShloMosaic.TcCoe Idealize.SL.Sem

namespace Cert.RefInA

open Cert.ReferenceInAIdeal Cert.ReferenceInAIdeal.Gen Cert.ReferenceInAIdeal.Read

variable (x0 x4 : (⟨S2048x1024, .f32⟩ : BufTy).Contents (Elt Ideal)) (x1 : (⟨S1024x2048, .f32⟩ : BufTy).Contents (Elt Ideal))
  (x2 : (⟨S1x1024, .f32⟩ : BufTy).Contents (Elt Ideal)) (x3 : (⟨S2048x2048, .bf16⟩ : BufTy).Contents (Elt Ideal))

/-- The mean square of a row. -/
theorem msq_eq (y : S2048x1.Idx) : val_main_v6 (F := Ideal) x0 y = Norm.msq (n := 2048) x0 (y 0 : Fin 2048) := by
  pointwise [val_main_v6, val_main_v5, val_main_cst_1, val_main_v4, val_main_v3, val_main_cst_0, val_main_v2, val_main_v1, val_main_cst, val_main_v0,
    Norm.msq, Norm.width, Norm.eps]

/-- One over its root. -/
theorem inv_eq (y : S2048x1.Idx) : val_main_v7 (F := Ideal) x0 y = Norm.inv (n := 2048) x0 (y 0 : Fin 2048) := by
  unfold Norm.inv
  rw [← msq_eq x0 y]
  pointwise [val_main_v7]

/-- The scaled rows. -/
theorem unit_eq : val_main_v12 (F := Ideal) x0 = Norm.unit (n := 2048) x0 := by
  funext y
  pointwise [val_main_v12, val_main_v11, inv_eq, Norm.unit]

/-- The gradient that reaches the norm. -/
theorem dh_eq : val_main_v17 (F := Ideal) x1 x3 = Norm.dh (n := 2048) x3 x1 := by
  funext y
  pointwise [val_main_v17, val_main_v16, Norm.dh]

/-- The gain's gradient. -/
theorem dg_eq : val_main_v20 (F := Ideal) x0 x1 x3 = Norm.dgain (n := 2048) (Norm.dh (n := 2048) x3 x1) x0 := by
  funext y
  pointwise [val_main_v20, val_main_v19, val_main_cst_3, val_main_v18, unit_eq, dh_eq, Norm.dgain, Norm.share]
  exact Finset.sum_congr rfl fun r _ => mul_comm _ _

/-- The gradient of the scaled rows. -/
theorem dn_eq : val_main_v22 (F := Ideal) x1 x2 x3 = Norm.dn (n := 2048) (Norm.dh (n := 2048) x3 x1) x2 := by
  funext y
  pointwise [val_main_v22, val_main_v21, dh_eq, Norm.dn]

/-- The gradient of a row's sum of squares. -/
theorem slope_eq (y : S2048.Idx) : val_main_v31 (F := Ideal) x0 x1 x2 x3 y
    = Norm.slope (n := 2048) (Norm.dh (n := 2048) x3 x1) x0 x2 (y 0 : Fin 2048) := by
  pointwise [val_main_v31, val_main_cst_6, val_main_v30, val_main_v29, val_main_cst_5, val_main_v28, val_main_v25, val_main_v24, val_main_cst_4,
    val_main_v23, dn_eq, val_main_v10, val_main_v9, val_main_cst_2, val_main_v8, inv_eq, msq_eq, Norm.slope, Norm.width, Norm.negHalf]
  exact Fin.sum_univ_one _

/-- The rows' gradient. -/
theorem dx_eq : val_main_v37 (F := Ideal) x0 x1 x2 x3 x4
    = Norm.plus (n := 2048) x4 (Norm.chain (n := 2048) (Norm.dh (n := 2048) x3 x1) x0 x2) := by
  funext y
  pointwise [val_main_v37, val_main_v36, val_main_v35, val_main_v34, val_main_v33, val_main_v32, val_main_v27, val_main_v26, slope_eq, inv_eq, dn_eq,
    Norm.plus, Norm.chain]

end Cert.RefInA

end
-- ==== Proof.BridgeInA.lean ====
/- The first layer's input stage: where the tested arrays are real, the closed form of the norm's gradient is the reference's,
   and the two programs' results are the same. -/
module

public import proofs.«01_k».proof.Defs
public import proofs.«01_k».proof.Proof.ValueInA
public import proofs.«01_k».proof.Proof.RefInA
public import proofs.«01_k».proof.Proof.Tested
public import proofs.«01_k».proof.Proof.Gen.KernelInAIdeal.Value
public import proofs.«01_k».proof.Proof.Gen.ReferenceInAIdeal.Run
public import proofs.«01_k».proof.Proof.Gen.Pre_finite_in_a
public import Idealize.ShloMosaic.Lib.Claim

@[expose] public section

set_option maxRecDepth 16384

noncomputable section

open Idealize.ShloMosaic Idealize.ShloMosaic.TcCoe Idealize.SL.Sem

namespace Cert.BridgeInA

open Cert.KernelInAIdeal Cert.KernelInAIdeal.Gen Cert.Finite

variable (m : (ℓ : Loc nD τ sig) → Buf (Elt Ideal) ℓ)

/-- Where the tested arrays are real, the rows' gradient is the reference's. -/
theorem dx_chain (hpre : Cert.Pre_KernelInAIdeal_finite_in_a m) (c : Dev nD) : ValueInA.dx m c
    = Norm.plus (n := 2048) (m ((c : Thread nD τ).loc main_arg4)) (Norm.chain (n := 2048) (ValueInA.dh m c)
      (m ((c : Thread nD τ).loc main_arg0)) (m ((c : Thread nD τ).loc main_arg2))) := by
  obtain ⟨hx, hw, hg, hd⟩ := hpre c
  exact congrArg _ (Norm.closed_eq _ _ _ (Norm.dh_real _ _ (real_of_test hd) (real_of_test hw)) (real_of_test hx) (real_of_test hg))

/-- The kernel and the reference compute the same gradients of the rows and of the gain. -/
theorem algebraic : Cert.algebraic_KernelInAIdeal_ReferenceInAIdeal_pre_finite_in_a := by
  intro m g m' g' hpre hagree
  refine ⟨fun c => ValueInA.dx m c, fun c => ValueInA.dg m c,
    (θ_run defs _ _).mono (fun r h c => ?_) (Cert.KernelInAIdeal.Value.run_blocks m g),
    (θ_run Cert.ReferenceInAIdeal.defs _ _).mono (fun r h c => ?_) (Cert.ReferenceInAIdeal.Value.run m' g')⟩
  · obtain ⟨h0, h1, ha⟩ := h c
    exact ⟨h0.trans (ValueInA.final_dx m c), h1.trans (ValueInA.final_dg m c), ha⟩
  · obtain ⟨h0, h1, h2, h3, h4⟩ := hagree c
    obtain ⟨r0, r1, ha⟩ := h c
    refine ⟨(r0.trans (Cert.ReferenceInAIdeal.Read.val_main_v37_eq m' c)).trans ?_, r1.trans ?_, ha⟩
    · refine Eq.trans ?_ (dx_chain m hpre c).symm
      refine Eq.trans ?_ (RefInA.dx_eq _ _ _ _ _)
      rw [h0, h1, h2, h3, h4]
    · refine Eq.trans ?_ (RefInA.dg_eq _ _ _)
      rw [h0, h1, h3]
      rfl

end Cert.BridgeInA

end
-- ==== Proof.ValueInB.lean ====
/- What the kernel of the second layer's input stage leaves in its three result arrays. -/
module

public import proofs.«01_k».proof.Proof.Norm
public import proofs.«01_k».proof.Proof.Gen.KernelInBIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ValueInB

open Cert.KernelInBIdeal Cert.KernelInBIdeal.Gen

variable (m : (ℓ : Loc nD τ sig) → Buf (Elt Ideal) ℓ)

/-- Rows are read and stored at the grid point's place; the weights and the gains are whole. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![0, 0, 0]
    ∧ win0_7.index t = ![0, 0, 0] ∧ win0_8.index t = ![0, 0] ∧ win0_9.index t = ![0, 0] ∧ win0_10.index t = ![t.val, 0]
    ∧ win0_11.index t = ![0, 0] ∧ win0_12.index t = ![0, 0] :=
  (by decide +kernel : ∀ t : Fin grid0.N, _)

/-- The first projection's weight as the kernel gets it: by blocks of 256 columns. -/
theorem entry_win (c : Dev nD) (j : Fin 8) (o : Fin 1024) (k : Fin 256) :
    V m c main_v2 (ix3 j o k : S8x1024x256.Idx) = m ((c : Thread nD τ).loc main_arg1) (ix2 o (SpecW.place (q := 8) (w := 256) j k) : S1024x2048.Idx) := by
  entry_read
  pointwise [SpecW.place]

/-- The second projection's weight, in the same way. -/
theorem entry_wkv (c : Dev nD) (j : Fin 8) (o : Fin 1024) (k : Fin 256) :
    V m c main_v5 (ix3 j o k : S8x1024x256.Idx) = m ((c : Thread nD τ).loc main_arg2) (ix2 o (SpecW.place (q := 8) (w := 256) j k) : S1024x2048.Idx) := by
  entry_read
  pointwise [SpecW.place]

section Payloads

/-- One block's product with the gradient's 256 columns. -/
def dot (a : FVec Ideal S256x256 .bf16) (b : FVec Ideal S1x1024x256 .bf16) (y : S256x1024.Idx) : EReal :=
  ∑ k : Fin 256, a (ix2 (y 0 : Fin 256) k) * b (ix3 (0 : Fin 1) (y 1 : Fin 1024) k)

section Sums

variable (a0 a1 a2 a3 : FVec Ideal S256x256 .bf16) (b0 b1 b2 b3 : FVec Ideal S1x1024x256 .bf16) (s : FVec Ideal S256x1024 .f32) (y : S256x1024.Idx)

/-- The first gradient's products 0 and 1, then 2 to 4, then 5 to 7. -/
theorem pay_b0 : k0_pay7 (F := Ideal) a0 b0 a1 b1 y = dot a0 b0 y + dot a1 b1 y := by
  pointwise [k0_pay7, dot]

theorem pay_b2 : k0_pay10 (F := Ideal) s a0 b0 a1 b1 a2 b2 y = s y + dot a0 b0 y + dot a1 b1 y + dot a2 b2 y := by
  pointwise [k0_pay10, dot]

theorem pay_b5 : k0_pay13 (F := Ideal) s a0 b0 a1 b1 a2 b2 y = s y + dot a0 b0 y + dot a1 b1 y + dot a2 b2 y := by
  pointwise [k0_pay13, dot]

/-- The second gradient's products 0 and 1, then 2 and 3, then 4, then 5 and 6, then 7. -/
theorem pay_kv0 : k0_pay8 (F := Ideal) a0 b0 a1 b1 y = dot a0 b0 y + dot a1 b1 y := by
  pointwise [k0_pay8, dot]

theorem pay_kv2 : k0_pay9 (F := Ideal) s a0 b0 a1 b1 y = s y + dot a0 b0 y + dot a1 b1 y := by
  pointwise [k0_pay9, dot]

theorem pay_kv4 : k0_pay11 (F := Ideal) a0 b0 y = dot a0 b0 y := by
  pointwise [k0_pay11, dot]

theorem pay_kv5 (u : FVec Ideal S256x1024 .f32) : k0_pay12 (F := Ideal) s u a0 b0 a1 b1 y = s y + u y + dot a0 b0 y + dot a1 b1 y := by
  pointwise [k0_pay12, dot]

theorem pay_kv7 : k0_pay14 (F := Ideal) s a0 b0 y = s y + dot a0 b0 y := by
  pointwise [k0_pay14, dot]

end Sums

variable (l r : Vec Ideal S256x1024 .bf16) (wt : Vec Ideal S8x1024x256 .bf16) (w : SpecW.Mat 1024 2048)
  (hw : ∀ (j : Fin 8) (o : Fin 1024) (k : Fin 256), wt (ix3 j o k : S8x1024x256.Idx) = w (ix2 o (SpecW.place (q := 8) (w := 256) j k)))

/-- The left gradient's columns as loaded: the first half of the two side by side. -/
theorem ld_left (j : Fin 8) (o : ℕ) (hj : j.val < 4) (ho : o = j.val * 256) (inb : ∀ a, (![0, o] : Fin 2 → ℕ) a + (![256, 256] : Fin 2 → ℕ) a ≤ S256x1024.size a)
    (i k : Fin 256) : View.ld l (Rect.unit (s := S256x1024) ![0, o] ![256, 256] inb) (ix2 i k)
      = SpecW.beside (s := 256) l r (ix2 i (SpecW.place (q := 8) (w := 256) j k)) := by
  subst ho
  have hk := k.isLt
  have h : j.val * 256 + k.val < 1024 := by omega
  refine Eq.trans ?_ (dif_pos h).symm
  refine congrArg l (funext fun a => Fin.ext ?_)
  fin_cases a
  · show 0 + 1 * i.val = i.val
    omega
  · show j.val * 256 + 1 * k.val = j.val * 256 + k.val
    omega

/-- The right gradient's columns as loaded: the second half. -/
theorem ld_right (j : Fin 8) (o : ℕ) (hj : 4 ≤ j.val) (ho : o + 1024 = j.val * 256) (inb : ∀ a, (![0, o] : Fin 2 → ℕ) a + (![256, 256] : Fin 2 → ℕ) a ≤ S256x1024.size a)
    (i k : Fin 256) : View.ld r (Rect.unit (s := S256x1024) ![0, o] ![256, 256] inb) (ix2 i k)
      = SpecW.beside (s := 256) l r (ix2 i (SpecW.place (q := 8) (w := 256) j k)) := by
  have h : ¬ j.val * 256 + k.val < 1024 := by omega
  refine Eq.trans ?_ (dif_neg h).symm
  refine congrArg r (funext fun a => Fin.ext ?_)
  fin_cases a
  · show 0 + 1 * i.val = i.val
    omega
  · show o + 1 * k.val = j.val * 256 + k.val - 1024
    omega

/-- The weight's block as loaded. -/
theorem ld_w (j : Fin 8) (o : ℕ) (ho : o = j.val) (inb : ∀ a, (![o, 0, 0] : Fin 3 → ℕ) a + (![1, 1024, 256] : Fin 3 → ℕ) a ≤ S8x1024x256.size a) (q : Fin 1024) (k : Fin 256) :
    View.ld wt (Rect.unit (s := S8x1024x256) ![o, 0, 0] ![1, 1024, 256] inb) (ix3 (0 : Fin 1) q k) = wt (ix3 j q k : S8x1024x256.Idx) := by
  subst ho
  refine congrArg wt (funext fun a => Fin.ext ?_)
  fin_cases a
  · show j.val + 1 * 0 = j.val
    omega
  · show 0 + 1 * q.val = q.val
    omega
  · show 0 + 1 * k.val = k.val
    omega

include hw in
/-- A left block's product is its share of the row's gradient. -/
theorem dot_left (j : Fin 8) (o o' : ℕ) (hj : j.val < 4) (ho : o = j.val * 256) (ho' : o' = j.val)
    (inb : ∀ a, (![0, o] : Fin 2 → ℕ) a + (![256, 256] : Fin 2 → ℕ) a ≤ S256x1024.size a)
    (inb' : ∀ a, (![o', 0, 0] : Fin 3 → ℕ) a + (![1, 1024, 256] : Fin 3 → ℕ) a ≤ S8x1024x256.size a) (y : S256x1024.Idx) :
    dot (View.ld l (Rect.unit (s := S256x1024) ![0, o] ![256, 256] inb)) (View.ld wt (Rect.unit (s := S8x1024x256) ![o', 0, 0] ![1, 1024, 256] inb')) y
      = Norm.tile (n := 256) (SpecW.beside (s := 256) l r) w j y :=
  Finset.sum_congr rfl fun k _ => congrArg₂ (· * ·) (ld_left l r j o hj ho inb _ _) ((ld_w wt j o' ho' inb' _ _).trans (hw _ _ _))

include hw in
/-- A right block's product is its share of the row's gradient. -/
theorem dot_right (j : Fin 8) (o o' : ℕ) (hj : 4 ≤ j.val) (ho : o + 1024 = j.val * 256) (ho' : o' = j.val)
    (inb : ∀ a, (![0, o] : Fin 2 → ℕ) a + (![256, 256] : Fin 2 → ℕ) a ≤ S256x1024.size a)
    (inb' : ∀ a, (![o', 0, 0] : Fin 3 → ℕ) a + (![1, 1024, 256] : Fin 3 → ℕ) a ≤ S8x1024x256.size a) (y : S256x1024.Idx) :
    dot (View.ld r (Rect.unit (s := S256x1024) ![0, o] ![256, 256] inb)) (View.ld wt (Rect.unit (s := S8x1024x256) ![o', 0, 0] ![1, 1024, 256] inb')) y
      = Norm.tile (n := 256) (SpecW.beside (s := 256) l r) w j y :=
  Finset.sum_congr rfl fun k _ => congrArg₂ (· * ·) (ld_right l r j o hj ho inb _ _) ((ld_w wt j o' ho' inb' _ _).trans (hw _ _ _))

/-- The gradient that reaches the first norm, from the loaded blocks. -/
def gradB : FVec Ideal S256x1024 .f32 :=
  k0_pay13 (F := Ideal)
    (k0_pay10 (k0_pay7 (View.ld l (Rect.unit ![0, 0] ![256, 256] inb_S256x1024_S256x256_0_0)) (View.ld wt (Rect.unit ![0, 0, 0] ![1, 1024, 256] inb_S8x1024x256_S1x1024x256_0_0_0))
      (View.ld l (Rect.unit ![0, 256] ![256, 256] inb_S256x1024_S256x256_0_256)) (View.ld wt (Rect.unit ![1, 0, 0] ![1, 1024, 256] inb_S8x1024x256_S1x1024x256_1_0_0)))
      (View.ld l (Rect.unit ![0, 512] ![256, 256] inb_S256x1024_S256x256_0_512)) (View.ld wt (Rect.unit ![2, 0, 0] ![1, 1024, 256] inb_S8x1024x256_S1x1024x256_2_0_0))
      (View.ld l (Rect.unit ![0, 768] ![256, 256] inb_S256x1024_S256x256_0_768)) (View.ld wt (Rect.unit ![3, 0, 0] ![1, 1024, 256] inb_S8x1024x256_S1x1024x256_3_0_0))
      (View.ld r (Rect.unit ![0, 0] ![256, 256] inb_S256x1024_S256x256_0_0)) (View.ld wt (Rect.unit ![4, 0, 0] ![1, 1024, 256] inb_S8x1024x256_S1x1024x256_4_0_0)))
    (View.ld r (Rect.unit ![0, 256] ![256, 256] inb_S256x1024_S256x256_0_256)) (View.ld wt (Rect.unit ![5, 0, 0] ![1, 1024, 256] inb_S8x1024x256_S1x1024x256_5_0_0))
    (View.ld r (Rect.unit ![0, 512] ![256, 256] inb_S256x1024_S256x256_0_512)) (View.ld wt (Rect.unit ![6, 0, 0] ![1, 1024, 256] inb_S8x1024x256_S1x1024x256_6_0_0))
    (View.ld r (Rect.unit ![0, 768] ![256, 256] inb_S256x1024_S256x256_0_768)) (View.ld wt (Rect.unit ![7, 0, 0] ![1, 1024, 256] inb_S8x1024x256_S1x1024x256_7_0_0))

/-- The gradient that reaches the second norm, from the loaded blocks. -/
def gradKv : FVec Ideal S256x1024 .f32 :=
  k0_pay14 (F := Ideal)
    (k0_pay12 (k0_pay9 (k0_pay8 (View.ld l (Rect.unit ![0, 0] ![256, 256] inb_S256x1024_S256x256_0_0)) (View.ld wt (Rect.unit ![0, 0, 0] ![1, 1024, 256] inb_S8x1024x256_S1x1024x256_0_0_0))
      (View.ld l (Rect.unit ![0, 256] ![256, 256] inb_S256x1024_S256x256_0_256)) (View.ld wt (Rect.unit ![1, 0, 0] ![1, 1024, 256] inb_S8x1024x256_S1x1024x256_1_0_0)))
      (View.ld l (Rect.unit ![0, 512] ![256, 256] inb_S256x1024_S256x256_0_512)) (View.ld wt (Rect.unit ![2, 0, 0] ![1, 1024, 256] inb_S8x1024x256_S1x1024x256_2_0_0))
      (View.ld l (Rect.unit ![0, 768] ![256, 256] inb_S256x1024_S256x256_0_768)) (View.ld wt (Rect.unit ![3, 0, 0] ![1, 1024, 256] inb_S8x1024x256_S1x1024x256_3_0_0)))
      (k0_pay11 (View.ld r (Rect.unit ![0, 0] ![256, 256] inb_S256x1024_S256x256_0_0)) (View.ld wt (Rect.unit ![4, 0, 0] ![1, 1024, 256] inb_S8x1024x256_S1x1024x256_4_0_0)))
      (View.ld r (Rect.unit ![0, 256] ![256, 256] inb_S256x1024_S256x256_0_256)) (View.ld wt (Rect.unit ![5, 0, 0] ![1, 1024, 256] inb_S8x1024x256_S1x1024x256_5_0_0))
      (View.ld r (Rect.unit ![0, 512] ![256, 256] inb_S256x1024_S256x256_0_512)) (View.ld wt (Rect.unit ![6, 0, 0] ![1, 1024, 256] inb_S8x1024x256_S1x1024x256_6_0_0)))
    (View.ld r (Rect.unit ![0, 768] ![256, 256] inb_S256x1024_S256x256_0_768)) (View.ld wt (Rect.unit ![7, 0, 0] ![1, 1024, 256] inb_S8x1024x256_S1x1024x256_7_0_0))

include hw in
/-- The first is the product with all the columns. -/
theorem gradB_eq : gradB l r wt = Norm.dh (n := 256) (SpecW.beside (s := 256) l r) w := by
  funext y
  unfold gradB
  rw [pay_b5, pay_b2, pay_b0, Norm.dh_tiles]
  rw [dot_left l r wt w hw 0 0 0 (by decide) rfl rfl,
    dot_left l r wt w hw 1 256 1 (by decide) rfl rfl,
    dot_left l r wt w hw 2 512 2 (by decide) rfl rfl,
    dot_left l r wt w hw 3 768 3 (by decide) rfl rfl,
    dot_right l r wt w hw 4 0 4 (by decide) rfl rfl,
    dot_right l r wt w hw 5 256 5 (by decide) rfl rfl,
    dot_right l r wt w hw 6 512 6 (by decide) rfl rfl,
    dot_right l r wt w hw 7 768 7 (by decide) rfl rfl]

include hw in
/-- So is the second. -/
theorem gradKv_eq : gradKv l r wt = Norm.dh (n := 256) (SpecW.beside (s := 256) l r) w := by
  funext y
  unfold gradKv
  rw [pay_kv7, pay_kv5, pay_kv4, pay_kv2, pay_kv0, Norm.dh_tiles]
  rw [dot_left l r wt w hw 0 0 0 (by decide) rfl rfl,
    dot_left l r wt w hw 1 256 1 (by decide) rfl rfl,
    dot_left l r wt w hw 2 512 2 (by decide) rfl rfl,
    dot_left l r wt w hw 3 768 3 (by decide) rfl rfl,
    dot_right l r wt w hw 4 0 4 (by decide) rfl rfl,
    dot_right l r wt w hw 5 256 5 (by decide) rfl rfl,
    dot_right l r wt w hw 6 512 6 (by decide) rfl rfl,
    dot_right l r wt w hw 7 768 7 (by decide) rfl rfl]

/-- One over the root of each row's mean square, as either norm computes it. -/
theorem pay_inv_b (x : FVec Ideal S256x1024 .f32) (y : S256x1.Idx) : k0_pay15 (F := Ideal) x y = Norm.inv (n := 256) x (y 0 : Fin 256) := by
  pointwise [k0_pay15, Norm.inv, Norm.msq, Norm.width, Norm.eps]

theorem pay_inv_kv (x : FVec Ideal S256x1024 .f32) (y : S256x1.Idx) : k0_pay1 (F := Ideal) x y = Norm.inv (n := 256) x (y 0 : Fin 256) := by
  pointwise [k0_pay1, Norm.inv, Norm.msq, Norm.width, Norm.eps]

/-- The scaled rows, as either norm computes them. -/
theorem pay_unit_b (x : FVec Ideal S256x1024 .f32) : k0_pay16 (F := Ideal) x = Norm.unit (n := 256) x := by
  funext y
  pointwise [k0_pay16, pay_inv_b, Norm.unit]

theorem pay_unit_kv (x : FVec Ideal S256x1024 .f32) : k0_pay2 (F := Ideal) x = Norm.unit (n := 256) x := by
  funext y
  pointwise [k0_pay2, pay_inv_kv, Norm.unit]

/-- The rows with the first norm's gradient added. -/
theorem pay_dx_b (dh ct x : FVec Ideal S256x1024 .f32) (g : FVec Ideal S1x1024 .f32) (y : S256x1024.Idx) :
    k0_pay18 (F := Ideal) dh x ct g y = ct y + Norm.closed (n := 256) dh x g y := by
  pointwise [k0_pay18, pay_inv_b, pay_unit_b, Norm.closed, Norm.dn, Norm.width]

/-- The stored rows: the second norm's gradient added as well. -/
theorem pay_dx_kv (dh s x : FVec Ideal S256x1024 .f32) (g : FVec Ideal S1x1024 .f32) (y : S256x1024.Idx) :
    k0_pay4 (F := Ideal) dh x s g y = s y + Norm.closed (n := 256) dh x g y := by
  pointwise [k0_pay4, pay_inv_kv, pay_unit_kv, Norm.closed, Norm.dn, Norm.width]

/-- The sums of the gains' gradients, a step on. -/
theorem pay_dg_b (dh x : FVec Ideal S256x1024 .f32) (acc : FVec Ideal S1x1024 .f32) (y : S1x1024.Idx) :
    k0_pay17 (F := Ideal) dh x acc y = acc y + Norm.dgain (n := 256) dh x y := by
  pointwise [k0_pay17, pay_unit_b, Norm.dgain, Norm.share]

theorem pay_dg_kv (dh x : FVec Ideal S256x1024 .f32) (acc : FVec Ideal S1x1024 .f32) (y : S1x1024.Idx) :
    k0_pay3 (F := Ideal) dh x acc y = acc y + Norm.dgain (n := 256) dh x y := by
  pointwise [k0_pay3, pay_unit_kv, Norm.dgain, Norm.share]

/-- The sums' start. -/
theorem pay_zero_b (y : S1x1024.Idx) : k0_pay5 (F := Ideal) y = 0 := by
  pointwise [k0_pay5]

theorem pay_zero_kv (y : S1x1024.Idx) : k0_pay6 (F := Ideal) y = 0 := by
  pointwise [k0_pay6]

end Payloads

/-- The grid point as the number of a block of rows. -/
def blk (t : Fin cfg0.N) : Fin 8 := ⟨t.val, t.isLt⟩

/-- The blocks of rows that a grid point reads. -/
theorem blk_dq (c : Dev nD) (t : Fin cfg0.N) : iblk m c 0 t = Spec.block (blk t) (m ((c : Thread nD τ).loc main_arg5)) := by
  funext y
  unfold Spec.block
  blk_ext [iblk, V, idx t, Spec.rowOf, blk]

theorem blk_dz (c : Dev nD) (t : Fin cfg0.N) : iblk m c 1 t = Spec.block (blk t) (m ((c : Thread nD τ).loc main_arg6)) := by
  funext y
  unfold Spec.block
  blk_ext [iblk, V, idx t, Spec.rowOf, blk]

theorem blk_dk (c : Dev nD) (t : Fin cfg0.N) : iblk m c 2 t = Spec.block (blk t) (m ((c : Thread nD τ).loc main_arg7)) := by
  funext y
  unfold Spec.block
  blk_ext [iblk, V, idx t, Spec.rowOf, blk]

theorem blk_dv (c : Dev nD) (t : Fin cfg0.N) : iblk m c 3 t = Spec.block (blk t) (m ((c : Thread nD τ).loc main_arg8)) := by
  funext y
  unfold Spec.block
  blk_ext [iblk, V, idx t, Spec.rowOf, blk]

theorem blk_x (c : Dev nD) (t : Fin cfg0.N) : iblk m c 4 t = Spec.block (blk t) (m ((c : Thread nD τ).loc main_arg0)) := by
  funext y
  unfold Spec.block
  blk_ext [iblk, V, idx t, Spec.rowOf, blk]

theorem blk_ct (c : Dev nD) (t : Fin cfg0.N) : iblk m c 5 t = Spec.block (blk t) (m ((c : Thread nD τ).loc main_arg9)) := by
  funext y
  unfold Spec.block
  blk_ext [iblk, V, idx t, Spec.rowOf, blk]

/-- The weights and the gains are read whole. -/
theorem blk_win (c : Dev nD) (t : Fin cfg0.N) : iblk m c 6 t = V m c main_v2 := by
  funext y
  blk_ext [iblk, idx t]

theorem blk_wkv (c : Dev nD) (t : Fin cfg0.N) : iblk m c 7 t = V m c main_v5 := by
  funext y
  blk_ext [iblk, idx t]

theorem blk_bn (c : Dev nD) (t : Fin cfg0.N) : iblk m c 8 t = m ((c : Thread nD τ).loc main_arg3) := by
  funext y
  blk_ext [iblk, V, idx t]

theorem blk_kvn (c : Dev nD) (t : Fin cfg0.N) : iblk m c 9 t = m ((c : Thread nD τ).loc main_arg4) := by
  funext y
  blk_ext [iblk, V, idx t]

/-- The stored rows lie at the grid point's place. -/
theorem emb_dx (t : Fin cfg0.N) (y : S256x1024.Idx) :
    (((cfg0.win 10).blk t).view.emb y : S2048x1024.Idx) = ix2 (Spec.rowOf (blk t) (y 0)) (y 1 : Fin 1024) := by
  blk_ext [idx t, Spec.rowOf, blk]

/-- A block of rows of two matrices side by side. -/
theorem beside_block (b : Fin 8) (l r : SpecW.Mat 2048 1024) :
    SpecW.beside (s := 256) (Spec.block b l) (Spec.block b r) = Spec.block b (SpecW.beside (s := 2048) l r) := rfl

/-- The gradient that reaches the first norm, all rows. -/
def dhB (c : Dev nD) : Spec.Act 2048 := Norm.dh (n := 2048)
  (SpecW.beside (s := 2048) (m ((c : Thread nD τ).loc main_arg5)) (m ((c : Thread nD τ).loc main_arg6))) (m ((c : Thread nD τ).loc main_arg1))

/-- The gradient that reaches the second norm, all rows. -/
def dhKv (c : Dev nD) : Spec.Act 2048 := Norm.dh (n := 2048)
  (SpecW.beside (s := 2048) (m ((c : Thread nD τ).loc main_arg7)) (m ((c : Thread nD τ).loc main_arg8))) (m ((c : Thread nD τ).loc main_arg2))

/-- A grid point's rows of them. -/
theorem gradB_blk (c : Dev nD) (t : Fin cfg0.N) : gradB (iblk m c 0 t) (iblk m c 1 t) (iblk m c 6 t) = Spec.block (blk t) (dhB m c) := by
  rw [blk_dq, blk_dz, blk_win]
  exact (gradB_eq _ _ _ (m ((c : Thread nD τ).loc main_arg1)) (entry_win m c)).trans ((congrArg (Norm.dh (n := 256) · _) (beside_block _ _ _)).trans (Norm.dh_block _ _ _))

theorem gradKv_blk (c : Dev nD) (t : Fin cfg0.N) : gradKv (iblk m c 2 t) (iblk m c 3 t) (iblk m c 7 t) = Spec.block (blk t) (dhKv m c) := by
  rw [blk_dk, blk_dv, blk_wkv]
  exact (gradKv_eq _ _ _ (m ((c : Thread nD τ).loc main_arg2)) (entry_wkv m c)).trans ((congrArg (Norm.dh (n := 256) · _) (beside_block _ _ _)).trans (Norm.dh_block _ _ _))

/-- The rows' gradient, all rows. -/
def dx (c : Dev nD) : Spec.Act 2048 := Norm.plus (n := 2048) (Norm.plus (n := 2048) (m ((c : Thread nD τ).loc main_arg9))
    (Norm.closed (n := 2048) (dhB m c) (m ((c : Thread nD τ).loc main_arg0)) (m ((c : Thread nD τ).loc main_arg3))))
  (Norm.closed (n := 2048) (dhKv m c) (m ((c : Thread nD τ).loc main_arg0)) (m ((c : Thread nD τ).loc main_arg4)))

/-- What a grid point stores. -/
theorem stored_dx (c : Dev nD) (t : Fin cfg0.N) (y : S256x1024.Idx) :
    k0_pay4 (F := Ideal) (gradKv (iblk m c 2 t) (iblk m c 3 t) (iblk m c 7 t)) (iblk m c 4 t)
        (k0_pay18 (F := Ideal) (gradB (iblk m c 0 t) (iblk m c 1 t) (iblk m c 6 t)) (iblk m c 4 t) (iblk m c 5 t) (iblk m c 8 t)) (iblk m c 9 t) y
      = Spec.block (blk t) (dx m c) y := by
  rw [pay_dx_kv, pay_dx_b, gradB_blk, gradKv_blk, blk_ct, blk_bn, blk_kvn, blk_x, Norm.closed_block, Norm.closed_block]
  rfl

/-- The rows' gradient after the run. -/
theorem final_dx (c : Dev nD) : (dats m 0 c).arrAt 10 (cfgs 0).N = dx m c := by
  refine (dats m 0 c).arrAt_eq_of_covers 10 _ (by decide +kernel) fun t _ y => ?_
  blk_simp
  rw [after0_10]
  have e : (outsAt0 m c t.val t.isLt).1 y = Spec.block (blk t) (dx m c) y := by
    by_cases h : t.val % 8 = 0
    · rw [outsAt0_A m c t h]
      frame_out
      exact stored_dx m c t y
    · rw [outsAt0_B m c t h]
      frame_out
      exact stored_dx m c t y
  exact e.trans (congrArg (dx m c) (emb_dx t y).symm)

/-- A block of rows' share of the first gain's gradient. -/
def partB (c : Dev nD) (t : Fin cfg0.N) (y : S1x1024.Idx) : EReal :=
  ∑ r : Fin 256, Norm.share (n := 2048) (dhB m c) (m ((c : Thread nD τ).loc main_arg0)) (Spec.rowOf (blk t) r) (y 1 : Fin 1024)

/-- What a step adds to the first sum, given the sum before it. -/
theorem stepB (c : Dev nD) (t : Fin cfg0.N) (acc : FVec Ideal S1x1024 .f32) (y : S1x1024.Idx) :
    k0_pay17 (F := Ideal) (gradB (iblk m c 0 t) (iblk m c 1 t) (iblk m c 6 t)) (iblk m c 4 t) acc y = acc y + partB m c t y := by
  rw [pay_dg_b, gradB_blk, blk_x]
  rfl

/-- The first sum after the first step. -/
theorem firstB (c : Dev nD) (t : Fin cfg0.N) (h : t.val % 8 = 0) (y : S1x1024.Idx) :
    (outsAt0 m c t.val t.isLt).2.1 y = k0_pay5 (F := Ideal) y + partB m c t y := by
  rw [outsAt0_A m c t h]
  frame_out
  exact stepB m c t _ y

/-- The first sum after a later step. -/
theorem laterB (c : Dev nD) (t : Fin cfg0.N) (h : ¬ t.val % 8 = 0) (y : S1x1024.Idx) :
    (outsAt0 m c t.val t.isLt).2.1 y
      = (outsAt0 m c (t.val - 1) (Nat.lt_of_le_of_lt (Nat.sub_le _ _) t.isLt)).2.1 y + partB m c t y := by
  rw [outsAt0_B m c t h]
  frame_out
  exact stepB m c t _ y

/-- The first gain's gradient, all rows. -/
def dbn (c : Dev nD) : Norm.Gain := Norm.dgain (n := 2048) (dhB m c) (m ((c : Thread nD τ).loc main_arg0))

/-- The first sum after the last step. -/
theorem out_dbn (c : Dev nD) (t : Fin cfg0.N) (ht : t.val + 1 = cfg0.N) (y : S1x1024.Idx) :
    (outsAt0 m c t.val t.isLt).2.1 y = dbn m c y := by
  rw [Pipeline.eq_sum_fin_of_reset_step_apply_last (fun n h => (outsAt0 m c n h).2.1) 8 (k0_pay5 (F := Ideal)) (partB m c)
    (firstB m c) (laterB m c) (le_of_eq N_0) t ht y, pay_zero_b, zero_add]
  exact (Fin.sum_univ_tiles 8 256 rfl fun r => Norm.share (n := 2048) (dhB m c) (m ((c : Thread nD τ).loc main_arg0)) r (y 1 : Fin 1024)).symm

/-- The first gain's gradient after the run. -/
theorem final_dbn (c : Dev nD) : (dats m 0 c).arrAt 11 (cfgs 0).N = dbn m c := by
  refine (dats m 0 c).arrAt_eq_of_after_last 11 t0_7 (by decide +kernel) _ fun j => ?_
  blk_simp
  rw [after0_11]
  refine (out_dbn m c t0_7 rfl _).trans (congrArg (dbn m c) ?_)
  blk_ext [idx t0_7]

/-- A block of rows' share of the second gain's gradient. -/
def partKv (c : Dev nD) (t : Fin cfg0.N) (y : S1x1024.Idx) : EReal :=
  ∑ r : Fin 256, Norm.share (n := 2048) (dhKv m c) (m ((c : Thread nD τ).loc main_arg0)) (Spec.rowOf (blk t) r) (y 1 : Fin 1024)

/-- What a step adds to the second sum, given the sum before it. -/
theorem stepKv (c : Dev nD) (t : Fin cfg0.N) (acc : FVec Ideal S1x1024 .f32) (y : S1x1024.Idx) :
    k0_pay3 (F := Ideal) (gradKv (iblk m c 2 t) (iblk m c 3 t) (iblk m c 7 t)) (iblk m c 4 t) acc y = acc y + partKv m c t y := by
  rw [pay_dg_kv, gradKv_blk, blk_x]
  rfl

/-- The second sum after the first step. -/
theorem firstKv (c : Dev nD) (t : Fin cfg0.N) (h : t.val % 8 = 0) (y : S1x1024.Idx) :
    (outsAt0 m c t.val t.isLt).2.2 y = k0_pay6 (F := Ideal) y + partKv m c t y := by
  rw [outsAt0_A m c t h]
  frame_out
  exact stepKv m c t _ y

/-- The second sum after a later step. -/
theorem laterKv (c : Dev nD) (t : Fin cfg0.N) (h : ¬ t.val % 8 = 0) (y : S1x1024.Idx) :
    (outsAt0 m c t.val t.isLt).2.2 y
      = (outsAt0 m c (t.val - 1) (Nat.lt_of_le_of_lt (Nat.sub_le _ _) t.isLt)).2.2 y + partKv m c t y := by
  rw [outsAt0_B m c t h]
  frame_out
  exact stepKv m c t _ y

/-- The second gain's gradient, all rows. -/
def dkvn (c : Dev nD) : Norm.Gain := Norm.dgain (n := 2048) (dhKv m c) (m ((c : Thread nD τ).loc main_arg0))

/-- The second sum after the last step. -/
theorem out_dkvn (c : Dev nD) (t : Fin cfg0.N) (ht : t.val + 1 = cfg0.N) (y : S1x1024.Idx) :
    (outsAt0 m c t.val t.isLt).2.2 y = dkvn m c y := by
  rw [Pipeline.eq_sum_fin_of_reset_step_apply_last (fun n h => (outsAt0 m c n h).2.2) 8 (k0_pay6 (F := Ideal)) (partKv m c)
    (firstKv m c) (laterKv m c) (le_of_eq N_0) t ht y, pay_zero_kv, zero_add]
  exact (Fin.sum_univ_tiles 8 256 rfl fun r => Norm.share (n := 2048) (dhKv m c) (m ((c : Thread nD τ).loc main_arg0)) r (y 1 : Fin 1024)).symm

/-- The second gain's gradient after the run. -/
theorem final_dkvn (c : Dev nD) : (dats m 0 c).arrAt 12 (cfgs 0).N = dkvn m c := by
  refine (dats m 0 c).arrAt_eq_of_after_last 12 t0_7 (by decide +kernel) _ fun j => ?_
  blk_simp
  rw [after0_12]
  refine (out_dkvn m c t0_7 rfl _).trans (congrArg (dkvn m c) ?_)
  blk_ext [idx t0_7]

end Cert.ValueInB

end
-- ==== Proof.RefInB.lean ====
/- The reference of the second layer's input stage: its three results as the formulas of `Norm`. -/
module

public import proofs.«01_k».proof.Proof.Norm
public import proofs.«01_k».proof.Proof.Gen.ReferenceInBIdeal.Read
public import Idealize.ShloMosaic.Lib.Pipeline.ValueKit

@[expose] public section

set_option maxRecDepth 16384

noncomputable section

open Idealize.ShloMosaic Idealize.ShloMosaic.TcCoe Idealize.SL.Sem

namespace Cert.RefInB

open Cert.ReferenceInBIdeal Cert.ReferenceInBIdeal.Gen Cert.ReferenceInBIdeal.Read

variable (x0 x9 : (⟨S2048x1024, .f32⟩ : BufTy).Contents (Elt Ideal)) (x1 x2 : (⟨S1024x2048, .f32⟩ : BufTy).Contents (Elt Ideal))
  (x3 x4 : (⟨S1x1024, .f32⟩ : BufTy).Contents (Elt Ideal)) (x5 x6 x7 x8 : (⟨S2048x1024, .bf16⟩ : BufTy).Contents (Elt Ideal))

/-- The mean square of a row, for the first norm. -/
theorem msqB_eq (y : S2048x1.Idx) : val_main_v6 (F := Ideal) x0 y = Norm.msq (n := 2048) x0 (y 0 : Fin 2048) := by
  pointwise [val_main_v6, val_main_v5, val_main_cst_1, val_main_v4, val_main_v3, val_main_cst_0, val_main_v2, val_main_v1, val_main_cst, val_main_v0, Norm.msq, Norm.width, Norm.eps]

/-- One over its root. -/
theorem invB_eq (y : S2048x1.Idx) : val_main_v7 (F := Ideal) x0 y = Norm.inv (n := 2048) x0 (y 0 : Fin 2048) := by
  unfold Norm.inv
  rw [← msqB_eq x0 y]
  pointwise [val_main_v7]

/-- The scaled rows. -/
theorem unitB_eq : val_main_v12 (F := Ideal) x0 = Norm.unit (n := 2048) x0 := by
  funext y
  pointwise [val_main_v12, val_main_v11, invB_eq, Norm.unit]

/-- The two gradients whose columns lie side by side. -/
theorem joinB_eq : val_main_v16 (F := Ideal) x5 x6 = SpecW.beside (s := 2048) x5 x6 := by
  funext y
  pointwise [val_main_v16, SpecW.beside]

/-- The gradient that reaches the first norm. -/
theorem dhB_eq : val_main_v18 (F := Ideal) x1 x5 x6 = (Norm.dh (n := 2048) (SpecW.beside (s := 2048) x5 x6) x1) := by
  rw [← joinB_eq]
  funext y
  pointwise [val_main_v18, val_main_v17, Norm.dh]

/-- The first gain's gradient. -/
theorem dgB_eq : val_main_v21 (F := Ideal) x0 x1 x5 x6 = Norm.dgain (n := 2048) (Norm.dh (n := 2048) (SpecW.beside (s := 2048) x5 x6) x1) x0 := by
  funext y
  pointwise [val_main_v21, val_main_v20, val_main_cst_3, val_main_v19, unitB_eq, dhB_eq, Norm.dgain, Norm.share]
  exact Finset.sum_congr rfl fun r _ => mul_comm _ _

/-- The gradient of the scaled rows. -/
theorem dnB_eq : val_main_v23 (F := Ideal) x1 x3 x5 x6 = Norm.dn (n := 2048) (Norm.dh (n := 2048) (SpecW.beside (s := 2048) x5 x6) x1) x3 := by
  funext y
  pointwise [val_main_v23, val_main_v22, dhB_eq, Norm.dn]

/-- The gradient of a row's sum of squares. -/
theorem slopeB_eq (y : S2048.Idx) : val_main_v32 (F := Ideal) x0 x1 x3 x5 x6 y
    = Norm.slope (n := 2048) (Norm.dh (n := 2048) (SpecW.beside (s := 2048) x5 x6) x1) x0 x3 (y 0 : Fin 2048) := by
  pointwise [val_main_v32, val_main_cst_6, val_main_v31, val_main_v30, val_main_cst_5, val_main_v29, val_main_v26, val_main_v25, val_main_cst_4, val_main_v24,
    dnB_eq, val_main_v10, val_main_v9, val_main_cst_2, val_main_v8, invB_eq, msqB_eq, Norm.slope, Norm.width, Norm.negHalf]
  exact Fin.sum_univ_one _

/-- The rows' gradient through the first norm. -/
theorem chainB_eq : val_main_v37 (F := Ideal) x0 x1 x3 x5 x6 = Norm.chain (n := 2048) (Norm.dh (n := 2048) (SpecW.beside (s := 2048) x5 x6) x1) x0 x3 := by
  funext y
  pointwise [val_main_v37, val_main_v36, val_main_v35, val_main_v34, val_main_v33, val_main_v28, val_main_v27, slopeB_eq, invB_eq, dnB_eq, Norm.chain]

/-- The mean square of a row, for the second norm. -/
theorem msqKv_eq (y : S2048x1.Idx) : val_main_v44 (F := Ideal) x0 y = Norm.msq (n := 2048) x0 (y 0 : Fin 2048) := by
  pointwise [val_main_v44, val_main_v43, val_main_cst_9, val_main_v42, val_main_v41, val_main_cst_8, val_main_v40, val_main_v39, val_main_cst_7, val_main_v38, Norm.msq, Norm.width, Norm.eps]

/-- One over its root. -/
theorem invKv_eq (y : S2048x1.Idx) : val_main_v45 (F := Ideal) x0 y = Norm.inv (n := 2048) x0 (y 0 : Fin 2048) := by
  unfold Norm.inv
  rw [← msqKv_eq x0 y]
  pointwise [val_main_v45]

/-- The scaled rows. -/
theorem unitKv_eq : val_main_v50 (F := Ideal) x0 = Norm.unit (n := 2048) x0 := by
  funext y
  pointwise [val_main_v50, val_main_v49, invKv_eq, Norm.unit]

/-- The two gradients whose columns lie side by side. -/
theorem joinKv_eq : val_main_v54 (F := Ideal) x7 x8 = SpecW.beside (s := 2048) x7 x8 := by
  funext y
  pointwise [val_main_v54, SpecW.beside]

/-- The gradient that reaches the second norm. -/
theorem dhKv_eq : val_main_v56 (F := Ideal) x2 x7 x8 = (Norm.dh (n := 2048) (SpecW.beside (s := 2048) x7 x8) x2) := by
  rw [← joinKv_eq]
  funext y
  pointwise [val_main_v56, val_main_v55, Norm.dh]

/-- The second gain's gradient. -/
theorem dgKv_eq : val_main_v59 (F := Ideal) x0 x2 x7 x8 = Norm.dgain (n := 2048) (Norm.dh (n := 2048) (SpecW.beside (s := 2048) x7 x8) x2) x0 := by
  funext y
  pointwise [val_main_v59, val_main_v58, val_main_cst_11, val_main_v57, unitKv_eq, dhKv_eq, Norm.dgain, Norm.share]
  exact Finset.sum_congr rfl fun r _ => mul_comm _ _

/-- The gradient of the scaled rows. -/
theorem dnKv_eq : val_main_v61 (F := Ideal) x2 x4 x7 x8 = Norm.dn (n := 2048) (Norm.dh (n := 2048) (SpecW.beside (s := 2048) x7 x8) x2) x4 := by
  funext y
  pointwise [val_main_v61, val_main_v60, dhKv_eq, Norm.dn]

/-- The gradient of a row's sum of squares. -/
theorem slopeKv_eq (y : S2048.Idx) : val_main_v70 (F := Ideal) x0 x2 x4 x7 x8 y
    = Norm.slope (n := 2048) (Norm.dh (n := 2048) (SpecW.beside (s := 2048) x7 x8) x2) x0 x4 (y 0 : Fin 2048) := by
  pointwise [val_main_v70, val_main_cst_14, val_main_v69, val_main_v68, val_main_cst_13, val_main_v67, val_main_v64, val_main_v63, val_main_cst_12, val_main_v62,
    dnKv_eq, val_main_v48, val_main_v47, val_main_cst_10, val_main_v46, invKv_eq, msqKv_eq, Norm.slope, Norm.width, Norm.negHalf]
  exact Fin.sum_univ_one _

/-- The rows' gradient through the second norm. -/
theorem chainKv_eq : val_main_v75 (F := Ideal) x0 x2 x4 x7 x8 = Norm.chain (n := 2048) (Norm.dh (n := 2048) (SpecW.beside (s := 2048) x7 x8) x2) x0 x4 := by
  funext y
  pointwise [val_main_v75, val_main_v74, val_main_v73, val_main_v72, val_main_v71, val_main_v66, val_main_v65, slopeKv_eq, invKv_eq, dnKv_eq, Norm.chain]

/-- The rows' gradient through both norms. -/
theorem dx_eq : val_main_v77 (F := Ideal) x0 x1 x2 x3 x4 x5 x6 x7 x8 x9
    = Norm.plus (n := 2048) (Norm.plus (n := 2048) x9 (Norm.chain (n := 2048) (Norm.dh (n := 2048) (SpecW.beside (s := 2048) x5 x6) x1) x0 x3))
      (Norm.chain (n := 2048) (Norm.dh (n := 2048) (SpecW.beside (s := 2048) x7 x8) x2) x0 x4) := by
  funext y
  pointwise [val_main_v77, val_main_v76, chainB_eq, chainKv_eq, Norm.plus]

end Cert.RefInB

end
-- ==== Proof.BridgeInB.lean ====
/- The second layer's input stage: where the tested arrays are real, the closed forms of the two norms' gradients are the
   reference's, and the two programs' results are the same. -/
module

public import proofs.«01_k».proof.Defs
public import proofs.«01_k».proof.Proof.ValueInB
public import proofs.«01_k».proof.Proof.RefInB
public import proofs.«01_k».proof.Proof.Tested
public import proofs.«01_k».proof.Proof.Gen.KernelInBIdeal.Value
public import proofs.«01_k».proof.Proof.Gen.ReferenceInBIdeal.Run
public import proofs.«01_k».proof.Proof.Gen.Pre_finite_in_b
public import Idealize.ShloMosaic.Lib.Claim

@[expose] public section

set_option maxRecDepth 16384

noncomputable section

open Idealize.ShloMosaic Idealize.ShloMosaic.TcCoe Idealize.SL.Sem

namespace Cert.BridgeInB

open Cert.KernelInBIdeal Cert.KernelInBIdeal.Gen Cert.Finite

variable (m : (ℓ : Loc nD τ sig) → Buf (Elt Ideal) ℓ)

/-- Two real matrices side by side are real. -/
theorem beside_real (l r : SpecW.Mat 2048 1024) (hl : ∀ i, IsReal (l i)) (hr : ∀ i, IsReal (r i)) (i) :
    IsReal (SpecW.beside (s := 2048) l r i) := by
  unfold SpecW.beside
  split
  · exact hl _
  · exact hr _

/-- Where the tested arrays are real, the rows' gradient is the reference's. -/
theorem dx_chain (hpre : Cert.Pre_KernelInBIdeal_finite_in_b m) (c : Dev nD) : ValueInB.dx m c
    = Norm.plus (n := 2048) (Norm.plus (n := 2048) (m ((c : Thread nD τ).loc main_arg9)) (Norm.chain (n := 2048) (ValueInB.dhB m c)
        (m ((c : Thread nD τ).loc main_arg0)) (m ((c : Thread nD τ).loc main_arg3))))
      (Norm.chain (n := 2048) (ValueInB.dhKv m c) (m ((c : Thread nD τ).loc main_arg0)) (m ((c : Thread nD τ).loc main_arg4))) := by
  obtain ⟨hx, hw, hv, hg, hk, h5, h6, h7, h8⟩ := hpre c
  exact congrArg₂ (fun a b => Norm.plus (n := 2048) (Norm.plus (n := 2048) _ a) b)
    (Norm.closed_eq _ _ _ (Norm.dh_real _ _ (beside_real _ _ (real_of_test h5) (real_of_test h6)) (real_of_test hw)) (real_of_test hx) (real_of_test hg))
    (Norm.closed_eq _ _ _ (Norm.dh_real _ _ (beside_real _ _ (real_of_test h7) (real_of_test h8)) (real_of_test hv)) (real_of_test hx) (real_of_test hk))

/-- The kernel and the reference compute the same gradients of the rows and of the two gains. -/
theorem algebraic : Cert.algebraic_KernelInBIdeal_ReferenceInBIdeal_pre_finite_in_b := by
  intro m g m' g' hpre hagree
  refine ⟨fun c => ValueInB.dx m c, fun c => ValueInB.dbn m c, fun c => ValueInB.dkvn m c,
    (θ_run defs _ _).mono (fun r h c => ?_) (Cert.KernelInBIdeal.Value.run_blocks m g),
    (θ_run Cert.ReferenceInBIdeal.defs _ _).mono (fun r h c => ?_) (Cert.ReferenceInBIdeal.Value.run m' g')⟩
  · obtain ⟨h0, h1, h2, ha⟩ := h c
    exact ⟨h0.trans (ValueInB.final_dx m c), h1.trans (ValueInB.final_dbn m c), h2.trans (ValueInB.final_dkvn m c), ha⟩
  · obtain ⟨h0, h1, h2, h3, h4, h5, h6, h7, h8, h9⟩ := hagree c
    obtain ⟨r0, r1, r2, ha⟩ := h c
    refine ⟨(r0.trans (Cert.ReferenceInBIdeal.Read.val_main_v77_eq m' c)).trans ?_, r1.trans ?_, r2.trans ?_, ha⟩
    · refine Eq.trans ?_ (dx_chain m hpre c).symm
      rw [h0, h1, h2, h3, h4, h5, h6, h7, h8, h9]
      exact RefInB.dx_eq _ _ _ _ _ _ _ _ _ _
    · refine Eq.trans ?_ (RefInB.dgB_eq _ _ _ _)
      rw [h0, h1, h5, h6]
      rfl
    · refine Eq.trans ?_ (RefInB.dgKv_eq _ _ _ _)
      rw [h0, h2, h7, h8]
      rfl

end Cert.BridgeInB

end
-- ==== Proof.GradWOut.lean ====
/- The weight gradient of an output projection: the kernel's blocks of rows and the reference's product, both as the formula of `SpecW`. -/
module

public import proofs.«01_k».proof.Defs
public import proofs.«01_k».proof.Proof.Gen.KernelWOutIdeal.Frame
public import proofs.«01_k».proof.Proof.Gen.KernelWOutIdeal.Value
public import proofs.«01_k».proof.Proof.Gen.ReferenceWOutIdeal.Run
public import proofs.«01_k».proof.Proof.Gen.ReferenceWOutIdeal.Read
public import proofs.«01_k».proof.Proof.SpecW
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GradWOut

section Kernel

open Cert.KernelWOutIdeal Cert.KernelWOutIdeal.Gen

variable (m : (ℓ : Loc nD τ sig) → Buf (Elt Ideal) ℓ)

/-- A grid point reads its own columns of the left operand, the whole right operand, and stores its own rows. -/
theorem idx : ∀ t : Fin cfg0.N, win0_0.index t = ![0, t.val] ∧ win0_1.index t = ![0, 0] ∧ win0_2.index t = ![t.val, 0] :=
  (by decide +kernel : ∀ t : Fin grid0.N, _)

/-- The stored product. -/
theorem pay (a : FVec Ideal S2048x256 .bf16) (b : FVec Ideal S2048x1024 .f32) :
    k0_pay1 (F := Ideal) a b = SpecW.tn (s := 2048) (k := 256) (n := 1024) a b := by
  funext y
  pointwise [k0_pay1, SpecW.tn]

/-- The grid point as the number of a block of columns. -/
def blk (t : Fin cfg0.N) : Fin 4 := ⟨t.val, t.isLt⟩

/-- The left operand's block. -/
theorem blk_a (c : Dev nD) (t : Fin cfg0.N) :
    iblk m c 0 t = SpecW.columns (s := 2048) (q := 4) (blk t) (m ((c : Thread nD τ).loc main_arg0)) := by
  funext y
  unfold SpecW.columns
  blk_ext [iblk, V, idx t, SpecW.colOf, blk]

/-- The right operand is read whole. -/
theorem blk_b (c : Dev nD) (t : Fin cfg0.N) : iblk m c 1 t = m ((c : Thread nD τ).loc main_arg1) := by
  funext y
  blk_ext [iblk, V, idx t]

/-- The stored block lies at the grid point's rows. -/
theorem emb (t : Fin cfg0.N) (y : S256x1024.Idx) :
    (((cfg0.win 2).blk t).view.emb y : S1024x1024.Idx) = ix2 (SpecW.colOf (q := 4) (blk t) (y 0)) (y 1 : Fin 1024) := by
  blk_ext [idx t, SpecW.colOf, blk]

/-- The weight gradient after the run. -/
theorem final (c : Dev nD) : (dats m 0 c).arrAt 2 (cfgs 0).N
    = SpecW.tn (s := 2048) (k := 1024) (n := 1024) (m ((c : Thread nD τ).loc main_arg0)) (m ((c : Thread nD τ).loc main_arg1)) := by
  refine (dats m 0 c).arrAt_eq_of_covers 2 _ (by decide +kernel) fun t _ y => ?_
  blk_simp
  rw [after0_2]
  frame_out
  rw [pay, blk_a, blk_b]
  change SpecW.tn (s := 2048) (k := 256) (n := 1024) _ _ y = SpecW.tn (s := 2048) (k := 1024) (n := 1024) _ _ _
  rw [emb t y]
  exact SpecW.tn_columns (s := 2048) (n := 1024) (q := 4) (blk t) _ _ y

end Kernel

section Reference

open Cert.ReferenceWOutIdeal Cert.ReferenceWOutIdeal.Gen Cert.ReferenceWOutIdeal.Read

/-- The reference's gradient, the transposed product of the same two arrays. -/
theorem ref_eq (a : (⟨S2048x1024, .bf16⟩ : BufTy).Contents (Elt Ideal)) (b : (⟨S2048x1024, .f32⟩ : BufTy).Contents (Elt Ideal)) :
    Cert.ReferenceWOutIdeal.Read.val_main_v5 (F := Ideal) a b = SpecW.tn (s := 2048) (k := 1024) (n := 1024) a b := by
  funext y
  pointwise [val_main_v5, val_main_v4, val_main_v3, val_main_v1, SpecW.tn]
  exact Finset.sum_congr rfl fun r _ => mul_comm _ _

end Reference

/-- Kernel and reference compute the same weight gradient. -/
theorem algebraic : Cert.algebraic_KernelWOutIdeal_ReferenceWOutIdeal := by
  intro m g m' g' _ hagree
  refine ⟨fun c => SpecW.tn (s := 2048) (k := 1024) (n := 1024) (m ((c : Thread Cert.KernelWOutIdeal.nD Cert.KernelWOutIdeal.τ).loc Cert.KernelWOutIdeal.main_arg0))
      (m ((c : Thread Cert.KernelWOutIdeal.nD Cert.KernelWOutIdeal.τ).loc Cert.KernelWOutIdeal.main_arg1)),
    (θ_run Cert.KernelWOutIdeal.defs _ _).mono (fun r h c => ?_) (Cert.KernelWOutIdeal.Value.run_blocks m g),
    (θ_run Cert.ReferenceWOutIdeal.defs _ _).mono (fun r h c => ?_) (Cert.ReferenceWOutIdeal.Value.run m' g')⟩
  · obtain ⟨h0, ha⟩ := h c
    exact ⟨h0.trans (final m c), ha⟩
  · obtain ⟨h0, h1⟩ := hagree c
    obtain ⟨r0, ha⟩ := h c
    refine ⟨r0.trans (Eq.trans ?_ (ref_eq _ _)), ha⟩
    rw [h0, h1]
    rfl

end Cert.GradWOut

end
-- ==== Proof.GradWGate.lean ====
/- The weight gradient of an embedding gate: the kernel's blocks of rows and the reference's product, both as the formula of `SpecW`. -/
module

public import proofs.«01_k».proof.Defs
public import proofs.«01_k».proof.Proof.Gen.KernelWGateIdeal.Frame
public import proofs.«01_k».proof.Proof.Gen.KernelWGateIdeal.Value
public import proofs.«01_k».proof.Proof.Gen.ReferenceWGateIdeal.Run
public import proofs.«01_k».proof.Proof.Gen.ReferenceWGateIdeal.Read
public import proofs.«01_k».proof.Proof.SpecW
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GradWGate

section Kernel

open Cert.KernelWGateIdeal Cert.KernelWGateIdeal.Gen

variable (m : (ℓ : Loc nD τ sig) → Buf (Elt Ideal) ℓ)

/-- A grid point reads its own columns of the left operand, the whole right operand, and stores its own rows. -/
theorem idx : ∀ t : Fin cfg0.N, win0_0.index t = ![0, t.val] ∧ win0_1.index t = ![0, 0] ∧ win0_2.index t = ![t.val, 0] :=
  (by decide +kernel : ∀ t : Fin grid0.N, _)

/-- The stored product. -/
theorem pay (a : FVec Ideal S2048x256 .f32) (b : FVec Ideal S2048x1024 .bf16) :
    k0_pay1 (F := Ideal) a b = SpecW.tn (s := 2048) (k := 256) (n := 1024) a b := by
  funext y
  pointwise [k0_pay1, SpecW.tn]

/-- The grid point as the number of a block of columns. -/
def blk (t : Fin cfg0.N) : Fin 4 := ⟨t.val, t.isLt⟩

/-- The left operand's block. -/
theorem blk_a (c : Dev nD) (t : Fin cfg0.N) :
    iblk m c 0 t = SpecW.columns (s := 2048) (q := 4) (blk t) (m ((c : Thread nD τ).loc main_arg0)) := by
  funext y
  unfold SpecW.columns
  blk_ext [iblk, V, idx t, SpecW.colOf, blk]

/-- The right operand is read whole. -/
theorem blk_b (c : Dev nD) (t : Fin cfg0.N) : iblk m c 1 t = m ((c : Thread nD τ).loc main_arg1) := by
  funext y
  blk_ext [iblk, V, idx t]

/-- The stored block lies at the grid point's rows. -/
theorem emb (t : Fin cfg0.N) (y : S256x1024.Idx) :
    (((cfg0.win 2).blk t).view.emb y : S1024x1024.Idx) = ix2 (SpecW.colOf (q := 4) (blk t) (y 0)) (y 1 : Fin 1024) := by
  blk_ext [idx t, SpecW.colOf, blk]

/-- The weight gradient after the run. -/
theorem final (c : Dev nD) : (dats m 0 c).arrAt 2 (cfgs 0).N
    = SpecW.tn (s := 2048) (k := 1024) (n := 1024) (m ((c : Thread nD τ).loc main_arg0)) (m ((c : Thread nD τ).loc main_arg1)) := by
  refine (dats m 0 c).arrAt_eq_of_covers 2 _ (by decide +kernel) fun t _ y => ?_
  blk_simp
  rw [after0_2]
  frame_out
  rw [pay, blk_a, blk_b]
  change SpecW.tn (s := 2048) (k := 256) (n := 1024) _ _ y = SpecW.tn (s := 2048) (k := 1024) (n := 1024) _ _ _
  rw [emb t y]
  exact SpecW.tn_columns (s := 2048) (n := 1024) (q := 4) (blk t) _ _ y

end Kernel

section Reference

open Cert.ReferenceWGateIdeal Cert.ReferenceWGateIdeal.Gen Cert.ReferenceWGateIdeal.Read

/-- The reference's gradient, the transposed product of the same two arrays. -/
theorem ref_eq (a : (⟨S2048x1024, .f32⟩ : BufTy).Contents (Elt Ideal)) (b : (⟨S2048x1024, .bf16⟩ : BufTy).Contents (Elt Ideal)) :
    Cert.ReferenceWGateIdeal.Read.val_main_v5 (F := Ideal) a b = SpecW.tn (s := 2048) (k := 1024) (n := 1024) a b := by
  funext y
  pointwise [val_main_v5, val_main_v4, val_main_v3, val_main_v2, SpecW.tn]
  exact Finset.sum_congr rfl fun r _ => mul_comm _ _

end Reference

/-- Kernel and reference compute the same weight gradient. -/
theorem algebraic : Cert.algebraic_KernelWGateIdeal_ReferenceWGateIdeal := by
  intro m g m' g' _ hagree
  refine ⟨fun c => SpecW.tn (s := 2048) (k := 1024) (n := 1024) (m ((c : Thread Cert.KernelWGateIdeal.nD Cert.KernelWGateIdeal.τ).loc Cert.KernelWGateIdeal.main_arg0))
      (m ((c : Thread Cert.KernelWGateIdeal.nD Cert.KernelWGateIdeal.τ).loc Cert.KernelWGateIdeal.main_arg1)),
    (θ_run Cert.KernelWGateIdeal.defs _ _).mono (fun r h c => ?_) (Cert.KernelWGateIdeal.Value.run_blocks m g),
    (θ_run Cert.ReferenceWGateIdeal.defs _ _).mono (fun r h c => ?_) (Cert.ReferenceWGateIdeal.Value.run m' g')⟩
  · obtain ⟨h0, ha⟩ := h c
    exact ⟨h0.trans (final m c), ha⟩
  · obtain ⟨h0, h1⟩ := hagree c
    obtain ⟨r0, ha⟩ := h c
    refine ⟨r0.trans (Eq.trans ?_ (ref_eq _ _)), ha⟩
    rw [h0, h1]
    rfl

end Cert.GradWGate

end
-- ==== Proof.GradWIn.lean ====
/- The weight gradient of an input projection, two gradients side by side and the result split by columns: the kernel's stored
   blocks and the reference's product, both as the formula of `SpecW`. -/
module

public import proofs.«01_k».proof.Defs
public import proofs.«01_k».proof.Proof.Gen.KernelWInIdeal.Frame
public import proofs.«01_k».proof.Proof.Gen.KernelWInIdeal.Value
public import proofs.«01_k».proof.Proof.Gen.ReferenceWInIdeal.Run
public import proofs.«01_k».proof.Proof.Gen.ReferenceWInIdeal.Read
public import proofs.«01_k».proof.Proof.SpecW
public import proofs.«01_k».proof.Proof.Stores
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GradWIn

section Kernel

open Cert.KernelWInIdeal Cert.KernelWInIdeal.Gen

variable (m : (ℓ : Loc nD τ sig) → Buf (Elt Ideal) ℓ)

/-- A grid point reads its own columns of the left operand, both right operands whole, and stores its own rows of every block. -/
theorem idx : ∀ t : Fin cfg0.N, win0_0.index t = ![0, t.val] ∧ win0_1.index t = ![0, 0] ∧ win0_2.index t = ![0, 0]
    ∧ win0_3.index t = ![0, t.val, 0] :=
  (by decide +kernel : ∀ t : Fin grid0.N, _)

/-- The product with the left gradient. -/
theorem pay_l (a : FVec Ideal S2048x256 .bf16) (b : FVec Ideal S2048x1024 .bf16) :
    k0_pay4 (F := Ideal) a b = SpecW.tn (s := 2048) (k := 256) (n := 1024) a b := by
  funext y
  pointwise [k0_pay4, SpecW.tn]

/-- The product with the right gradient. -/
theorem pay_r (a : FVec Ideal S2048x256 .bf16) (b : FVec Ideal S2048x1024 .bf16) :
    k0_pay9 (F := Ideal) a b = SpecW.tn (s := 2048) (k := 256) (n := 1024) a b := by
  funext y
  pointwise [k0_pay9, SpecW.tn]

/-- The stored block: all of the product's columns, 256 at a time. -/
def G (a : FVec Ideal S2048x256 .bf16) (l r : FVec Ideal S2048x1024 .bf16) : S8x256x256.Idx → Elt Ideal .bf16 :=
  SpecW.stacked (q := 8) (k := 256) (w := 256) (SpecW.tn (s := 2048) (k := 256) (n := 2048) a (SpecW.beside (s := 2048) l r))

/-- Where the store of block `o` puts an element. -/
theorem emb_store (o : ℕ) (ho : o < 8) (inb : ∀ a, (![o, 0, 0] : Fin 3 → ℕ) a + S1x256x256.size a ≤ S8x256x256.size a) (x : S1x256x256.Idx) :
    (Rect.unit (s := S8x256x256) ![o, 0, 0] S1x256x256.size inb).emb x = (ix3 (⟨o, ho⟩ : Fin 8) (x 1 : Fin 256) (x 2 : Fin 256) : S8x256x256.Idx) := by
  have h0 : (x 0).val < 1 := (x 0).isLt
  refine funext fun a => Fin.ext ?_
  fin_cases a
  · show o + 1 * (x 0).val = o
    omega
  · show 0 + 1 * (x 1).val = (x 1).val
    omega
  · show 0 + 1 * (x 2).val = (x 2).val
    omega

/-- A block of columns of the left half. -/
theorem G_left (a : FVec Ideal S2048x256 .bf16) (l r : FVec Ideal S2048x1024 .bf16) (o : ℕ) (ho : o < 4)
    (inb : ∀ a, (![o, 0, 0] : Fin 3 → ℕ) a + S1x256x256.size a ≤ S8x256x256.size a) (x : S1x256x256.Idx) :
    G a l r ((Rect.unit (s := S8x256x256) ![o, 0, 0] S1x256x256.size inb).emb x)
      = SpecW.tn (s := 2048) (k := 256) (n := 1024) a l (ix2 (x 1 : Fin 256) (SpecW.place (q := 4) (w := 256) ⟨o, ho⟩ (x 2))) := by
  rw [emb_store o (by omega)]
  have h2 : (x 2).val < 256 := (x 2).isLt
  refine SpecW.tn_congr (s := 2048) (k := 256) (n := 2048) (n' := 1024) a _ _ _ _ _ fun q => ?_
  exact dif_pos (show o * 256 + (x 2).val < 1024 by omega)

/-- A block of columns of the right half. -/
theorem G_right (a : FVec Ideal S2048x256 .bf16) (l r : FVec Ideal S2048x1024 .bf16) (o : ℕ) (ho : o < 4)
    (inb : ∀ a, (![4 + o, 0, 0] : Fin 3 → ℕ) a + S1x256x256.size a ≤ S8x256x256.size a) (x : S1x256x256.Idx) :
    G a l r ((Rect.unit (s := S8x256x256) ![4 + o, 0, 0] S1x256x256.size inb).emb x)
      = SpecW.tn (s := 2048) (k := 256) (n := 1024) a r (ix2 (x 1 : Fin 256) (SpecW.place (q := 4) (w := 256) ⟨o, ho⟩ (x 2))) := by
  rw [emb_store (4 + o) (by omega)]
  have h2 : (x 2).val < 256 := (x 2).isLt
  refine SpecW.tn_congr (s := 2048) (k := 256) (n := 2048) (n' := 1024) a _ _ _ _ _ fun q => ?_
  refine (dif_neg (show ¬ ((4 + o) * 256 + (x 2).val < 1024) by omega)).trans ?_
  refine congrArg r (congrArg₂ ix2 rfl (Fin.ext ?_))
  show (4 + o) * 256 + (x 2).val - 1024 = o * 256 + (x 2).val
  omega

/-- The store of block 0. -/
theorem p0 (a : FVec Ideal S2048x256 .bf16) (l r : FVec Ideal S2048x1024 .bf16) (x : S1x256x256.Idx) :
    k0_pay5 (F := Ideal) a l x = G a l r ((r0_2).emb x) := by
  refine Eq.trans ?_ (G_left a l r 0 (by omega) inb_S8x256x256_S1x256x256_0_0_0 x).symm
  rw [← pay_l]
  pointwise [k0_pay5, SpecW.place]

/-- The store of block 1. -/
theorem p1 (a : FVec Ideal S2048x256 .bf16) (l r : FVec Ideal S2048x1024 .bf16) (x : S1x256x256.Idx) :
    k0_pay6 (F := Ideal) a l x = G a l r ((r0_3).emb x) := by
  refine Eq.trans ?_ (G_left a l r 1 (by omega) inb_S8x256x256_S1x256x256_1_0_0 x).symm
  rw [← pay_l]
  pointwise [k0_pay6, SpecW.place]

/-- The store of block 2. -/
theorem p2 (a : FVec Ideal S2048x256 .bf16) (l r : FVec Ideal S2048x1024 .bf16) (x : S1x256x256.Idx) :
    k0_pay7 (F := Ideal) a l x = G a l r ((r0_4).emb x) := by
  refine Eq.trans ?_ (G_left a l r 2 (by omega) inb_S8x256x256_S1x256x256_2_0_0 x).symm
  rw [← pay_l]
  pointwise [k0_pay7, SpecW.place]

/-- The store of block 3. -/
theorem p3 (a : FVec Ideal S2048x256 .bf16) (l r : FVec Ideal S2048x1024 .bf16) (x : S1x256x256.Idx) :
    k0_pay8 (F := Ideal) a l x = G a l r ((r0_5).emb x) := by
  refine Eq.trans ?_ (G_left a l r 3 (by omega) inb_S8x256x256_S1x256x256_3_0_0 x).symm
  rw [← pay_l]
  pointwise [k0_pay8, SpecW.place]

/-- The store of block 4. -/
theorem p4 (a : FVec Ideal S2048x256 .bf16) (l r : FVec Ideal S2048x1024 .bf16) (x : S1x256x256.Idx) :
    k0_pay10 (F := Ideal) a r x = G a l r ((r0_6).emb x) := by
  refine Eq.trans ?_ (G_right a l r 0 (by omega) inb_S8x256x256_S1x256x256_4_0_0 x).symm
  rw [← pay_r]
  pointwise [k0_pay10, SpecW.place]

/-- The store of block 5. -/
theorem p5 (a : FVec Ideal S2048x256 .bf16) (l r : FVec Ideal S2048x1024 .bf16) (x : S1x256x256.Idx) :
    k0_pay1 (F := Ideal) (k0_pay11 a r) x = G a l r ((r0_7).emb x) := by
  refine Eq.trans ?_ (G_right a l r 1 (by omega) inb_S8x256x256_S1x256x256_5_0_0 x).symm
  rw [← pay_r]
  pointwise [k0_pay1, k0_pay11, SpecW.place]

/-- The store of block 6. -/
theorem p6 (a : FVec Ideal S2048x256 .bf16) (l r : FVec Ideal S2048x1024 .bf16) (x : S1x256x256.Idx) :
    k0_pay2 (F := Ideal) (k0_pay9 a r) x = G a l r ((r0_8).emb x) := by
  refine Eq.trans ?_ (G_right a l r 2 (by omega) inb_S8x256x256_S1x256x256_6_0_0 x).symm
  rw [← pay_r]
  pointwise [k0_pay2, SpecW.place]

/-- The store of block 7. -/
theorem p7 (a : FVec Ideal S2048x256 .bf16) (l r : FVec Ideal S2048x1024 .bf16) (x : S1x256x256.Idx) :
    k0_pay3 (F := Ideal) (k0_pay9 a r) x = G a l r ((r0_9).emb x) := by
  refine Eq.trans ?_ (G_right a l r 3 (by omega) inb_S8x256x256_S1x256x256_7_0_0 x).symm
  rw [← pay_r]
  pointwise [k0_pay3, SpecW.place]

/-- The loads are of whole blocks. -/
theorem hz : (![0, 0] : Fin 2 → Nat) = fun _ => 0 := funext fun a => by fin_cases a <;> rfl

/-- The left operand is loaded whole. -/
theorem ld_a (a : Vec Ideal S2048x256 .bf16) : View.ld a r0_0 = a :=
  View.ld_unit_zero (Val := Elt Ideal) (S := S2048x256) (e := .bf16) hz _ a

/-- A gradient is loaded whole. -/
theorem ld_b (b : Vec Ideal S2048x1024 .bf16) : View.ld b r0_1 = b :=
  View.ld_unit_zero (Val := Elt Ideal) (S := S2048x1024) (e := .bf16) hz _ b

/-- The product with the right gradient, from the loaded blocks. -/
theorem pay_right (a : FVec Ideal S2048x256 .bf16) (l r : FVec Ideal S2048x1024 .bf16) : k0_pay12 (F := Ideal) a l r = k0_pay9 a r := by
  unfold k0_pay12
  rw [ld_a, ld_b]

/-- What a grid point stores. -/
theorem stored (a : FVec Ideal S2048x256 .bf16) (l r : FVec Ideal S2048x1024 .bf16) : out0_3 (F := Ideal) a l r = G a l r := by
  funext y
  unfold out0_3
  rw [pay_right, ld_a, ld_b, ld_b]
  refine Stores.canon_of (G a l r) _ ?_ y (cover0_3 _ _ _ _ _ _ _ _ y)
  exact ⟨p7 a l r, p6 a l r, p5 a l r, p4 a l r, p3 a l r, p2 a l r, p1 a l r, p0 a l r, trivial⟩

/-- The grid point as the number of a block of columns. -/
def blk (t : Fin cfg0.N) : Fin 4 := ⟨t.val, t.isLt⟩

/-- The left operand's block. -/
theorem blk_a (c : Dev nD) (t : Fin cfg0.N) :
    iblk m c 0 t = SpecW.columns (s := 2048) (q := 4) (blk t) (m ((c : Thread nD τ).loc main_arg0)) := by
  funext y
  unfold SpecW.columns
  blk_ext [iblk, V, idx t, SpecW.colOf, blk]

/-- The left gradient is read whole. -/
theorem blk_l (c : Dev nD) (t : Fin cfg0.N) : iblk m c 1 t = m ((c : Thread nD τ).loc main_arg1) := by
  funext y
  blk_ext [iblk, V, idx t]

/-- The right gradient is read whole. -/
theorem blk_r (c : Dev nD) (t : Fin cfg0.N) : iblk m c 2 t = m ((c : Thread nD τ).loc main_arg2) := by
  funext y
  blk_ext [iblk, V, idx t]

/-- The stored block lies at the grid point's rows of every block of columns. -/
theorem emb (t : Fin cfg0.N) (y : S8x256x256.Idx) :
    (((cfg0.win 3).blk t).view.emb y : S8x1024x256.Idx) = ix3 (y 0 : Fin 8) (SpecW.colOf (q := 4) (blk t) (y 1)) (y 2 : Fin 256) := by
  blk_ext [idx t, SpecW.colOf, blk]

/-- The whole result: the weight gradient as a stack of blocks of columns. -/
def W (h : FVec Ideal S2048x1024 .bf16) (l r : FVec Ideal S2048x1024 .bf16) : S8x1024x256.Idx → Elt Ideal .bf16 :=
  SpecW.stacked (q := 8) (k := 1024) (w := 256) (SpecW.tn (s := 2048) (k := 1024) (n := 2048) h (SpecW.beside (s := 2048) l r))

/-- A grid point's block is its rows of every block of columns. -/
theorem G_block (b : Fin 4) (h : FVec Ideal S2048x1024 .bf16) (l r : FVec Ideal S2048x1024 .bf16) (y : S8x256x256.Idx) :
    G (SpecW.columns (s := 2048) (q := 4) b h) l r y = W h l r (ix3 (y 0 : Fin 8) (SpecW.colOf (q := 4) b (y 1)) (y 2 : Fin 256)) :=
  SpecW.tn_columns (s := 2048) (n := 2048) (q := 4) b h (SpecW.beside (s := 2048) l r) _

/-- The weight gradient after the run. -/
theorem final (c : Dev nD) : (dats m 0 c).arrAt 3 (cfgs 0).N
    = W (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  rw [stored, blk_a, blk_l, blk_r]
  refine (G_block (blk t) _ _ _ y).trans ?_
  exact congrArg (W _ _ _) (emb t y).symm

end Kernel

section Reference

open Cert.ReferenceWInIdeal Cert.ReferenceWInIdeal.Gen Cert.ReferenceWInIdeal.Read

/-- The two gradients joined. -/
theorem ref_join (l r : (⟨S2048x1024, .bf16⟩ : BufTy).Contents (Elt Ideal)) :
    Cert.ReferenceWInIdeal.Read.val_main_v0 (F := Ideal) l r = SpecW.beside (s := 2048) l r := by
  funext y
  pointwise [val_main_v0, SpecW.beside]

/-- The reference's gradient before its columns are split. -/
theorem ref_eq (h l r : (⟨S2048x1024, .bf16⟩ : BufTy).Contents (Elt Ideal)) :
    Cert.ReferenceWInIdeal.Read.val_main_v7 (F := Ideal) h l r
      = SpecW.tn (s := 2048) (k := 1024) (n := 2048) h (SpecW.beside (s := 2048) l r) := by
  rw [← ref_join]
  funext y
  pointwise [val_main_v7, val_main_v6, val_main_v5, val_main_v4, val_main_v2, SpecW.tn]
  exact Finset.sum_congr rfl fun r _ => mul_comm _ _

/-- The reference's result, stacked by blocks of columns. -/
theorem ref_stacked (h l r : (⟨S2048x1024, .bf16⟩ : BufTy).Contents (Elt Ideal)) :
    Cert.ReferenceWInIdeal.Read.val_main_v9 (F := Ideal) h l r
      = SpecW.stacked (q := 8) (k := 1024) (w := 256) (SpecW.tn (s := 2048) (k := 1024) (n := 2048) h (SpecW.beside (s := 2048) l r)) := by
  rw [← ref_eq]
  funext y
  pointwise [val_main_v9, val_main_v8, SpecW.stacked, SpecW.place]

end Reference

/-- Kernel and reference compute the same weight gradient. -/
theorem algebraic : Cert.algebraic_KernelWInIdeal_ReferenceWInIdeal := by
  intro m g m' g' _ hagree
  refine ⟨fun c => W (m ((c : Thread Cert.KernelWInIdeal.nD Cert.KernelWInIdeal.τ).loc Cert.KernelWInIdeal.main_arg0))
      (m ((c : Thread Cert.KernelWInIdeal.nD Cert.KernelWInIdeal.τ).loc Cert.KernelWInIdeal.main_arg1))
      (m ((c : Thread Cert.KernelWInIdeal.nD Cert.KernelWInIdeal.τ).loc Cert.KernelWInIdeal.main_arg2)),
    (θ_run Cert.KernelWInIdeal.defs _ _).mono (fun r h c => ?_) (Cert.KernelWInIdeal.Value.run_blocks m g),
    (θ_run Cert.ReferenceWInIdeal.defs _ _).mono (fun r h c => ?_) (Cert.ReferenceWInIdeal.Value.run m' g')⟩
  · obtain ⟨h0, ha⟩ := h c
    exact ⟨h0.trans (final m c), ha⟩
  · obtain ⟨h0, h1, h2⟩ := hagree c
    obtain ⟨r0, ha⟩ := h c
    refine ⟨r0.trans (Eq.trans ?_ (ref_stacked _ _ _)), ha⟩
    rw [h0, h1, h2]
    rfl

end Cert.GradWIn

end
-- ==== Proof.GradWPle.lean ====
/- The weight gradient of the per-layer embedding, split by columns: the kernel's stored blocks and the reference's product, both as the formula of `SpecW`. -/
module

public import proofs.«01_k».proof.Defs
public import proofs.«01_k».proof.Proof.Gen.KernelWPleIdeal.Frame
public import proofs.«01_k».proof.Proof.Gen.KernelWPleIdeal.Value
public import proofs.«01_k».proof.Proof.Gen.ReferenceWPleIdeal.Run
public import proofs.«01_k».proof.Proof.Gen.ReferenceWPleIdeal.Read
public import proofs.«01_k».proof.Proof.SpecW
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GradWPle

section Kernel

open Cert.KernelWPleIdeal Cert.KernelWPleIdeal.Gen

/-- The product, before it is cut into blocks of columns. -/
theorem pay (a : FVec Ideal S2048x256 .f32) (b : FVec Ideal S2048x1024 .bf16) :
    k0_pay4 (F := Ideal) a b = SpecW.tn (s := 2048) (k := 256) (n := 1024) a b := by
  funext y
  pointwise [k0_pay4, SpecW.tn]

/-- The left operand is loaded whole. -/
theorem ld_a (a : Vec Ideal S2048x256 .f32) : View.ld a r0_0 = a :=
  View.ld_unit_zero (Val := Elt Ideal) (S := S2048x256) (e := .f32) Value.hz0 _ a

/-- The right operand is loaded whole. -/
theorem ld_b (b : Vec Ideal S2048x1024 .bf16) : View.ld b r0_1 = b :=
  View.ld_unit_zero (Val := Elt Ideal) (S := S2048x1024) (e := .bf16) Value.hz1 _ b

/-- The stored blocks are the product's blocks of columns. -/
theorem stored (a : FVec Ideal S2048x256 .f32) (b : FVec Ideal S2048x1024 .bf16) :
    Value.G2 (F := Ideal) a b = SpecW.stacked (q := 8) (k := 256) (w := 128) (SpecW.tn (s := 2048) (k := 256) (n := 1024) a b) := by
  have e : k0_pay11 (F := Ideal) a b = k0_pay4 a b := by
    unfold k0_pay11
    rw [ld_a, ld_b]
  funext y
  unfold Value.G2
  rw [e]
  refine (Value.canon2_eq (F := Ideal) a b y).trans ?_
  show k0_pay4 (F := Ideal) a b (Value.ix2_0 y) = SpecW.tn (s := 2048) (k := 256) (n := 1024) a b _
  rw [pay]
  refine congrArg _ (funext fun i => Fin.ext ?_)
  fin_cases i
  · rfl
  · show _ = (y 0).val * 128 + (y 2).val
    simp only [Value.ix2_0]

end Kernel

section Reference

open Cert.ReferenceWPleIdeal Cert.ReferenceWPleIdeal.Gen Cert.ReferenceWPleIdeal.Read

/-- The reference's gradient before its columns are split. -/
theorem ref_eq (a : (⟨S2048x256, .f32⟩ : BufTy).Contents (Elt Ideal)) (b : (⟨S2048x1024, .bf16⟩ : BufTy).Contents (Elt Ideal)) :
    Cert.ReferenceWPleIdeal.Read.val_main_v5 (F := Ideal) a b = SpecW.tn (s := 2048) (k := 256) (n := 1024) a b := by
  funext y
  pointwise [val_main_v5, val_main_v4, val_main_v3, val_main_v1, SpecW.tn]
  exact Finset.sum_congr rfl fun r _ => mul_comm _ _

/-- The reference's result, stacked by blocks of columns. -/
theorem ref_stacked (a : (⟨S2048x256, .f32⟩ : BufTy).Contents (Elt Ideal)) (b : (⟨S2048x1024, .bf16⟩ : BufTy).Contents (Elt Ideal)) :
    Cert.ReferenceWPleIdeal.Read.val_main_v7 (F := Ideal) a b
      = SpecW.stacked (q := 8) (k := 256) (w := 128) (SpecW.tn (s := 2048) (k := 256) (n := 1024) a b) := by
  rw [← ref_eq]
  funext y
  pointwise [val_main_v7, val_main_v6, SpecW.stacked, SpecW.place]

end Reference

/-- Kernel and reference compute the same weight gradient. -/
theorem algebraic : Cert.algebraic_KernelWPleIdeal_ReferenceWPleIdeal := by
  intro m g m' g' _ hagree
  refine ⟨fun c => SpecW.stacked (q := 8) (k := 256) (w := 128) (SpecW.tn (s := 2048) (k := 256) (n := 1024)
      (m ((c : Thread Cert.KernelWPleIdeal.nD Cert.KernelWPleIdeal.τ).loc Cert.KernelWPleIdeal.main_arg0))
      (m ((c : Thread Cert.KernelWPleIdeal.nD Cert.KernelWPleIdeal.τ).loc Cert.KernelWPleIdeal.main_arg1))),
    (θ_run Cert.KernelWPleIdeal.defs _ _).mono (fun r h c => ?_) (Cert.KernelWPleIdeal.Value.run m g),
    (θ_run Cert.ReferenceWPleIdeal.defs _ _).mono (fun r h c => ?_) (Cert.ReferenceWPleIdeal.Value.run m' g')⟩
  · obtain ⟨h0, ha⟩ := h c
    exact ⟨h0.trans (stored _ _), ha⟩
  · obtain ⟨h0, h1⟩ := hagree c
    obtain ⟨r0, ha⟩ := h c
    refine ⟨r0.trans (Eq.trans ?_ (ref_stacked _ _)), ha⟩
    rw [h0, h1]
    rfl

end Cert.GradWPle

end
-- ==== Proof.Forward.lean ====
/- The forward calls' formulas: the normed rows scaled by a gain, a product with a weight of 2048 columns, and the halves of
   its columns. -/
module

public import proofs.«01_k».proof.Proof.Norm

@[expose] public section

noncomputable section

open Idealize.ShloMosaic

namespace Cert.Forward

variable {n : ℕ}

/-- The normed rows times the gain of each column. -/
def scaled (x : Spec.Act n) (g : Norm.Gain) : Spec.Act n := fun i => Norm.unit x i * g (ix2 (0 : Fin 1) (i 1 : Fin 1024))

/-- Rows times a weight. -/
def proj (h : Spec.Act n) (w : SpecW.Mat 1024 2048) : SpecW.Mat n 2048 := fun i =>
  ∑ o : Fin 1024, h (ix2 (i 0 : Fin n) o) * w (ix2 o (i 1 : Fin 2048))

/-- The first half of the columns. -/
def left (d : SpecW.Mat n 2048) : Spec.Act n := fun i =>
  d (ix2 (i 0 : Fin n) (⟨(i 1).val, Nat.lt_of_lt_of_le (i 1).isLt (show 1024 ≤ 2048 by omega)⟩ : Fin 2048))

/-- The second half of the columns. -/
def right (d : SpecW.Mat n 2048) : Spec.Act n := fun i =>
  d (ix2 (i 0 : Fin n) (⟨1024 + (i 1).val, Nat.add_lt_add_left (i 1).isLt 1024⟩ : Fin 2048))

/-- A block of rows of the normed rows, from the same rows. -/
theorem scaled_block (b : Fin 8) (x : Spec.Act 2048) (g : Norm.Gain) :
    scaled (n := 256) (Spec.block b x) g = Spec.block b (scaled (n := 2048) x g) := rfl

/-- A block of rows of the first half of a product. -/
theorem left_block (b : Fin 8) (h : Spec.Act 2048) (w : SpecW.Mat 1024 2048) :
    left (n := 256) (proj (n := 256) (Spec.block b h) w) = Spec.block b (left (n := 2048) (proj (n := 2048) h w)) := rfl

/-- A block of rows of the second half of a product. -/
theorem right_block (b : Fin 8) (h : Spec.Act 2048) (w : SpecW.Mat 1024 2048) :
    right (n := 256) (proj (n := 256) (Spec.block b h) w) = Spec.block b (right (n := 2048) (proj (n := 2048) h w)) := rfl

end Cert.Forward

end
-- ==== Proof.ValueBIn.lean ====
/- What the kernel of the second layer's input, forward, leaves in its six result arrays. -/
module

public import proofs.«01_k».proof.Proof.Forward
public import proofs.«01_k».proof.Proof.Stores
public import proofs.«01_k».proof.Proof.Gen.KernelBInIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ValueBIn

open Cert.KernelBInIdeal Cert.KernelBInIdeal.Gen

variable (m : (ℓ : Loc nD τ sig) → Buf (Elt Ideal) ℓ)

/-- Rows are read and stored at the grid point's place; the gains and the weights are whole. -/
theorem idx : ∀ t : Fin cfg0.N, win0_0.index t = ![t.val, 0] ∧ win0_1.index t = ![0, 0] ∧ win0_2.index t = ![0, 0]
    ∧ win0_3.index t = ![0, 0, 0] ∧ win0_4.index t = ![0, 0, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![t.val, 0] :=
  (by decide +kernel : ∀ t : Fin grid0.N, _)

/-- The first projection's weight as the kernel gets it: by blocks of 256 columns. -/
theorem entry_win (c : Dev nD) (j : Fin 8) (o : Fin 1024) (k : Fin 256) :
    V m c main_v2 (ix3 j o k : S8x1024x256.Idx) = m ((c : Thread nD τ).loc main_arg1) (ix2 o (SpecW.place (q := 8) (w := 256) j k) : S1024x2048.Idx) := by
  entry_read
  pointwise [SpecW.place]

/-- The second projection's weight, in the same way. -/
theorem entry_wkv (c : Dev nD) (j : Fin 8) (o : Fin 1024) (k : Fin 256) :
    V m c main_v5 (ix3 j o k : S8x1024x256.Idx) = m ((c : Thread nD τ).loc main_arg2) (ix2 o (SpecW.place (q := 8) (w := 256) j k) : S1024x2048.Idx) := by
  entry_read
  pointwise [SpecW.place]

section Payloads

/-- One over the root of each row's mean square, times the row. -/
theorem pay_unit (x : FVec Ideal S256x1024 .f32) : k0_pay5 (F := Ideal) x = Norm.unit (n := 256) x := by
  funext y
  pointwise [k0_pay5, Norm.unit, Norm.inv, Norm.msq, Norm.width, Norm.eps]

/-- The rows of the keys' and values' norm. -/
theorem pay_hkv (x : FVec Ideal S256x1024 .f32) (g : FVec Ideal S1x1024 .f32) :
    k0_pay6 (F := Ideal) x g = Forward.scaled (n := 256) x g := by
  funext y
  pointwise [k0_pay6, pay_unit, Forward.scaled]

/-- The rows of the queries' norm. -/
theorem pay_hb (x : FVec Ideal S256x1024 .f32) (g : FVec Ideal S1x1024 .f32) :
    k0_pay7 (F := Ideal) x g = Forward.scaled (n := 256) x g := by
  funext y
  pointwise [k0_pay7, pay_unit, Forward.scaled]

/-- Rows times one block of a weight's columns. -/
def prod (h : Spec.Act 256) (b : (⟨3, ![1, 1024, 256]⟩ : Shape).Idx → EReal) : SpecW.Mat 256 256 := fun y =>
  ∑ o : Fin 1024, h (ix2 (y 0 : Fin 256) o) * b (ix3 (0 : Fin 1) o (y 1 : Fin 256))

section Blocks

variable (h : FVec Ideal S256x1024 .bf16) (b : FVec Ideal S1x1024x256 .bf16) (x : FVec Ideal S256x1024 .f32) (g : FVec Ideal S1x1024 .f32)

/-- Each store holds the rows times one block of columns. -/
theorem pay1 : k0_pay1 (F := Ideal) h b = prod h b := by
  funext y
  pointwise [k0_pay1, prod]

theorem pay3 : k0_pay3 (F := Ideal) h b = prod h b := by
  funext y
  pointwise [k0_pay3, prod]

theorem pay4 : k0_pay4 (F := Ideal) h b = prod h b := by
  funext y
  pointwise [k0_pay4, prod]

theorem pay10 : k0_pay10 (F := Ideal) h b = prod h b := by
  funext y
  pointwise [k0_pay10, prod]

theorem pay11 : k0_pay11 (F := Ideal) h b = prod h b := by
  funext y
  pointwise [k0_pay11, prod]

theorem pay12 : k0_pay12 (F := Ideal) h b = prod h b := by
  funext y
  pointwise [k0_pay12, prod]

theorem pay13 : k0_pay13 (F := Ideal) h b = prod h b := by
  funext y
  pointwise [k0_pay13, prod]

theorem pay14 : k0_pay14 (F := Ideal) h b = prod h b := by
  funext y
  pointwise [k0_pay14, prod]

theorem pay15 : k0_pay15 (F := Ideal) h b = prod h b := by
  funext y
  pointwise [k0_pay15, prod]

theorem pay16 : k0_pay16 (F := Ideal) h b = prod h b := by
  funext y
  pointwise [k0_pay16, prod]

theorem pay17 : k0_pay17 (F := Ideal) h b = prod h b := by
  funext y
  pointwise [k0_pay17, prod]

theorem pay18 : k0_pay18 (F := Ideal) h b = prod h b := by
  funext y
  pointwise [k0_pay18, prod]

theorem pay19 : k0_pay19 (F := Ideal) h b = prod h b := by
  funext y
  pointwise [k0_pay19, prod]

theorem pay20 : k0_pay2 (F := Ideal) (k0_pay20 h b) = prod h b := by
  funext y
  pointwise [k0_pay2, k0_pay20, prod]

theorem pay8 : k0_pay8 (F := Ideal) x g b = prod (Forward.scaled (n := 256) x g) b := by
  rw [← pay_hkv]
  funext y
  pointwise [k0_pay8, prod]

theorem pay9 : k0_pay9 (F := Ideal) x g b = prod (Forward.scaled (n := 256) x g) b := by
  rw [← pay_hb]
  funext y
  pointwise [k0_pay9, prod]

end Blocks

variable (wt : Vec Ideal S8x1024x256 .bf16) (w : SpecW.Mat 1024 2048)
  (hw : ∀ (j : Fin 8) (o : Fin 1024) (k : Fin 256), wt (ix3 j o k : S8x1024x256.Idx) = w (ix2 o (SpecW.place (q := 8) (w := 256) j k)))

/-- The weight's block as loaded. -/
theorem ld_w (o : ℕ) (ho : o < 8) (inb : ∀ a, (![o, 0, 0] : Fin 3 → ℕ) a + S1x1024x256.size a ≤ S8x1024x256.size a) (q : Fin 1024) (k : Fin 256) :
    View.ld wt (Rect.unit (s := S8x1024x256) ![o, 0, 0] S1x1024x256.size inb) (ix3 (0 : Fin 1) q k) = wt (ix3 (⟨o, ho⟩ : Fin 8) q k : S8x1024x256.Idx) := by
  refine congrArg wt (funext fun a => Fin.ext ?_)
  fin_cases a
  · show o + 1 * 0 = o
    omega
  · show 0 + 1 * q.val = q.val
    omega
  · show 0 + 1 * k.val = k.val
    omega

include hw in
/-- A block of columns in the first half, stored at its place. -/
theorem prod_left (h : Spec.Act 256) (o p : ℕ) (ho : o < 4) (hp : p = o * 256)
    (inb : ∀ a, (![0, p] : Fin 2 → ℕ) a + S256x256.size a ≤ S256x1024.size a)
    (inb' : ∀ a, (![o, 0, 0] : Fin 3 → ℕ) a + S1x1024x256.size a ≤ S8x1024x256.size a) (x : S256x256.Idx) :
    prod h (View.ld wt (Rect.unit (s := S8x1024x256) ![o, 0, 0] S1x1024x256.size inb')) x
      = Forward.left (n := 256) (Forward.proj (n := 256) h w) ((Rect.unit (s := S256x1024) ![0, p] S256x256.size inb).emb x) := by
  subst hp
  unfold prod Forward.left Forward.proj
  refine Finset.sum_congr rfl fun q _ => ?_
  refine congrArg₂ (· * ·) (congrArg h ?_) ((ld_w wt o (by omega) inb' q (x 1)).trans ((hw _ q (x 1)).trans (congrArg w ?_)))
  · refine congrArg₂ ix2 (Fin.ext ?_) rfl
    show (x 0).val = 0 + 1 * (x 0).val
    omega
  · refine congrArg₂ ix2 rfl (Fin.ext ?_)
    show o * 256 + (x 1).val = o * 256 + 1 * (x 1).val
    omega

include hw in
/-- A block of columns in the second half, stored at its place. -/
theorem prod_right (h : Spec.Act 256) (o p : ℕ) (ho : o < 8) (hp : p + 1024 = o * 256)
    (inb : ∀ a, (![0, p] : Fin 2 → ℕ) a + S256x256.size a ≤ S256x1024.size a)
    (inb' : ∀ a, (![o, 0, 0] : Fin 3 → ℕ) a + S1x1024x256.size a ≤ S8x1024x256.size a) (x : S256x256.Idx) :
    prod h (View.ld wt (Rect.unit (s := S8x1024x256) ![o, 0, 0] S1x1024x256.size inb')) x
      = Forward.right (n := 256) (Forward.proj (n := 256) h w) ((Rect.unit (s := S256x1024) ![0, p] S256x256.size inb).emb x) := by
  unfold prod Forward.right Forward.proj
  refine Finset.sum_congr rfl fun q _ => ?_
  refine congrArg₂ (· * ·) (congrArg h ?_) ((ld_w wt o ho inb' q (x 1)).trans ((hw _ q (x 1)).trans (congrArg w ?_)))
  · refine congrArg₂ ix2 (Fin.ext ?_) rfl
    show (x 0).val = 0 + 1 * (x 0).val
    omega
  · refine congrArg₂ ix2 rfl (Fin.ext ?_)
    show o * 256 + (x 1).val = 1024 + (p + 1 * (x 1).val)
    omega

/-- The loads and the stores of whole blocks. -/
theorem hz : (![0, 0] : Fin 2 → Nat) = fun _ => 0 := funext fun a => by fin_cases a <;> rfl

/-- The rows are loaded whole. -/
theorem ld_x (a : Vec Ideal S256x1024 .f32) : View.ld a r0_0 = a :=
  View.ld_unit_zero (Val := Elt Ideal) (S := S256x1024) (e := .f32) hz _ a

/-- A gain is loaded whole. -/
theorem ld_g (b : Vec Ideal S1x1024 .f32) : View.ld b r0_1 = b :=
  View.ld_unit_zero (Val := Elt Ideal) (S := S1x1024) (e := .f32) hz _ b

/-- A whole block's place is its own. -/
theorem emb_whole (x : S256x1024.Idx) : (r0_0).emb x = x := by
  refine funext fun a => Fin.ext ?_
  fin_cases a
  · show 0 + 1 * (x 0).val = (x 0).val
    omega
  · show 0 + 1 * (x 1).val = (x 1).val
    omega

variable (x0 : Vec Ideal S256x1024 .f32) (x1 x2 : Vec Ideal S1x1024 .f32) (x3 x4 : Vec Ideal S8x1024x256 .bf16)

/-- What a grid point stores: the two norms' rows. -/
theorem stored_hkv : out0_5 (F := Ideal) x0 x1 x2 x3 x4 = Forward.scaled (n := 256) x0 x1 := by
  funext y
  unfold out0_5
  rw [ld_x, ld_g, pay_hkv]
  refine Stores.canon_of (Val := Elt Ideal) (e := .bf16) (Forward.scaled (n := 256) x0 x1) _ ?_ y (cover0_5 _ y)
  exact ⟨fun x => congrArg (Forward.scaled (n := 256) x0 x1) (emb_whole x).symm, trivial⟩

theorem stored_hb : out0_6 (F := Ideal) x0 x1 x2 x3 x4 = Forward.scaled (n := 256) x0 x2 := by
  funext y
  unfold out0_6
  rw [ld_x, ld_g, pay_hb]
  refine Stores.canon_of (Val := Elt Ideal) (e := .bf16) (Forward.scaled (n := 256) x0 x2) _ ?_ y (cover0_6 _ y)
  exact ⟨fun x => congrArg (Forward.scaled (n := 256) x0 x2) (emb_whole x).symm, trivial⟩

/-- The normed rows, from the loaded blocks. -/
theorem rows_hkv : k0_pay21 (F := Ideal) x0 x1 x2 x3 x4 = Forward.scaled (n := 256) x0 x1 := by
  unfold k0_pay21
  rw [ld_x, ld_g, pay_hkv]

theorem rows_hb : k0_pay22 (F := Ideal) x0 x1 x2 x3 x4 = Forward.scaled (n := 256) x0 x2 := by
  unfold k0_pay22
  rw [ld_x, ld_g, pay_hb]

include hw in
/-- The keys: the first half of their norm's product. -/
theorem stored_k : out0_7 (F := Ideal) x0 x1 x2 wt x4
    = Forward.left (n := 256) (Forward.proj (n := 256) (Forward.scaled (n := 256) x0 x1) w) := by
  funext y
  unfold out0_7
  rw [rows_hkv, ld_x, ld_g, pay14, pay12, pay10, pay8]
  refine Stores.canon_of (Val := Elt Ideal) (e := .f32) (Forward.left (n := 256) (Forward.proj (n := 256) (Forward.scaled (n := 256) x0 x1) w)) _ ?_ y (cover0_7 _ _ _ _ y)
  exact ⟨prod_left wt w hw _ 3 768 (by decide) rfl inb_S256x1024_S256x256_0_768 inb_S8x1024x256_S1x1024x256_3_0_0,
    prod_left wt w hw _ 2 512 (by decide) rfl inb_S256x1024_S256x256_0_512 inb_S8x1024x256_S1x1024x256_2_0_0,
    prod_left wt w hw _ 1 256 (by decide) rfl inb_S256x1024_S256x256_0_256 inb_S8x1024x256_S1x1024x256_1_0_0,
    prod_left wt w hw _ 0 0 (by decide) rfl inb_S256x1024_S256x256_0_0 inb_S8x1024x256_S1x1024x256_0_0_0, trivial⟩

include hw in
/-- The values: its second half. -/
theorem stored_v : out0_8 (F := Ideal) x0 x1 x2 wt x4
    = Forward.right (n := 256) (Forward.proj (n := 256) (Forward.scaled (n := 256) x0 x1) w) := by
  funext y
  unfold out0_8
  rw [rows_hkv, pay4, pay20, pay19, pay17]
  refine Stores.canon_of (Val := Elt Ideal) (e := .bf16) (Forward.right (n := 256) (Forward.proj (n := 256) (Forward.scaled (n := 256) x0 x1) w)) _ ?_ y (cover0_8 _ _ _ _ y)
  exact ⟨prod_right wt w hw _ 7 768 (by decide) rfl inb_S256x1024_S256x256_0_768 inb_S8x1024x256_S1x1024x256_7_0_0,
    prod_right wt w hw _ 6 512 (by decide) rfl inb_S256x1024_S256x256_0_512 inb_S8x1024x256_S1x1024x256_6_0_0,
    prod_right wt w hw _ 5 256 (by decide) rfl inb_S256x1024_S256x256_0_256 inb_S8x1024x256_S1x1024x256_5_0_0,
    prod_right wt w hw _ 4 0 (by decide) rfl inb_S256x1024_S256x256_0_0 inb_S8x1024x256_S1x1024x256_4_0_0, trivial⟩

include hw in
/-- The queries: the first half of the other norm's product. -/
theorem stored_q : out0_9 (F := Ideal) x0 x1 x2 x3 wt
    = Forward.left (n := 256) (Forward.proj (n := 256) (Forward.scaled (n := 256) x0 x2) w) := by
  funext y
  unfold out0_9
  rw [rows_hb, ld_x, ld_g, pay15, pay13, pay11, pay9]
  refine Stores.canon_of (Val := Elt Ideal) (e := .f32) (Forward.left (n := 256) (Forward.proj (n := 256) (Forward.scaled (n := 256) x0 x2) w)) _ ?_ y (cover0_9 _ _ _ _ y)
  exact ⟨prod_left wt w hw _ 3 768 (by decide) rfl inb_S256x1024_S256x256_0_768 inb_S8x1024x256_S1x1024x256_3_0_0,
    prod_left wt w hw _ 2 512 (by decide) rfl inb_S256x1024_S256x256_0_512 inb_S8x1024x256_S1x1024x256_2_0_0,
    prod_left wt w hw _ 1 256 (by decide) rfl inb_S256x1024_S256x256_0_256 inb_S8x1024x256_S1x1024x256_1_0_0,
    prod_left wt w hw _ 0 0 (by decide) rfl inb_S256x1024_S256x256_0_0 inb_S8x1024x256_S1x1024x256_0_0_0, trivial⟩

include hw in
/-- The gate: its second half. -/
theorem stored_z : out0_10 (F := Ideal) x0 x1 x2 x3 wt
    = Forward.right (n := 256) (Forward.proj (n := 256) (Forward.scaled (n := 256) x0 x2) w) := by
  funext y
  unfold out0_10
  rw [rows_hb, pay3, pay1, pay18, pay16]
  refine Stores.canon_of (Val := Elt Ideal) (e := .f32) (Forward.right (n := 256) (Forward.proj (n := 256) (Forward.scaled (n := 256) x0 x2) w)) _ ?_ y (cover0_10 _ _ _ _ y)
  exact ⟨prod_right wt w hw _ 7 768 (by decide) rfl inb_S256x1024_S256x256_0_768 inb_S8x1024x256_S1x1024x256_7_0_0,
    prod_right wt w hw _ 6 512 (by decide) rfl inb_S256x1024_S256x256_0_512 inb_S8x1024x256_S1x1024x256_6_0_0,
    prod_right wt w hw _ 5 256 (by decide) rfl inb_S256x1024_S256x256_0_256 inb_S8x1024x256_S1x1024x256_5_0_0,
    prod_right wt w hw _ 4 0 (by decide) rfl inb_S256x1024_S256x256_0_0 inb_S8x1024x256_S1x1024x256_4_0_0, trivial⟩

end Payloads

/-- The grid point as the number of a block of rows. -/
def blk (t : Fin cfg0.N) : Fin 8 := ⟨t.val, t.isLt⟩

/-- The block of rows that a grid point reads. -/
theorem blk_x (c : Dev nD) (t : Fin cfg0.N) : iblk m c 0 t = Spec.block (blk t) (m ((c : Thread nD τ).loc main_arg0)) := by
  funext y
  unfold Spec.block
  blk_ext [iblk, V, idx t, Spec.rowOf, blk]

/-- The gains and the weights are read whole. -/
theorem blk_kvn (c : Dev nD) (t : Fin cfg0.N) : iblk m c 1 t = m ((c : Thread nD τ).loc main_arg4) := by
  funext y
  blk_ext [iblk, V, idx t]

theorem blk_bn (c : Dev nD) (t : Fin cfg0.N) : iblk m c 2 t = m ((c : Thread nD τ).loc main_arg3) := by
  funext y
  blk_ext [iblk, V, idx t]

theorem blk_wkv (c : Dev nD) (t : Fin cfg0.N) : iblk m c 3 t = V m c main_v5 := by
  funext y
  blk_ext [iblk, idx t]

theorem blk_win (c : Dev nD) (t : Fin cfg0.N) : iblk m c 4 t = V m c main_v2 := by
  funext y
  blk_ext [iblk, idx t]

/-- The stored rows lie at the grid point's place. -/
theorem emb5 (t : Fin cfg0.N) (y : S256x1024.Idx) :
    (((cfg0.win 5).blk t).view.emb y : S2048x1024.Idx) = ix2 (Spec.rowOf (blk t) (y 0)) (y 1 : Fin 1024) := by
  blk_ext [idx t, Spec.rowOf, blk]

theorem emb6 (t : Fin cfg0.N) (y : S256x1024.Idx) :
    (((cfg0.win 6).blk t).view.emb y : S2048x1024.Idx) = ix2 (Spec.rowOf (blk t) (y 0)) (y 1 : Fin 1024) := by
  blk_ext [idx t, Spec.rowOf, blk]

theorem emb7 (t : Fin cfg0.N) (y : S256x1024.Idx) :
    (((cfg0.win 7).blk t).view.emb y : S2048x1024.Idx) = ix2 (Spec.rowOf (blk t) (y 0)) (y 1 : Fin 1024) := by
  blk_ext [idx t, Spec.rowOf, blk]

theorem emb8 (t : Fin cfg0.N) (y : S256x1024.Idx) :
    (((cfg0.win 8).blk t).view.emb y : S2048x1024.Idx) = ix2 (Spec.rowOf (blk t) (y 0)) (y 1 : Fin 1024) := by
  blk_ext [idx t, Spec.rowOf, blk]

theorem emb9 (t : Fin cfg0.N) (y : S256x1024.Idx) :
    (((cfg0.win 9).blk t).view.emb y : S2048x1024.Idx) = ix2 (Spec.rowOf (blk t) (y 0)) (y 1 : Fin 1024) := by
  blk_ext [idx t, Spec.rowOf, blk]

theorem emb10 (t : Fin cfg0.N) (y : S256x1024.Idx) :
    (((cfg0.win 10).blk t).view.emb y : S2048x1024.Idx) = ix2 (Spec.rowOf (blk t) (y 0)) (y 1 : Fin 1024) := by
  blk_ext [idx t, Spec.rowOf, blk]

/-- The rows of the keys' and values' norm, all of them. -/
def hkv (c : Dev nD) : Spec.Act 2048 := Forward.scaled (n := 2048) (m ((c : Thread nD τ).loc main_arg0)) (m ((c : Thread nD τ).loc main_arg4))

/-- The rows of the queries' norm, all of them. -/
def hb (c : Dev nD) : Spec.Act 2048 := Forward.scaled (n := 2048) (m ((c : Thread nD τ).loc main_arg0)) (m ((c : Thread nD τ).loc main_arg3))

/-- The keys' and values' product. -/
def kv (c : Dev nD) : SpecW.Mat 2048 2048 := Forward.proj (n := 2048) (hkv m c) (m ((c : Thread nD τ).loc main_arg2))

/-- The queries' product. -/
def qz (c : Dev nD) : SpecW.Mat 2048 2048 := Forward.proj (n := 2048) (hb m c) (m ((c : Thread nD τ).loc main_arg1))

/-- The normed rows of the keys and values after the run. -/
theorem final_hkv (c : Dev nD) : (dats m 0 c).arrAt 5 (cfgs 0).N = hkv m c := by
  refine (dats m 0 c).arrAt_eq_of_covers 5 _ (by decide +kernel) fun t _ y => ?_
  blk_simp
  rw [after0_5]
  rw [stored_hkv, blk_x, blk_kvn, Forward.scaled_block]
  exact congrArg (hkv m c) (emb5 t y).symm

/-- The normed rows of the queries after the run. -/
theorem final_hb (c : Dev nD) : (dats m 0 c).arrAt 6 (cfgs 0).N = hb m c := by
  refine (dats m 0 c).arrAt_eq_of_covers 6 _ (by decide +kernel) fun t _ y => ?_
  blk_simp
  rw [after0_6]
  rw [stored_hb, blk_x, blk_bn, Forward.scaled_block]
  exact congrArg (hb m c) (emb6 t y).symm

/-- The keys after the run. -/
theorem final_k (c : Dev nD) : (dats m 0 c).arrAt 7 (cfgs 0).N = Forward.left (n := 2048) (kv m c) := by
  refine (dats m 0 c).arrAt_eq_of_covers 7 _ (by decide +kernel) fun t _ y => ?_
  blk_simp
  rw [after0_7]
  rw [blk_wkv, stored_k _ (m ((c : Thread nD τ).loc main_arg2)) (entry_wkv m c), blk_x, blk_kvn, Forward.scaled_block, Forward.left_block]
  exact congrArg (Forward.left (n := 2048) (kv m c)) (emb7 t y).symm

/-- The values after the run. -/
theorem final_v (c : Dev nD) : (dats m 0 c).arrAt 8 (cfgs 0).N = Forward.right (n := 2048) (kv m c) := by
  refine (dats m 0 c).arrAt_eq_of_covers 8 _ (by decide +kernel) fun t _ y => ?_
  blk_simp
  rw [after0_8]
  rw [blk_wkv, stored_v _ (m ((c : Thread nD τ).loc main_arg2)) (entry_wkv m c), blk_x, blk_kvn, Forward.scaled_block, Forward.right_block]
  exact congrArg (Forward.right (n := 2048) (kv m c)) (emb8 t y).symm

/-- The queries after the run. -/
theorem final_q (c : Dev nD) : (dats m 0 c).arrAt 9 (cfgs 0).N = Forward.left (n := 2048) (qz m c) := by
  refine (dats m 0 c).arrAt_eq_of_covers 9 _ (by decide +kernel) fun t _ y => ?_
  blk_simp
  rw [after0_9]
  rw [blk_win, stored_q _ (m ((c : Thread nD τ).loc main_arg1)) (entry_win m c), blk_x, blk_bn, Forward.scaled_block, Forward.left_block]
  exact congrArg (Forward.left (n := 2048) (qz m c)) (emb9 t y).symm

/-- The gate after the run. -/
theorem final_z (c : Dev nD) : (dats m 0 c).arrAt 10 (cfgs 0).N = Forward.right (n := 2048) (qz m c) := by
  refine (dats m 0 c).arrAt_eq_of_covers 10 _ (by decide +kernel) fun t _ y => ?_
  blk_simp
  rw [after0_10]
  rw [blk_win, stored_z _ (m ((c : Thread nD τ).loc main_arg1)) (entry_win m c), blk_x, blk_bn, Forward.scaled_block, Forward.right_block]
  exact congrArg (Forward.right (n := 2048) (qz m c)) (emb10 t y).symm

end Cert.ValueBIn

end
-- ==== Proof.RefBIn.lean ====
/- The reference of the second layer's input, forward, as the formulas of `Forward`. -/
module

public import proofs.«01_k».proof.Proof.Forward
public import proofs.«01_k».proof.Proof.Gen.ReferenceBInIdeal.Read
public import Idealize.ShloMosaic.Lib.Pipeline.ValueKit

@[expose] public section

set_option maxRecDepth 16384

noncomputable section

open Idealize.ShloMosaic Idealize.ShloMosaic.TcCoe Idealize.SL.Sem

namespace Cert.RefBIn

open Cert.ReferenceBInIdeal Cert.ReferenceBInIdeal.Gen Cert.ReferenceBInIdeal.Read

variable (x0 : (⟨S2048x1024, .f32⟩ : BufTy).Contents (Elt Ideal)) (x1 x2 : (⟨S1024x2048, .f32⟩ : BufTy).Contents (Elt Ideal))
  (x3 x4 : (⟨S1x1024, .f32⟩ : BufTy).Contents (Elt Ideal))

/-- One over the root of a row's mean square, for either norm. -/
theorem inv_kv (y : S2048x1.Idx) : val_main_v7 (F := Ideal) x0 y = Norm.inv (n := 2048) x0 (y 0 : Fin 2048) := by
  pointwise [val_main_v7, val_main_v6, val_main_v5, val_main_cst_1, val_main_v4, val_main_v3, val_main_cst_0, val_main_v2, val_main_v1, val_main_cst, val_main_v0,
    Norm.inv, Norm.msq, Norm.width, Norm.eps]

theorem inv_b (y : S2048x1.Idx) : val_main_v19 (F := Ideal) x0 y = Norm.inv (n := 2048) x0 (y 0 : Fin 2048) := by
  pointwise [val_main_v19, val_main_v18, val_main_v17, val_main_cst_4, val_main_v16, val_main_v15, val_main_cst_3, val_main_v14, val_main_v13, val_main_cst_2, val_main_v12,
    Norm.inv, Norm.msq, Norm.width, Norm.eps]

/-- The normed rows. -/
theorem rows_kv : val_main_v11 (F := Ideal) x0 x4 = Forward.scaled (n := 2048) x0 x4 := by
  funext y
  pointwise [val_main_v11, val_main_v10, val_main_v9, val_main_v8, inv_kv, Forward.scaled, Norm.unit]

theorem rows_b : val_main_v23 (F := Ideal) x0 x3 = Forward.scaled (n := 2048) x0 x3 := by
  funext y
  pointwise [val_main_v23, val_main_v22, val_main_v21, val_main_v20, inv_b, Forward.scaled, Norm.unit]

/-- They are stored narrowed, which leaves their values. -/
theorem hkv_eq : val_main_v30 (F := Ideal) x0 x4 = Forward.scaled (n := 2048) x0 x4 := by
  rw [← rows_kv]
  funext y
  pointwise [val_main_v30]

theorem hb_eq : val_main_v31 (F := Ideal) x0 x3 = Forward.scaled (n := 2048) x0 x3 := by
  rw [← rows_b]
  funext y
  pointwise [val_main_v31]

/-- The products with the two weights. -/
theorem kv_eq : val_main_v24 (F := Ideal) x0 x2 x4 = Forward.proj (n := 2048) (Forward.scaled (n := 2048) x0 x4) x2 := by
  rw [← rows_kv]
  funext y
  pointwise [val_main_v24, Forward.proj]

theorem qz_eq : val_main_v27 (F := Ideal) x0 x1 x3 = Forward.proj (n := 2048) (Forward.scaled (n := 2048) x0 x3) x1 := by
  rw [← rows_b]
  funext y
  pointwise [val_main_v27, Forward.proj]

/-- The keys, the values, the queries and the gate: halves of the products' columns. -/
theorem k_eq : val_main_v25 (F := Ideal) x0 x2 x4 = Forward.left (n := 2048) (Forward.proj (n := 2048) (Forward.scaled (n := 2048) x0 x4) x2) := by
  rw [← kv_eq]
  funext y
  pointwise [val_main_v25, Forward.left]

theorem v_eq : val_main_v32 (F := Ideal) x0 x2 x4 = Forward.right (n := 2048) (Forward.proj (n := 2048) (Forward.scaled (n := 2048) x0 x4) x2) := by
  rw [← kv_eq]
  funext y
  pointwise [val_main_v32, val_main_v26, Forward.right]

theorem q_eq : val_main_v28 (F := Ideal) x0 x1 x3 = Forward.left (n := 2048) (Forward.proj (n := 2048) (Forward.scaled (n := 2048) x0 x3) x1) := by
  rw [← qz_eq]
  funext y
  pointwise [val_main_v28, Forward.left]

theorem z_eq : val_main_v29 (F := Ideal) x0 x1 x3 = Forward.right (n := 2048) (Forward.proj (n := 2048) (Forward.scaled (n := 2048) x0 x3) x1) := by
  rw [← qz_eq]
  funext y
  pointwise [val_main_v29, Forward.right]

end Cert.RefBIn

end
-- ==== Proof.BridgeBIn.lean ====
/- The second layer's input, forward: the kernel's six results are the reference's. -/
module

public import proofs.«01_k».proof.Defs
public import proofs.«01_k».proof.Proof.ValueBIn
public import proofs.«01_k».proof.Proof.RefBIn
public import proofs.«01_k».proof.Proof.Gen.KernelBInIdeal.Value
public import proofs.«01_k».proof.Proof.Gen.ReferenceBInIdeal.Run
public import Idealize.ShloMosaic.Lib.Claim

@[expose] public section

set_option maxRecDepth 16384

noncomputable section

open Idealize.ShloMosaic Idealize.ShloMosaic.TcCoe Idealize.SL.Sem

namespace Cert.BridgeBIn

open Cert.KernelBInIdeal Cert.KernelBInIdeal.Gen

variable (m : (ℓ : Loc nD τ sig) → Buf (Elt Ideal) ℓ)

/-- The kernel and the reference compute the same normed rows, keys, values, queries and gate. -/
theorem algebraic : Cert.algebraic_KernelBInIdeal_ReferenceBInIdeal := by
  intro m g m' g' _ hagree
  refine ⟨fun c => ValueBIn.hkv m c, fun c => ValueBIn.hb m c, fun c => Forward.left (n := 2048) (ValueBIn.kv m c),
    fun c => Forward.right (n := 2048) (ValueBIn.kv m c), fun c => Forward.left (n := 2048) (ValueBIn.qz m c),
    fun c => Forward.right (n := 2048) (ValueBIn.qz m c),
    (θ_run defs _ _).mono (fun r h c => ?_) (Cert.KernelBInIdeal.Value.run_blocks m g),
    (θ_run Cert.ReferenceBInIdeal.defs _ _).mono (fun r h c => ?_) (Cert.ReferenceBInIdeal.Value.run m' g')⟩
  · obtain ⟨h0, h1, h2, h3, h4, h5, ha⟩ := h c
    exact ⟨h0.trans (ValueBIn.final_hkv m c), h1.trans (ValueBIn.final_hb m c), h2.trans (ValueBIn.final_k m c),
      h3.trans (ValueBIn.final_v m c), h4.trans (ValueBIn.final_q m c), h5.trans (ValueBIn.final_z m c), ha⟩
  · obtain ⟨h0, h1, h2, h3, h4⟩ := hagree c
    obtain ⟨r0, r1, r2, r3, r4, r5, ha⟩ := h c
    refine ⟨r0.trans ?_, r1.trans ?_, r2.trans ?_, r3.trans ?_, r4.trans ?_, r5.trans ?_, ha⟩
    · refine Eq.trans ?_ (RefBIn.hkv_eq _ _)
      rw [h0, h4]
      rfl
    · refine Eq.trans ?_ (RefBIn.hb_eq _ _)
      rw [h0, h3]
      rfl
    · refine Eq.trans ?_ (RefBIn.k_eq _ _ _)
      rw [h0, h2, h4]
      rfl
    · refine Eq.trans ?_ (RefBIn.v_eq _ _ _)
      rw [h0, h2, h4]
      rfl
    · refine Eq.trans ?_ (RefBIn.q_eq _ _ _)
      rw [h0, h1, h3]
      rfl
    · refine Eq.trans ?_ (RefBIn.z_eq _ _ _)
      rw [h0, h1, h3]
      rfl

end Cert.BridgeBIn

end
-- ==== Proof.lean ====
/- Every program runs, keeps its arguments and ends with its semaphores at zero; no operation was replaced; each kernel computes
   its reference's results. The claims are those of `Defs`, in its order. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.KernelB.Frame
public import proofs.«01_k».proof.Proof.Gen.KernelBIdeal.Frame
public import proofs.«01_k».proof.Proof.Gen.ReferenceBIdeal.Run
public import proofs.«01_k».proof.Proof.Gen.KernelInA.Frame
public import proofs.«01_k».proof.Proof.Gen.KernelInAIdeal.Frame
public import proofs.«01_k».proof.Proof.Gen.ReferenceInAIdeal.Run
public import proofs.«01_k».proof.Proof.Gen.KernelInB.Frame
public import proofs.«01_k».proof.Proof.Gen.KernelInBIdeal.Frame
public import proofs.«01_k».proof.Proof.Gen.ReferenceInBIdeal.Run
public import proofs.«01_k».proof.Proof.Gen.KernelWOut.Frame
public import proofs.«01_k».proof.Proof.Gen.KernelWOutIdeal.Frame
public import proofs.«01_k».proof.Proof.Gen.ReferenceWOutIdeal.Run
public import proofs.«01_k».proof.Proof.Gen.KernelWGate.Frame
public import proofs.«01_k».proof.Proof.Gen.KernelWGateIdeal.Frame
public import proofs.«01_k».proof.Proof.Gen.ReferenceWGateIdeal.Run
public import proofs.«01_k».proof.Proof.Gen.KernelWIn.Frame
public import proofs.«01_k».proof.Proof.Gen.KernelWInIdeal.Frame
public import proofs.«01_k».proof.Proof.Gen.ReferenceWInIdeal.Run
public import proofs.«01_k».proof.Proof.Gen.KernelWPle.Frame
public import proofs.«01_k».proof.Proof.Gen.KernelWPleIdeal.Frame
public import proofs.«01_k».proof.Proof.Gen.ReferenceWPleIdeal.Run
public import proofs.«01_k».proof.Proof.Gen.KernelBIn.Frame
public import proofs.«01_k».proof.Proof.Gen.KernelBInIdeal.Frame
public import proofs.«01_k».proof.Proof.Gen.ReferenceBInIdeal.Run
public import proofs.«01_k».proof.Proof.Gen.Pre_finite
public import proofs.«01_k».proof.Proof.Gen.Pre_finite_b
public import proofs.«01_k».proof.Proof.Gen.Pre_finite_in_a
public import proofs.«01_k».proof.Proof.Gen.Pre_finite_in_b
public import proofs.«01_k».proof.Proof.BridgeA
public import proofs.«01_k».proof.Proof.BridgeB
public import proofs.«01_k».proof.Proof.BridgeInA
public import proofs.«01_k».proof.Proof.BridgeInB
public import proofs.«01_k».proof.Proof.GradWOut
public import proofs.«01_k».proof.Proof.GradWGate
public import proofs.«01_k».proof.Proof.GradWIn
public import proofs.«01_k».proof.Proof.GradWPle
public import proofs.«01_k».proof.Proof.BridgeBIn
public import Idealize.ShloMosaic.Adequacy
public import Idealize.ShloMosaic.Init

@[expose] public section

noncomputable section

namespace Cert.Proof

open Idealize.ShloMosaic Idealize.SL.Sem Cert.Kernel

/-- The reference of the first layer's output stage is host code only: it keeps its arguments and leaves no semaphore counted. -/
theorem frame_r : Cert.quiescent_ReferenceIdeal := fun m ρ _ =>
  (θ_run Cert.ReferenceIdeal.defs _ _).mono
    (fun r h => ⟨fun c => (h c).2.2.2.2.2.2, sem_eq_zero_of_no_sems (by decide) r.2⟩)
    (Cert.ReferenceIdeal.Value.run (F := Ideal) m ρ)

/-- So is the reference of the second layer's output stage. -/
theorem frame_rB : Cert.quiescent_ReferenceBIdeal := fun m ρ _ =>
  (θ_run Cert.ReferenceBIdeal.defs _ _).mono
    (fun r h => ⟨fun c => (h c).2.2.2.2.2, sem_eq_zero_of_no_sems (by decide) r.2⟩)
    (Cert.ReferenceBIdeal.Value.run (F := Ideal) m ρ)

/-- So is the reference of the first layer's input stage. -/
theorem frame_rInA : Cert.quiescent_ReferenceInAIdeal := fun m ρ _ =>
  (θ_run Cert.ReferenceInAIdeal.defs _ _).mono
    (fun r h => ⟨fun c => (h c).2.2, sem_eq_zero_of_no_sems (by decide) r.2⟩)
    (Cert.ReferenceInAIdeal.Value.run (F := Ideal) m ρ)

/-- So is the reference of the second layer's input stage. -/
theorem frame_rInB : Cert.quiescent_ReferenceInBIdeal := fun m ρ _ =>
  (θ_run Cert.ReferenceInBIdeal.defs _ _).mono
    (fun r h => ⟨fun c => (h c).2.2.2, sem_eq_zero_of_no_sems (by decide) r.2⟩)
    (Cert.ReferenceInBIdeal.Value.run (F := Ideal) m ρ)

/-- So is the reference of an output projection's weight gradient. -/
theorem frame_rWOut : Cert.quiescent_ReferenceWOutIdeal := fun m ρ _ =>
  (θ_run Cert.ReferenceWOutIdeal.defs _ _).mono
    (fun r h => ⟨fun c => (h c).2, sem_eq_zero_of_no_sems (by decide) r.2⟩)
    (Cert.ReferenceWOutIdeal.Value.run (F := Ideal) m ρ)

/-- So is the reference of a gate's weight gradient. -/
theorem frame_rWGate : Cert.quiescent_ReferenceWGateIdeal := fun m ρ _ =>
  (θ_run Cert.ReferenceWGateIdeal.defs _ _).mono
    (fun r h => ⟨fun c => (h c).2, sem_eq_zero_of_no_sems (by decide) r.2⟩)
    (Cert.ReferenceWGateIdeal.Value.run (F := Ideal) m ρ)

/-- So is the reference of an input projection's weight gradient. -/
theorem frame_rWIn : Cert.quiescent_ReferenceWInIdeal := fun m ρ _ =>
  (θ_run Cert.ReferenceWInIdeal.defs _ _).mono
    (fun r h => ⟨fun c => (h c).2, sem_eq_zero_of_no_sems (by decide) r.2⟩)
    (Cert.ReferenceWInIdeal.Value.run (F := Ideal) m ρ)

/-- So is the reference of the embedding's weight gradient. -/
theorem frame_rWPle : Cert.quiescent_ReferenceWPleIdeal := fun m ρ _ =>
  (θ_run Cert.ReferenceWPleIdeal.defs _ _).mono
    (fun r h => ⟨fun c => (h c).2, sem_eq_zero_of_no_sems (by decide) r.2⟩)
    (Cert.ReferenceWPleIdeal.Value.run (F := Ideal) m ρ)

/-- So is the reference of the second layer's input, forward. -/
theorem frame_rBIn : Cert.quiescent_ReferenceBInIdeal := fun m ρ _ =>
  (θ_run Cert.ReferenceBInIdeal.defs _ _).mono
    (fun r h => ⟨fun c => (h c).2.2.2.2.2.2, sem_eq_zero_of_no_sems (by decide) r.2⟩)
    (Cert.ReferenceBInIdeal.Value.run (F := Ideal) m ρ)

/-- The claims about every call, in the order of their statement. -/
theorem claim : Cert.Claim := ⟨Cert.Kernel.Gen.facts, Cert.KernelIdeal.Gen.facts, Cert.ReferenceIdeal.Gen.facts, Cert.KernelB.Gen.facts, Cert.KernelBIdeal.Gen.facts, Cert.ReferenceBIdeal.Gen.facts, Cert.KernelInA.Gen.facts, Cert.KernelInAIdeal.Gen.facts, Cert.ReferenceInAIdeal.Gen.facts, Cert.KernelInB.Gen.facts, Cert.KernelInBIdeal.Gen.facts, Cert.ReferenceInBIdeal.Gen.facts, Cert.KernelWOut.Gen.facts, Cert.KernelWOutIdeal.Gen.facts, Cert.ReferenceWOutIdeal.Gen.facts, Cert.KernelWGate.Gen.facts, Cert.KernelWGateIdeal.Gen.facts, Cert.ReferenceWGateIdeal.Gen.facts, Cert.KernelWIn.Gen.facts, Cert.KernelWInIdeal.Gen.facts, Cert.ReferenceWInIdeal.Gen.facts, Cert.KernelWPle.Gen.facts, Cert.KernelWPleIdeal.Gen.facts, Cert.ReferenceWPleIdeal.Gen.facts, Cert.KernelBIn.Gen.facts, Cert.KernelBInIdeal.Gen.facts, Cert.ReferenceBInIdeal.Gen.facts, Cert.Pre_finite.Gen.facts, Cert.Pre_finite_b.Gen.facts, Cert.Pre_finite_in_a.Gen.facts, Cert.Pre_finite_in_b.Gen.facts,
  fun m ρ _ => Cert.Kernel.Gen.frame m ρ,
  fun m ρ _ => Cert.KernelIdeal.Gen.frame m ρ,
  fun m ρ _ => Cert.KernelIdeal.Gen.frame m ρ,
  frame_r,
  fun m ρ _ => frame_r m ρ trivial,
  fun m ρ _ => Cert.KernelB.Gen.frame m ρ,
  fun m ρ _ => Cert.KernelBIdeal.Gen.frame m ρ,
  fun m ρ _ => Cert.KernelBIdeal.Gen.frame m ρ,
  frame_rB,
  fun m ρ _ => frame_rB m ρ trivial,
  fun m ρ _ => Cert.KernelInA.Gen.frame m ρ,
  fun m ρ _ => Cert.KernelInAIdeal.Gen.frame m ρ,
  fun m ρ _ => Cert.KernelInAIdeal.Gen.frame m ρ,
  frame_rInA,
  fun m ρ _ => frame_rInA m ρ trivial,
  fun m ρ _ => Cert.KernelInB.Gen.frame m ρ,
  fun m ρ _ => Cert.KernelInBIdeal.Gen.frame m ρ,
  fun m ρ _ => Cert.KernelInBIdeal.Gen.frame m ρ,
  frame_rInB,
  fun m ρ _ => frame_rInB m ρ trivial,
  fun m ρ _ => Cert.KernelWOut.Gen.frame m ρ,
  fun m ρ _ => Cert.KernelWOutIdeal.Gen.frame m ρ,
  frame_rWOut,
  fun m ρ _ => Cert.KernelWGate.Gen.frame m ρ,
  fun m ρ _ => Cert.KernelWGateIdeal.Gen.frame m ρ,
  frame_rWGate,
  fun m ρ _ => Cert.KernelWIn.Gen.frame m ρ,
  fun m ρ _ => Cert.KernelWInIdeal.Gen.frame m ρ,
  frame_rWIn,
  fun m ρ _ => Cert.KernelWPle.Gen.frame m ρ,
  fun m ρ _ => Cert.KernelWPleIdeal.Gen.frame m ρ,
  frame_rWPle,
  fun m ρ _ => Cert.KernelBIn.Gen.frame m ρ,
  fun m ρ _ => Cert.KernelBInIdeal.Gen.frame m ρ,
  frame_rBIn,
  trivial,
  Cert.BridgeA.algebraic,
  trivial,
  Cert.BridgeB.algebraic,
  trivial,
  Cert.BridgeInA.algebraic,
  trivial,
  Cert.BridgeInB.algebraic,
  trivial,
  Cert.GradWOut.algebraic,
  trivial,
  Cert.GradWGate.algebraic,
  trivial,
  Cert.GradWIn.algebraic,
  trivial,
  Cert.GradWPle.algebraic,
  trivial,
  Cert.BridgeBIn.algebraic⟩

end Cert.Proof

end
